-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_admissible : Cert.Pre_admissible.Facts] (m : (ℓ : Loc Cert.Kernel2.nD Cert.Kernel2.τ Cert.Kernel2.sig) → Buf (Elt Bits) ℓ) : Prop :=
  ∀ c : Dev Cert.Kernel2.nD,
    (Cert.Pre_admissible.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_admissible : Cert.Pre_admissible.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_admissible.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal [hPre_admissible : Cert.Pre_admissible.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_admissible.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_admissible : Cert.Pre_admissible.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_admissible : Cert.Pre_admissible.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] [hPre_admissible : Cert.Pre_admissible.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.bf16_pair.BufferStatement Cert.Kernel2Ideal.S163840x2x512 Cert.Kernel2Ideal.S163840x1x512
  ∧ IdealRules.bf16_pair.BufferStatement Cert.Kernel2Ideal.S1024x2x512 Cert.Kernel2Ideal.S1024x1x512
  ∧ IdealRules.bf16_pair.PackStatement Cert.Kernel2Ideal.S256x512
  ∧ IdealRules.bf16_pair.Statement Cert.Kernel2Ideal.S256x2x512 Cert.Kernel2Ideal.S256x1x512
  ∧ IdealRules.bf16_pair.SelectZeroStatement Cert.Kernel2Ideal.S768x512
  ∧ IdealRules.bf16_pair.PackStatement Cert.Kernel2Ideal.S512x512
  ∧ IdealRules.bf16_pair.Statement Cert.Kernel2Ideal.S512x2x512 Cert.Kernel2Ideal.S512x1x512
  ∧ IdealRules.bf16_pair.SelectZeroStatement Cert.Kernel2Ideal.S512x512
  ∧ IdealRules.bf16_pair.PackStatement Cert.Kernel2Ideal.S768x512
  ∧ IdealRules.bf16_pair.Statement Cert.Kernel2Ideal.S768x2x512 Cert.Kernel2Ideal.S768x1x512
  ∧ IdealRules.bf16_pair.SelectZeroStatement Cert.Kernel2Ideal.S256x512
  ∧ IdealRules.bf16_pair.PackStatement Cert.Kernel2Ideal.S1024x512
  ∧ IdealRules.bf16_pair.Statement Cert.Kernel2Ideal.S1024x2x512 Cert.Kernel2Ideal.S1024x1x512
  ∧ IdealRules.bf16_pair.SelectZeroStatement Cert.Kernel2Ideal.S1024x512
  ∧ IdealRules.bf16_pair.Statement Cert.Kernel2Ideal.S2048x512 Cert.Kernel2Ideal.S1024x512

def algebraic_Kernel2Ideal_Reference2Ideal [hKernel2Ideal : Cert.Kernel2Ideal.Facts] [hReference2Ideal : Cert.Reference2Ideal.Facts] [hPre_admissible : Cert.Pre_admissible.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v48)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v48) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v83) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)) (v3 : (c : Dev Cert.Kernel3Ideal.nD) → Buf (Elt Ideal) ((c.tc : Thread Cert.Kernel3Ideal.nD Cert.Kernel3Ideal.τ).loc Cert.Kernel3Ideal.main_v11_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_v11_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v33) = v1 c
          ∧ r.2.mem ((c.tc : Thread Cert.Reference3Ideal.nD Cert.Reference3Ideal.τ).loc Cert.Reference3Ideal.main_v34) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.bf16_pair.BufferStatement Cert.Kernel4Ideal.S32768x2x512 Cert.Kernel4Ideal.S32768x1x512
  ∧ IdealRules.bf16_pair.BufferStatement Cert.Kernel4Ideal.S512x2x512 Cert.Kernel4Ideal.S512x1x512
  ∧ IdealRules.bf16_pair.PackStatement Cert.Kernel4Ideal.S512x512
  ∧ IdealRules.bf16_pair.Statement Cert.Kernel4Ideal.S512x2x512 Cert.Kernel4Ideal.S512x1x512

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v15_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_admissible : Cert.Pre_admissible.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_admissible := hPre_admissible)
    ∧ quiescent_Kernel2Ideal (hKernel2Ideal := hKernel2Ideal) (hPre_admissible := hPre_admissible)
    ∧ quiescent_Reference2Ideal (hReference2Ideal := hReference2Ideal) (hPre_admissible := hPre_admissible)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_admissible := hPre_admissible)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_admissible.lean ====
abbrev S160 : Shape := ⟨1, ![160]⟩
abbrev S1 : Shape := ⟨1, ![1]⟩
abbrev S163840x512 : Shape := ⟨2, ![163840, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  shapeCasts_S1_S_ : S1.ShapeCasts S_

variable [Facts]

def fn {F : FTy → Type} [FloatOps F] (main_arg0 : IVec S160 32) (main_arg1 : IVec S1 32) (main_arg2 : IVec S160 32) (main_arg3 : IVec S163840x512 32) (main_arg4 : FVec F S32x1024x2048 .f32) (main_arg5 : FVec F S32x2048 .f32) (main_arg6 : FVec F S32x1024x1024 .f32) (main_arg7 : FVec F S32x1024 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 32 := constantI S_ 32 1024#32
  let main_v5 : IVec S160 32 := broadcastInDim S160 ![] bcast_S_S160 main_c_1
  let main_v6 : IVec S160 1 := cmpi .sle main_arg2 main_v5
  let main_v7 : IVec S160 1 := andi main_v4 main_v6
  let main_c_2 : IVec S_ 1 := constantI S_ 1 1#1
  let main_v8 : IVec S_ 1 := (fun x v => Host.reduce IntOp.andi x v reducesTo_S160_S_d0 h_S_) main_v7 main_c_2
  let main_v9 : IVec S_ 32 := shapeCast S_ main_arg1 shapeCasts_S1_S_
  let main_c_3 : IVec S_ 32 := constantI S_ 32 1#32
  let main_v10 : IVec S_ 1 := cmpi .sge main_v9 main_c_3
  let main_v11 : IVec S_ 1 := andi main_v8 main_v10
  main_v11
-- ==== Kernel.lean ====
abbrev S32768x1024 : Shape := ⟨2, ![32768, 1024]⟩
abbrev S131072x512 : Shape := ⟨2, ![131072, 512]⟩
abbrev S8x32768 : Shape := ⟨2, ![8, 32768]⟩
abbrev S6x16x1024 : Shape := ⟨3, ![6, 16, 1024]⟩
abbrev S1024 : Shape := ⟨1, ![1024]⟩
abbrev S6x16x1x1024 : Shape := ⟨4, ![6, 16, 1, 1024]⟩
abbrev S1x1024 : Shape := ⟨2, ![1, 1024]⟩
abbrev S1024x1024 : Shape := ⟨2, ![1024, 1024]⟩
abbrev S1024x512 : Shape := ⟨2, ![1024, 512]⟩
abbrev S8x1024 : Shape := ⟨2, ![8, 1024]⟩
abbrev S1x1x1x1024 : Shape := ⟨4, ![1, 1, 1, 1024]⟩
abbrev S1024x8 : Shape := ⟨2, ![1024, 8]⟩
abbrev S1024x1 : Shape := ⟨2, ![1024, 1]⟩

abbrev nBuf : Space → Nat
  | .hbm => 8
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S131072x512, .i32⟩
  | .hbm, ⟨2, _⟩ => ⟨S8x32768, .f32⟩
  | .hbm, ⟨3, _⟩ => ⟨S6x16x1024, .f32⟩
  | .hbm, ⟨4, _⟩ => ⟨S1024, .f32⟩
  | .hbm, ⟨5, _⟩ => ⟨S6x16x1x1024, .f32⟩
  | .hbm, ⟨6, _⟩ => ⟨S1x1024, .f32⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .i32⟩
  | .local _ .vmem, ⟨3, _⟩ => ⟨S1024x512, .i32⟩
  | .local _ .vmem, ⟨4, _⟩ => ⟨S1024x512, .i32⟩
  | .local _ .vmem, ⟨5, _⟩ => ⟨S1024x512, .i32⟩
  | .local _ .vmem, ⟨6, _⟩ => ⟨S1024x512, .i32⟩
  | .local _ .vmem, ⟨7, _⟩ => ⟨S1024x512, .i32⟩
  | .local _ .vmem, ⟨8, _⟩ => ⟨S1024x512, .i32⟩
  | .local _ .vmem, ⟨9, _⟩ => ⟨S1024x512, .i32⟩
  | .local _ .vmem, ⟨10, _⟩ => ⟨S8x1024, .f32⟩
  | .local _ .vmem, ⟨11, _⟩ => ⟨S8x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 4 → Nat :=
  let arg0 : BitVec 32 := BitVec.ofNat 32 (i 0).val
  let c0_i32 : BitVec 32 := 0#32
  let v0 : BitVec 32 := Scalar.addi c0_i32 arg0
  let c2_i32 : BitVec 32 := 2#32
  let v1 : BitVec 32 := Scalar.divsi v0 c2_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32 c0_i32_2
  let v8 : BitVec 32 := Scalar.extui v7
  let c0_i32_3 : BitVec 32 := 0#32
  let v9 : BitVec 1 := Scalar.cmpi .slt c2_i32 c0_i32_3
  let v10 : BitVec 32 := Scalar.extui v9
  let v11 : BitVec 32 := Scalar.subi v8 v10
  let v12 : BitVec 1 := Scalar.cmpi .ne v6 v11
  let v13 : BitVec 32 := Scalar.remsi v0 c2_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c5_i32 : BitVec 32 := 5#32
  let c0_i32_5 : BitVec 32 := 0#32
  let c0_i32_6 : BitVec 32 := 0#32
  let c0_i32_7 : BitVec 32 := 0#32
  ![c5_i32.toNat, v17.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S32768x1024 : Shape := ⟨2, ![32768, 1024]⟩
abbrev S131072x512 : Shape := ⟨2, ![131072, 512]⟩
abbrev S8x32768 : Shape := ⟨2, ![8, 32768]⟩
abbrev S6x16x1024 : Shape := ⟨3, ![6, 16, 1024]⟩
abbrev S1024 : Shape := ⟨1, ![1024]⟩
abbrev S4x32768x512 : Shape := ⟨3, ![4, 32768, 512]⟩
abbrev S4x32768x512x2 : Shape := ⟨4, ![4, 32768, 512, 2]⟩
abbrev S4x32768x512x1 : Shape := ⟨4, ![4, 32768, 512, 1]⟩
abbrev S4x32768x1024 : Shape := ⟨3, ![4, 32768, 1024]⟩
abbrev S4x32768 : Shape := ⟨2, ![4, 32768]⟩
abbrev S4x32768x1 : Shape := ⟨3, ![4, 32768, 1]⟩
abbrev S_ : Shape := ⟨0, ![]⟩
abbrev S16x2048x1024 : Shape := ⟨3, ![16, 2048, 1024]⟩
abbrev S1x16x1024 : Shape := ⟨3, ![1, 16, 1024]⟩
abbrev S16x1024 : Shape := ⟨2, ![16, 1024]⟩
abbrev S16x1x1024 : Shape := ⟨3, ![16, 1, 1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S131072x512, .i32⟩
  | .hbm, ⟨2, _⟩ => ⟨S8x32768, .f32⟩
  | .hbm, ⟨3, _⟩ => ⟨S6x16x1024, .f32⟩
  | .hbm, ⟨4, _⟩ => ⟨S1024, .f32⟩
  | .hbm, ⟨5, _⟩ => ⟨S4x32768x512, .i32⟩
  | .hbm, ⟨6, _⟩ => ⟨S4x32768x512x2, .bf16⟩
  | .hbm, ⟨7, _⟩ => ⟨S4x32768x512x2, .f32⟩
  | .hbm, ⟨8, _⟩ => ⟨S4x32768x512x1, .f32⟩
  | .hbm, ⟨9, _⟩ => ⟨S4x32768x512, .f32⟩
  | .hbm, ⟨10, _⟩ => ⟨S4x32768x512x1, .f32⟩
  | .hbm, ⟨11, _⟩ => ⟨S4x32768x512, .f32⟩
  | .hbm, ⟨12, _⟩ => ⟨S4x32768x1024, .f32⟩
  | .hbm, ⟨13, _⟩ => ⟨S4x32768, .f32⟩
  | .hbm, ⟨14, _⟩ => ⟨S4x32768x1, .f32⟩
  | .hbm, ⟨15, _⟩ => ⟨S4x32768x1024, .f32⟩
  | .hbm, ⟨16, _⟩ => ⟨S4x32768x1024, .f32⟩
  | .hbm, ⟨17, _⟩ => ⟨S_, .f32⟩
  | .hbm, ⟨18, _⟩ => ⟨S32768x1024, .f32⟩
  | .hbm, ⟨19, _⟩ => ⟨S16x2048x1024, .f32⟩
  | .hbm, ⟨20, _⟩ => ⟨S1x16x1024, .f32⟩
  | .hbm, ⟨21, _⟩ => ⟨S16x1024, .f32⟩
  | .hbm, ⟨22, _⟩ => ⟨S16x1x1024, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S16x2048x1, .f32⟩
  | .hbm, ⟨38, _⟩ => ⟨S16x2048x1024, .f32⟩
  | .hbm, ⟨39, _⟩ => ⟨S16x2048x1024, .f32⟩
  | .hbm, ⟨40, _⟩ => ⟨S1x1x1024, .f32⟩
  | .hbm, ⟨41, _⟩ => ⟨S16x2048x1024, .f32⟩
  | .hbm, ⟨42, _⟩ => ⟨S16x2048x1024, .f32⟩
  | .hbm, ⟨43, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel2.lean ====
abbrev S160 : Shape := ⟨1, ![160]⟩
abbrev S1 : Shape := ⟨1, ![1]⟩
abbrev S163840x512 : Shape := ⟨2, ![163840, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S159 : Shape := ⟨1, ![159]⟩
abbrev S1x160 : Shape := ⟨2, ![1, 160]⟩
abbrev S160x1 : Shape := ⟨2, ![160, 1]⟩
abbrev S160x160 : Shape := ⟨2, ![160, 160]⟩
abbrev S32x1x2048 : Shape := ⟨3, ![32, 1, 2048]⟩
abbrev S32x1x1024 : Shape := ⟨3, ![32, 1, 1024]⟩
abbrev S1024x512 : Shape := ⟨2, ![1024, 512]⟩
abbrev S1x1x2048 : Shape := ⟨3, ![1, 1, 2048]⟩
abbrev S1x1x1024 : Shape := ⟨3, ![1, 1, 1024]⟩
abbrev S2x1024x2048 : Shape := ⟨3, ![2, 1024, 2048]⟩
abbrev S2x1024x1024 : Shape := ⟨3, ![2, 1024, 1024]⟩
abbrev S2x2 : Shape := ⟨2, ![2, 2]⟩
abbrev S1x1 : Shape := ⟨2, ![1, 1]⟩
abbrev S1x1024x2048 : Shape := ⟨3, ![1, 1024, 2048]⟩
abbrev S1024x2048 : Shape := ⟨2, ![1024, 2048]⟩
abbrev S1x1024x1024 : Shape := ⟨3, ![1, 1024, 1024]⟩
abbrev S1024x1024 : Shape := ⟨2, ![1024, 1024]⟩
abbrev S256x512 : Shape := ⟨2, ![256, 512]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩
abbrev S768x512 : Shape := ⟨2, ![768, 512]⟩
abbrev S512x512 : Shape := ⟨2, ![512, 512]⟩
abbrev S512x1024 : Shape := ⟨2, ![512, 1024]⟩
abbrev S512x2048 : Shape := ⟨2, ![512, 2048]⟩
abbrev S768x1024 : Shape := ⟨2, ![768, 1024]⟩
abbrev S768x2048 : Shape := ⟨2, ![768, 2048]⟩
abbrev S163840x1024 : Shape := ⟨2, ![163840, 1024]⟩

abbrev nBuf : Space → Nat
  | .hbm => 70
  | .vmem => 14
  | .smem => 6
  | _ => 0

abbrev bufTy : (tb : Table) → Fin (tcTables nBuf tb) → BufTy
  | .hbm, ⟨0, _⟩ => ⟨S163840x512, .i32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S160, .i32⟩
  | .hbm, ⟨6, _⟩ => ⟨S_, .i32⟩
  | .hbm, ⟨7, _⟩ => ⟨S160, .i32⟩
  | .hbm, ⟨8, _⟩ => ⟨S160, .i1⟩
  | .hbm, ⟨9, _⟩ => ⟨S_, .i32⟩
  | .hbm, ⟨10, _⟩ => ⟨S160, .i32⟩
  | .hbm, ⟨11, _⟩ => ⟨S160, .i1⟩
  | .hbm, ⟨12, _⟩ => ⟨S1, .i32⟩
  | .hbm, ⟨13, _⟩ => ⟨S159, .i32⟩
  | .hbm, ⟨14, _⟩ => ⟨S160, .i32⟩
  | .hbm, ⟨15, _⟩ => ⟨S160, .i1⟩
  | .hbm, ⟨16, _⟩ => ⟨S160, .i1⟩
  | .hbm, ⟨17, _⟩ => ⟨S160, .i1⟩
  | .hbm, ⟨18, _⟩ => ⟨S_, .i32⟩
  | .hbm, ⟨19, _⟩ => ⟨S_, .i32⟩
  | .hbm, ⟨20, _⟩ => ⟨S160, .i32⟩
  | .hbm, ⟨21, _⟩ => ⟨S_, .i32⟩
  | .hbm, ⟨22, _⟩ => ⟨S160, .i32⟩
  | .hbm, ⟨23, _⟩ => ⟨S160, .i32⟩
  | .hbm, ⟨24, _⟩ => ⟨S_, .i32⟩
  | .hbm, ⟨25, _⟩ => ⟨S160, .i32⟩
  | .hbm, ⟨26, _⟩ => ⟨S1x160, .i1⟩
  | .hbm, ⟨27, _⟩ => ⟨S1x160, .i32⟩
  | .hbm, ⟨28, _⟩ => ⟨S160x1, .i32⟩
  | .hbm, ⟨29, _⟩ => ⟨S160x160, .i32⟩
  | .hbm, ⟨30, _⟩ => ⟨S160x160, .i32⟩
  | .hbm, ⟨31, _⟩ => ⟨S160x160, .i1⟩
  | .hbm, ⟨32, _⟩ => ⟨S160x160, .i1⟩
  | .hbm, ⟨33, _⟩ => ⟨S160x160, .i1⟩
  | .hbm, ⟨34, _⟩ => ⟨S1x160, .i32⟩
  | .hbm, ⟨35, _⟩ => ⟨S160x1, .i32⟩
  | .hbm, ⟨36, _⟩ => ⟨S160x160, .i32⟩
  | .hbm, ⟨37, _⟩ => ⟨S160x160, .i32⟩
  | .hbm, ⟨38, _⟩ => ⟨S160x160, .i1⟩
  | .hbm, ⟨39, _⟩ => ⟨S160x160, .i1⟩
  | .hbm, ⟨40, _⟩ => ⟨S1x160, .i32⟩
  | .hbm, ⟨41, _⟩ => ⟨S_, .i32⟩
  | .hbm, ⟨42, _⟩ => ⟨S_, .i32⟩
  | .hbm, ⟨43, _⟩ => ⟨S160x160, .i32⟩
  | .hbm, ⟨44, _⟩ => ⟨S160x160, .i32⟩
  | .hbm, ⟨45, _⟩ => ⟨S160x160, .i32⟩
  | .hbm, ⟨46, _⟩ => ⟨S_, .i32⟩
  | .hbm, ⟨47, _⟩ => ⟨S160, .i32⟩
  | .hbm, ⟨48, _⟩ => ⟨S_, .i32⟩
  | .hbm, ⟨49, _⟩ => ⟨S160, .i32⟩
  | .hbm, ⟨50, _⟩ => ⟨S160, .i1⟩
  | .hbm, ⟨51, _⟩ => ⟨S_, .i32⟩
  | .hbm, ⟨52, _⟩ => ⟨S160, .i32⟩
  | .hbm, ⟨53, _⟩ => ⟨S160, .i32⟩
  | .hbm, ⟨54, _⟩ => ⟨S_, .i32⟩
  | .hbm, ⟨55, _⟩ => ⟨S160, .i32⟩
  | .hbm, ⟨56, _⟩ => ⟨S160, .i1⟩
  | .hbm, ⟨57, _⟩ => ⟨S_, .i32⟩
  | .hbm, ⟨58, _⟩ => ⟨S160, .i32⟩
  | .hbm, ⟨59, _⟩ => ⟨S160, .i32⟩
  | .hbm, ⟨60, _⟩ => ⟨S160, .i32⟩
  | .hbm, ⟨61, _⟩ => ⟨S160x1, .i32⟩
  | .hbm, ⟨62, _⟩ => ⟨S160, .i32⟩
  | .hbm, ⟨63, _⟩ => ⟨S_, .i32⟩
  | .hbm, ⟨64, _⟩ => ⟨S_, .i32⟩
  | .hbm, ⟨65, _⟩ => ⟨S160, .i32⟩
  | .hbm, ⟨66, _⟩ => ⟨S32x1x2048, .f32⟩
  | .hbm, ⟨67, _⟩ => ⟨S32x1x1024, .f32⟩
  | .hbm, ⟨68, _⟩ => ⟨S163840x512, .i32⟩
  | .hbm, ⟨69, _⟩ => ⟨S163840x1024, .f32⟩
  | .local _ .vmem, ⟨0, _⟩ => ⟨S1024x512, .i32⟩
  | .local _ .vmem, ⟨1, _⟩ => ⟨S1024x512, .i32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S1024x512, .i32⟩
  | .local _ .vmem, ⟨7, _⟩ => ⟨S1024x512, .i32⟩
  | .local _ .vmem, ⟨8, _⟩ => ⟨S2x1024x2048, .f32⟩
  | .local _ .vmem, ⟨9, _⟩ => ⟨S2x1024x1024, .f32⟩
  | .local _ .vmem, ⟨10, _⟩ => ⟨S1024x512, .i32⟩
  | .local _ .vmem, ⟨11, _⟩ => ⟨S1024x512, .i32⟩
  | .local _ .vmem, ⟨12, _⟩ => ⟨S1024x1024, .f32⟩
  | .local _ .vmem, ⟨13, _⟩ => ⟨S1024x1024, .f32⟩
  | .local _ .smem, ⟨0, _⟩ => ⟨S160, .i32⟩
  | .local _ .smem, ⟨1, _⟩ => ⟨S1, .i32⟩
  | .local _ .smem, ⟨2, _⟩ => ⟨S160, .i32⟩
  | .local _ .smem, ⟨3, _⟩ => ⟨S160, .i32⟩
  | .local _ .smem, ⟨4, _⟩ => ⟨S160, .i32⟩
  | .local _ .smem, ⟨5, _⟩ => ⟨S160, .i32⟩
  | _, _ => ⟨S163840x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call1_call0_c : Ref sig .tc := ⟨.hbm, 18, rfl⟩
abbrev main_call1_call0_v0 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_2 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v31 : Ref sig .tc := ⟨.hbm, 45, rfl⟩
abbrev main_c_3 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_call3_v0 : Ref sig .tc := ⟨.hbm, 64, rfl⟩
abbrev main_call3_v1 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_arg0 : Ref sig .tc := ⟨.smem, 0, rfl⟩
abbrev main_arg1 : Ref sig .tc := ⟨.smem, 1, rfl⟩
abbrev main_v10 : Ref sig .tc := ⟨.smem, 2, rfl⟩
abbrev main_v15 : Ref sig .tc := ⟨.smem, 3, rfl⟩
abbrev main_v44 : Ref sig .tc := ⟨.smem, 4, rfl⟩
abbrev main_arg2 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 12
abbrev cc1_sem0_1 : DmaSem sig := 13
abbrev cc1_sem1_0 : DmaSem sig := 14
abbrev cc1_sem1_1 : DmaSem sig := 15

abbrev nD : Nat := 1
abbrev τ : Topo := Topo.v7x

variable {F : FTy → Type} [BitOps F]

abbrev grid0 : Pipeline.Grid := ⟨1, ![160], ![false]⟩

abbrev pre0 : Pipeline.Prefetch sig := ⟨6, ![main_arg0.idx, main_arg1.idx, main_v10.idx, main_v15.idx, main_v44.idx, main_arg2.idx], fun | 0 => main_arg0.names | 1 => main_arg1.names | 2 => main_v10.names | 3 => main_v15.names | 4 => main_v44.names | 5 => main_arg2.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_0 : BitVec 32 := 0#32
  let v9 : BitVec 1 := Scalar.cmpi .ne v8 c0_i32_0
  v9

def k0_off2 (v43 : BitVec 32) : Fin 3 → Nat :=
  let c0_i32_18 : BitVec 32 := 0#32
  let c0_i32_19 : BitVec 32 := 0#32
  ![v43.toNat, 0, 0]

def k0_off3 (v43 : BitVec 32) : Fin 3 → Nat :=
  let c0_i32_25 : BitVec 32 := 0#32
  let c0_i32_26 : BitVec 32 := 0#32
  ![v43.toNat, 0, 0]

def k0_chk1 (i : grid0.Coords) (v43 : BitVec 32) : Prop :=
  (∀ (k0_h1 : k0_cond1 i = 1#1), ∀ a, (k0_off2 v43) a + S1x1024x2048.size a ≤ S32x1024x2048.size a) ∧
  (∀ (k0_h1 : k0_cond1 i = 1#1), ∀ a, (k0_off3 v43) a + S1x1024x1024.size a ≤ S32x1024x1024.size a)
theorem k0_off2_inb : ∀ (i : grid0.Coords) (v43 : BitVec 32) (k0_hw1 : k0_chk1 i v43), ∀ (k0_h1 : k0_cond1 i = 1#1), ∀ a, (k0_off2 v43) a + S1x1024x2048.size a ≤ S32x1024x2048.size a := fun i v43 k0_hw1 k0_h1 => k0_hw1.1 k0_h1
theorem k0_off3_inb : ∀ (i : grid0.Coords) (v43 : BitVec 32) (k0_hw1 : k0_chk1 i v43), ∀ (k0_h1 : k0_cond1 i = 1#1), ∀ a, (k0_off3 v43) a + S1x1024x1024.size a ≤ S32x1024x1024.size a := fun i v43 k0_hw1 k0_h1 => k0_hw1.2 k0_h1

def k0_off4 (i : grid0.Coords) : Fin 1 → Nat :=
  let arg0 : BitVec 32 := BitVec.ofNat 32 (i 0).val
  let v43 : Index := Scalar.indexCast arg0
  ![v43.toNat]
def k0_off5 (v6 : BitVec 32) : Fin 2 → Nat :=
  let c0_i32_12 : BitVec 32 := 0#32
  ![v6.toNat, 0]
def k0_cond2 (i : grid0.Coords) (v0 : BitVec 32) (v11 : BitVec 32) : BitVec 1 :=
  let arg0 : BitVec 32 := BitVec.ofNat 32 (i 0).val
  let v1 : BitVec 1 := Scalar.cmpi .slt arg0 v0
  let c1_i32_1 : BitVec 32 := 1#32
  let v12 : BitVec 1 := Scalar.cmpi .eq v11 c1_i32_1
  let v13 : BitVec 1 := Scalar.andi v1 v12
  let v14 : BitVec 32 := Scalar.extui v13
  let c0_i32_2 : BitVec 32 := 0#32
  let v15 : BitVec 1 := Scalar.cmpi .ne v14 c0_i32_2
  v15

def k0_off6 (v6 : BitVec 32) : Fin 3 → Nat :=
  let c0_i32_13 : BitVec 32 := 0#32
  let c0_i32_14 : BitVec 32 := 0#32
  ![v6.toNat, 0, 0]
def k0_off7 (v44 : BitVec 32) : Fin 3 → Nat :=
  let c0_i32_15 : BitVec 32 := 0#32
  let c0_i32_16 : BitVec 32 := 0#32
  ![v44.toNat, 0, 0]

def k0_off8 (v6 : BitVec 32) : Fin 2 → Nat :=
  let c1_i32_17 : BitVec 32 := 1#32
  ![v6.toNat, 1]
def k0_off9 (v6 : BitVec 32) : Fin 3 → Nat :=
  let c0_i32_18 : BitVec 32 := 0#32
  let c0_i32_19 : BitVec 32 := 0#32
  ![v6.toNat, 0, 0]

def k0_chk2 (i : grid0.Coords) (v0 : BitVec 32) (v6 : BitVec 32) (v11 : BitVec 32) : Prop :=
  (∀ (k0_h2 : k0_cond2 i v0 v11 = 1#1), ∀ a, (k0_off5 v6) a + S1x1.size a ≤ S2x2.size a) ∧
  (∀ (k0_h2 : k0_cond2 i v0 v11 = 1#1), ∀ a, (k0_off6 v6) a + S1x1024x2048.size a ≤ S2x1024x2048.size a) ∧
  (∀ (k0_h2 : k0_cond2 i v0 v11 = 1#1), ∀ a, (k0_off8 v6) a + S1x1.size a ≤ S2x2.size a) ∧
  (∀ (k0_h2 : k0_cond2 i v0 v11 = 1#1), ∀ a, (k0_off9 v6) a + S1x1024x1024.size a ≤ S2x1024x1024.size a)
theorem k0_off5_inb : ∀ (i : grid0.Coords) (v0 : BitVec 32) (v6 : BitVec 32) (v11 : BitVec 32) (k0_hw2 : k0_chk2 i v0 v6 v11), ∀ (k0_h2 : k0_cond2 i v0 v11 = 1#1), ∀ a, (k0_off5 v6) a + S1x1.size a ≤ S2x2.size a := fun i v0 v6 v11 k0_hw2 k0_h2 => k0_hw2.1 k0_h2
theorem k0_off6_inb : ∀ (i : grid0.Coords) (v0 : BitVec 32) (v6 : BitVec 32) (v11 : BitVec 32) (k0_hw2 : k0_chk2 i v0 v6 v11), ∀ (k0_h2 : k0_cond2 i v0 v11 = 1#1), ∀ a, (k0_off6 v6) a + S1x1024x2048.size a ≤ S2x1024x2048.size a := fun i v0 v6 v11 k0_hw2 k0_h2 => k0_hw2.2.1 k0_h2
theorem k0_off8_inb : ∀ (i : grid0.Coords) (v0 : BitVec 32) (v6 : BitVec 32) (v11 : BitVec 32) (k0_hw2 : k0_chk2 i v0 v6 v11), ∀ (k0_h2 : k0_cond2 i v0 v11 = 1#1), ∀ a, (k0_off8 v6) a + S1x1.size a ≤ S2x2.size a := fun i v0 v6 v11 k0_hw2 k0_h2 => k0_hw2.2.2.1 k0_h2
theorem k0_off9_inb : ∀ (i : grid0.Coords) (v0 : BitVec 32) (v6 : BitVec 32) (v11 : BitVec 32) (k0_hw2 : k0_chk2 i v0 v6 v11), ∀ (k0_h2 : k0_cond2 i v0 v11 = 1#1), ∀ a, (k0_off9 v6) a + S1x1024x1024.size a ≤ S2x1024x1024.size a := fun i v0 v6 v11 k0_hw2 k0_h2 => k0_hw2.2.2.2 k0_h2

def k0_off10 (v44 : BitVec 32) : Fin 3 → Nat :=
  let c0_i32_20 : BitVec 32 := 0#32
  let c0_i32_21 : BitVec 32 := 0#32
  ![v44.toNat, 0, 0]

def k0_chk3 (i : grid0.Coords) (v0 : BitVec 32) (v11 : BitVec 32) (v44 : BitVec 32) : Prop :=
  (∀ (k0_h2 : k0_cond2 i v0 v11 = 1#1), ∀ a, (k0_off7 v44) a + S1x1024x2048.size a ≤ S32x1024x2048.size a) ∧
  (∀ (k0_h2 : k0_cond2 i v0 v11 = 1#1), ∀ a, (k0_off10 v44) a + S1x1024x1024.size a ≤ S32x1024x1024.size a)
theorem k0_off7_inb : ∀ (i : grid0.Coords) (v0 : BitVec 32) (v11 : BitVec 32) (v44 : BitVec 32) (k0_hw3 : k0_chk3 i v0 v11 v44), ∀ (k0_h2 : k0_cond2 i v0 v11 = 1#1), ∀ a, (k0_off7 v44) a + S1x1024x2048.size a ≤ S32x1024x2048.size a := fun i v0 v11 v44 k0_hw3 k0_h2 => k0_hw3.1 k0_h2
theorem k0_off10_inb : ∀ (i : grid0.Coords) (v0 : BitVec 32) (v11 : BitVec 32) (v44 : BitVec 32) (k0_hw3 : k0_chk3 i v0 v11 v44), ∀ (k0_h2 : k0_cond2 i v0 v11 = 1#1), ∀ a, (k0_off10 v44) a + S1x1024x1024.size a ≤ S32x1024x1024.size a := fun i v0 v11 v44 k0_hw3 k0_h2 => k0_hw3.2 k0_h2

def k0_off11 (i : grid0.Coords) : Fin 1 → Nat :=
  let arg0 : BitVec 32 := BitVec.ofNat 32 (i 0).val
  let v57 : Index := Scalar.indexCast arg0
  ![v57.toNat]
def k0_off12 (i : grid0.Coords) : Fin 1 → Nat :=
  let arg0 : BitVec 32 := BitVec.ofNat 32 (i 0).val
  let v62 : Index := Scalar.indexCast arg0
  ![v62.toNat]
def k0_off13 (v6 : BitVec 32) : Fin 2 → Nat :=
  let c1_i32_24 : BitVec 32 := 1#32
  let v64 : BitVec 32 := Scalar.subi c1_i32_24 v6
  let c0_i32_25 : BitVec 32 := 0#32
  ![v64.toNat, 0]
def k0_cond3 (v58 : BitVec 32) : BitVec 1 :=
  let c0_i32_22 : BitVec 32 := 0#32
  let v59 : BitVec 1 := Scalar.cmpi .sge v58 c0_i32_22
  let v60 : BitVec 32 := Scalar.extui v59
  let c0_i32_23 : BitVec 32 := 0#32
  let v61 : BitVec 1 := Scalar.cmpi .ne v60 c0_i32_23
  v61

def k0_off14 (v6 : BitVec 32) : Fin 3 → Nat :=
  let c1_i32_24 : BitVec 32 := 1#32
  let v64 : BitVec 32 := Scalar.subi c1_i32_24 v6
  let c0_i32_26 : BitVec 32 := 0#32
  let c0_i32_27 : BitVec 32 := 0#32
  ![v64.toNat, 0, 0]
def k0_off15 (v63 : BitVec 32) : Fin 3 → Nat :=
  let c0_i32_28 : BitVec 32 := 0#32
  let c0_i32_29 : BitVec 32 := 0#32
  ![v63.toNat, 0, 0]

def k0_off16 (v6 : BitVec 32) : Fin 2 → Nat :=
  let c1_i32_24 : BitVec 32 := 1#32
  let v64 : BitVec 32 := Scalar.subi c1_i32_24 v6
  let c1_i32_30 : BitVec 32 := 1#32
  ![v64.toNat, 1]
def k0_off17 (v6 : BitVec 32) : Fin 3 → Nat :=
  let c1_i32_24 : BitVec 32 := 1#32
  let v64 : BitVec 32 := Scalar.subi c1_i32_24 v6
  let c0_i32_31 : BitVec 32 := 0#32
  let c0_i32_32 : BitVec 32 := 0#32
  ![v64.toNat, 0, 0]

def k0_chk4 (i : grid0.Coords) (v0 : BitVec 32) (v6 : BitVec 32) (v11 : BitVec 32) (v58 : BitVec 32) : Prop :=
  (∀ (k0_h2 : k0_cond2 i v0 v11 = 1#1), ∀ (k0_h3 : k0_cond3 v58 = 1#1), ∀ a, (k0_off13 v6) a + S1x1.size a ≤ S2x2.size a) ∧
  (∀ (k0_h2 : k0_cond2 i v0 v11 = 1#1), ∀ (k0_h3 : k0_cond3 v58 = 1#1), ∀ a, (k0_off14 v6) a + S1x1024x2048.size a ≤ S2x1024x2048.size a) ∧
  (∀ (k0_h2 : k0_cond2 i v0 v11 = 1#1), ∀ (k0_h3 : k0_cond3 v58 = 1#1), ∀ a, (k0_off16 v6) a + S1x1.size a ≤ S2x2.size a) ∧
  (∀ (k0_h2 : k0_cond2 i v0 v11 = 1#1), ∀ (k0_h3 : k0_cond3 v58 = 1#1), ∀ a, (k0_off17 v6) a + S1x1024x1024.size a ≤ S2x1024x1024.size a)
theorem k0_off13_inb : ∀ (i : grid0.Coords) (v0 : BitVec 32) (v6 : BitVec 32) (v11 : BitVec 32) (v58 : BitVec 32) (k0_hw4 : k0_chk4 i v0 v6 v11 v58), ∀ (k0_h2 : k0_cond2 i v0 v11 = 1#1), ∀ (k0_h3 : k0_cond3 v58 = 1#1), ∀ a, (k0_off13 v6) a + S1x1.size a ≤ S2x2.size a := fun i v0 v6 v11 v58 k0_hw4 k0_h2 k0_h3 => k0_hw4.1 k0_h2 k0_h3
theorem k0_off14_inb : ∀ (i : grid0.Coords) (v0 : BitVec 32) (v6 : BitVec 32) (v11 : BitVec 32) (v58 : BitVec 32) (k0_hw4 : k0_chk4 i v0 v6 v11 v58), ∀ (k0_h2 : k0_cond2 i v0 v11 = 1#1), ∀ (k0_h3 : k0_cond3 v58 = 1#1), ∀ a, (k0_off14 v6) a + S1x1024x2048.size a ≤ S2x1024x2048.size a := fun i v0 v6 v11 v58 k0_hw4 k0_h2 k0_h3 => k0_hw4.2.1 k0_h2 k0_h3
theorem k0_off16_inb : ∀ (i : grid0.Coords) (v0 : BitVec 32) (v6 : BitVec 32) (v11 : BitVec 32) (v58 : BitVec 32) (k0_hw4 : k0_chk4 i v0 v6 v11 v58), ∀ (k0_h2 : k0_cond2 i v0 v11 = 1#1), ∀ (k0_h3 : k0_cond3 v58 = 1#1), ∀ a, (k0_off16 v6) a + S1x1.size a ≤ S2x2.size a := fun i v0 v6 v11 v58 k0_hw4 k0_h2 k0_h3 => k0_hw4.2.2.1 k0_h2 k0_h3
theorem k0_off17_inb : ∀ (i : grid0.Coords) (v0 : BitVec 32) (v6 : BitVec 32) (v11 : BitVec 32) (v58 : BitVec 32) (k0_hw4 : k0_chk4 i v0 v6 v11 v58), ∀ (k0_h2 : k0_cond2 i v0 v11 = 1#1), ∀ (k0_h3 : k0_cond3 v58 = 1#1), ∀ a, (k0_off17 v6) a + S1x1024x1024.size a ≤ S2x1024x1024.size a := fun i v0 v6 v11 v58 k0_hw4 k0_h2 k0_h3 => k0_hw4.2.2.2 k0_h2 k0_h3

def k0_off18 (v63 : BitVec 32) : Fin 3 → Nat :=
  let c0_i32_33 : BitVec 32 := 0#32
  let c0_i32_34 : BitVec 32 := 0#32
  ![v63.toNat, 0, 0]

def k0_chk5 (i : grid0.Coords) (v0 : BitVec 32) (v11 : BitVec 32) (v58 : BitVec 32) (v63 : BitVec 32) : Prop :=
  (∀ (k0_h2 : k0_cond2 i v0 v11 = 1#1), ∀ (k0_h3 : k0_cond3 v58 = 1#1), ∀ a, (k0_off15 v63) a + S1x1024x2048.size a ≤ S32x1024x2048.size a) ∧
  (∀ (k0_h2 : k0_cond2 i v0 v11 = 1#1), ∀ (k0_h3 : k0_cond3 v58 = 1#1), ∀ a, (k0_off18 v63) a + S1x1024x1024.size a ≤ S32x1024x1024.size a)
theorem k0_off15_inb : ∀ (i : grid0.Coords) (v0 : BitVec 32) (v11 : BitVec 32) (v58 : BitVec 32) (v63 : BitVec 32) (k0_hw5 : k0_chk5 i v0 v11 v58 v63), ∀ (k0_h2 : k0_cond2 i v0 v11 = 1#1), ∀ (k0_h3 : k0_cond3 v58 = 1#1), ∀ a, (k0_off15 v63) a + S1x1024x2048.size a ≤ S32x1024x2048.size a := fun i v0 v11 v58 v63 k0_hw5 k0_h2 k0_h3 => k0_hw5.1 k0_h2 k0_h3
theorem k0_off18_inb : ∀ (i : grid0.Coords) (v0 : BitVec 32) (v11 : BitVec 32) (v58 : BitVec 32) (v63 : BitVec 32) (k0_hw5 : k0_chk5 i v0 v11 v58 v63), ∀ (k0_h2 : k0_cond2 i v0 v11 = 1#1), ∀ (k0_h3 : k0_cond3 v58 = 1#1), ∀ a, (k0_off18 v63) a + S1x1024x1024.size a ≤ S32x1024x1024.size a := fun i v0 v11 v58 v63 k0_hw5 k0_h2 k0_h3 => k0_hw5.2 k0_h2 k0_h3

def k0_off19 (v6 : BitVec 32) : Fin 3 → Nat :=
  let v48 : Index := Scalar.indexCast v6
  let c0_14 : Index := 0#32
  let c0_15 : Index := 0#32
  ![v48.toNat, 0, 0]
def k0_cond4 (i : grid0.Coords) (v0 : BitVec 32) (v3 : BitVec 32) : BitVec 1 :=
  let arg0 : BitVec 32 := BitVec.ofNat 32 (i 0).val
  let v1 : BitVec 1 := Scalar.cmpi .slt arg0 v0
  let c1_i32 : BitVec 32 := 1#32
  let v4 : BitVec 32 := Scalar.maxsi v3 c1_i32
  let c0_i32_3 : BitVec 32 := 0#32
  let v16 : BitVec 1 := Scalar.cmpi .sgt v4 c0_i32_3
  let v17 : BitVec 1 := Scalar.andi v1 v16
  let c256_i32 : BitVec 32 := 256#32
  let v18 : BitVec 1 := Scalar.cmpi .sle v4 c256_i32
  let v19 : BitVec 1 := Scalar.andi v17 v18
  let v20 : BitVec 32 := Scalar.extui v19
  let c0_i32_4 : BitVec 32 := 0#32
  let v21 : BitVec 1 := Scalar.cmpi .ne v20 c0_i32_4
  v21

def k0_off20 (v6 : BitVec 32) : Fin 3 → Nat :=
  let v72 : Index := Scalar.indexCast v6
  let c0_24 : Index := 0#32
  let c0_25 : Index := 0#32
  ![v72.toNat, 0, 0]
def k0_off21 (v6 : BitVec 32) : Fin 3 → Nat :=
  let v48 : Index := Scalar.indexCast v6
  let c0_14 : Index := 0#32
  let c0_15 : Index := 0#32
  ![v48.toNat, 0, 0]
def k0_cond5 (i : grid0.Coords) (v0 : BitVec 32) (v3 : BitVec 32) : BitVec 1 :=
  let arg0 : BitVec 32 := BitVec.ofNat 32 (i 0).val
  let v1 : BitVec 1 := Scalar.cmpi .slt arg0 v0
  let c1_i32 : BitVec 32 := 1#32
  let v4 : BitVec 32 := Scalar.maxsi v3 c1_i32
  let c256_i32_5 : BitVec 32 := 256#32
  let v22 : BitVec 1 := Scalar.cmpi .sgt v4 c256_i32_5
  let v23 : BitVec 1 := Scalar.andi v1 v22
  let c512_i32 : BitVec 32 := 512#32
  let v24 : BitVec 1 := Scalar.cmpi .sle v4 c512_i32
  let v25 : BitVec 1 := Scalar.andi v23 v24
  let v26 : BitVec 32 := Scalar.extui v25
  let c0_i32_6 : BitVec 32 := 0#32
  let v27 : BitVec 1 := Scalar.cmpi .ne v26 c0_i32_6
  v27

def k0_off22 (v6 : BitVec 32) : Fin 3 → Nat :=
  let v72 : Index := Scalar.indexCast v6
  let c0_24 : Index := 0#32
  let c0_25 : Index := 0#32
  ![v72.toNat, 0, 0]
def k0_off23 (v6 : BitVec 32) : Fin 3 → Nat :=
  let v48 : Index := Scalar.indexCast v6
  let c0_14 : Index := 0#32
  let c0_15 : Index := 0#32
  ![v48.toNat, 0, 0]
def k0_cond6 (i : grid0.Coords) (v0 : BitVec 32) (v3 : BitVec 32) : BitVec 1 :=
  let arg0 : BitVec 32 := BitVec.ofNat 32 (i 0).val
  let v1 : BitVec 1 := Scalar.cmpi .slt arg0 v0
  let c1_i32 : BitVec 32 := 1#32
  let v4 : BitVec 32 := Scalar.maxsi v3 c1_i32
  let c512_i32_7 : BitVec 32 := 512#32
  let v28 : BitVec 1 := Scalar.cmpi .sgt v4 c512_i32_7
  let v29 : BitVec 1 := Scalar.andi v1 v28
  let c768_i32 : BitVec 32 := 768#32
  let v30 : BitVec 1 := Scalar.cmpi .sle v4 c768_i32
  let v31 : BitVec 1 := Scalar.andi v29 v30
  let v32 : BitVec 32 := Scalar.extui v31
  let c0_i32_8 : BitVec 32 := 0#32
  let v33 : BitVec 1 := Scalar.cmpi .ne v32 c0_i32_8
  v33

def k0_off24 (v6 : BitVec 32) : Fin 3 → Nat :=
  let v72 : Index := Scalar.indexCast v6
  let c0_24 : Index := 0#32
  let c0_25 : Index := 0#32
  ![v72.toNat, 0, 0]
def k0_off25 (v6 : BitVec 32) : Fin 3 → Nat :=
  let v48 : Index := Scalar.indexCast v6
  let c0_14 : Index := 0#32
  let c0_15 : Index := 0#32
  ![v48.toNat, 0, 0]
def k0_cond7 (i : grid0.Coords) (v0 : BitVec 32) (v3 : BitVec 32) : BitVec 1 :=
  let arg0 : BitVec 32 := BitVec.ofNat 32 (i 0).val
  let v1 : BitVec 1 := Scalar.cmpi .slt arg0 v0
  let c1_i32 : BitVec 32 := 1#32
  let v4 : BitVec 32 := Scalar.maxsi v3 c1_i32
  let c768_i32_9 : BitVec 32 := 768#32
  let v34 : BitVec 1 := Scalar.cmpi .sgt v4 c768_i32_9
  let v35 : BitVec 1 := Scalar.andi v1 v34
  let c1024_i32 : BitVec 32 := 1024#32
  let v36 : BitVec 1 := Scalar.cmpi .sle v4 c1024_i32
  let v37 : BitVec 1 := Scalar.andi v35 v36
  let v38 : BitVec 32 := Scalar.extui v37
  let c0_i32_10 : BitVec 32 := 0#32
  let v39 : BitVec 1 := Scalar.cmpi .ne v38 c0_i32_10
  v39

def k0_off26 (v6 : BitVec 32) : Fin 3 → Nat :=
  let v72 : Index := Scalar.indexCast v6
  let c0_24 : Index := 0#32
  let c0_25 : Index := 0#32
  ![v72.toNat, 0, 0]

def k0_chk6 (i : grid0.Coords) (v0 : BitVec 32) (v3 : BitVec 32) (v6 : BitVec 32) : Prop :=
  (∀ (k0_h4 : k0_cond4 i v0 v3 = 1#1), ∀ a, (k0_off19 v6) a + S1x1024x2048.size a ≤ S2x1024x2048.size a) ∧
  (∀ (k0_h4 : k0_cond4 i v0 v3 = 1#1), ∀ a, (k0_off20 v6) a + S1x1024x1024.size a ≤ S2x1024x1024.size a) ∧
  (∀ (k0_h5 : k0_cond5 i v0 v3 = 1#1), ∀ a, (k0_off21 v6) a + S1x1024x2048.size a ≤ S2x1024x2048.size a) ∧
  (∀ (k0_h5 : k0_cond5 i v0 v3 = 1#1), ∀ a, (k0_off22 v6) a + S1x1024x1024.size a ≤ S2x1024x1024.size a) ∧
  (∀ (k0_h6 : k0_cond6 i v0 v3 = 1#1), ∀ a, (k0_off23 v6) a + S1x1024x2048.size a ≤ S2x1024x2048.size a) ∧
  (∀ (k0_h6 : k0_cond6 i v0 v3 = 1#1), ∀ a, (k0_off24 v6) a + S1x1024x1024.size a ≤ S2x1024x1024.size a) ∧
  (∀ (k0_h7 : k0_cond7 i v0 v3 = 1#1), ∀ a, (k0_off25 v6) a + S1x1024x2048.size a ≤ S2x1024x2048.size a) ∧
  (∀ (k0_h7 : k0_cond7 i v0 v3 = 1#1), ∀ a, (k0_off26 v6) a + S1x1024x1024.size a ≤ S2x1024x1024.size a)
theorem k0_off19_inb : ∀ (i : grid0.Coords) (v0 : BitVec 32) (v3 : BitVec 32) (v6 : BitVec 32) (k0_hw6 : k0_chk6 i v0 v3 v6), ∀ (k0_h4 : k0_cond4 i v0 v3 = 1#1), ∀ a, (k0_off19 v6) a + S1x1024x2048.size a ≤ S2x1024x2048.size a := fun i v0 v3 v6 k0_hw6 k0_h4 => k0_hw6.1 k0_h4
theorem k0_off20_inb : ∀ (i : grid0.Coords) (v0 : BitVec 32) (v3 : BitVec 32) (v6 : BitVec 32) (k0_hw6 : k0_chk6 i v0 v3 v6), ∀ (k0_h4 : k0_cond4 i v0 v3 = 1#1), ∀ a, (k0_off20 v6) a + S1x1024x1024.size a ≤ S2x1024x1024.size a := fun i v0 v3 v6 k0_hw6 k0_h4 => k0_hw6.2.1 k0_h4
theorem k0_off21_inb : ∀ (i : grid0.Coords) (v0 : BitVec 32) (v3 : BitVec 32) (v6 : BitVec 32) (k0_hw6 : k0_chk6 i v0 v3 v6), ∀ (k0_h5 : k0_cond5 i v0 v3 = 1#1), ∀ a, (k0_off21 v6) a + S1x1024x2048.size a ≤ S2x1024x2048.size a := fun i v0 v3 v6 k0_hw6 k0_h5 => k0_hw6.2.2.1 k0_h5
theorem k0_off22_inb : ∀ (i : grid0.Coords) (v0 : BitVec 32) (v3 : BitVec 32) (v6 : BitVec 32) (k0_hw6 : k0_chk6 i v0 v3 v6), ∀ (k0_h5 : k0_cond5 i v0 v3 = 1#1), ∀ a, (k0_off22 v6) a + S1x1024x1024.size a ≤ S2x1024x1024.size a := fun i v0 v3 v6 k0_hw6 k0_h5 => k0_hw6.2.2.2.1 k0_h5
theorem k0_off23_inb : ∀ (i : grid0.Coords) (v0 : BitVec 32) (v3 : BitVec 32) (v6 : BitVec 32) (k0_hw6 : k0_chk6 i v0 v3 v6), ∀ (k0_h6 : k0_cond6 i v0 v3 = 1#1), ∀ a, (k0_off23 v6) a + S1x1024x2048.size a ≤ S2x1024x2048.size a := fun i v0 v3 v6 k0_hw6 k0_h6 => k0_hw6.2.2.2.2.1 k0_h6
theorem k0_off24_inb : ∀ (i : grid0.Coords) (v0 : BitVec 32) (v3 : BitVec 32) (v6 : BitVec 32) (k0_hw6 : k0_chk6 i v0 v3 v6), ∀ (k0_h6 : k0_cond6 i v0 v3 = 1#1), ∀ a, (k0_off24 v6) a + S1x1024x1024.size a ≤ S2x1024x1024.size a := fun i v0 v3 v6 k0_hw6 k0_h6 => k0_hw6.2.2.2.2.2.1 k0_h6
theorem k0_off25_inb : ∀ (i : grid0.Coords) (v0 : BitVec 32) (v3 : BitVec 32) (v6 : BitVec 32) (k0_hw6 : k0_chk6 i v0 v3 v6), ∀ (k0_h7 : k0_cond7 i v0 v3 = 1#1), ∀ a, (k0_off25 v6) a + S1x1024x2048.size a ≤ S2x1024x2048.size a := fun i v0 v3 v6 k0_hw6 k0_h7 => k0_hw6.2.2.2.2.2.2.1 k0_h7
theorem k0_off26_inb : ∀ (i : grid0.Coords) (v0 : BitVec 32) (v3 : BitVec 32) (v6 : BitVec 32) (k0_hw6 : k0_chk6 i v0 v3 v6), ∀ (k0_h7 : k0_cond7 i v0 v3 = 1#1), ∀ a, (k0_off26 v6) a + S1x1024x1024.size a ≤ S2x1024x1024.size a := fun i v0 v3 v6 k0_hw6 k0_h7 => k0_hw6.2.2.2.2.2.2.2 k0_h7

def k0_cond8 (i : grid0.Coords) (v0 : BitVec 32) : BitVec 1 :=
  let arg0 : BitVec 32 := BitVec.ofNat 32 (i 0).val
  let v1 : BitVec 1 := Scalar.cmpi .slt arg0 v0
  let v_true : BitVec 1 := 1#1
  let v40 : BitVec 1 := Scalar.xori v1 v_true
  let v41 : BitVec 32 := Scalar.extui v40
  let c0_i32_11 : BitVec 32 := 0#32
  let v42 : BitVec 1 := Scalar.cmpi .ne v41 c0_i32_11
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== Kernel2Ideal.lean ====
abbrev S160 : Shape := ⟨1, ![160]⟩
abbrev S1 : Shape := ⟨1, ![1]⟩
abbrev S163840x512 : Shape := ⟨2, ![163840, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S159 : Shape := ⟨1, ![159]⟩
abbrev S1x160 : Shape := ⟨2, ![1, 160]⟩
abbrev S160x1 : Shape := ⟨2, ![160, 1]⟩
abbrev S160x160 : Shape := ⟨2, ![160, 160]⟩
abbrev S32x1x2048 : Shape := ⟨3, ![32, 1, 2048]⟩
abbrev S32x1x1024 : Shape := ⟨3, ![32, 1, 1024]⟩
abbrev S163840x2x512 : Shape := ⟨3, ![163840, 2, 512]⟩
abbrev S163840x1x512 : Shape := ⟨3, ![163840, 1, 512]⟩
abbrev S1024x512 : Shape := ⟨2, ![1024, 512]⟩
abbrev S1x1x2048 : Shape := ⟨3, ![1, 1, 2048]⟩
abbrev S1x1x1024 : Shape := ⟨3, ![1, 1, 1024]⟩
abbrev S1024x2x512 : Shape := ⟨3, ![1024, 2, 512]⟩
abbrev S1024x1x512 : Shape := ⟨3, ![1024, 1, 512]⟩
abbrev S2x1024x2048 : Shape := ⟨3, ![2, 1024, 2048]⟩
abbrev S2x1024x1024 : Shape := ⟨3, ![2, 1024, 1024]⟩
abbrev S2x2 : Shape := ⟨2, ![2, 2]⟩
abbrev S1x1 : Shape := ⟨2, ![1, 1]⟩
abbrev S1x1024x2048 : Shape := ⟨3, ![1, 1024, 2048]⟩
abbrev S1024x2048 : Shape := ⟨2, ![1024, 2048]⟩
abbrev S1x1024x1024 : Shape := ⟨3, ![1, 1024, 1024]⟩
abbrev S1024x1024 : Shape := ⟨2, ![1024, 1024]⟩
abbrev S256x512 : Shape := ⟨2, ![256, 512]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩
abbrev S256x2x512 : Shape := ⟨3, ![256, 2, 512]⟩
abbrev S256x1x512 : Shape := ⟨3, ![256, 1, 512]⟩
abbrev S768x512 : Shape := ⟨2, ![768, 512]⟩
abbrev S768x2x512 : Shape := ⟨3, ![768, 2, 512]⟩
abbrev S768x1x512 : Shape := ⟨3, ![768, 1, 512]⟩
abbrev S512x512 : Shape := ⟨2, ![512, 512]⟩
abbrev S512x1024 : Shape := ⟨2, ![512, 1024]⟩
abbrev S512x2048 : Shape := ⟨2, ![512, 2048]⟩
abbrev S512x2x512 : Shape := ⟨3, ![512, 2, 512]⟩
abbrev S512x1x512 : Shape := ⟨3, ![512, 1, 512]⟩
abbrev S768x1024 : Shape := ⟨2, ![768, 1024]⟩
abbrev S768x2048 : Shape := ⟨2, ![768, 2048]⟩
abbrev S163840x1024 : Shape := ⟨2, ![163840, 1024]⟩
abbrev S2048x512 : Shape := ⟨2, ![2048, 512]⟩

abbrev nBuf : Space → Nat
  | .hbm => 70
  | .vmem => 14
  | .smem => 6
  | _ => 0

abbrev bufTy : (tb : Table) → Fin (tcTables nBuf tb) → BufTy
  | .hbm, ⟨0, _⟩ => ⟨S163840x512, .i32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S160, .i32⟩
  | .hbm, ⟨6, _⟩ => ⟨S_, .i32⟩
  | .hbm, ⟨7, _⟩ => ⟨S160, .i32⟩
  | .hbm, ⟨8, _⟩ => ⟨S160, .i1⟩
  | .hbm, ⟨9, _⟩ => ⟨S_, .i32⟩
  | .hbm, ⟨10, _⟩ => ⟨S160, .i32⟩
  | .hbm, ⟨11, _⟩ => ⟨S160, .i1⟩
  | .hbm, ⟨12, _⟩ => ⟨S1, .i32⟩
  | .hbm, ⟨13, _⟩ => ⟨S159, .i32⟩
  | .hbm, ⟨14, _⟩ => ⟨S160, .i32⟩
  | .hbm, ⟨15, _⟩ => ⟨S160, .i1⟩
  | .hbm, ⟨16, _⟩ => ⟨S160, .i1⟩
  | .hbm, ⟨17, _⟩ => ⟨S160, .i1⟩
  | .hbm, ⟨18, _⟩ => ⟨S_, .i32⟩
  | .hbm, ⟨19, _⟩ => ⟨S_, .i32⟩
  | .hbm, ⟨20, _⟩ => ⟨S160, .i32⟩
  | .hbm, ⟨21, _⟩ => ⟨S_, .i32⟩
  | .hbm, ⟨22, _⟩ => ⟨S160, .i32⟩
  | .hbm, ⟨23, _⟩ => ⟨S160, .i32⟩
  | .hbm, ⟨24, _⟩ => ⟨S_, .i32⟩
  | .hbm, ⟨25, _⟩ => ⟨S160, .i32⟩
  | .hbm, ⟨26, _⟩ => ⟨S1x160, .i1⟩
  | .hbm, ⟨27, _⟩ => ⟨S1x160, .i32⟩
  | .hbm, ⟨28, _⟩ => ⟨S160x1, .i32⟩
  | .hbm, ⟨29, _⟩ => ⟨S160x160, .i32⟩
  | .hbm, ⟨30, _⟩ => ⟨S160x160, .i32⟩
  | .hbm, ⟨31, _⟩ => ⟨S160x160, .i1⟩
  | .hbm, ⟨32, _⟩ => ⟨S160x160, .i1⟩
  | .hbm, ⟨33, _⟩ => ⟨S160x160, .i1⟩
  | .hbm, ⟨34, _⟩ => ⟨S1x160, .i32⟩
  | .hbm, ⟨35, _⟩ => ⟨S160x1, .i32⟩
  | .hbm, ⟨36, _⟩ => ⟨S160x160, .i32⟩
  | .hbm, ⟨37, _⟩ => ⟨S160x160, .i32⟩
  | .hbm, ⟨38, _⟩ => ⟨S160x160, .i1⟩
  | .hbm, ⟨39, _⟩ => ⟨S160x160, .i1⟩
  | .hbm, ⟨40, _⟩ => ⟨S1x160, .i32⟩
  | .hbm, ⟨41, _⟩ => ⟨S_, .i32⟩
  | .hbm, ⟨42, _⟩ => ⟨S_, .i32⟩
  | .hbm, ⟨43, _⟩ => ⟨S160x160, .i32⟩
  | .hbm, ⟨44, _⟩ => ⟨S160x160, .i32⟩
  | .hbm, ⟨45, _⟩ => ⟨S160x160, .i32⟩
  | .hbm, ⟨46, _⟩ => ⟨S_, .i32⟩
  | .hbm, ⟨47, _⟩ => ⟨S160, .i32⟩
  | .hbm, ⟨48, _⟩ => ⟨S_, .i32⟩
  | .hbm, ⟨49, _⟩ => ⟨S160, .i32⟩
  | .hbm, ⟨50, _⟩ => ⟨S160, .i1⟩
  | .hbm, ⟨51, _⟩ => ⟨S_, .i32⟩
  | .hbm, ⟨52, _⟩ => ⟨S160, .i32⟩
  | .hbm, ⟨53, _⟩ => ⟨S160, .i32⟩
  | .hbm, ⟨54, _⟩ => ⟨S_, .i32⟩
  | .hbm, ⟨55, _⟩ => ⟨S160, .i32⟩
  | .hbm, ⟨56, _⟩ => ⟨S160, .i1⟩
  | .hbm, ⟨57, _⟩ => ⟨S_, .i32⟩
  | .hbm, ⟨58, _⟩ => ⟨S160, .i32⟩
  | .hbm, ⟨59, _⟩ => ⟨S160, .i32⟩
  | .hbm, ⟨60, _⟩ => ⟨S160, .i32⟩
  | .hbm, ⟨61, _⟩ => ⟨S160x1, .i32⟩
  | .hbm, ⟨62, _⟩ => ⟨S160, .i32⟩
  | .hbm, ⟨63, _⟩ => ⟨S_, .i32⟩
  | .hbm, ⟨64, _⟩ => ⟨S_, .i32⟩
  | .hbm, ⟨65, _⟩ => ⟨S160, .i32⟩
  | .hbm, ⟨66, _⟩ => ⟨S32x1x2048, .f32⟩
  | .hbm, ⟨67, _⟩ => ⟨S32x1x1024, .f32⟩
  | .hbm, ⟨68, _⟩ => ⟨S163840x2x512, .bf16⟩
  | .hbm, ⟨69, _⟩ => ⟨S163840x1024, .f32⟩
  | .local _ .vmem, ⟨0, _⟩ => ⟨S1024x512, .i32⟩
  | .local _ .vmem, ⟨1, _⟩ => ⟨S1024x512, .i32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S1024x2x512, .bf16⟩
  | .local _ .vmem, ⟨7, _⟩ => ⟨S1024x2x512, .bf16⟩
  | .local _ .vmem, ⟨8, _⟩ => ⟨S2x1024x2048, .f32⟩
  | .local _ .vmem, ⟨9, _⟩ => ⟨S2x1024x1024, .f32⟩
  | .local _ .vmem, ⟨10, _⟩ => ⟨S1024x2x512, .bf16⟩
  | .local _ .vmem, ⟨11, _⟩ => ⟨S1024x2x512, .bf16⟩
  | .local _ .vmem, ⟨12, _⟩ => ⟨S1024x1024, .f32⟩
  | .local _ .vmem, ⟨13, _⟩ => ⟨S1024x1024, .f32⟩
  | .local _ .smem, ⟨0, _⟩ => ⟨S160, .i32⟩
  | .local _ .smem, ⟨1, _⟩ => ⟨S1, .i32⟩
  | .local _ .smem, ⟨2, _⟩ => ⟨S160, .i32⟩
  | .local _ .smem, ⟨3, _⟩ => ⟨S160, .i32⟩
  | .local _ .smem, ⟨4, _⟩ => ⟨S160, .i32⟩
  | .local _ .smem, ⟨5, _⟩ => ⟨S160, .i32⟩
  | _, _ => ⟨S163840x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call1_call0_c : Ref sig .tc := ⟨.hbm, 18, rfl⟩
abbrev main_call1_call0_v0 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_2 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v31 : Ref sig .tc := ⟨.hbm, 45, rfl⟩
abbrev main_c_3 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_call3_v0 : Ref sig .tc := ⟨.hbm, 64, rfl⟩
abbrev main_call3_v1 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_arg0 : Ref sig .tc := ⟨.smem, 0, rfl⟩
abbrev main_arg1 : Ref sig .tc := ⟨.smem, 1, rfl⟩
abbrev main_v10 : Ref sig .tc := ⟨.smem, 2, rfl⟩
abbrev main_v15 : Ref sig .tc := ⟨.smem, 3, rfl⟩
abbrev main_v44 : Ref sig .tc := ⟨.smem, 4, rfl⟩
abbrev main_arg2 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 12
abbrev cc1_sem0_1 : DmaSem sig := 13
abbrev cc1_sem1_0 : DmaSem sig := 14
abbrev cc1_sem1_1 : DmaSem sig := 15

abbrev nD : Nat := 1
abbrev τ : Topo := Topo.v7x

variable {F : FTy → Type} [FloatOps F]

abbrev grid0 : Pipeline.Grid := ⟨1, ![160], ![false]⟩

abbrev pre0 : Pipeline.Prefetch sig := ⟨6, ![main_arg0.idx, main_arg1.idx, main_v10.idx, main_v15.idx, main_v44.idx, main_arg2.idx], fun | 0 => main_arg0.names | 1 => main_arg1.names | 2 => main_v10.names | 3 => main_v15.names | 4 => main_v44.names | 5 => main_arg2.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_0 : BitVec 32 := 0#32
  let v9 : BitVec 1 := Scalar.cmpi .ne v8 c0_i32_0
  v9

def k0_off2 (v43 : BitVec 32) : Fin 3 → Nat :=
  let c0_i32_18 : BitVec 32 := 0#32
  let c0_i32_19 : BitVec 32 := 0#32
  ![v43.toNat, 0, 0]

def k0_off3 (v43 : BitVec 32) : Fin 3 → Nat :=
  let c0_i32_25 : BitVec 32 := 0#32
  let c0_i32_26 : BitVec 32 := 0#32
  ![v43.toNat, 0, 0]

def k0_chk1 (i : grid0.Coords) (v43 : BitVec 32) : Prop :=
  (∀ (k0_h1 : k0_cond1 i = 1#1), ∀ a, (k0_off2 v43) a + S1x1024x2048.size a ≤ S32x1024x2048.size a) ∧
  (∀ (k0_h1 : k0_cond1 i = 1#1), ∀ a, (k0_off3 v43) a + S1x1024x1024.size a ≤ S32x1024x1024.size a)
theorem k0_off2_inb : ∀ (i : grid0.Coords) (v43 : BitVec 32) (k0_hw1 : k0_chk1 i v43), ∀ (k0_h1 : k0_cond1 i = 1#1), ∀ a, (k0_off2 v43) a + S1x1024x2048.size a ≤ S32x1024x2048.size a := fun i v43 k0_hw1 k0_h1 => k0_hw1.1 k0_h1
theorem k0_off3_inb : ∀ (i : grid0.Coords) (v43 : BitVec 32) (k0_hw1 : k0_chk1 i v43), ∀ (k0_h1 : k0_cond1 i = 1#1), ∀ a, (k0_off3 v43) a + S1x1024x1024.size a ≤ S32x1024x1024.size a := fun i v43 k0_hw1 k0_h1 => k0_hw1.2 k0_h1

def k0_off4 (i : grid0.Coords) : Fin 1 → Nat :=
  let arg0 : BitVec 32 := BitVec.ofNat 32 (i 0).val
  let v43 : Index := Scalar.indexCast arg0
  ![v43.toNat]
def k0_off5 (v6 : BitVec 32) : Fin 2 → Nat :=
  let c0_i32_12 : BitVec 32 := 0#32
  ![v6.toNat, 0]
def k0_cond2 (i : grid0.Coords) (v0 : BitVec 32) (v11 : BitVec 32) : BitVec 1 :=
  let arg0 : BitVec 32 := BitVec.ofNat 32 (i 0).val
  let v1 : BitVec 1 := Scalar.cmpi .slt arg0 v0
  let c1_i32_1 : BitVec 32 := 1#32
  let v12 : BitVec 1 := Scalar.cmpi .eq v11 c1_i32_1
  let v13 : BitVec 1 := Scalar.andi v1 v12
  let v14 : BitVec 32 := Scalar.extui v13
  let c0_i32_2 : BitVec 32 := 0#32
  let v15 : BitVec 1 := Scalar.cmpi .ne v14 c0_i32_2
  v15

def k0_off6 (v6 : BitVec 32) : Fin 3 → Nat :=
  let c0_i32_13 : BitVec 32 := 0#32
  let c0_i32_14 : BitVec 32 := 0#32
  ![v6.toNat, 0, 0]
def k0_off7 (v44 : BitVec 32) : Fin 3 → Nat :=
  let c0_i32_15 : BitVec 32 := 0#32
  let c0_i32_16 : BitVec 32 := 0#32
  ![v44.toNat, 0, 0]

def k0_off8 (v6 : BitVec 32) : Fin 2 → Nat :=
  let c1_i32_17 : BitVec 32 := 1#32
  ![v6.toNat, 1]
def k0_off9 (v6 : BitVec 32) : Fin 3 → Nat :=
  let c0_i32_18 : BitVec 32 := 0#32
  let c0_i32_19 : BitVec 32 := 0#32
  ![v6.toNat, 0, 0]

def k0_chk2 (i : grid0.Coords) (v0 : BitVec 32) (v6 : BitVec 32) (v11 : BitVec 32) : Prop :=
  (∀ (k0_h2 : k0_cond2 i v0 v11 = 1#1), ∀ a, (k0_off5 v6) a + S1x1.size a ≤ S2x2.size a) ∧
  (∀ (k0_h2 : k0_cond2 i v0 v11 = 1#1), ∀ a, (k0_off6 v6) a + S1x1024x2048.size a ≤ S2x1024x2048.size a) ∧
  (∀ (k0_h2 : k0_cond2 i v0 v11 = 1#1), ∀ a, (k0_off8 v6) a + S1x1.size a ≤ S2x2.size a) ∧
  (∀ (k0_h2 : k0_cond2 i v0 v11 = 1#1), ∀ a, (k0_off9 v6) a + S1x1024x1024.size a ≤ S2x1024x1024.size a)
theorem k0_off5_inb : ∀ (i : grid0.Coords) (v0 : BitVec 32) (v6 : BitVec 32) (v11 : BitVec 32) (k0_hw2 : k0_chk2 i v0 v6 v11), ∀ (k0_h2 : k0_cond2 i v0 v11 = 1#1), ∀ a, (k0_off5 v6) a + S1x1.size a ≤ S2x2.size a := fun i v0 v6 v11 k0_hw2 k0_h2 => k0_hw2.1 k0_h2
theorem k0_off6_inb : ∀ (i : grid0.Coords) (v0 : BitVec 32) (v6 : BitVec 32) (v11 : BitVec 32) (k0_hw2 : k0_chk2 i v0 v6 v11), ∀ (k0_h2 : k0_cond2 i v0 v11 = 1#1), ∀ a, (k0_off6 v6) a + S1x1024x2048.size a ≤ S2x1024x2048.size a := fun i v0 v6 v11 k0_hw2 k0_h2 => k0_hw2.2.1 k0_h2
theorem k0_off8_inb : ∀ (i : grid0.Coords) (v0 : BitVec 32) (v6 : BitVec 32) (v11 : BitVec 32) (k0_hw2 : k0_chk2 i v0 v6 v11), ∀ (k0_h2 : k0_cond2 i v0 v11 = 1#1), ∀ a, (k0_off8 v6) a + S1x1.size a ≤ S2x2.size a := fun i v0 v6 v11 k0_hw2 k0_h2 => k0_hw2.2.2.1 k0_h2
theorem k0_off9_inb : ∀ (i : grid0.Coords) (v0 : BitVec 32) (v6 : BitVec 32) (v11 : BitVec 32) (k0_hw2 : k0_chk2 i v0 v6 v11), ∀ (k0_h2 : k0_cond2 i v0 v11 = 1#1), ∀ a, (k0_off9 v6) a + S1x1024x1024.size a ≤ S2x1024x1024.size a := fun i v0 v6 v11 k0_hw2 k0_h2 => k0_hw2.2.2.2 k0_h2

def k0_off10 (v44 : BitVec 32) : Fin 3 → Nat :=
  let c0_i32_20 : BitVec 32 := 0#32
  let c0_i32_21 : BitVec 32 := 0#32
  ![v44.toNat, 0, 0]

def k0_chk3 (i : grid0.Coords) (v0 : BitVec 32) (v11 : BitVec 32) (v44 : BitVec 32) : Prop :=
  (∀ (k0_h2 : k0_cond2 i v0 v11 = 1#1), ∀ a, (k0_off7 v44) a + S1x1024x2048.size a ≤ S32x1024x2048.size a) ∧
  (∀ (k0_h2 : k0_cond2 i v0 v11 = 1#1), ∀ a, (k0_off10 v44) a + S1x1024x1024.size a ≤ S32x1024x1024.size a)
theorem k0_off7_inb : ∀ (i : grid0.Coords) (v0 : BitVec 32) (v11 : BitVec 32) (v44 : BitVec 32) (k0_hw3 : k0_chk3 i v0 v11 v44), ∀ (k0_h2 : k0_cond2 i v0 v11 = 1#1), ∀ a, (k0_off7 v44) a + S1x1024x2048.size a ≤ S32x1024x2048.size a := fun i v0 v11 v44 k0_hw3 k0_h2 => k0_hw3.1 k0_h2
theorem k0_off10_inb : ∀ (i : grid0.Coords) (v0 : BitVec 32) (v11 : BitVec 32) (v44 : BitVec 32) (k0_hw3 : k0_chk3 i v0 v11 v44), ∀ (k0_h2 : k0_cond2 i v0 v11 = 1#1), ∀ a, (k0_off10 v44) a + S1x1024x1024.size a ≤ S32x1024x1024.size a := fun i v0 v11 v44 k0_hw3 k0_h2 => k0_hw3.2 k0_h2

def k0_off11 (i : grid0.Coords) : Fin 1 → Nat :=
  let arg0 : BitVec 32 := BitVec.ofNat 32 (i 0).val
  let v57 : Index := Scalar.indexCast arg0
  ![v57.toNat]
def k0_off12 (i : grid0.Coords) : Fin 1 → Nat :=
  let arg0 : BitVec 32 := BitVec.ofNat 32 (i 0).val
  let v62 : Index := Scalar.indexCast arg0
  ![v62.toNat]
def k0_off13 (v6 : BitVec 32) : Fin 2 → Nat :=
  let c1_i32_24 : BitVec 32 := 1#32
  let v64 : BitVec 32 := Scalar.subi c1_i32_24 v6
  let c0_i32_25 : BitVec 32 := 0#32
  ![v64.toNat, 0]
def k0_cond3 (v58 : BitVec 32) : BitVec 1 :=
  let c0_i32_22 : BitVec 32 := 0#32
  let v59 : BitVec 1 := Scalar.cmpi .sge v58 c0_i32_22
  let v60 : BitVec 32 := Scalar.extui v59
  let c0_i32_23 : BitVec 32 := 0#32
  let v61 : BitVec 1 := Scalar.cmpi .ne v60 c0_i32_23
  v61

def k0_off14 (v6 : BitVec 32) : Fin 3 → Nat :=
  let c1_i32_24 : BitVec 32 := 1#32
  let v64 : BitVec 32 := Scalar.subi c1_i32_24 v6
  let c0_i32_26 : BitVec 32 := 0#32
  let c0_i32_27 : BitVec 32 := 0#32
  ![v64.toNat, 0, 0]
def k0_off15 (v63 : BitVec 32) : Fin 3 → Nat :=
  let c0_i32_28 : BitVec 32 := 0#32
  let c0_i32_29 : BitVec 32 := 0#32
  ![v63.toNat, 0, 0]

def k0_off16 (v6 : BitVec 32) : Fin 2 → Nat :=
  let c1_i32_24 : BitVec 32 := 1#32
  let v64 : BitVec 32 := Scalar.subi c1_i32_24 v6
  let c1_i32_30 : BitVec 32 := 1#32
  ![v64.toNat, 1]
def k0_off17 (v6 : BitVec 32) : Fin 3 → Nat :=
  let c1_i32_24 : BitVec 32 := 1#32
  let v64 : BitVec 32 := Scalar.subi c1_i32_24 v6
  let c0_i32_31 : BitVec 32 := 0#32
  let c0_i32_32 : BitVec 32 := 0#32
  ![v64.toNat, 0, 0]

def k0_chk4 (i : grid0.Coords) (v0 : BitVec 32) (v6 : BitVec 32) (v11 : BitVec 32) (v58 : BitVec 32) : Prop :=
  (∀ (k0_h2 : k0_cond2 i v0 v11 = 1#1), ∀ (k0_h3 : k0_cond3 v58 = 1#1), ∀ a, (k0_off13 v6) a + S1x1.size a ≤ S2x2.size a) ∧
  (∀ (k0_h2 : k0_cond2 i v0 v11 = 1#1), ∀ (k0_h3 : k0_cond3 v58 = 1#1), ∀ a, (k0_off14 v6) a + S1x1024x2048.size a ≤ S2x1024x2048.size a) ∧
  (∀ (k0_h2 : k0_cond2 i v0 v11 = 1#1), ∀ (k0_h3 : k0_cond3 v58 = 1#1), ∀ a, (k0_off16 v6) a + S1x1.size a ≤ S2x2.size a) ∧
  (∀ (k0_h2 : k0_cond2 i v0 v11 = 1#1), ∀ (k0_h3 : k0_cond3 v58 = 1#1), ∀ a, (k0_off17 v6) a + S1x1024x1024.size a ≤ S2x1024x1024.size a)
theorem k0_off13_inb : ∀ (i : grid0.Coords) (v0 : BitVec 32) (v6 : BitVec 32) (v11 : BitVec 32) (v58 : BitVec 32) (k0_hw4 : k0_chk4 i v0 v6 v11 v58), ∀ (k0_h2 : k0_cond2 i v0 v11 = 1#1), ∀ (k0_h3 : k0_cond3 v58 = 1#1), ∀ a, (k0_off13 v6) a + S1x1.size a ≤ S2x2.size a := fun i v0 v6 v11 v58 k0_hw4 k0_h2 k0_h3 => k0_hw4.1 k0_h2 k0_h3
theorem k0_off14_inb : ∀ (i : grid0.Coords) (v0 : BitVec 32) (v6 : BitVec 32) (v11 : BitVec 32) (v58 : BitVec 32) (k0_hw4 : k0_chk4 i v0 v6 v11 v58), ∀ (k0_h2 : k0_cond2 i v0 v11 = 1#1), ∀ (k0_h3 : k0_cond3 v58 = 1#1), ∀ a, (k0_off14 v6) a + S1x1024x2048.size a ≤ S2x1024x2048.size a := fun i v0 v6 v11 v58 k0_hw4 k0_h2 k0_h3 => k0_hw4.2.1 k0_h2 k0_h3
theorem k0_off16_inb : ∀ (i : grid0.Coords) (v0 : BitVec 32) (v6 : BitVec 32) (v11 : BitVec 32) (v58 : BitVec 32) (k0_hw4 : k0_chk4 i v0 v6 v11 v58), ∀ (k0_h2 : k0_cond2 i v0 v11 = 1#1), ∀ (k0_h3 : k0_cond3 v58 = 1#1), ∀ a, (k0_off16 v6) a + S1x1.size a ≤ S2x2.size a := fun i v0 v6 v11 v58 k0_hw4 k0_h2 k0_h3 => k0_hw4.2.2.1 k0_h2 k0_h3
theorem k0_off17_inb : ∀ (i : grid0.Coords) (v0 : BitVec 32) (v6 : BitVec 32) (v11 : BitVec 32) (v58 : BitVec 32) (k0_hw4 : k0_chk4 i v0 v6 v11 v58), ∀ (k0_h2 : k0_cond2 i v0 v11 = 1#1), ∀ (k0_h3 : k0_cond3 v58 = 1#1), ∀ a, (k0_off17 v6) a + S1x1024x1024.size a ≤ S2x1024x1024.size a := fun i v0 v6 v11 v58 k0_hw4 k0_h2 k0_h3 => k0_hw4.2.2.2 k0_h2 k0_h3

def k0_off18 (v63 : BitVec 32) : Fin 3 → Nat :=
  let c0_i32_33 : BitVec 32 := 0#32
  let c0_i32_34 : BitVec 32 := 0#32
  ![v63.toNat, 0, 0]

def k0_chk5 (i : grid0.Coords) (v0 : BitVec 32) (v11 : BitVec 32) (v58 : BitVec 32) (v63 : BitVec 32) : Prop :=
  (∀ (k0_h2 : k0_cond2 i v0 v11 = 1#1), ∀ (k0_h3 : k0_cond3 v58 = 1#1), ∀ a, (k0_off15 v63) a + S1x1024x2048.size a ≤ S32x1024x2048.size a) ∧
  (∀ (k0_h2 : k0_cond2 i v0 v11 = 1#1), ∀ (k0_h3 : k0_cond3 v58 = 1#1), ∀ a, (k0_off18 v63) a + S1x1024x1024.size a ≤ S32x1024x1024.size a)
theorem k0_off15_inb : ∀ (i : grid0.Coords) (v0 : BitVec 32) (v11 : BitVec 32) (v58 : BitVec 32) (v63 : BitVec 32) (k0_hw5 : k0_chk5 i v0 v11 v58 v63), ∀ (k0_h2 : k0_cond2 i v0 v11 = 1#1), ∀ (k0_h3 : k0_cond3 v58 = 1#1), ∀ a, (k0_off15 v63) a + S1x1024x2048.size a ≤ S32x1024x2048.size a := fun i v0 v11 v58 v63 k0_hw5 k0_h2 k0_h3 => k0_hw5.1 k0_h2 k0_h3
theorem k0_off18_inb : ∀ (i : grid0.Coords) (v0 : BitVec 32) (v11 : BitVec 32) (v58 : BitVec 32) (v63 : BitVec 32) (k0_hw5 : k0_chk5 i v0 v11 v58 v63), ∀ (k0_h2 : k0_cond2 i v0 v11 = 1#1), ∀ (k0_h3 : k0_cond3 v58 = 1#1), ∀ a, (k0_off18 v63) a + S1x1024x1024.size a ≤ S32x1024x1024.size a := fun i v0 v11 v58 v63 k0_hw5 k0_h2 k0_h3 => k0_hw5.2 k0_h2 k0_h3

def k0_off19 (v6 : BitVec 32) : Fin 3 → Nat :=
  let v48 : Index := Scalar.indexCast v6
  let c0_14 : Index := 0#32
  let c0_15 : Index := 0#32
  ![v48.toNat, 0, 0]
def k0_cond4 (i : grid0.Coords) (v0 : BitVec 32) (v3 : BitVec 32) : BitVec 1 :=
  let arg0 : BitVec 32 := BitVec.ofNat 32 (i 0).val
  let v1 : BitVec 1 := Scalar.cmpi .slt arg0 v0
  let c1_i32 : BitVec 32 := 1#32
  let v4 : BitVec 32 := Scalar.maxsi v3 c1_i32
  let c0_i32_3 : BitVec 32 := 0#32
  let v16 : BitVec 1 := Scalar.cmpi .sgt v4 c0_i32_3
  let v17 : BitVec 1 := Scalar.andi v1 v16
  let c256_i32 : BitVec 32 := 256#32
  let v18 : BitVec 1 := Scalar.cmpi .sle v4 c256_i32
  let v19 : BitVec 1 := Scalar.andi v17 v18
  let v20 : BitVec 32 := Scalar.extui v19
  let c0_i32_4 : BitVec 32 := 0#32
  let v21 : BitVec 1 := Scalar.cmpi .ne v20 c0_i32_4
  v21

def k0_off20 (v6 : BitVec 32) : Fin 3 → Nat :=
  let v72 : Index := Scalar.indexCast v6
  let c0_24 : Index := 0#32
  let c0_25 : Index := 0#32
  ![v72.toNat, 0, 0]
def k0_off21 (v6 : BitVec 32) : Fin 3 → Nat :=
  let v48 : Index := Scalar.indexCast v6
  let c0_14 : Index := 0#32
  let c0_15 : Index := 0#32
  ![v48.toNat, 0, 0]
def k0_cond5 (i : grid0.Coords) (v0 : BitVec 32) (v3 : BitVec 32) : BitVec 1 :=
  let arg0 : BitVec 32 := BitVec.ofNat 32 (i 0).val
  let v1 : BitVec 1 := Scalar.cmpi .slt arg0 v0
  let c1_i32 : BitVec 32 := 1#32
  let v4 : BitVec 32 := Scalar.maxsi v3 c1_i32
  let c256_i32_5 : BitVec 32 := 256#32
  let v22 : BitVec 1 := Scalar.cmpi .sgt v4 c256_i32_5
  let v23 : BitVec 1 := Scalar.andi v1 v22
  let c512_i32 : BitVec 32 := 512#32
  let v24 : BitVec 1 := Scalar.cmpi .sle v4 c512_i32
  let v25 : BitVec 1 := Scalar.andi v23 v24
  let v26 : BitVec 32 := Scalar.extui v25
  let c0_i32_6 : BitVec 32 := 0#32
  let v27 : BitVec 1 := Scalar.cmpi .ne v26 c0_i32_6
  v27

def k0_off22 (v6 : BitVec 32) : Fin 3 → Nat :=
  let v72 : Index := Scalar.indexCast v6
  let c0_24 : Index := 0#32
  let c0_25 : Index := 0#32
  ![v72.toNat, 0, 0]
def k0_off23 (v6 : BitVec 32) : Fin 3 → Nat :=
  let v48 : Index := Scalar.indexCast v6
  let c0_14 : Index := 0#32
  let c0_15 : Index := 0#32
  ![v48.toNat, 0, 0]
def k0_cond6 (i : grid0.Coords) (v0 : BitVec 32) (v3 : BitVec 32) : BitVec 1 :=
  let arg0 : BitVec 32 := BitVec.ofNat 32 (i 0).val
  let v1 : BitVec 1 := Scalar.cmpi .slt arg0 v0
  let c1_i32 : BitVec 32 := 1#32
  let v4 : BitVec 32 := Scalar.maxsi v3 c1_i32
  let c512_i32_7 : BitVec 32 := 512#32
  let v28 : BitVec 1 := Scalar.cmpi .sgt v4 c512_i32_7
  let v29 : BitVec 1 := Scalar.andi v1 v28
  let c768_i32 : BitVec 32 := 768#32
  let v30 : BitVec 1 := Scalar.cmpi .sle v4 c768_i32
  let v31 : BitVec 1 := Scalar.andi v29 v30
  let v32 : BitVec 32 := Scalar.extui v31
  let c0_i32_8 : BitVec 32 := 0#32
  let v33 : BitVec 1 := Scalar.cmpi .ne v32 c0_i32_8
  v33

def k0_off24 (v6 : BitVec 32) : Fin 3 → Nat :=
  let v72 : Index := Scalar.indexCast v6
  let c0_24 : Index := 0#32
  let c0_25 : Index := 0#32
  ![v72.toNat, 0, 0]
def k0_off25 (v6 : BitVec 32) : Fin 3 → Nat :=
  let v48 : Index := Scalar.indexCast v6
  let c0_14 : Index := 0#32
  let c0_15 : Index := 0#32
  ![v48.toNat, 0, 0]
def k0_cond7 (i : grid0.Coords) (v0 : BitVec 32) (v3 : BitVec 32) : BitVec 1 :=
  let arg0 : BitVec 32 := BitVec.ofNat 32 (i 0).val
  let v1 : BitVec 1 := Scalar.cmpi .slt arg0 v0
  let c1_i32 : BitVec 32 := 1#32
  let v4 : BitVec 32 := Scalar.maxsi v3 c1_i32
  let c768_i32_9 : BitVec 32 := 768#32
  let v34 : BitVec 1 := Scalar.cmpi .sgt v4 c768_i32_9
  let v35 : BitVec 1 := Scalar.andi v1 v34
  let c1024_i32 : BitVec 32 := 1024#32
  let v36 : BitVec 1 := Scalar.cmpi .sle v4 c1024_i32
  let v37 : BitVec 1 := Scalar.andi v35 v36
  let v38 : BitVec 32 := Scalar.extui v37
  let c0_i32_10 : BitVec 32 := 0#32
  let v39 : BitVec 1 := Scalar.cmpi .ne v38 c0_i32_10
  v39

def k0_off26 (v6 : BitVec 32) : Fin 3 → Nat :=
  let v72 : Index := Scalar.indexCast v6
  let c0_24 : Index := 0#32
  let c0_25 : Index := 0#32
  ![v72.toNat, 0, 0]

def k0_chk6 (i : grid0.Coords) (v0 : BitVec 32) (v3 : BitVec 32) (v6 : BitVec 32) : Prop :=
  (∀ (k0_h4 : k0_cond4 i v0 v3 = 1#1), ∀ a, (k0_off19 v6) a + S1x1024x2048.size a ≤ S2x1024x2048.size a) ∧
  (∀ (k0_h4 : k0_cond4 i v0 v3 = 1#1), ∀ a, (k0_off20 v6) a + S1x1024x1024.size a ≤ S2x1024x1024.size a) ∧
  (∀ (k0_h5 : k0_cond5 i v0 v3 = 1#1), ∀ a, (k0_off21 v6) a + S1x1024x2048.size a ≤ S2x1024x2048.size a) ∧
  (∀ (k0_h5 : k0_cond5 i v0 v3 = 1#1), ∀ a, (k0_off22 v6) a + S1x1024x1024.size a ≤ S2x1024x1024.size a) ∧
  (∀ (k0_h6 : k0_cond6 i v0 v3 = 1#1), ∀ a, (k0_off23 v6) a + S1x1024x2048.size a ≤ S2x1024x2048.size a) ∧
  (∀ (k0_h6 : k0_cond6 i v0 v3 = 1#1), ∀ a, (k0_off24 v6) a + S1x1024x1024.size a ≤ S2x1024x1024.size a) ∧
  (∀ (k0_h7 : k0_cond7 i v0 v3 = 1#1), ∀ a, (k0_off25 v6) a + S1x1024x2048.size a ≤ S2x1024x2048.size a) ∧
  (∀ (k0_h7 : k0_cond7 i v0 v3 = 1#1), ∀ a, (k0_off26 v6) a + S1x1024x1024.size a ≤ S2x1024x1024.size a)
theorem k0_off19_inb : ∀ (i : grid0.Coords) (v0 : BitVec 32) (v3 : BitVec 32) (v6 : BitVec 32) (k0_hw6 : k0_chk6 i v0 v3 v6), ∀ (k0_h4 : k0_cond4 i v0 v3 = 1#1), ∀ a, (k0_off19 v6) a + S1x1024x2048.size a ≤ S2x1024x2048.size a := fun i v0 v3 v6 k0_hw6 k0_h4 => k0_hw6.1 k0_h4
theorem k0_off20_inb : ∀ (i : grid0.Coords) (v0 : BitVec 32) (v3 : BitVec 32) (v6 : BitVec 32) (k0_hw6 : k0_chk6 i v0 v3 v6), ∀ (k0_h4 : k0_cond4 i v0 v3 = 1#1), ∀ a, (k0_off20 v6) a + S1x1024x1024.size a ≤ S2x1024x1024.size a := fun i v0 v3 v6 k0_hw6 k0_h4 => k0_hw6.2.1 k0_h4
theorem k0_off21_inb : ∀ (i : grid0.Coords) (v0 : BitVec 32) (v3 : BitVec 32) (v6 : BitVec 32) (k0_hw6 : k0_chk6 i v0 v3 v6), ∀ (k0_h5 : k0_cond5 i v0 v3 = 1#1), ∀ a, (k0_off21 v6) a + S1x1024x2048.size a ≤ S2x1024x2048.size a := fun i v0 v3 v6 k0_hw6 k0_h5 => k0_hw6.2.2.1 k0_h5
theorem k0_off22_inb : ∀ (i : grid0.Coords) (v0 : BitVec 32) (v3 : BitVec 32) (v6 : BitVec 32) (k0_hw6 : k0_chk6 i v0 v3 v6), ∀ (k0_h5 : k0_cond5 i v0 v3 = 1#1), ∀ a, (k0_off22 v6) a + S1x1024x1024.size a ≤ S2x1024x1024.size a := fun i v0 v3 v6 k0_hw6 k0_h5 => k0_hw6.2.2.2.1 k0_h5
theorem k0_off23_inb : ∀ (i : grid0.Coords) (v0 : BitVec 32) (v3 : BitVec 32) (v6 : BitVec 32) (k0_hw6 : k0_chk6 i v0 v3 v6), ∀ (k0_h6 : k0_cond6 i v0 v3 = 1#1), ∀ a, (k0_off23 v6) a + S1x1024x2048.size a ≤ S2x1024x2048.size a := fun i v0 v3 v6 k0_hw6 k0_h6 => k0_hw6.2.2.2.2.1 k0_h6
theorem k0_off24_inb : ∀ (i : grid0.Coords) (v0 : BitVec 32) (v3 : BitVec 32) (v6 : BitVec 32) (k0_hw6 : k0_chk6 i v0 v3 v6), ∀ (k0_h6 : k0_cond6 i v0 v3 = 1#1), ∀ a, (k0_off24 v6) a + S1x1024x1024.size a ≤ S2x1024x1024.size a := fun i v0 v3 v6 k0_hw6 k0_h6 => k0_hw6.2.2.2.2.2.1 k0_h6
theorem k0_off25_inb : ∀ (i : grid0.Coords) (v0 : BitVec 32) (v3 : BitVec 32) (v6 : BitVec 32) (k0_hw6 : k0_chk6 i v0 v3 v6), ∀ (k0_h7 : k0_cond7 i v0 v3 = 1#1), ∀ a, (k0_off25 v6) a + S1x1024x2048.size a ≤ S2x1024x2048.size a := fun i v0 v3 v6 k0_hw6 k0_h7 => k0_hw6.2.2.2.2.2.2.1 k0_h7
theorem k0_off26_inb : ∀ (i : grid0.Coords) (v0 : BitVec 32) (v3 : BitVec 32) (v6 : BitVec 32) (k0_hw6 : k0_chk6 i v0 v3 v6), ∀ (k0_h7 : k0_cond7 i v0 v3 = 1#1), ∀ a, (k0_off26 v6) a + S1x1024x1024.size a ≤ S2x1024x1024.size a := fun i v0 v3 v6 k0_hw6 k0_h7 => k0_hw6.2.2.2.2.2.2.2 k0_h7

def k0_cond8 (i : grid0.Coords) (v0 : BitVec 32) : BitVec 1 :=
  let arg0 : BitVec 32 := BitVec.ofNat 32 (i 0).val
  let v1 : BitVec 1 := Scalar.cmpi .slt arg0 v0
  let v_true : BitVec 1 := 1#1
  let v40 : BitVec 1 := Scalar.xori v1 v_true
  let v41 : BitVec 32 := Scalar.extui v40
  let c0_i32_11 : BitVec 32 := 0#32
  let v42 : BitVec 1 := Scalar.cmpi .ne v41 c0_i32_11
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== Reference2Ideal.lean ====
abbrev S160 : Shape := ⟨1, ![160]⟩
abbrev S1 : Shape := ⟨1, ![1]⟩
abbrev S163840x512 : Shape := ⟨2, ![163840, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S160x1024x512 : Shape := ⟨3, ![160, 1024, 512]⟩
abbrev S160x1024x512x2 : Shape := ⟨4, ![160, 1024, 512, 2]⟩
abbrev S160x1024x512x1 : Shape := ⟨4, ![160, 1024, 512, 1]⟩
abbrev S160x1024x1024 : Shape := ⟨3, ![160, 1024, 1024]⟩
abbrev S_ : Shape := ⟨0, ![]⟩
abbrev S160x1 : Shape := ⟨2, ![160, 1]⟩
abbrev S160x1024x2048 : Shape := ⟨3, ![160, 1024, 2048]⟩
abbrev S160x2048 : Shape := ⟨2, ![160, 2048]⟩
abbrev S160x1x2048 : Shape := ⟨3, ![160, 1, 2048]⟩
abbrev S160x1024 : Shape := ⟨2, ![160, 1024]⟩
abbrev S160x1x1024 : Shape := ⟨3, ![160, 1, 1024]⟩
abbrev S1024 : Shape := ⟨1, ![1024]⟩
abbrev S1x1024 : Shape := ⟨2, ![1, 1024]⟩
abbrev S160x1024x1 : Shape := ⟨3, ![160, 1024, 1]⟩
abbrev S163840x1024 : Shape := ⟨2, ![163840, 1024]⟩

abbrev nBuf : Space → Nat
  | .hbm => 135
  | .vmem => 0
  | .smem => 0
  | _ => 0

abbrev hbmTy0_0 (i : Nat) : BufTy := match i % 128 with
  | 0 => ⟨S160, .i32⟩
  | 1 => ⟨S1, .i32⟩
  | 2 => ⟨S160, .i32⟩
  | 3 => ⟨S163840x512, .i32⟩
  | 4 => ⟨S32x1024x2048, .f32⟩
  | 5 => ⟨S32x2048, .f32⟩
  | 6 => ⟨S32x1024x1024, .f32⟩
  | 7 => ⟨S32x1024, .f32⟩
  | 8 => ⟨S160x1024x512, .i32⟩
  | 9 => ⟨S160x1024x512x2, .bf16⟩
  | 10 => ⟨S160x1024x512x2, .f32⟩
  | 11 => ⟨S160x1024x512x1, .f32⟩
  | 12 => ⟨S160x1024x512, .f32⟩
  | 13 => ⟨S160x1024x512x1, .f32⟩
  | 14 => ⟨S160x1024x512, .f32⟩
  | 15 => ⟨S160x1024x1024, .f32⟩
  | 16 => ⟨S_, .i32⟩
  | 17 => ⟨S160, .i32⟩
  | 18 => ⟨S160, .i1⟩
  | 19 => ⟨S_, .i32⟩
  | 20 => ⟨S160, .i32⟩
  | 21 => ⟨S160, .i32⟩
  | 22 => ⟨S160, .i32⟩
  | 23 => ⟨S160x1, .i32⟩
  | 24 => ⟨S160x1024x2048, .f32⟩
  | 25 => ⟨S160x1024x2048, .f32⟩
  | 26 => ⟨S_, .i32⟩
  | 27 => ⟨S160, .i32⟩
  | 28 => ⟨S160, .i1⟩
  | 29 => ⟨S_, .i32⟩
  | 30 => ⟨S160, .i32⟩
  | 31 => ⟨S160, .i32⟩
  | 32 => ⟨S160, .i32⟩
  | 33 => ⟨S160x1, .i32⟩
  | 34 => ⟨S160x2048, .f32⟩
  | 35 => ⟨S160x1x2048, .f32⟩
  | 36 => ⟨S160x1024x2048, .f32⟩
  | 37 => ⟨S160x1024x2048, .f32⟩
  | 38 => ⟨S160x1024x1024, .f32⟩
  | 39 => ⟨S160x1024x1024, .f32⟩
  | 40 => ⟨S_, .f32⟩
  | 41 => ⟨S160x1024x1024, .f32⟩
  | 42 => ⟨S160x1024x1024, .f32⟩
  | 43 => ⟨S_, .f32⟩
  | 44 => ⟨S_, .f32⟩
  | 45 => ⟨S_, .f32⟩
  | 46 => ⟨S160x1024x1024, .f32⟩
  | 47 => ⟨S160x1024x1024, .f32⟩
  | 48 => ⟨S_, .f32⟩
  | 49 => ⟨S160x1024x1024, .f32⟩
  | 50 => ⟨S160x1024x1024, .f32⟩
  | 51 => ⟨S_, .f32⟩
  | 52 => ⟨S160x1024x1024, .f32⟩
  | 53 => ⟨S160x1024x1024, .f32⟩
  | 54 => ⟨S_, .f32⟩
  | 55 => ⟨S160x1024x1024, .f32⟩
  | 56 => ⟨S160x1024x1024, .f32⟩
  | 57 => ⟨S160x1024x1024, .f32⟩
  | 58 => ⟨S160x1024x1024, .f32⟩
  | 59 => ⟨S_, .f32⟩
  | 60 => ⟨S160x1024x1024, .f32⟩
  | 61 => ⟨S160x1024x1024, .f32⟩
  | 62 => ⟨S_, .f32⟩
  | 63 => ⟨S160x1024x1024, .f32⟩
  | 64 => ⟨S160x1024x1024, .f32⟩
  | 65 => ⟨S160x1024x1024, .f32⟩
  | 66 => ⟨S160x1024x1024, .f32⟩
  | 67 => ⟨S_, .i32⟩
  | 68 => ⟨S160, .i32⟩
  | 69 => ⟨S160, .i1⟩
  | 70 => ⟨S_, .i32⟩
  | 71 => ⟨S160, .i32⟩
  | 72 => ⟨S160, .i32⟩
  | 73 => ⟨S160, .i32⟩
  | 74 => ⟨S160x1, .i32⟩
  | 75 => ⟨S160x1024x1024, .f32⟩
  | 76 => ⟨S160x1024x1024, .f32⟩
  | 77 => ⟨S_, .i32⟩
  | 78 => ⟨S160, .i32⟩
  | 79 => ⟨S160, .i1⟩
  | 80 => ⟨S_, .i32⟩
  | 81 => ⟨S160, .i32⟩
  | 82 => ⟨S160, .i32⟩
  | 83 => ⟨S160, .i32⟩
  | 84 => ⟨S160x1, .i32⟩
  | 85 => ⟨S160x1024, .f32⟩
  | 86 => ⟨S160x1x1024, .f32⟩
  | 87 => ⟨S160x1024x1024, .f32⟩
  | 88 => ⟨S160x1024x1024, .f32⟩
  | 89 => ⟨S_, .i32⟩
  | 90 => ⟨S160, .i32⟩
  | 91 => ⟨S160, .i32⟩
  | 92 => ⟨S160, .i32⟩
  | 93 => ⟨S_, .i32⟩
  | 94 => ⟨S_, .i32⟩
  | 95 => ⟨S160, .i32⟩
  | 96 => ⟨S160, .i32⟩
  | 97 => ⟨S160, .i32⟩
  | 98 => ⟨S_, .i32⟩
  | 99 => ⟨S160, .i32⟩
  | 100 => ⟨S160, .i1⟩
  | 101 => ⟨S160, .i32⟩
  | 102 => ⟨S160, .i32⟩
  | 103 => ⟨S_, .i32⟩
  | 104 => ⟨S160, .i32⟩
  | 105 => ⟨S160, .i1⟩
  | 106 => ⟨S160, .i1⟩
  | 107 => ⟨S_, .i32⟩
  | 108 => ⟨S160, .i32⟩
  | 109 => ⟨S160, .i32⟩
  | 110 => ⟨S160, .i32⟩
  | 111 => ⟨S160, .i32⟩
  | 112 => ⟨S_, .i32⟩
  | 113 => ⟨S160, .i32⟩
  | 114 => ⟨S160, .i32⟩
  | 115 => ⟨S160, .i32⟩
  | 116 => ⟨S_, .i32⟩
  | 117 => ⟨S160, .i32⟩
  | 118 => ⟨S160, .i1⟩
  | 119 => ⟨S160x1, .i1⟩
  | 120 => ⟨S1024, .i32⟩
  | 121 => ⟨S1x1024, .i32⟩
  | 122 => ⟨S160x1, .i32⟩
  | 123 => ⟨S160x1024, .i32⟩
  | 124 => ⟨S160x1024, .i32⟩
  | 125 => ⟨S160x1024, .i1⟩
  | 126 => ⟨S160x1024, .i1⟩
  | 127 => ⟨S160x1024, .i1⟩
  | _ => ⟨S160, .i32⟩

abbrev hbmTy0_1 (i : Nat) : BufTy := match i % 128 with
  | 0 => ⟨S160x1024x1, .i1⟩
  | 1 => ⟨S_, .f32⟩
  | 2 => ⟨S_, .f32⟩
  | 3 => ⟨S160x1024x1024, .i1⟩
  | 4 => ⟨S160x1024x1024, .f32⟩
  | 5 => ⟨S160x1024x1024, .f32⟩
  | 6 => ⟨S163840x1024, .f32⟩
  | _ => ⟨S160, .i32⟩

abbrev hbmTy (i : Nat) : BufTy := match i / 128 with
  | 0 => hbmTy0_0 i
  | 1 => hbmTy0_1 i
  | _ => ⟨S160, .i32⟩

abbrev bufTy : (tb : Table) → Fin (tcTables nBuf tb) → BufTy
  | .hbm, ⟨i, _⟩ => hbmTy i
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_c_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_v5 : Ref sig .tc := ⟨.hbm, 99, rfl⟩
abbrev main_call1_v6 : Ref sig .tc := ⟨.hbm, 100, rfl⟩
abbrev main_call1_v7 : Ref sig .tc := ⟨.hbm, 101, rfl⟩
abbrev main_call1_v8 : Ref sig .tc := ⟨.hbm, 102, rfl⟩
abbrev main_call1_c : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_call1_c_0 : Ref sig .tc := ⟨.hbm, 107, rfl⟩
abbrev main_call1_v12 : Ref sig .tc := ⟨.hbm, 108, rfl⟩
abbrev main_call1_v13 : Ref sig .tc := ⟨.hbm, 109, rfl⟩
abbrev main_v64 : Ref sig .tc := ⟨.hbm, 110, rfl⟩
abbrev main_v65 : Ref sig .tc := ⟨.hbm, 111, rfl⟩
abbrev main_c_15 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_16 : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_v82 : Ref sig .tc := ⟨.hbm, 133, rfl⟩
abbrev main_v83 : Ref sig .tc := ⟨.hbm, 134, rfl⟩

abbrev nD : Nat := 1
abbrev τ : Topo := Topo.v7x

variable {F : FTy → Type} [FloatOps F]
-- ==== Kernel3.lean ====
abbrev S16x2048x1024 : Shape := ⟨3, ![16, 2048, 1024]⟩
abbrev S6x16x1024 : Shape := ⟨3, ![6, 16, 1024]⟩
abbrev S1x1024 : Shape := ⟨2, ![1, 1024]⟩
abbrev S1x1024x5136 : Shape := ⟨3, ![1, 1024, 5136]⟩
abbrev S1024x5136 : Shape := ⟨2, ![1024, 5136]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S1024x2048 : Shape := ⟨2, ![1024, 2048]⟩
abbrev S6x16x1x1024 : Shape := ⟨4, ![6, 16, 1, 1024]⟩
abbrev S16x2048x1536 : Shape := ⟨3, ![16, 2048, 1536]⟩
abbrev S16x2048x2048 : Shape := ⟨3, ![16, 2048, 2048]⟩
abbrev S16x2048x128 : Shape := ⟨3, ![16, 2048, 128]⟩
abbrev S1x1024x1024 : Shape := ⟨3, ![1, 1024, 1024]⟩
abbrev S1x1x1x1024 : Shape := ⟨4, ![1, 1, 1, 1024]⟩
abbrev S1x1024x1536 : Shape := ⟨3, ![1, 1024, 1536]⟩
abbrev S1x1024x2048 : Shape := ⟨3, ![1, 1024, 2048]⟩
abbrev S1x1024x128 : Shape := ⟨3, ![1, 1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 21
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S6x16x1024, .f32⟩
  | .hbm, ⟨2, _⟩ => ⟨S1x1024, .f32⟩
  | .hbm, ⟨3, _⟩ => ⟨S1x1024x5136, .f32⟩
  | .hbm, ⟨4, _⟩ => ⟨S1024x5136, .f32⟩
  | .hbm, ⟨5, _⟩ => ⟨S1024x1536, .f32⟩
  | .hbm, ⟨6, _⟩ => ⟨S1024x1536, .bf16⟩
  | .hbm, ⟨7, _⟩ => ⟨S1024x1536, .f32⟩
  | .hbm, ⟨8, _⟩ => ⟨S1024x1536, .bf16⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x2048, .f32⟩
  | .hbm, ⟨15, _⟩ => ⟨S1024x2048, .bf16⟩
  | .hbm, ⟨16, _⟩ => ⟨S6x16x1x1024, .f32⟩
  | .hbm, ⟨17, _⟩ => ⟨S16x2048x1536, .bf16⟩
  | .hbm, ⟨18, _⟩ => ⟨S16x2048x1536, .bf16⟩
  | .hbm, ⟨19, _⟩ => ⟨S16x2048x2048, .bf16⟩
  | .hbm, ⟨20, _⟩ => ⟨S16x2048x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1024x1536, .bf16⟩
  | .local _ .vmem, ⟨9, _⟩ => ⟨S1024x2048, .bf16⟩
  | .local _ .vmem, ⟨10, _⟩ => ⟨S1024x128, .bf16⟩
  | .local _ .vmem, ⟨11, _⟩ => ⟨S1x1024x1536, .bf16⟩
  | .local _ .vmem, ⟨12, _⟩ => ⟨S1x1024x1536, .bf16⟩
  | .local _ .vmem, ⟨13, _⟩ => ⟨S1x1024x1536, .bf16⟩
  | .local _ .vmem, ⟨14, _⟩ => ⟨S1x1024x1536, .bf16⟩
  | .local _ .vmem, ⟨15, _⟩ => ⟨S1x1024x2048, .bf16⟩
  | .local _ .vmem, ⟨16, _⟩ => ⟨S1x1024x2048, .bf16⟩
  | .local _ .vmem, ⟨17, _⟩ => ⟨S1x1024x128, .f32⟩
  | .local _ .vmem, ⟨18, _⟩ => ⟨S1x1024x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S16x2048x1024 : Shape := ⟨3, ![16, 2048, 1024]⟩
abbrev S6x16x1024 : Shape := ⟨3, ![6, 16, 1024]⟩
abbrev S1x1024 : Shape := ⟨2, ![1, 1024]⟩
abbrev S1x1024x5136 : Shape := ⟨3, ![1, 1024, 5136]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x16x1024 : Shape := ⟨3, ![1, 16, 1024]⟩
abbrev S16x1024 : Shape := ⟨2, ![16, 1024]⟩
abbrev S16x1x1024 : Shape := ⟨3, ![16, 1, 1024]⟩
abbrev S1024x5136 : Shape := ⟨2, ![1024, 5136]⟩
abbrev S16x2048x5136 : Shape := ⟨3, ![16, 2048, 5136]⟩
abbrev S16x2048x1536 : Shape := ⟨3, ![16, 2048, 1536]⟩
abbrev S16x2048x16 : Shape := ⟨3, ![16, 2048, 16]⟩
abbrev S16x2048x2048 : Shape := ⟨3, ![16, 2048, 2048]⟩
abbrev S16x2048x128 : Shape := ⟨3, ![16, 2048, 128]⟩

abbrev nBuf : Space → Nat
  | .hbm => 45
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S6x16x1024, .f32⟩
  | .hbm, ⟨2, _⟩ => ⟨S1x1024, .f32⟩
  | .hbm, ⟨3, _⟩ => ⟨S1x1024x5136, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S1x16x1024, .f32⟩
  | .hbm, ⟨21, _⟩ => ⟨S16x1024, .f32⟩
  | .hbm, ⟨22, _⟩ => ⟨S16x1x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x2048x1024, .f32⟩
  | .hbm, ⟨27, _⟩ => ⟨S16x2048x1024, .f32⟩
  | .hbm, ⟨28, _⟩ => ⟨S1x16x1024, .f32⟩
  | .hbm, ⟨29, _⟩ => ⟨S16x1024, .f32⟩
  | .hbm, ⟨30, _⟩ => ⟨S16x1x1024, .f32⟩
  | .hbm, ⟨31, _⟩ => ⟨S16x2048x1024, .f32⟩
  | .hbm, ⟨32, _⟩ => ⟨S16x2048x1024, .f32⟩
  | .hbm, ⟨33, _⟩ => ⟨S1024x5136, .f32⟩
  | .hbm, ⟨34, _⟩ => ⟨S16x2048x5136, .f32⟩
  | .hbm, ⟨35, _⟩ => ⟨S16x2048x1536, .f32⟩
  | .hbm, ⟨36, _⟩ => ⟨S16x2048x1536, .f32⟩
  | .hbm, ⟨37, _⟩ => ⟨S16x2048x16, .f32⟩
  | .hbm, ⟨38, _⟩ => ⟨S16x2048x2048, .f32⟩
  | .hbm, ⟨39, _⟩ => ⟨S_, .i32⟩
  | .hbm, ⟨40, _⟩ => ⟨S_, .f32⟩
  | .hbm, ⟨41, _⟩ => ⟨S16x2048x128, .f32⟩
  | .hbm, ⟨42, _⟩ => ⟨S16x2048x1536, .bf16⟩
  | .hbm, ⟨43, _⟩ => ⟨S16x2048x1536, .bf16⟩
  | .hbm, ⟨44, _⟩ => ⟨S16x2048x2048, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_call0_v0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel4.lean ====
abbrev S16x2048x512 : Shape := ⟨3, ![16, 2048, 512]⟩
abbrev S16x2048x2048 : Shape := ⟨3, ![16, 2048, 2048]⟩
abbrev S16x2048x1024 : Shape := ⟨3, ![16, 2048, 1024]⟩
abbrev S6x16x1024 : Shape := ⟨3, ![6, 16, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S1x1024x32 : Shape := ⟨3, ![1, 1024, 32]⟩
abbrev S1x32 : Shape := ⟨2, ![1, 32]⟩
abbrev S6x16x1x1024 : Shape := ⟨4, ![6, 16, 1, 1024]⟩
abbrev S32768x512 : Shape := ⟨2, ![32768, 512]⟩
abbrev S32768x2048 : Shape := ⟨2, ![32768, 2048]⟩
abbrev S32768x1024 : Shape := ⟨2, ![32768, 1024]⟩
abbrev S512x1024 : Shape := ⟨2, ![512, 1024]⟩
abbrev S1024x1024 : Shape := ⟨2, ![1024, 1024]⟩
abbrev S1024x32 : Shape := ⟨2, ![1024, 32]⟩
abbrev S32x1024 : Shape := ⟨2, ![32, 1024]⟩
abbrev S32 : Shape := ⟨1, ![32]⟩
abbrev S32x1 : Shape := ⟨2, ![32, 1]⟩
abbrev S8x32768 : Shape := ⟨2, ![8, 32768]⟩
abbrev S32x128 : Shape := ⟨2, ![32, 128]⟩
abbrev S512x512 : Shape := ⟨2, ![512, 512]⟩
abbrev S512x2048 : Shape := ⟨2, ![512, 2048]⟩
abbrev S1x1x1x1024 : Shape := ⟨4, ![1, 1, 1, 1024]⟩
abbrev S8x512 : Shape := ⟨2, ![8, 512]⟩
abbrev S512 : Shape := ⟨1, ![512]⟩
abbrev S512x1 : Shape := ⟨2, ![512, 1]⟩
abbrev S32x512 : Shape := ⟨2, ![32, 512]⟩
abbrev S1x512 : Shape := ⟨2, ![1, 512]⟩
abbrev S4x512 : Shape := ⟨2, ![4, 512]⟩

abbrev nBuf : Space → Nat
  | .hbm => 32
  | .vmem => 33
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x2048, .bf16⟩
  | .hbm, ⟨3, _⟩ => ⟨S16x2048x1024, .f32⟩
  | .hbm, ⟨4, _⟩ => ⟨S6x16x1024, .f32⟩
  | .hbm, ⟨5, _⟩ => ⟨S1x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024x32, .f32⟩
  | .hbm, ⟨10, _⟩ => ⟨S1x32, .f32⟩
  | .hbm, ⟨11, _⟩ => ⟨S6x16x1x1024, .f32⟩
  | .hbm, ⟨12, _⟩ => ⟨S32768x512, .bf16⟩
  | .hbm, ⟨13, _⟩ => ⟨S32768x512, .bf16⟩
  | .hbm, ⟨14, _⟩ => ⟨S32768x2048, .bf16⟩
  | .hbm, ⟨15, _⟩ => ⟨S32768x1024, .f32⟩
  | .hbm, ⟨16, _⟩ => ⟨S512x1024, .f32⟩
  | .hbm, ⟨17, _⟩ => ⟨S512x1024, .bf16⟩
  | .hbm, ⟨18, _⟩ => ⟨S512x1024, .f32⟩
  | .hbm, ⟨19, _⟩ => ⟨S512x1024, .bf16⟩
  | .hbm, ⟨20, _⟩ => ⟨S1024x1024, .f32⟩
  | .hbm, ⟨21, _⟩ => ⟨S1024x1024, .bf16⟩
  | .hbm, ⟨22, _⟩ => ⟨S1024x32, .f32⟩
  | .hbm, ⟨23, _⟩ => ⟨S32x1024, .f32⟩
  | .hbm, ⟨24, _⟩ => ⟨S32, .f32⟩
  | .hbm, ⟨25, _⟩ => ⟨S32x1, .f32⟩
  | .hbm, ⟨26, _⟩ => ⟨S32768x1024, .f32⟩
  | .hbm, ⟨27, _⟩ => ⟨S32768x512, .i32⟩
  | .hbm, ⟨28, _⟩ => ⟨S8x32768, .i32⟩
  | .hbm, ⟨29, _⟩ => ⟨S8x32768, .i32⟩
  | .hbm, ⟨30, _⟩ => ⟨S8x32768, .f32⟩
  | .hbm, ⟨31, _⟩ => ⟨S32x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S32x1024, .f32⟩
  | .local _ .vmem, ⟨19, _⟩ => ⟨S32x1, .f32⟩
  | .local _ .vmem, ⟨20, _⟩ => ⟨S512x1024, .f32⟩
  | .local _ .vmem, ⟨21, _⟩ => ⟨S512x1024, .f32⟩
  | .local _ .vmem, ⟨22, _⟩ => ⟨S512x512, .i32⟩
  | .local _ .vmem, ⟨23, _⟩ => ⟨S512x512, .i32⟩
  | .local _ .vmem, ⟨24, _⟩ => ⟨S8x512, .i32⟩
  | .local _ .vmem, ⟨25, _⟩ => ⟨S8x512, .i32⟩
  | .local _ .vmem, ⟨26, _⟩ => ⟨S8x512, .i32⟩
  | .local _ .vmem, ⟨27, _⟩ => ⟨S8x512, .i32⟩
  | .local _ .vmem, ⟨28, _⟩ => ⟨S8x512, .f32⟩
  | .local _ .vmem, ⟨29, _⟩ => ⟨S8x512, .f32⟩
  | .local _ .vmem, ⟨30, _⟩ => ⟨S32x128, .f32⟩
  | .local _ .vmem, ⟨31, _⟩ => ⟨S512x512, .bf16⟩
  | .local _ .vmem, ⟨32, _⟩ => ⟨S32x128, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev main_v15_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 4 → Nat :=
  let arg0 : BitVec 32 := BitVec.ofNat 32 (i 0).val
  let c0_i32 : BitVec 32 := 0#32
  let v0 : BitVec 32 := Scalar.addi c0_i32 arg0
  let c4_i32 : BitVec 32 := 4#32
  let v1 : BitVec 32 := Scalar.divsi v0 c4_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi v0 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let c0_i32_5 : BitVec 32 := 0#32
  let c0_i32_6 : BitVec 32 := 0#32
  let c0_i32_7 : BitVec 32 := 0#32
  ![c2_i32.toNat, v17.toNat, c0_i32_5.toNat, c0_i32_6.toNat]

def cc0_transform_5 (i : grid0.Coords) : Fin 4 → Nat :=
  let arg0 : BitVec 32 := BitVec.ofNat 32 (i 0).val
  let c0_i32 : BitVec 32 := 0#32
  let v0 : BitVec 32 := Scalar.addi c0_i32 arg0
  let c4_i32 : BitVec 32 := 4#32
  let v1 : BitVec 32 := Scalar.divsi v0 c4_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi v0 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let c0_i32_5 : BitVec 32 := 0#32
  let c0_i32_6 : BitVec 32 := 0#32
  let c0_i32_7 : BitVec 32 := 0#32
  ![c3_i32.toNat, v17.toNat, c0_i32_5.toNat, c0_i32_6.toNat]

def cc0_transform_6 (i : grid0.Coords) : Fin 4 → Nat :=
  let arg0 : BitVec 32 := BitVec.ofNat 32 (i 0).val
  let c0_i32 : BitVec 32 := 0#32
  let v0 : BitVec 32 := Scalar.addi c0_i32 arg0
  let c4_i32 : BitVec 32 := 4#32
  let v1 : BitVec 32 := Scalar.divsi v0 c4_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi v0 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c4_i32_5 : BitVec 32 := 4#32
  let c0_i32_6 : BitVec 32 := 0#32
  let c0_i32_7 : BitVec 32 := 0#32
  let c0_i32_8 : BitVec 32 := 0#32
  ![c4_i32_5.toNat, v17.toNat, c0_i32_6.toNat, c0_i32_7.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S32x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Kernel4Ideal.lean ====
abbrev S16x2048x512 : Shape := ⟨3, ![16, 2048, 512]⟩
abbrev S16x2048x2048 : Shape := ⟨3, ![16, 2048, 2048]⟩
abbrev S16x2048x1024 : Shape := ⟨3, ![16, 2048, 1024]⟩
abbrev S6x16x1024 : Shape := ⟨3, ![6, 16, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S1x1024x32 : Shape := ⟨3, ![1, 1024, 32]⟩
abbrev S1x32 : Shape := ⟨2, ![1, 32]⟩
abbrev S6x16x1x1024 : Shape := ⟨4, ![6, 16, 1, 1024]⟩
abbrev S32768x512 : Shape := ⟨2, ![32768, 512]⟩
abbrev S32768x2048 : Shape := ⟨2, ![32768, 2048]⟩
abbrev S32768x1024 : Shape := ⟨2, ![32768, 1024]⟩
abbrev S512x1024 : Shape := ⟨2, ![512, 1024]⟩
abbrev S1024x1024 : Shape := ⟨2, ![1024, 1024]⟩
abbrev S1024x32 : Shape := ⟨2, ![1024, 32]⟩
abbrev S32x1024 : Shape := ⟨2, ![32, 1024]⟩
abbrev S32 : Shape := ⟨1, ![32]⟩
abbrev S32x1 : Shape := ⟨2, ![32, 1]⟩
abbrev S32768x2x512 : Shape := ⟨3, ![32768, 2, 512]⟩
abbrev S8x32768 : Shape := ⟨2, ![8, 32768]⟩
abbrev S32x128 : Shape := ⟨2, ![32, 128]⟩
abbrev S32768x1x512 : Shape := ⟨3, ![32768, 1, 512]⟩
abbrev S512x512 : Shape := ⟨2, ![512, 512]⟩
abbrev S512x2048 : Shape := ⟨2, ![512, 2048]⟩
abbrev S1x1x1x1024 : Shape := ⟨4, ![1, 1, 1, 1024]⟩
abbrev S512x2x512 : Shape := ⟨3, ![512, 2, 512]⟩
abbrev S512x1x512 : Shape := ⟨3, ![512, 1, 512]⟩
abbrev S8x512 : Shape := ⟨2, ![8, 512]⟩
abbrev S512 : Shape := ⟨1, ![512]⟩
abbrev S512x1 : Shape := ⟨2, ![512, 1]⟩
abbrev S32x512 : Shape := ⟨2, ![32, 512]⟩
abbrev S1x512 : Shape := ⟨2, ![1, 512]⟩
abbrev S4x512 : Shape := ⟨2, ![4, 512]⟩

abbrev nBuf : Space → Nat
  | .hbm => 32
  | .vmem => 33
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x2048, .bf16⟩
  | .hbm, ⟨3, _⟩ => ⟨S16x2048x1024, .f32⟩
  | .hbm, ⟨4, _⟩ => ⟨S6x16x1024, .f32⟩
  | .hbm, ⟨5, _⟩ => ⟨S1x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024x32, .f32⟩
  | .hbm, ⟨10, _⟩ => ⟨S1x32, .f32⟩
  | .hbm, ⟨11, _⟩ => ⟨S6x16x1x1024, .f32⟩
  | .hbm, ⟨12, _⟩ => ⟨S32768x512, .bf16⟩
  | .hbm, ⟨13, _⟩ => ⟨S32768x512, .bf16⟩
  | .hbm, ⟨14, _⟩ => ⟨S32768x2048, .bf16⟩
  | .hbm, ⟨15, _⟩ => ⟨S32768x1024, .f32⟩
  | .hbm, ⟨16, _⟩ => ⟨S512x1024, .f32⟩
  | .hbm, ⟨17, _⟩ => ⟨S512x1024, .bf16⟩
  | .hbm, ⟨18, _⟩ => ⟨S512x1024, .f32⟩
  | .hbm, ⟨19, _⟩ => ⟨S512x1024, .bf16⟩
  | .hbm, ⟨20, _⟩ => ⟨S1024x1024, .f32⟩
  | .hbm, ⟨21, _⟩ => ⟨S1024x1024, .bf16⟩
  | .hbm, ⟨22, _⟩ => ⟨S1024x32, .f32⟩
  | .hbm, ⟨23, _⟩ => ⟨S32x1024, .f32⟩
  | .hbm, ⟨24, _⟩ => ⟨S32, .f32⟩
  | .hbm, ⟨25, _⟩ => ⟨S32x1, .f32⟩
  | .hbm, ⟨26, _⟩ => ⟨S32768x1024, .f32⟩
  | .hbm, ⟨27, _⟩ => ⟨S32768x2x512, .bf16⟩
  | .hbm, ⟨28, _⟩ => ⟨S8x32768, .i32⟩
  | .hbm, ⟨29, _⟩ => ⟨S8x32768, .i32⟩
  | .hbm, ⟨30, _⟩ => ⟨S8x32768, .f32⟩
  | .hbm, ⟨31, _⟩ => ⟨S32x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S32x1024, .f32⟩
  | .local _ .vmem, ⟨19, _⟩ => ⟨S32x1, .f32⟩
  | .local _ .vmem, ⟨20, _⟩ => ⟨S512x1024, .f32⟩
  | .local _ .vmem, ⟨21, _⟩ => ⟨S512x1024, .f32⟩
  | .local _ .vmem, ⟨22, _⟩ => ⟨S512x2x512, .bf16⟩
  | .local _ .vmem, ⟨23, _⟩ => ⟨S512x2x512, .bf16⟩
  | .local _ .vmem, ⟨24, _⟩ => ⟨S8x512, .i32⟩
  | .local _ .vmem, ⟨25, _⟩ => ⟨S8x512, .i32⟩
  | .local _ .vmem, ⟨26, _⟩ => ⟨S8x512, .i32⟩
  | .local _ .vmem, ⟨27, _⟩ => ⟨S8x512, .i32⟩
  | .local _ .vmem, ⟨28, _⟩ => ⟨S8x512, .f32⟩
  | .local _ .vmem, ⟨29, _⟩ => ⟨S8x512, .f32⟩
  | .local _ .vmem, ⟨30, _⟩ => ⟨S32x128, .f32⟩
  | .local _ .vmem, ⟨31, _⟩ => ⟨S512x512, .bf16⟩
  | .local _ .vmem, ⟨32, _⟩ => ⟨S32x128, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev main_v15_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 4 → Nat :=
  let arg0 : BitVec 32 := BitVec.ofNat 32 (i 0).val
  let c0_i32 : BitVec 32 := 0#32
  let v0 : BitVec 32 := Scalar.addi c0_i32 arg0
  let c4_i32 : BitVec 32 := 4#32
  let v1 : BitVec 32 := Scalar.divsi v0 c4_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi v0 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let c0_i32_5 : BitVec 32 := 0#32
  let c0_i32_6 : BitVec 32 := 0#32
  let c0_i32_7 : BitVec 32 := 0#32
  ![c2_i32.toNat, v17.toNat, c0_i32_5.toNat, c0_i32_6.toNat]

def cc0_transform_5 (i : grid0.Coords) : Fin 4 → Nat :=
  let arg0 : BitVec 32 := BitVec.ofNat 32 (i 0).val
  let c0_i32 : BitVec 32 := 0#32
  let v0 : BitVec 32 := Scalar.addi c0_i32 arg0
  let c4_i32 : BitVec 32 := 4#32
  let v1 : BitVec 32 := Scalar.divsi v0 c4_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi v0 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let c0_i32_5 : BitVec 32 := 0#32
  let c0_i32_6 : BitVec 32 := 0#32
  let c0_i32_7 : BitVec 32 := 0#32
  ![c3_i32.toNat, v17.toNat, c0_i32_5.toNat, c0_i32_6.toNat]

def cc0_transform_6 (i : grid0.Coords) : Fin 4 → Nat :=
  let arg0 : BitVec 32 := BitVec.ofNat 32 (i 0).val
  let c0_i32 : BitVec 32 := 0#32
  let v0 : BitVec 32 := Scalar.addi c0_i32 arg0
  let c4_i32 : BitVec 32 := 4#32
  let v1 : BitVec 32 := Scalar.divsi v0 c4_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi v0 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c4_i32_5 : BitVec 32 := 4#32
  let c0_i32_6 : BitVec 32 := 0#32
  let c0_i32_7 : BitVec 32 := 0#32
  let c0_i32_8 : BitVec 32 := 0#32
  ![c4_i32_5.toNat, v17.toNat, c0_i32_6.toNat, c0_i32_7.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S32x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference4Ideal.lean ====
abbrev S16x2048x512 : Shape := ⟨3, ![16, 2048, 512]⟩
abbrev S16x2048x2048 : Shape := ⟨3, ![16, 2048, 2048]⟩
abbrev S16x2048x1024 : Shape := ⟨3, ![16, 2048, 1024]⟩
abbrev S6x16x1024 : Shape := ⟨3, ![6, 16, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S1x1024x32 : Shape := ⟨3, ![1, 1024, 32]⟩
abbrev S1x32 : Shape := ⟨2, ![1, 32]⟩
abbrev S_ : Shape := ⟨0, ![]⟩
abbrev S512x1024 : Shape := ⟨2, ![512, 1024]⟩
abbrev S1x16x1024 : Shape := ⟨3, ![1, 16, 1024]⟩
abbrev S16x1024 : Shape := ⟨2, ![16, 1024]⟩
abbrev S16x1x1024 : Shape := ⟨3, ![16, 1, 1024]⟩
abbrev S1024x1024 : Shape := ⟨2, ![1024, 1024]⟩
abbrev S32768x1024 : Shape := ⟨2, ![32768, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x2048, .bf16⟩
  | .hbm, ⟨3, _⟩ => ⟨S16x2048x1024, .f32⟩
  | .hbm, ⟨4, _⟩ => ⟨S6x16x1024, .f32⟩
  | .hbm, ⟨5, _⟩ => ⟨S1x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024x32, .f32⟩
  | .hbm, ⟨10, _⟩ => ⟨S1x32, .f32⟩
  | .hbm, ⟨11, _⟩ => ⟨S16x2048x2048, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S_, .f32⟩
  | .hbm, ⟨17, _⟩ => ⟨S16x2048x1024, .f32⟩
  | .hbm, ⟨18, _⟩ => ⟨S16x2048x1024, .f32⟩
  | .hbm, ⟨19, _⟩ => ⟨S_, .f32⟩
  | .hbm, ⟨20, _⟩ => ⟨S16x2048x1024, .f32⟩
  | .hbm, ⟨21, _⟩ => ⟨S16x2048x1024, .f32⟩
  | .hbm, ⟨22, _⟩ => ⟨S16x2048x512, .f32⟩
  | .hbm, ⟨23, _⟩ => ⟨S512x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048x1024, .f32⟩
  | .hbm, ⟨33, _⟩ => ⟨S16x2048x1024, .f32⟩
  | .hbm, ⟨34, _⟩ => ⟨S16x2048x512, .f32⟩
  | .hbm, ⟨35, _⟩ => ⟨S512x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S1x16x1024, .f32⟩
  | .hbm, ⟨40, _⟩ => ⟨S16x1024, .f32⟩
  | .hbm, ⟨41, _⟩ => ⟨S16x1x1024, .f32⟩
  | .hbm, ⟨42, _⟩ => ⟨S1024x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S32768x1024, .f32⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Kernel5.lean ====
abbrev S16x1024 : Shape := ⟨2, ![16, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S6x16x1024 : Shape := ⟨3, ![6, 16, 1024]⟩
abbrev S1024x1024 : Shape := ⟨2, ![1024, 1024]⟩
abbrev S1x1024 : Shape := ⟨2, ![1, 1024]⟩
abbrev S1x16x1024 : Shape := ⟨3, ![1, 16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S6x16x1024, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16x1024 : Shape := ⟨2, ![16, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S16x6144 : Shape := ⟨2, ![16, 6144]⟩
abbrev S6144 : Shape := ⟨1, ![6144]⟩
abbrev S16x6x1024 : Shape := ⟨3, ![16, 6, 1024]⟩
abbrev S6x16x1024 : Shape := ⟨3, ![6, 16, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x6144, .f32⟩
  | .hbm, ⟨2, _⟩ => ⟨S1x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024x6144, .f32⟩
  | .hbm, ⟨13, _⟩ => ⟨S16x6144, .f32⟩
  | .hbm, ⟨14, _⟩ => ⟨S6144, .f32⟩
  | .hbm, ⟨15, _⟩ => ⟨S1x6144, .f32⟩
  | .hbm, ⟨16, _⟩ => ⟨S16x6144, .f32⟩
  | .hbm, ⟨17, _⟩ => ⟨S16x6144, .f32⟩
  | .hbm, ⟨18, _⟩ => ⟨S16x6x1024, .f32⟩
  | .hbm, ⟨19, _⟩ => ⟨S6x16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Proof.FinalValue.lean ====
/-
  The last call of the layer: the gated residual around the four gathered expert rows, then the row's RMS norm. Row `n`
  of the result is `out (x, gate, y, g)` where `y` mixes the four gathered rows, each a row of words that holds two
  bf16 halves. `Cert.FinalValue.spec` says this index by index; the kernel's array and the reference's composed term
  are both shown to be it.
-/
module

public import proofs.«01_k».proof.Proof.Gen.KernelIdeal.Value
public import proofs.«01_k».proof.Proof.Gen.ReferenceIdeal.Run
public import Idealize.ShloMosaic.Lib.Pointwise
public import Idealize.ShloMosaic.Lib.BitcastConvert
public import Idealize.ShloMosaic.Lib.Pipeline.Value
public import Idealize.ShloMosaic.Lib.Pipeline.ValueKit

@[expose] public section

noncomputable section

open Idealize.ShloMosaic Idealize.ShloMosaic.TcCoe Idealize.SL.Sem

namespace Cert.FinalValue

open Cert.KernelIdeal

/-- Lane `l` of a row of 512 words that hold two bf16 values each: the low halves, then the high halves. -/
def lane (w : Fin 512 → BitVec 32) (l : Fin 1024) : EReal :=
  if h : l.val < 512 then Ideal.ofBits .bf16 ((w ⟨l.val, h⟩).extractLsb' 0 16)
  else Ideal.ofBits .bf16 ((w ⟨l.val - 512, by omega⟩).extractLsb' 16 16)

/-- The row before the norm: the residual and the gated mix of the four expert rows. -/
def pre (x : Fin 1024 → EReal) (gt : Fin 1024 → EReal) (w : Fin 4 → EReal) (y : Fin 4 → Fin 512 → BitVec 32) (l : Fin 1024) : EReal :=
  x l + gt l * ∑ k : Fin 4, w k * lane (y k) l

/-- The norm of a row, scaled by `g`. -/
def norm (u : Fin 1024 → EReal) (g : Fin 1024 → EReal) (l : Fin 1024) : EReal :=
  u l * Ideal.rsqrt (Ideal.div (∑ k : Fin 1024, u k * u k) (Ideal.ofBits .f32 0x44800000#32) + Ideal.ofBits .f32 0x358637BD#32) * g l

/-- Row `n` of the result, as a function of the five argument arrays. -/
def spec (x : Vec Ideal S32768x1024 .f32) (yg : Vec Ideal S131072x512 .i32) (w : Vec Ideal S8x32768 .f32)
    (md : Vec Ideal S6x16x1024 .f32) (g : Vec Ideal S1024 .f32) : Vec Ideal S32768x1024 .f32 := fun i =>
  norm (pre (fun l => x (ix2 (i 0) l)) (fun l => md (ix3 5 ⟨(i 0 : ℕ) / 2048, by have h : (i 0 : ℕ) < 32768 := (i 0).isLt; omega⟩ l))
      (fun k => w (ix2 ⟨k.val, by omega⟩ (i 0)))
      (fun k q => yg (ix2 ⟨k.val * 32768 + (i 0 : ℕ), by have h : (i 0 : ℕ) < 32768 := (i 0).isLt; omega⟩ q)))
    (fun l => g (ix1 l)) (i 1)

end Cert.FinalValue

namespace Cert.KernelIdeal.FinalValue

open Cert.KernelIdeal Cert.KernelIdeal.Gen Cert.FinalValue

theorem pay2_apply (w : Vec Ideal S8x1024 .f32) (a b c d : Vec Ideal S1024x512 .i32) (j : S1024x1024.Idx) :
    k0_pay2 w a b c d j
      = ∑ k : Fin 4, w (ix2 ⟨k.val, by omega⟩ (j 0)) * lane (fun q => (![a, b, c, d] k) (ix2 (j 0) q)) (j 1) := by
  pointwise [k0_pay2]
  rw [Fin.sum_univ_four]
  unfold lane
  split <;> rfl

theorem pay1_apply (y x : Vec Ideal S1024x1024 .f32) (gt : Vec Ideal S1x1x1x1024 .f32) (g : Vec Ideal S1x1024 .f32) (j : S1024x1024.Idx) :
    k0_pay1 y x gt g j
      = norm (fun q => x (ix2 (j 0) q) + gt (ix4 0 0 0 q) * y (ix2 (j 0) q)) (fun q => g (ix2 0 q)) (j 1) := by
  obtain ⟨r, l, rfl⟩ : ∃ r l, j = ix2 r l := ⟨j 0, j 1, by funext a; fin_cases a <;> rfl⟩
  pointwise [k0_pay1]
  rfl

variable (m : (ℓ : Loc nD τ sig) → Buf (Elt Ideal) ℓ)

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![32 + t.val, 0] := by decide +kernel
theorem idx_3 : ∀ t : Fin grid0.N, win0_3.index t = ![64 + t.val, 0] := by decide +kernel
theorem idx_4 : ∀ t : Fin grid0.N, win0_4.index t = ![96 + t.val, 0] := by decide +kernel
theorem idx_5 : ∀ t : Fin grid0.N, win0_5.index t = ![0, t.val] := by decide +kernel
theorem idx_6 : ∀ t : Fin grid0.N, win0_6.index t = ![5, t.val / 2, 0, 0] := by decide +kernel
theorem idx_7 : ∀ t : Fin grid0.N, win0_7.index t = ![0, 0] := by decide +kernel
theorem idx_8 : ∀ t : Fin grid0.N, win0_8.index t = ![t.val, 0] := by decide +kernel

theorem final_o (c : Dev nD) : (dats m 0 c).arrAt 8 cfg0.N
    = spec (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t hf y => ?_
  blk_simp
  rw [after0_8]
  frame_out
  rw [pay1_apply]
  unfold spec
  have ht : t.val < 32 := t.isLt
  have hy : (y 0 : ℕ) < 1024 := (y 0).isLt
  have hN : (((View.whole main_v2).slice (win0_8.rect t)).emb y 0 : ℕ) = t.val * 1024 + (y 0 : ℕ) := by
    blk_simp [idx_8 t]
  have hl : ((View.whole main_v2).slice (win0_8.rect t)).emb y 1 = y 1 := by
    apply Fin.ext
    blk_simp [idx_8 t]
  generalize ((View.whole main_v2).slice (win0_8.rect t)).emb y = i at hN hl
  rw [hl]
  refine congrFun (congrArg₂ norm (funext fun q => ?_) (funext fun q => ?_)) _
  · unfold pre
    rw [pay2_apply]
    refine congrArg₂ _ ?_ (congrArg₂ _ ?_ (Finset.sum_congr rfl fun k _ => congrArg₂ _ ?_ (congrFun (congrArg lane (funext fun p => ?_)) _)))
    · blk_ext [iblk, V, idx_0 t]
    · blk_ext! [iblk, V, idx_6 t]
    · blk_ext [iblk, V, idx_5 t]
    · fin_cases k
      · blk_ext [iblk, V, idx_1 t]
      · blk_ext [iblk, V, idx_2 t]
      · blk_ext [iblk, V, idx_3 t]
      · blk_ext [iblk, V, idx_4 t]
  · blk_ext! [iblk, V, idx_7 t]

/-- The run, read: the result array at `spec` of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2)
        = spec (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_o m c), (h c).2⟩) (Value.run_blocks m ρ)

end Cert.KernelIdeal.FinalValue

namespace Cert.ReferenceIdeal.FinalValue
open Cert.ReferenceIdeal Cert.ReferenceIdeal.Value Cert.ReferenceIdeal.Gen Cert.FinalValue

def mixed (yg : IVec S131072x512 32) (w : FVec Ideal S8x32768 .f32) : FVec Ideal S32768x1024 .f32 :=
  Host.reduceAdd (mulf (broadcastInDim S4x32768x1024 ![0, 1, 2] bcast_S4x32768x1_S4x32768x1024_0_1_2 (broadcastInDim S4x32768x1 ![0, 1] bcast_S4x32768_S4x32768x1_0_1 (extractStridedSlice S4x32768 ![0, 0] w slices_S8x32768_S4x32768_0_0)))
   (fn_main_v7 (F := Ideal) (shapeCast _ (extractStridedSlice S4x32768x512x1 ![0, 0, 0, 0] (extf .f32 (bitcastToFloat (F := Ideal) .bf16 (Host.bitcastConvertNarrow S4x32768x512x2 16 (shapeCast _ yg shapeCasts_S131072x512_S4x32768x512) splits_S4x32768x512_w32_S4x32768x512x2_w16)) bitsLt_bf16_f32) slices_S4x32768x512x2_S4x32768x512x1_0_0_0_0) shapeCasts_S4x32768x512x1_S4x32768x512)
     (shapeCast _ (extractStridedSlice S4x32768x512x1 ![0, 0, 0, 1] (extf .f32 (bitcastToFloat (F := Ideal) .bf16 (Host.bitcastConvertNarrow S4x32768x512x2 16 (shapeCast _ yg shapeCasts_S131072x512_S4x32768x512) splits_S4x32768x512_w32_S4x32768x512x2_w16)) bitsLt_bf16_f32) slices_S4x32768x512x2_S4x32768x512x1_0_0_0_1) shapeCasts_S4x32768x512x1_S4x32768x512)))
   (constant S_ .f32 0x00000000#32) reducesTo_S4x32768x1024_S32768x1024_d0 h_S_

def gated (x : FVec Ideal S32768x1024 .f32) (y : FVec Ideal S32768x1024 .f32) (md : FVec Ideal S6x16x1024 .f32) : FVec Ideal S16x2048x1024 .f32 :=
  addf (shapeCast _ x shapeCasts_S32768x1024_S16x2048x1024) (mulf (broadcastInDim S16x2048x1024 ![0, 1, 2] bcast_S16x1x1024_S16x2048x1024_0_1_2 (broadcastInDim S16x1x1024 ![0, 2] bcast_S16x1024_S16x1x1024_0_2 (shapeCast _ (extractStridedSlice S1x16x1024 ![5, 0, 0] md slices_S6x16x1024_S1x16x1024_5_0_0) shapeCasts_S1x16x1024_S16x1024))) (shapeCast _ y shapeCasts_S32768x1024_S16x2048x1024))

def normed (u : FVec Ideal S16x2048x1024 .f32) (g : FVec Ideal S1024 .f32) : FVec Ideal S32768x1024 .f32 :=
  shapeCast _ (mulf (mulf u (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf u u) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) shapeCasts_S16x2048x1024_S32768x1024

theorem mixed_apply (yg : IVec S131072x512 32) (w : FVec Ideal S8x32768 .f32) (n : Fin 32768) (l : Fin 1024) :
    mixed yg w (ix2 n l)
      = ∑ k : Fin 4, w (ix2 ⟨k.val, by omega⟩ n) * lane (fun q => yg (ix2 ⟨k.val * 32768 + n.val, by omega⟩ q)) l := by
  have hd0 : ∀ (k : Fin 4) (p : Fin 512) (h : Fin 2), splits_S4x32768x512_w32_S4x32768x512x2_w16.drop (ix4 k n p h) = ix3 k n p := by
    intro k p h
    funext a
    fin_cases a <;> rfl
  pointwise [mixed, fn_main_v7]
  refine Finset.sum_congr rfl fun k _ => congrArg _ ?_
  simp only [hd0]
  rfl

theorem gated_apply (x : FVec Ideal S32768x1024 .f32) (y : FVec Ideal S32768x1024 .f32) (md : FVec Ideal S6x16x1024 .f32)
    (b : Fin 16) (s : Fin 2048) (l : Fin 1024) :
    gated x y md (ix3 b s l) = x (ix2 ⟨b.val * 2048 + s.val, by omega⟩ l) + md (ix3 5 b l) * y (ix2 ⟨b.val * 2048 + s.val, by omega⟩ l) := by
  pointwise [gated]

theorem normed_apply (u : FVec Ideal S16x2048x1024 .f32) (g : FVec Ideal S1024 .f32) (n : Fin 32768) (l : Fin 1024) :
    normed u g (ix2 n l)
      = norm (fun q => u (ix3 ⟨n.val / 2048, by omega⟩ ⟨n.val % 2048, by omega⟩ q)) (fun q => g (ix1 q)) l := by
  pointwise [normed]
  rfl

variable (m : (ℓ : Loc nD τ sig) → Buf (Elt Ideal) ℓ)

theorem res_eq (c : Dev nD) : res_out0 m c = normed (gated (m ((c.tc : Thread nD τ).loc main_arg0)) (mixed (m ((c.tc : Thread nD τ).loc main_arg1)) (m ((c.tc : Thread nD τ).loc main_arg2))) (m ((c.tc : Thread nD τ).loc main_arg3))) (m ((c.tc : Thread nD τ).loc main_arg4)) := rfl

theorem res_spec (c : Dev nD) : res_out0 m c
    = spec (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  rw [res_eq]
  funext i
  obtain ⟨n, l, rfl⟩ : ∃ (n : Fin 32768) (l : Fin 1024), i = ix2 n l := ⟨i 0, i 1, by funext a; fin_cases a <;> rfl⟩
  rw [normed_apply]
  unfold spec
  refine congrFun (congrArg₂ norm (funext fun q => ?_) rfl) _
  rw [gated_apply, mixed_apply]
  have hn : n.val / 2048 * 2048 + n.val % 2048 = n.val := by omega
  unfold pre
  simp only [hn]
  rfl

end Cert.ReferenceIdeal.FinalValue
-- ==== Proof.FinalClaims.lean ====
/-
  The claims of the layer's last call, from the generated frames and Proof/FinalValue.lean.
-/
module

public import proofs.«01_k».proof.Defs
public import proofs.«01_k».proof.Proof.Gen.Kernel.Frame
public import proofs.«01_k».proof.Proof.FinalValue
public import Idealize.ShloMosaic.Lib.Quiescent

@[expose] public section

noncomputable section

open Idealize.ShloMosaic Idealize.ShloMosaic.TcCoe Idealize.SL.Sem

namespace Cert.Proof.FinalClaims

theorem frame_kernel : Cert.quiescent_Kernel := fun m ρ _ => Cert.Kernel.Gen.frame m ρ
theorem frame_ideal : Cert.quiescent_KernelIdeal := fun m ρ _ => Cert.KernelIdeal.Gen.frame m ρ

/-- The reference's run, read at the arguments; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal := trivial

/-- Both result arrays end at `FinalValue.spec` of arguments that agree. -/
theorem algebraic : Cert.algebraic_KernelIdeal_ReferenceIdeal := by
  intro m ρ m' ρ' _ hagree
  refine ⟨fun c => _, Cert.KernelIdeal.FinalValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  refine (Cert.ReferenceIdeal.FinalValue.res_spec m' c).trans ?_
  rw [h0, h1, h2, h3, h4]

end Cert.Proof.FinalClaims

end
-- ==== Proof.WordBlocks.lean ====
/-
  One point of the expert call: the kernel's body cut into its blocks — the first copies started,
  the copies waited for and the next ones started, the row blocks stored — and what each block does
  to the slots, the cells and the staging buffer.
-/
module

public import proofs.«01_k».proof.Proof.WordCopy

@[expose] public section

noncomputable section

namespace Cert.Kernel2.Ffn

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (Pipeline.UD sig nD τ) ℕ

variable {α : Type}

/-- The first point's block: both arrays' first copies started. -/
def blk1 (i : grid0.Coords) (kk : PUnit.{1} → Prog (TpuEff nD τ sig (Elt F) Λ₀ .tc) α) : Prog (TpuEff nD τ sig (Elt F) Λ₀ .tc) α :=
  if k0_h1 : k0_cond1 i = 1#1 then do
    let v43 : Elt F .i32 ← smemLoad (Memref.whole main_arg0) (Rect.unit (s := S160) ![0] S1.size inb_S160_S1_0) numel1_S1 rfl
    have k0_hw1 : k0_chk1 i v43 := (← Prog.lift (TpuEff.assume (k0_chk1 i v43) (k0_chk1.dec i v43))).down
    Prog.lift (.enqueueDma (gSrc (k0_off2 v43) (k0_off2_inb i v43 k0_hw1 k0_h1)) (.here (gWin ![0, 0, 0] inb_S2x1024x2048_S1x1024x2048_0_0_0)) (.dma (cell ![0, 0] inb_S2x2_S1x1_0_0).sem) ((View.wordExact_bits rfl).reshape _ _) ((View.wordExact_bits rfl).reshape _ _) ⟨Or.inl rfl, trivial⟩)
    Prog.lift (.enqueueDma (dSrc (k0_off3 v43) (k0_off3_inb i v43 k0_hw1 k0_h1)) (.here (dWin ![0, 0, 0] inb_S2x1024x1024_S1x1024x1024_0_0_0)) (.dma (cell ![0, 1] inb_S2x2_S1x1_0_1).sem) ((View.wordExact_bits rfl).reshape _ _) ((View.wordExact_bits rfl).reshape _ _) ⟨Or.inl rfl, trivial⟩)
    kk ⟨⟩
  else kk ⟨⟩

/-- A new expert's first block: its slabs waited for, the next expert's copies started. -/
def blk2 (i : grid0.Coords) (v0 v6 v11 : Elt F .i32) (k0_hw2 : k0_chk2 i v0 v6 v11) (kk : PUnit.{1} → Prog (TpuEff nD τ sig (Elt F) Λ₀ .tc) α) :
    Prog (TpuEff nD τ sig (Elt F) Λ₀ .tc) α :=
  if k0_h2 : k0_cond2 i v0 v11 = 1#1 then do
    let v44 : Elt F .i32 ← smemLoad (Memref.whole main_arg0) (Rect.unit (s := S160) (k0_off4 i) S1.size (k0_off4_inb i)) numel1_S1 rfl
    have k0_hw3 : k0_chk3 i v0 v11 v44 := (← Prog.lift (TpuEff.assume (k0_chk3 i v0 v11 v44) (k0_chk3.dec i v0 v11 v44))).down
    Prog.lift (.waitDma2 (cell (k0_off5 v6) (k0_off5_inb i v0 v6 v11 k0_hw2 k0_h2)).sem (gSrc (k0_off7 v44) (k0_off7_inb i v0 v11 v44 k0_hw3 k0_h2)) (gWin (k0_off6 v6) (k0_off6_inb i v0 v6 v11 k0_hw2 k0_h2)) ((View.wordExact_bits rfl).reshape _ _) ((View.wordExact_bits rfl).reshape _ _))
    Prog.lift (.waitDma2 (cell (k0_off8 v6) (k0_off8_inb i v0 v6 v11 k0_hw2 k0_h2)).sem (dSrc (k0_off10 v44) (k0_off10_inb i v0 v11 v44 k0_hw3 k0_h2)) (dWin (k0_off9 v6) (k0_off9_inb i v0 v6 v11 k0_hw2 k0_h2)) ((View.wordExact_bits rfl).reshape _ _) ((View.wordExact_bits rfl).reshape _ _))
    let v58 : Elt F .i32 ← smemLoad (Memref.whole main_v44) (Rect.unit (s := S160) (k0_off11 i) S1.size (k0_off11_inb i)) numel1_S1 rfl
    have k0_hw4 : k0_chk4 i v0 v6 v11 v58 := (← Prog.lift (TpuEff.assume (k0_chk4 i v0 v6 v11 v58) (k0_chk4.dec i v0 v6 v11 v58))).down
    if k0_h3 : k0_cond3 v58 = 1#1 then do
      let v63 : Elt F .i32 ← smemLoad (Memref.whole main_v44) (Rect.unit (s := S160) (k0_off12 i) S1.size (k0_off12_inb i)) numel1_S1 rfl
      have k0_hw5 : k0_chk5 i v0 v11 v58 v63 := (← Prog.lift (TpuEff.assume (k0_chk5 i v0 v11 v58 v63) (k0_chk5.dec i v0 v11 v58 v63))).down
      Prog.lift (.enqueueDma (gSrc (k0_off15 v63) (k0_off15_inb i v0 v11 v58 v63 k0_hw5 k0_h2 k0_h3)) (.here (gWin (k0_off14 v6) (k0_off14_inb i v0 v6 v11 v58 k0_hw4 k0_h2 k0_h3))) (.dma (cell (k0_off13 v6) (k0_off13_inb i v0 v6 v11 v58 k0_hw4 k0_h2 k0_h3)).sem) ((View.wordExact_bits rfl).reshape _ _) ((View.wordExact_bits rfl).reshape _ _) ⟨Or.inl rfl, trivial⟩)
      Prog.lift (.enqueueDma (dSrc (k0_off18 v63) (k0_off18_inb i v0 v11 v58 v63 k0_hw5 k0_h2 k0_h3)) (.here (dWin (k0_off17 v6) (k0_off17_inb i v0 v6 v11 v58 k0_hw4 k0_h2 k0_h3))) (.dma (cell (k0_off16 v6) (k0_off16_inb i v0 v6 v11 v58 k0_hw4 k0_h2 k0_h3)).sem) ((View.wordExact_bits rfl).reshape _ _) ((View.wordExact_bits rfl).reshape _ _) ⟨Or.inl rfl, trivial⟩)
      kk ⟨⟩
    else kk ⟨⟩
  else kk ⟨⟩

/-- The rows of a block of at most 256 routed rows. -/
def row4 (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x512 .i32) (hY : Y.IsWhole) (v0 v3 v6 : Elt F .i32) (k0_hw6 : k0_chk6 i v0 v3 v6)
    (kk : PUnit.{1} → Prog (TpuEff nD τ sig (Elt F) Λ₀ .tc) α) : Prog (TpuEff nD τ sig (Elt F) Λ₀ .tc) α :=
  if k0_h : k0_cond4 i v0 v3 = 1#1 then do
    let v82 : IVec S256x512 32 ← k0_part1 i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 v0 v3 v6 k0_hw6 k0_h
    let v83 : Vec F S256x512 .i32 ← Prog.lift (.load Y (Rect.unit (s := S1024x512) ![0, 0] S256x512.size inb_S1024x512_S256x512_0_0).toLoadRect (View.loadsAt_vmem h_S256x512))
    Prog.lift (.store Y (Rect.unit (s := S1024x512) ![0, 0] S256x512.size inb_S1024x512_S256x512_0_0) v82 Finset.univ (View.stores_vmem_bits_univ h_S256x512 rfl) (.inl rfl))
    let v85 : Vec F S768x512 .i32 ← Prog.lift (.load Y (Rect.unit (s := S1024x512) ![256, 0] S768x512.size inb_S1024x512_S768x512_256_0).toLoadRect (View.loadsAt_vmem h_S768x512))
    Prog.lift (.store Y (Rect.unit (s := S1024x512) ![256, 0] S768x512.size inb_S1024x512_S768x512_256_0) k0_pay6 Finset.univ (View.stores_vmem_bits_univ h_S768x512 rfl) (.inl rfl))
    kk ⟨⟩
  else kk ⟨⟩

/-- The rows of a block of at most 512 routed rows. -/
def row5 (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x512 .i32) (hY : Y.IsWhole) (v0 v3 v6 : Elt F .i32) (k0_hw6 : k0_chk6 i v0 v3 v6)
    (kk : PUnit.{1} → Prog (TpuEff nD τ sig (Elt F) Λ₀ .tc) α) : Prog (TpuEff nD τ sig (Elt F) Λ₀ .tc) α :=
  if k0_h : k0_cond5 i v0 v3 = 1#1 then do
    let v82 : IVec S512x512 32 ← k0_part2 i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 v0 v3 v6 k0_hw6 k0_h
    let v83 : Vec F S512x512 .i32 ← Prog.lift (.load Y (Rect.unit (s := S1024x512) ![0, 0] S512x512.size inb_S1024x512_S512x512_0_0).toLoadRect (View.loadsAt_vmem h_S512x512))
    Prog.lift (.store Y (Rect.unit (s := S1024x512) ![0, 0] S512x512.size inb_S1024x512_S512x512_0_0) v82 Finset.univ (View.stores_vmem_bits_univ h_S512x512 rfl) (.inl rfl))
    let v85 : Vec F S512x512 .i32 ← Prog.lift (.load Y (Rect.unit (s := S1024x512) ![512, 0] S512x512.size inb_S1024x512_S512x512_512_0).toLoadRect (View.loadsAt_vmem h_S512x512))
    Prog.lift (.store Y (Rect.unit (s := S1024x512) ![512, 0] S512x512.size inb_S1024x512_S512x512_512_0) k0_pay7 Finset.univ (View.stores_vmem_bits_univ h_S512x512 rfl) (.inl rfl))
    kk ⟨⟩
  else kk ⟨⟩

/-- The rows of a block of at most 768 routed rows. -/
def row6 (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x512 .i32) (hY : Y.IsWhole) (v0 v3 v6 : Elt F .i32) (k0_hw6 : k0_chk6 i v0 v3 v6)
    (kk : PUnit.{1} → Prog (TpuEff nD τ sig (Elt F) Λ₀ .tc) α) : Prog (TpuEff nD τ sig (Elt F) Λ₀ .tc) α :=
  if k0_h : k0_cond6 i v0 v3 = 1#1 then do
    let v82 : IVec S768x512 32 ← k0_part3 i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 v0 v3 v6 k0_hw6 k0_h
    let v83 : Vec F S768x512 .i32 ← Prog.lift (.load Y (Rect.unit (s := S1024x512) ![0, 0] S768x512.size inb_S1024x512_S768x512_0_0).toLoadRect (View.loadsAt_vmem h_S768x512))
    Prog.lift (.store Y (Rect.unit (s := S1024x512) ![0, 0] S768x512.size inb_S1024x512_S768x512_0_0) v82 Finset.univ (View.stores_vmem_bits_univ h_S768x512 rfl) (.inl rfl))
    let v85 : Vec F S256x512 .i32 ← Prog.lift (.load Y (Rect.unit (s := S1024x512) ![768, 0] S256x512.size inb_S1024x512_S256x512_768_0).toLoadRect (View.loadsAt_vmem h_S256x512))
    Prog.lift (.store Y (Rect.unit (s := S1024x512) ![768, 0] S256x512.size inb_S1024x512_S256x512_768_0) k0_pay8 Finset.univ (View.stores_vmem_bits_univ h_S256x512 rfl) (.inl rfl))
    kk ⟨⟩
  else kk ⟨⟩

/-- The rows of a fuller block. -/
def row7 (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x512 .i32) (hY : Y.IsWhole) (v0 v3 v6 : Elt F .i32) (k0_hw6 : k0_chk6 i v0 v3 v6)
    (kk : PUnit.{1} → Prog (TpuEff nD τ sig (Elt F) Λ₀ .tc) α) : Prog (TpuEff nD τ sig (Elt F) Λ₀ .tc) α :=
  if k0_h : k0_cond7 i v0 v3 = 1#1 then do
    let v82 : IVec S1024x512 32 ← k0_part4 i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 v0 v3 v6 k0_hw6 k0_h
    let v83 : Vec F S1024x512 .i32 ← Prog.lift (.load Y (Rect.unit (s := S1024x512) ![0, 0] S1024x512.size inb_S1024x512_S1024x512_0_0).toLoadRect (View.loadsAt_vmem h_S1024x512))
    Prog.lift (.store Y (Rect.unit (s := S1024x512) ![0, 0] S1024x512.size inb_S1024x512_S1024x512_0_0) v82 Finset.univ (View.stores_vmem_bits_univ h_S1024x512 rfl) (.inl rfl))
    kk ⟨⟩
  else kk ⟨⟩

/-- The rows of a block past the used ones. -/
def row8 (i : grid0.Coords) (Y : Memref sig .tc .vmem S1024x512 .i32) (hY : Y.IsWhole) (v0 : Elt F .i32)
    (kk : PUnit.{1} → Prog (TpuEff nD τ sig (Elt F) Λ₀ .tc) α) : Prog (TpuEff nD τ sig (Elt F) Λ₀ .tc) α :=
  if k0_h : k0_cond8 i v0 = 1#1 then do
    let v44 : Vec F S1024x512 .i32 ← Prog.lift (.load Y (Rect.unit (s := S1024x512) ![0, 0] S1024x512.size inb_S1024x512_S1024x512_0_0).toLoadRect (View.loadsAt_vmem h_S1024x512))
    Prog.lift (.store Y (Rect.unit (s := S1024x512) ![0, 0] S1024x512.size inb_S1024x512_S1024x512_0_0) k0_pay1 Finset.univ (View.stores_vmem_bits_univ h_S1024x512 rfl) (.inl rfl))
    kk ⟨⟩
  else kk ⟨⟩

/-- The kernel's body as its blocks: up to the third, and the rest. -/
def blocks5 (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x512 .i32) (hY : Y.IsWhole) : Prog (TpuEff nD τ sig (Elt F) Λ₀ .tc) (Σ' (v0 : Elt F .i32) (v1 : BitVec 1) (v3 : Elt F .i32) (v4 : BitVec 32) (v6 : Elt F .i32) (k0_hw6 : k0_chk6 i v0 v3 v6), BitVec 1) := do
  let v0 : Elt F .i32 ← smemLoad (Memref.whole main_arg1) (Rect.unit (s := S1) ![0] S1.size inb_S1_S1_0) numel1_S1 rfl
  let v3 : Elt F .i32 ← smemLoad (Memref.whole main_arg2) (Rect.unit (s := S160) (k0_off1 i) S1.size (k0_off1_inb i)) numel1_S1 rfl
  let v6 : Elt F .i32 ← smemLoad (Memref.whole main_v15) (Rect.unit (s := S160) (k0_off1 i) S1.size (k0_off1_inb i)) numel1_S1 rfl
  have k0_hw6 : k0_chk6 i v0 v3 v6 := (← Prog.lift (TpuEff.assume (k0_chk6 i v0 v3 v6) (k0_chk6.dec i v0 v3 v6))).down
  blk1 i fun _ => do
    let v11 : Elt F .i32 ← smemLoad (Memref.whole main_v10) (Rect.unit (s := S160) (k0_off1 i) S1.size (k0_off1_inb i)) numel1_S1 rfl
    have k0_hw2 : k0_chk2 i v0 v6 v11 := (← Prog.lift (TpuEff.assume (k0_chk2 i v0 v6 v11) (k0_chk2.dec i v0 v6 v11))).down
    blk2 i v0 v6 v11 k0_hw2 fun _ =>
      row4 i X hX B hB D hD Y hY v0 v3 v6 k0_hw6 fun _ =>
      row5 i X hX B hB D hD Y hY v0 v3 v6 k0_hw6 fun _ =>
      row6 i X hX B hB D hD Y hY v0 v3 v6 k0_hw6 fun _ =>
      pure ⟨v0, Scalar.cmpi .slt (BitVec.ofNat 32 (i 0).val) v0, v3, Scalar.maxsi v3 1#32, v6, k0_hw6,
        Scalar.andi (Scalar.cmpi .slt (BitVec.ofNat 32 (i 0).val) v0) (Scalar.cmpi .sgt (Scalar.maxsi v3 1#32) 768#32)⟩

def blocks (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x512 .i32) (hY : Y.IsWhole) : Prog (TpuEff nD τ sig (Elt F) Λ₀ .tc) PUnit.{1} := do
  let ⟨v0, _, v3, _, v6, k0_hw6, _⟩ ← blocks5 i X hX B hB D hD Y hY
  row7 i X hX B hB D hD Y hY v0 v3 v6 k0_hw6 fun _ => row8 i Y hY v0 fun _ => pure ⟨⟩

set_option maxRecDepth 65536 in
theorem part5_eq (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x512 .i32) (hY : Y.IsWhole) : k0_part5 (F := F) i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 = blocks5 i X hX B hB D hD Y hY := by
  rw [k0_part5_eq_skeleton]
  rfl

set_option maxRecDepth 65536 in
theorem body_eq (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x512 .i32) (hY : Y.IsWhole) : cc0_expert_ffn (F := F) i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 = blocks i X hX B hB D hD Y hY := by
  rw [cc0_expert_ffn_eq_skeleton]
  unfold cc0_expert_ffn_skel blocks
  rw [part5_eq]
  rfl

/-! ### One word of a table, one check -/

/-- The word of a table that a load of it reads. -/
abbrev word {s : Shape} (m : Memref sig .tc .smem s .i32) (r : Rect s) (h1 : r.shape.numel = 1) {c : Dev nD}
    (f : Buf (Elt F) (m.view.loc (c : Thread nD τ))) : Elt F .i32 :=
  (m.access r).read (Elt F) f (Shape.Idx.first (h1.symm ▸ Nat.one_pos))

theorem wp_word (c : Dev nD) {s : Shape} (m : Memref sig .tc .smem s .i32) (r : Rect s) (h1 : r.shape.numel = 1) (hp : EltTy.i32.packing = 1)
    {f : Buf (Elt F) (m.view.loc (c : Thread nD τ))} {v : Elt F .i32} (hv : word m r h1 f = v) {Q : α → sProp 𝕄} {k : Elt F .i32 → Prog (TpuEff nD τ sig (Elt F) Λ₀ .tc) α} :
    (m.view.loc (c : Thread nD τ) ↦{fullShare} f : sProp 𝕄)
      ⊢ iprop(((m.view.loc (c : Thread nD τ) ↦{fullShare} f) -∗ wp frame (wpE (defs₀ (F := F)) Variants.none c none) Set.univ (k v) Q)
          -∗ wp frame (wpE (defs₀ (F := F)) Variants.none c none) Set.univ (smemLoad m r h1 hp >>= k) Q) := by
  subst hv
  exact wp_load_rect Variants.none (c : Thread nD τ) none Set.univ (m := m) (r := r)
    (k := fun g => k (g (Shape.Idx.first (h1.symm ▸ Nat.one_pos)))) (Finset.subset_univ _)

theorem wp_chk (c : Dev nD) {P : Prop} {d : Decidable P} {Q : α → sProp 𝕄} {k : PLift P → Prog (TpuEff nD τ sig (Elt F) Λ₀ .tc) α} (h : P) :
    (wp frame (wpE (defs₀ (F := F)) Variants.none c none) Set.univ (k ⟨h⟩) Q : sProp 𝕄)
      ⊢ wp frame (wpE (defs₀ (F := F)) Variants.none c none) Set.univ (Prog.lift (TpuEff.assume P d) >>= k) Q :=
  wp_assume Variants.none (c : Thread nD τ) none Set.univ h

theorem wp_pos (c : Dev nD) {C : Prop} [Decidable C] (h : C) {A : C → Prog (TpuEff nD τ sig (Elt F) Λ₀ .tc) α} {B : ¬C → Prog (TpuEff nD τ sig (Elt F) Λ₀ .tc) α}
    {Q : α → sProp 𝕄} : (wp frame (wpE (defs₀ (F := F)) Variants.none c none) Set.univ (A h) Q : sProp 𝕄)
      ⊢ wp frame (wpE (defs₀ (F := F)) Variants.none c none) Set.univ (dite C A B) Q := by rw [dif_pos h]
theorem wp_neg (c : Dev nD) {C : Prop} [Decidable C] (h : ¬C) {A : C → Prog (TpuEff nD τ sig (Elt F) Λ₀ .tc) α} {B : ¬C → Prog (TpuEff nD τ sig (Elt F) Λ₀ .tc) α}
    {Q : α → sProp 𝕄} : (wp frame (wpE (defs₀ (F := F)) Variants.none c none) Set.univ (B h) Q : sProp 𝕄)
      ⊢ wp frame (wpE (defs₀ (F := F)) Variants.none c none) Set.univ (dite C A B) Q := by rw [dif_neg h]

/-- The word of a table of 160 at a point. -/
abbrev wBe (c : Dev nD) (i : grid0.Coords) (f : Buf (Elt F) ((c : Thread nD τ).loc main_arg0)) : Elt F .i32 :=
  word (c := c) (Memref.whole main_arg0) (Rect.unit (s := S160) (k0_off1 i) S1.size (k0_off1_inb i)) numel1_S1 f
abbrev wBe0 (c : Dev nD) (f : Buf (Elt F) ((c : Thread nD τ).loc main_arg0)) : Elt F .i32 :=
  word (c := c) (Memref.whole main_arg0) (Rect.unit (s := S160) ![0] S1.size inb_S160_S1_0) numel1_S1 f
abbrev wNv (c : Dev nD) (f : Buf (Elt F) ((c : Thread nD τ).loc main_arg1)) : Elt F .i32 :=
  word (c := c) (Memref.whole main_arg1) (Rect.unit (s := S1) ![0] S1.size inb_S1_S1_0) numel1_S1 f
abbrev wFirst (c : Dev nD) (i : grid0.Coords) (f : Buf (Elt F) ((c : Thread nD τ).loc main_v10)) : Elt F .i32 :=
  word (c := c) (Memref.whole main_v10) (Rect.unit (s := S160) (k0_off1 i) S1.size (k0_off1_inb i)) numel1_S1 f
abbrev wSlot (c : Dev nD) (i : grid0.Coords) (f : Buf (Elt F) ((c : Thread nD τ).loc main_v15)) : Elt F .i32 :=
  word (c := c) (Memref.whole main_v15) (Rect.unit (s := S160) (k0_off1 i) S1.size (k0_off1_inb i)) numel1_S1 f
abbrev wNxt (c : Dev nD) (i : grid0.Coords) (f : Buf (Elt F) ((c : Thread nD τ).loc main_v44)) : Elt F .i32 :=
  word (c := c) (Memref.whole main_v44) (Rect.unit (s := S160) (k0_off1 i) S1.size (k0_off1_inb i)) numel1_S1 f
abbrev wRows (c : Dev nD) (i : grid0.Coords) (f : Buf (Elt F) ((c : Thread nD τ).loc main_arg2)) : Elt F .i32 :=
  word (c := c) (Memref.whole main_arg2) (Rect.unit (s := S160) (k0_off1 i) S1.size (k0_off1_inb i)) numel1_S1 f

/-- A table held whole. -/
abbrev tab (c : Dev nD) (b : Ref sig .tc) (f : Buf (Elt F) ((c : Thread nD τ).loc b)) : sProp 𝕄 := (((c : Thread nD τ).loc b) ↦{fullShare} f)

/-! ### The words the offsets are made of -/

/-- Slot `s` and expert `e` as words. -/
def sw (s : Fin 2) : BitVec 32 := BitVec.ofNat 32 s.val
def ew (e : Fin 32) : BitVec 32 := BitVec.ofNat 32 e.val

theorem slot3 : ∀ s : Fin 2, (![(sw s).toNat, 0, 0] : Fin 3 → ℕ) = so s := by decide
theorem slot2 : ∀ s j : Fin 2, (![(sw s).toNat, j.val] : Fin 2 → ℕ) = co s j := by decide
theorem slab3 : ∀ e : Fin 32, (![(ew e).toNat, 0, 0] : Fin 3 → ℕ) = eo e := by decide
theorem other3 : ∀ s : Fin 2, (![(Scalar.subi 1#32 (sw s)).toNat, 0, 0] : Fin 3 → ℕ) = so s.rev := by decide
theorem other2 : ∀ s j : Fin 2, (![(Scalar.subi 1#32 (sw s)).toNat, j.val] : Fin 2 → ℕ) = co s.rev j := by decide

theorem inb_of {n : ℕ} {o o' sz tot : Fin n → ℕ} (h : o = o') (h' : ∀ a, o' a + sz a ≤ tot a) : ∀ a, o a + sz a ≤ tot a := h ▸ h'

theorem chk1 (i : grid0.Coords) (e : Fin 32) : k0_chk1 i (ew e) :=
  ⟨fun _ => inb_of (slab3 e) (geo_inb e), fun _ => inb_of (slab3 e) (deo_inb e)⟩
theorem chk2 (i : grid0.Coords) (v0 v11 : BitVec 32) (s : Fin 2) : k0_chk2 i v0 (sw s) v11 :=
  ⟨fun _ => inb_of (slot2 s 0) (co_inb s 0), fun _ => inb_of (slot3 s) (gso_inb s), fun _ => inb_of (slot2 s 1) (co_inb s 1), fun _ => inb_of (slot3 s) (dso_inb s)⟩
theorem chk3 (i : grid0.Coords) (v0 v11 : BitVec 32) (e : Fin 32) : k0_chk3 i v0 v11 (ew e) :=
  ⟨fun _ => inb_of (slab3 e) (geo_inb e), fun _ => inb_of (slab3 e) (deo_inb e)⟩
theorem chk4 (i : grid0.Coords) (v0 v11 v58 : BitVec 32) (s : Fin 2) : k0_chk4 i v0 (sw s) v11 v58 :=
  ⟨fun _ _ => inb_of (other2 s 0) (co_inb s.rev 0), fun _ _ => inb_of (other3 s) (gso_inb s.rev), fun _ _ => inb_of (other2 s 1) (co_inb s.rev 1),
    fun _ _ => inb_of (other3 s) (dso_inb s.rev)⟩
theorem chk5 (i : grid0.Coords) (v0 v11 v58 : BitVec 32) (e : Fin 32) : k0_chk5 i v0 v11 v58 (ew e) :=
  ⟨fun _ _ => inb_of (slab3 e) (geo_inb e), fun _ _ => inb_of (slab3 e) (deo_inb e)⟩
theorem chk6 (i : grid0.Coords) (v0 v3 : BitVec 32) (s : Fin 2) : k0_chk6 i v0 v3 (sw s) :=
  ⟨fun _ => inb_of (slot3 s) (gso_inb s), fun _ => inb_of (slot3 s) (dso_inb s), fun _ => inb_of (slot3 s) (gso_inb s), fun _ => inb_of (slot3 s) (dso_inb s),
    fun _ => inb_of (slot3 s) (gso_inb s), fun _ => inb_of (slot3 s) (dso_inb s), fun _ => inb_of (slot3 s) (gso_inb s), fun _ => inb_of (slot3 s) (dso_inb s)⟩

/-! ### The copy blocks -/

variable (c : Dev nD) (fg : Buf (Elt F) ((c : Thread nD τ).loc main_arg4)) (fw : Buf (Elt F) ((c : Thread nD τ).loc main_arg6))
  (tb : Buf (Elt F) ((c : Thread nD τ).loc main_arg0)) (tn : Buf (Elt F) ((c : Thread nD τ).loc main_v44))

/-- Both arrays' slot free, filled, being filled; both arrays whole; both cells of a slot at zero. -/
def free (s : Fin 2) : sProp 𝕄 := iprop(gFree c s ∗ dFree c s ∗ semVal ((c : Thread nD τ), own s 0) 0 ∗ semVal ((c : Thread nD τ), own s 1) 0)
def has (s : Fin 2) (e : Fin 32) : sProp 𝕄 := iprop(gHas c fg s e ∗ dHas c fw s e ∗ semVal ((c : Thread nD τ), own s 0) 0 ∗ semVal ((c : Thread nD τ), own s 1) 0)
def fly (s : Fin 2) (e : Fin 32) : sProp 𝕄 := iprop(gFly c fg s e ∗ dFly c fw s e)
def arrs : sProp 𝕄 := iprop(gArr c fg ∗ dArr c fw)

theorem wp_blk1 (i : grid0.Coords) (hi : k0_cond1 i = 1#1) (e : Fin 32) (he : wBe0 c tb = ew e)
    {Q : α → sProp 𝕄} (kk : PUnit.{1} → Prog (TpuEff nD τ sig (Elt F) Λ₀ .tc) α) :
    iprop(tab c main_arg0 tb ∗ free c 0 ∗ arrs c fg fw)
      ⊢ iprop((iprop(tab c main_arg0 tb ∗ fly c fg fw 0 e) -∗ wp frame (wpE (defs₀ (F := F)) Variants.none c none) Set.univ (kk ⟨⟩) Q)
          -∗ wp frame (wpE (defs₀ (F := F)) Variants.none c none) Set.univ (blk1 i kk) Q) := by
  unfold blk1 free arrs fly
  rw [dif_pos hi]
  iintro ⟨HT, ⟨HgF, HdF, Hg, Hd⟩, HgA, HdA⟩ Hk
  iapply (wp_word c (Memref.whole main_arg0) _ _ _ he) $$ HT
  iintro HT
  iapply (wp_chk c (chk1 i e))
  iapply (gstart c fg (s := 0) (e := e) rfl (slab3 e) rfl) $$ [HgF HgA Hg]
  · isplitl [HgF]; · iexact HgF
    isplitl [HgA]; · iexact HgA
    iexact Hg
  iintro HgY
  iapply (dstart c fw (s := 0) (e := e) rfl (slab3 e) rfl) $$ [HdF HdA Hd]
  · isplitl [HdF]; · iexact HdF
    isplitl [HdA]; · iexact HdA
    iexact Hd
  iintro HdY
  iapply Hk
  isplitl [HT]; · iexact HT
  isplitl [HgY]; · iexact HgY
  iexact HdY

theorem wp_blk1_not (i : grid0.Coords) (hi : ¬ k0_cond1 i = 1#1) {Q : α → sProp 𝕄} (kk : PUnit.{1} → Prog (TpuEff nD τ sig (Elt F) Λ₀ .tc) α) :
    (wp frame (wpE (defs₀ (F := F)) Variants.none c none) Set.univ (kk ⟨⟩) Q : sProp 𝕄)
      ⊢ wp frame (wpE (defs₀ (F := F)) Variants.none c none) Set.univ (blk1 i kk) Q := by
  unfold blk1; rw [dif_neg hi]

theorem wp_blk2_not (i : grid0.Coords) (v0 v6 v11 : Elt F .i32) (h : k0_chk2 i v0 v6 v11) (hi : ¬ k0_cond2 i v0 v11 = 1#1) {Q : α → sProp 𝕄}
    (kk : PUnit.{1} → Prog (TpuEff nD τ sig (Elt F) Λ₀ .tc) α) :
    (wp frame (wpE (defs₀ (F := F)) Variants.none c none) Set.univ (kk ⟨⟩) Q : sProp 𝕄)
      ⊢ wp frame (wpE (defs₀ (F := F)) Variants.none c none) Set.univ (blk2 i v0 v6 v11 h kk) Q := by
  unfold blk2; rw [dif_neg hi]

/-- What a new expert's first block leaves beside the filled slot: the next expert's copies, if there is one. -/
def ahead (s : Fin 2) (p : Option (Fin 32)) : sProp 𝕄 :=
  match p with
  | some e' => fly c fg fw s e'
  | none => iprop(free c s ∗ arrs c fg fw)

theorem wp_blk2 (i : grid0.Coords) (v0 v11 : Elt F .i32) (s : Fin 2) (h : k0_chk2 i v0 (sw s) v11) (hi : k0_cond2 i v0 v11 = 1#1)
    (e : Fin 32) (he : wBe c i tb = ew e) (p : Option (Fin 32))
    (hp : (∃ e', p = some e' ∧ wNxt c i tn = ew e' ∧ k0_cond3 (wNxt c i tn) = 1#1) ∨ (p = none ∧ ¬ k0_cond3 (wNxt c i tn) = 1#1))
    {Q : α → sProp 𝕄} (kk : PUnit.{1} → Prog (TpuEff nD τ sig (Elt F) Λ₀ .tc) α) :
    iprop(tab c main_arg0 tb ∗ tab c main_v44 tn ∗ fly c fg fw s e ∗ free c s.rev ∗ ∃ W, owes (c : Thread nD τ) 0 W)
      ⊢ iprop((iprop(tab c main_arg0 tb ∗ tab c main_v44 tn ∗ has c fg fw s e ∗ ahead c fg fw s.rev p ∗ ∃ W, owes (c : Thread nD τ) 0 W)
            -∗ wp frame (wpE (defs₀ (F := F)) Variants.none c none) Set.univ (kk ⟨⟩) Q)
          -∗ wp frame (wpE (defs₀ (F := F)) Variants.none c none) Set.univ (blk2 i v0 (sw s) v11 h kk) Q) := by
  unfold blk2 fly
  rw [dif_pos hi]
  iintro ⟨HT, HN, ⟨HgY, HdY⟩, HF, %W, HO⟩ Hk
  iapply (wp_word c (Memref.whole main_arg0) _ _ _ he) $$ HT
  iintro HT
  iapply (wp_chk c (chk3 i v0 v11 e))
  iapply (gwait c fg (s := s) (e := e) (slot2 s 0)) $$ [HgY HO]
  · isplitl [HgY]; · iexact HgY
    iexact HO
  iintro ⟨HgH, HgA, Hg, %W1, HO⟩
  iapply (dwait c fw (s := s) (e := e) (slot2 s 1)) $$ [HdY HO]
  · isplitl [HdY]; · iexact HdY
    iexact HO
  iintro ⟨HdH, HdA, Hd, HO⟩
  iapply (wp_word c (Memref.whole main_v44) _ _ _ (v := wNxt c i tn) rfl) $$ HN
  iintro HN
  iapply (wp_chk c (chk4 i v0 v11 _ s))
  rcases hp with ⟨e', rfl, hn, h3⟩ | ⟨rfl, h3⟩
  · iapply (wp_pos c h3)
    iapply (wp_word c (Memref.whole main_v44) _ _ _ hn) $$ HN
    iintro HN
    iapply (wp_chk c (chk5 i v0 v11 _ e'))
    unfold free
    icases HF with ⟨HgF, HdF, Hg', Hd'⟩
    iapply (gstart c fg (s := s.rev) (e := e') (other3 s) (slab3 e') (other2 s 0)) $$ [HgF HgA Hg']
    · isplitl [HgF]; · iexact HgF
      isplitl [HgA]; · iexact HgA
      iexact Hg'
    iintro HgY
    iapply (dstart c fw (s := s.rev) (e := e') (other3 s) (slab3 e') (other2 s 1)) $$ [HdF HdA Hd']
    · isplitl [HdF]; · iexact HdF
      isplitl [HdA]; · iexact HdA
      iexact Hd'
    iintro HdY
    iapply Hk
    unfold has ahead fly
    isplitl [HT]; · iexact HT
    isplitl [HN]; · iexact HN
    isplitl [HgH HdH Hg Hd]
    · isplitl [HgH]; · iexact HgH
      isplitl [HdH]; · iexact HdH
      isplitl [Hg]; · iexact Hg
      iexact Hd
    isplitl [HgY HdY]
    · isplitl [HgY]; · iexact HgY
      iexact HdY
    iexact HO
  · iapply (wp_neg c h3)
    iapply Hk
    unfold has ahead arrs
    isplitl [HT]; · iexact HT
    isplitl [HN]; · iexact HN
    isplitl [HgH HdH Hg Hd]
    · isplitl [HgH]; · iexact HgH
      isplitl [HdH]; · iexact HdH
      isplitl [Hg]; · iexact Hg
      iexact Hd
    isplitl [HF HgA HdA]
    · isplitl [HF]; · iexact HF
      isplitl [HgA]; · iexact HgA
      iexact HdA
    iexact HO

end Cert.Kernel2.Ffn

end
-- ==== Proof.WordRows.lean ====
/-
  The row blocks of one point of the expert call: what each stores in the result's staging buffer.
-/
module

public import proofs.«01_k».proof.Proof.WordBlocks

@[expose] public section

noncomputable section

namespace Cert.Kernel2.Ffn

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (Pipeline.UD sig nD τ) ℕ

variable {α : Type}

section Steps

variable (c : Dev nD)

/-- A load of a buffer held whole, and one of a buffer whose writes are listed. -/
theorem wp_get {s : Shape} {e : EltTy} {M : Memref sig .tc .vmem s e} {r : Rect s} {hl : M.view.LoadsAt r} {x : Vec F s e}
    {Q : α → sProp 𝕄} {k : (r.shape.Idx → Elt F e) → Prog (TpuEff nD τ sig (Elt F) Λ₀ .tc) α} :
    (owns (c : Thread nD τ) M fullShare x : sProp 𝕄)
      ⊢ iprop((owns (c : Thread nD τ) M fullShare x -∗ wp frame (wpE (defs₀ (F := F)) Variants.none c none) Set.univ (k (View.ld x r)) Q)
          -∗ wp frame (wpE (defs₀ (F := F)) Variants.none c none) Set.univ (Prog.lift (.load M r.toLoadRect hl) >>= k) Q) := by
  unfold owns
  iintro ⟨%f, %hf, H⟩ Hk
  subst hf
  have h := wp_load_rect (Γ := PendingWaitsCtx.empty) Variants.none (c : Thread nD τ) none Set.univ (defs := defs₀ (F := F)) (Q := Q) (m := M) (r := r) (hl := hl) (k := k)
    (S := M.view.set) (q := fullShare) (f := f) (View.set_slice_subset M.view r)
  iapply h $$ H
  iintro H
  iapply Hk
  iexists f
  isplitr; · ipureintro; rfl
  iexact H

/-- A buffer at the listed writes over some contents. -/
def wrote {s : Shape} {e : EltTy} (M : Memref sig .tc .vmem s e) (L : List (View.Piece (Elt F) s e)) : sProp 𝕄 :=
  iprop(∃ f, M.view.loc (c : Thread nD τ) ↦[M.view.set]{fullShare} M.view.writes (Elt F) f L)

theorem wp_peek {s : Shape} {e : EltTy} {M : Memref sig .tc .vmem s e} {r : Rect s} {hl : M.view.LoadsAt r} {L : List (View.Piece (Elt F) s e)}
    {Q : α → sProp 𝕄} {p : Prog (TpuEff nD τ sig (Elt F) Λ₀ .tc) α} :
    (wrote c M L : sProp 𝕄)
      ⊢ iprop((wrote c M L -∗ wp frame (wpE (defs₀ (F := F)) Variants.none c none) Set.univ p Q)
          -∗ wp frame (wpE (defs₀ (F := F)) Variants.none c none) Set.univ (Prog.lift (.load M r.toLoadRect hl) >>= fun _ => p) Q) := by
  unfold wrote
  iintro ⟨%f, H⟩ Hk
  have h := wp_load_rect (Γ := PendingWaitsCtx.empty) Variants.none (c : Thread nD τ) none Set.univ (defs := defs₀ (F := F)) (Q := Q) (m := M) (r := r) (hl := hl) (k := fun _ => p)
    (S := M.view.set) (q := fullShare) (f := M.view.writes (Elt F) f L) (View.set_slice_subset M.view r)
  iapply h $$ H
  iintro H
  iapply Hk
  iexists f
  iexact H

theorem wp_put {s : Shape} {e : EltTy} {M : Memref sig .tc .vmem s e} {r : Rect s} {w : r.shape.Idx → Elt F e} {hx : (M.access r).Stores Finset.univ}
    {hm : Finset.univ = Finset.univ ∨ ∀ a, r.stride a = 1} {L : List (View.Piece (Elt F) s e)}
    {Q : α → sProp 𝕄} {k : PUnit.{1} → Prog (TpuEff nD τ sig (Elt F) Λ₀ .tc) α} :
    (wrote c M L : sProp 𝕄)
      ⊢ iprop((wrote c M (⟨r, w⟩ :: L) -∗ wp frame (wpE (defs₀ (F := F)) Variants.none c none) Set.univ (k ⟨⟩) Q)
          -∗ wp frame (wpE (defs₀ (F := F)) Variants.none c none) Set.univ (Prog.lift (.store M r w Finset.univ hx hm) >>= k) Q) := by
  unfold wrote
  iintro ⟨%f, H⟩ Hk
  have h := wp_store_writes Variants.none (c : Thread nD τ) none Set.univ (defs := defs₀ (F := F)) (Q := Q) (m := M) (r := r) (w := w) (hx := hx) (hm := hm) (k := k)
    (S := M.view.set) (f := f) (L := L) (View.set_slice_subset M.view r)
  iapply h $$ H
  iintro H
  iapply Hk
  iexists f
  iexact H

theorem wrote_of_owns {s : Shape} {e : EltTy} {M : Memref sig .tc .vmem s e} {y : Vec F s e} :
    (owns (c : Thread nD τ) M fullShare y : sProp 𝕄) ⊢ wrote c M [] := by
  unfold owns wrote
  iintro ⟨%f, -, H⟩
  iexists f
  iexact H

theorem owns_of_wrote {s : Shape} {e : EltTy} {M : Memref sig .tc .vmem s e} {L : List (View.Piece (Elt F) s e)} (h : ∀ y, ∃ p ∈ L, y ∈ p.1.set) :
    (wrote c M L : sProp 𝕄) ⊢ owns (c : Thread nD τ) M fullShare (View.canon L) := by
  unfold owns wrote
  iintro ⟨%f, H⟩
  iexists _
  isplitr
  · ipureintro; exact View.read_writes_eq_canon M.view f L h
  iexact H

variable (fg : Buf (Elt F) ((c : Thread nD τ).loc main_arg4)) (fw : Buf (Elt F) ((c : Thread nD τ).loc main_arg6))

/-- A load of the slab slot `s` holds. -/
theorem wp_gload {s : Fin 2} {e : Fin 32} {o : Fin 3 → ℕ} {ho : ∀ a, o a + S1x1024x2048.size a ≤ S2x1024x2048.size a} (eo : o = so s)
    {hl : (Memref.whole cc0_scratch0).view.LoadsAt (Rect.unit (s := S2x1024x2048) o S1x1024x2048.size ho)}
    {Q : α → sProp 𝕄} {k : Vec F S1x1024x2048 .f32 → Prog (TpuEff nD τ sig (Elt F) Λ₀ .tc) α} :
    (gHas c fg s e : sProp 𝕄)
      ⊢ iprop((gHas c fg s e -∗ wp frame (wpE (defs₀ (F := F)) Variants.none c none) Set.univ (k (gSlab c fg e)) Q)
          -∗ wp frame (wpE (defs₀ (F := F)) Variants.none c none) Set.univ
            (Prog.lift (.load (Memref.whole cc0_scratch0) (Rect.unit (s := S2x1024x2048) o S1x1024x2048.size ho).toLoadRect hl) >>= k) Q) := by
  subst eo
  unfold gHas
  iintro ⟨%f, H, %hf⟩ Hk
  have h := wp_load_rect (Γ := PendingWaitsCtx.empty) Variants.none (c : Thread nD τ) none Set.univ (defs := defs₀ (F := F)) (Q := Q) (m := Memref.whole cc0_scratch0)
    (r := Rect.unit (s := S2x1024x2048) (so s) S1x1024x2048.size ho) (hl := hl) (k := k) (S := gS c s) (q := fullShare) (f := f) (gAcc_sub c s)
  rw [hf] at h
  iapply h $$ H
  iintro H
  iapply Hk
  iexists f
  isplitl [H]; · iexact H
  ipureintro; exact hf

/-- A load of the slab slot `s` holds. -/
theorem wp_dload {s : Fin 2} {e : Fin 32} {o : Fin 3 → ℕ} {ho : ∀ a, o a + S1x1024x1024.size a ≤ S2x1024x1024.size a} (eo : o = so s)
    {hl : (Memref.whole cc0_scratch1).view.LoadsAt (Rect.unit (s := S2x1024x1024) o S1x1024x1024.size ho)}
    {Q : α → sProp 𝕄} {k : Vec F S1x1024x1024 .f32 → Prog (TpuEff nD τ sig (Elt F) Λ₀ .tc) α} :
    (dHas c fw s e : sProp 𝕄)
      ⊢ iprop((dHas c fw s e -∗ wp frame (wpE (defs₀ (F := F)) Variants.none c none) Set.univ (k (dSlab c fw e)) Q)
          -∗ wp frame (wpE (defs₀ (F := F)) Variants.none c none) Set.univ
            (Prog.lift (.load (Memref.whole cc0_scratch1) (Rect.unit (s := S2x1024x1024) o S1x1024x1024.size ho).toLoadRect hl) >>= k) Q) := by
  subst eo
  unfold dHas
  iintro ⟨%f, H, %hf⟩ Hk
  have h := wp_load_rect (Γ := PendingWaitsCtx.empty) Variants.none (c : Thread nD τ) none Set.univ (defs := defs₀ (F := F)) (Q := Q) (m := Memref.whole cc0_scratch1)
    (r := Rect.unit (s := S2x1024x1024) (so s) S1x1024x1024.size ho) (hl := hl) (k := k) (S := dS c s) (q := fullShare) (f := f) (dAcc_sub c s)
  rw [hf] at h
  iapply h $$ H
  iintro H
  iapply Hk
  iexists f
  isplitl [H]; · iexact H
  ipureintro; exact hf

end Steps

section Rows

variable (c : Dev nD) (fg : Buf (Elt F) ((c : Thread nD τ).loc main_arg4)) (fw : Buf (Elt F) ((c : Thread nD τ).loc main_arg6))

/-- What a point's rows are computed from: the two slabs held, the block's words and biases. -/
def ins (X : Memref sig .tc .vmem S1024x512 .i32) (B : Memref sig .tc .vmem S1x1x2048 .f32) (D : Memref sig .tc .vmem S1x1x1024 .f32)
    (x : Vec F S1024x512 .i32) (b : Vec F S1x1x2048 .f32) (d : Vec F S1x1x1024 .f32) (s : Fin 2) (e : Fin 32) : sProp 𝕄 :=
  iprop(gHas c fg s e ∗ dHas c fw s e ∗ owns (c : Thread nD τ) X fullShare x ∗ owns (c : Thread nD τ) B fullShare b ∗ owns (c : Thread nD τ) D fullShare d)

abbrev rb : Rect S1x1x2048 := Rect.unit (s := S1x1x2048) ![0, 0, 0] S1x1x2048.size inb_S1x1x2048_S1x1x2048_0_0_0
abbrev rd : Rect S1x1x1024 := Rect.unit (s := S1x1x1024) ![0, 0, 0] S1x1x1024.size inb_S1x1x1024_S1x1x1024_0_0_0

variable (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x512 .i32) (hY : Y.IsWhole)
  (x : Vec F S1024x512 .i32) (b : Vec F S1x1x2048 .f32) (d : Vec F S1x1x1024 .f32) (s : Fin 2) (e : Fin 32) (v0 v3 : Elt F .i32)

/-- The first 256 rows' words and the products of a point whose block has at most 256 rows. -/
abbrev rx4 : Rect S1024x512 := Rect.unit (s := S1024x512) ![0, 0] S256x512.size inb_S1024x512_S256x512_0_0
abbrev ry4 : Rect S1024x512 := Rect.unit (s := S1024x512) ![0, 0] S256x512.size inb_S1024x512_S256x512_0_0
abbrev rz4 : Rect S1024x512 := Rect.unit (s := S1024x512) ![256, 0] S768x512.size inb_S1024x512_S768x512_256_0
def pieces4 (g : Vec F S1x1024x2048 .f32) (w : Vec F S1x1024x1024 .f32) : List (View.Piece (Elt F) S1024x512 .i32) :=
  [⟨rz4, k0_pay6⟩, ⟨ry4, k0_pay2 (View.ld x rx4) g (View.ld b rb) w (View.ld d rd)⟩]

theorem cover4 (g : Vec F S1x1024x2048 .f32) (w : Vec F S1x1024x1024 .f32) (y : S1024x512.Idx) : ∃ p ∈ pieces4 x b d g w, y ∈ p.1.set :=
  View.cover_of_tiledBy (pieces4 x b d g w) ![256, 512] (by sl_kernel_rfl) y

theorem wp_part4 (h : k0_chk6 i v0 v3 (sw s)) (hi : k0_cond4 i v0 v3 = 1#1) {Q : (IVec S256x512 32) → sProp 𝕄} :
    (ins c fg fw X B D x b d s e : sProp 𝕄)
      ⊢ iprop((ins c fg fw X B D x b d s e -∗ Q (k0_pay2 (View.ld x rx4) (gSlab c fg e) (View.ld b rb) (dSlab c fw e) (View.ld d rd)))
          -∗ wp frame (wpE (defs₀ (F := F)) Variants.none c none) Set.univ
            (k0_part1 (F := F) i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 v0 v3 (sw s) h hi) Q) := by
  rw [k0_part1_eq_skeleton]
  unfold k0_part1_skel ins
  iintro ⟨Hg, Hw, HX, HB, HD⟩ Hk
  iapply (wp_get c) $$ HX
  iintro HX
  iapply (wp_gload c fg (s := s) (e := e) (slot3 s)) $$ Hg
  iintro Hg
  iapply (wp_get c) $$ HB
  iintro HB
  iapply (wp_dload c fw (s := s) (e := e) (slot3 s)) $$ Hw
  iintro Hw
  iapply (wp_get c) $$ HD
  iintro HD
  rw [wp_pure]
  imodintro
  iapply Hk
  isplitl [Hg]; · iexact Hg
  isplitl [Hw]; · iexact Hw
  isplitl [HX]; · iexact HX
  isplitl [HB]; · iexact HB
  iexact HD

theorem wp_row4 (h : k0_chk6 i v0 v3 (sw s)) (hi : k0_cond4 i v0 v3 = 1#1) {Q : α → sProp 𝕄} (kk : PUnit.{1} → Prog (TpuEff nD τ sig (Elt F) Λ₀ .tc) α) :
    iprop(ins c fg fw X B D x b d s e ∗ ∃ y, owns (c : Thread nD τ) Y fullShare y)
      ⊢ iprop(((ins c fg fw X B D x b d s e ∗ owns (c : Thread nD τ) Y fullShare (View.canon (pieces4 x b d (gSlab c fg e) (dSlab c fw e))))
              -∗ wp frame (wpE (defs₀ (F := F)) Variants.none c none) Set.univ (kk ⟨⟩) Q)
          -∗ wp frame (wpE (defs₀ (F := F)) Variants.none c none) Set.univ (row4 i X hX B hB D hD Y hY v0 v3 (sw s) h kk) Q) := by
  unfold row4
  iintro ⟨HI, %y, HY⟩ Hk
  iapply (wp_pos c hi)
  rw [wp_bind]
  iapply (wp_part4 c fg fw i X hX B hB D hD Y hY x b d s e v0 v3 h hi) $$ HI
  iintro HI
  ihave HY := (wrote_of_owns c) $$ HY
  iapply (wp_peek c) $$ HY
  iintro HY
  iapply (wp_put c) $$ HY
  iintro HY
  iapply (wp_peek c) $$ HY
  iintro HY
  iapply (wp_put c) $$ HY
  iintro HY
  iapply Hk
  isplitl [HI]; · iexact HI
  iapply (owns_of_wrote c (cover4 x b d (gSlab c fg e) (dSlab c fw e)))
  iexact HY

theorem wp_row4_not (v6 : Elt F .i32) (h : k0_chk6 i v0 v3 v6) (hi : ¬ k0_cond4 i v0 v3 = 1#1) {Q : α → sProp 𝕄} (kk : PUnit.{1} → Prog (TpuEff nD τ sig (Elt F) Λ₀ .tc) α) :
    (wp frame (wpE (defs₀ (F := F)) Variants.none c none) Set.univ (kk ⟨⟩) Q : sProp 𝕄)
      ⊢ wp frame (wpE (defs₀ (F := F)) Variants.none c none) Set.univ (row4 i X hX B hB D hD Y hY v0 v3 v6 h kk) Q := by
  unfold row4; rw [dif_neg hi]

/-- The first 512 rows' words and the products of a point whose block has at most 512 rows. -/
abbrev rx5 : Rect S1024x512 := Rect.unit (s := S1024x512) ![0, 0] S512x512.size inb_S1024x512_S512x512_0_0
abbrev ry5 : Rect S1024x512 := Rect.unit (s := S1024x512) ![0, 0] S512x512.size inb_S1024x512_S512x512_0_0
abbrev rz5 : Rect S1024x512 := Rect.unit (s := S1024x512) ![512, 0] S512x512.size inb_S1024x512_S512x512_512_0
def pieces5 (g : Vec F S1x1024x2048 .f32) (w : Vec F S1x1024x1024 .f32) : List (View.Piece (Elt F) S1024x512 .i32) :=
  [⟨rz5, k0_pay7⟩, ⟨ry5, k0_pay3 (View.ld x rx5) g (View.ld b rb) w (View.ld d rd)⟩]

theorem cover5 (g : Vec F S1x1024x2048 .f32) (w : Vec F S1x1024x1024 .f32) (y : S1024x512.Idx) : ∃ p ∈ pieces5 x b d g w, y ∈ p.1.set :=
  View.cover_of_tiledBy (pieces5 x b d g w) ![256, 512] (by sl_kernel_rfl) y

theorem wp_part5 (h : k0_chk6 i v0 v3 (sw s)) (hi : k0_cond5 i v0 v3 = 1#1) {Q : (IVec S512x512 32) → sProp 𝕄} :
    (ins c fg fw X B D x b d s e : sProp 𝕄)
      ⊢ iprop((ins c fg fw X B D x b d s e -∗ Q (k0_pay3 (View.ld x rx5) (gSlab c fg e) (View.ld b rb) (dSlab c fw e) (View.ld d rd)))
          -∗ wp frame (wpE (defs₀ (F := F)) Variants.none c none) Set.univ
            (k0_part2 (F := F) i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 v0 v3 (sw s) h hi) Q) := by
  rw [k0_part2_eq_skeleton]
  unfold k0_part2_skel ins
  iintro ⟨Hg, Hw, HX, HB, HD⟩ Hk
  iapply (wp_get c) $$ HX
  iintro HX
  iapply (wp_gload c fg (s := s) (e := e) (slot3 s)) $$ Hg
  iintro Hg
  iapply (wp_get c) $$ HB
  iintro HB
  iapply (wp_dload c fw (s := s) (e := e) (slot3 s)) $$ Hw
  iintro Hw
  iapply (wp_get c) $$ HD
  iintro HD
  rw [wp_pure]
  imodintro
  iapply Hk
  isplitl [Hg]; · iexact Hg
  isplitl [Hw]; · iexact Hw
  isplitl [HX]; · iexact HX
  isplitl [HB]; · iexact HB
  iexact HD

theorem wp_row5 (h : k0_chk6 i v0 v3 (sw s)) (hi : k0_cond5 i v0 v3 = 1#1) {Q : α → sProp 𝕄} (kk : PUnit.{1} → Prog (TpuEff nD τ sig (Elt F) Λ₀ .tc) α) :
    iprop(ins c fg fw X B D x b d s e ∗ ∃ y, owns (c : Thread nD τ) Y fullShare y)
      ⊢ iprop(((ins c fg fw X B D x b d s e ∗ owns (c : Thread nD τ) Y fullShare (View.canon (pieces5 x b d (gSlab c fg e) (dSlab c fw e))))
              -∗ wp frame (wpE (defs₀ (F := F)) Variants.none c none) Set.univ (kk ⟨⟩) Q)
          -∗ wp frame (wpE (defs₀ (F := F)) Variants.none c none) Set.univ (row5 i X hX B hB D hD Y hY v0 v3 (sw s) h kk) Q) := by
  unfold row5
  iintro ⟨HI, %y, HY⟩ Hk
  iapply (wp_pos c hi)
  rw [wp_bind]
  iapply (wp_part5 c fg fw i X hX B hB D hD Y hY x b d s e v0 v3 h hi) $$ HI
  iintro HI
  ihave HY := (wrote_of_owns c) $$ HY
  iapply (wp_peek c) $$ HY
  iintro HY
  iapply (wp_put c) $$ HY
  iintro HY
  iapply (wp_peek c) $$ HY
  iintro HY
  iapply (wp_put c) $$ HY
  iintro HY
  iapply Hk
  isplitl [HI]; · iexact HI
  iapply (owns_of_wrote c (cover5 x b d (gSlab c fg e) (dSlab c fw e)))
  iexact HY

theorem wp_row5_not (v6 : Elt F .i32) (h : k0_chk6 i v0 v3 v6) (hi : ¬ k0_cond5 i v0 v3 = 1#1) {Q : α → sProp 𝕄} (kk : PUnit.{1} → Prog (TpuEff nD τ sig (Elt F) Λ₀ .tc) α) :
    (wp frame (wpE (defs₀ (F := F)) Variants.none c none) Set.univ (kk ⟨⟩) Q : sProp 𝕄)
      ⊢ wp frame (wpE (defs₀ (F := F)) Variants.none c none) Set.univ (row5 i X hX B hB D hD Y hY v0 v3 v6 h kk) Q := by
  unfold row5; rw [dif_neg hi]

/-- The first 768 rows' words and the products of a point whose block has at most 768 rows. -/
abbrev rx6 : Rect S1024x512 := Rect.unit (s := S1024x512) ![0, 0] S768x512.size inb_S1024x512_S768x512_0_0
abbrev ry6 : Rect S1024x512 := Rect.unit (s := S1024x512) ![0, 0] S768x512.size inb_S1024x512_S768x512_0_0
abbrev rz6 : Rect S1024x512 := Rect.unit (s := S1024x512) ![768, 0] S256x512.size inb_S1024x512_S256x512_768_0
def pieces6 (g : Vec F S1x1024x2048 .f32) (w : Vec F S1x1024x1024 .f32) : List (View.Piece (Elt F) S1024x512 .i32) :=
  [⟨rz6, k0_pay8⟩, ⟨ry6, k0_pay4 (View.ld x rx6) g (View.ld b rb) w (View.ld d rd)⟩]

theorem cover6 (g : Vec F S1x1024x2048 .f32) (w : Vec F S1x1024x1024 .f32) (y : S1024x512.Idx) : ∃ p ∈ pieces6 x b d g w, y ∈ p.1.set :=
  View.cover_of_tiledBy (pieces6 x b d g w) ![256, 512] (by sl_kernel_rfl) y

theorem wp_part6 (h : k0_chk6 i v0 v3 (sw s)) (hi : k0_cond6 i v0 v3 = 1#1) {Q : (IVec S768x512 32) → sProp 𝕄} :
    (ins c fg fw X B D x b d s e : sProp 𝕄)
      ⊢ iprop((ins c fg fw X B D x b d s e -∗ Q (k0_pay4 (View.ld x rx6) (gSlab c fg e) (View.ld b rb) (dSlab c fw e) (View.ld d rd)))
          -∗ wp frame (wpE (defs₀ (F := F)) Variants.none c none) Set.univ
            (k0_part3 (F := F) i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 v0 v3 (sw s) h hi) Q) := by
  rw [k0_part3_eq_skeleton]
  unfold k0_part3_skel ins
  iintro ⟨Hg, Hw, HX, HB, HD⟩ Hk
  iapply (wp_get c) $$ HX
  iintro HX
  iapply (wp_gload c fg (s := s) (e := e) (slot3 s)) $$ Hg
  iintro Hg
  iapply (wp_get c) $$ HB
  iintro HB
  iapply (wp_dload c fw (s := s) (e := e) (slot3 s)) $$ Hw
  iintro Hw
  iapply (wp_get c) $$ HD
  iintro HD
  rw [wp_pure]
  imodintro
  iapply Hk
  isplitl [Hg]; · iexact Hg
  isplitl [Hw]; · iexact Hw
  isplitl [HX]; · iexact HX
  isplitl [HB]; · iexact HB
  iexact HD

theorem wp_row6 (h : k0_chk6 i v0 v3 (sw s)) (hi : k0_cond6 i v0 v3 = 1#1) {Q : α → sProp 𝕄} (kk : PUnit.{1} → Prog (TpuEff nD τ sig (Elt F) Λ₀ .tc) α) :
    iprop(ins c fg fw X B D x b d s e ∗ ∃ y, owns (c : Thread nD τ) Y fullShare y)
      ⊢ iprop(((ins c fg fw X B D x b d s e ∗ owns (c : Thread nD τ) Y fullShare (View.canon (pieces6 x b d (gSlab c fg e) (dSlab c fw e))))
              -∗ wp frame (wpE (defs₀ (F := F)) Variants.none c none) Set.univ (kk ⟨⟩) Q)
          -∗ wp frame (wpE (defs₀ (F := F)) Variants.none c none) Set.univ (row6 i X hX B hB D hD Y hY v0 v3 (sw s) h kk) Q) := by
  unfold row6
  iintro ⟨HI, %y, HY⟩ Hk
  iapply (wp_pos c hi)
  rw [wp_bind]
  iapply (wp_part6 c fg fw i X hX B hB D hD Y hY x b d s e v0 v3 h hi) $$ HI
  iintro HI
  ihave HY := (wrote_of_owns c) $$ HY
  iapply (wp_peek c) $$ HY
  iintro HY
  iapply (wp_put c) $$ HY
  iintro HY
  iapply (wp_peek c) $$ HY
  iintro HY
  iapply (wp_put c) $$ HY
  iintro HY
  iapply Hk
  isplitl [HI]; · iexact HI
  iapply (owns_of_wrote c (cover6 x b d (gSlab c fg e) (dSlab c fw e)))
  iexact HY

theorem wp_row6_not (v6 : Elt F .i32) (h : k0_chk6 i v0 v3 v6) (hi : ¬ k0_cond6 i v0 v3 = 1#1) {Q : α → sProp 𝕄} (kk : PUnit.{1} → Prog (TpuEff nD τ sig (Elt F) Λ₀ .tc) α) :
    (wp frame (wpE (defs₀ (F := F)) Variants.none c none) Set.univ (kk ⟨⟩) Q : sProp 𝕄)
      ⊢ wp frame (wpE (defs₀ (F := F)) Variants.none c none) Set.univ (row6 i X hX B hB D hD Y hY v0 v3 v6 h kk) Q := by
  unfold row6; rw [dif_neg hi]

/-- The first 1024 rows' words and the products of a point whose block has at most 1024 rows. -/
abbrev rx7 : Rect S1024x512 := Rect.unit (s := S1024x512) ![0, 0] S1024x512.size inb_S1024x512_S1024x512_0_0
abbrev ry7 : Rect S1024x512 := Rect.unit (s := S1024x512) ![0, 0] S1024x512.size inb_S1024x512_S1024x512_0_0

def pieces7 (g : Vec F S1x1024x2048 .f32) (w : Vec F S1x1024x1024 .f32) : List (View.Piece (Elt F) S1024x512 .i32) :=
  [⟨ry7, k0_pay5 (View.ld x rx7) g (View.ld b rb) w (View.ld d rd)⟩]

theorem cover7 (g : Vec F S1x1024x2048 .f32) (w : Vec F S1x1024x1024 .f32) (y : S1024x512.Idx) : ∃ p ∈ pieces7 x b d g w, y ∈ p.1.set :=
  View.cover_of_tiledBy (pieces7 x b d g w) ![256, 512] (by sl_kernel_rfl) y

theorem wp_part7 (h : k0_chk6 i v0 v3 (sw s)) (hi : k0_cond7 i v0 v3 = 1#1) {Q : (IVec S1024x512 32) → sProp 𝕄} :
    (ins c fg fw X B D x b d s e : sProp 𝕄)
      ⊢ iprop((ins c fg fw X B D x b d s e -∗ Q (k0_pay5 (View.ld x rx7) (gSlab c fg e) (View.ld b rb) (dSlab c fw e) (View.ld d rd)))
          -∗ wp frame (wpE (defs₀ (F := F)) Variants.none c none) Set.univ
            (k0_part4 (F := F) i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 v0 v3 (sw s) h hi) Q) := by
  rw [k0_part4_eq_skeleton]
  unfold k0_part4_skel ins
  iintro ⟨Hg, Hw, HX, HB, HD⟩ Hk
  iapply (wp_get c) $$ HX
  iintro HX
  iapply (wp_gload c fg (s := s) (e := e) (slot3 s)) $$ Hg
  iintro Hg
  iapply (wp_get c) $$ HB
  iintro HB
  iapply (wp_dload c fw (s := s) (e := e) (slot3 s)) $$ Hw
  iintro Hw
  iapply (wp_get c) $$ HD
  iintro HD
  rw [wp_pure]
  imodintro
  iapply Hk
  isplitl [Hg]; · iexact Hg
  isplitl [Hw]; · iexact Hw
  isplitl [HX]; · iexact HX
  isplitl [HB]; · iexact HB
  iexact HD

theorem wp_row7 (h : k0_chk6 i v0 v3 (sw s)) (hi : k0_cond7 i v0 v3 = 1#1) {Q : α → sProp 𝕄} (kk : PUnit.{1} → Prog (TpuEff nD τ sig (Elt F) Λ₀ .tc) α) :
    iprop(ins c fg fw X B D x b d s e ∗ ∃ y, owns (c : Thread nD τ) Y fullShare y)
      ⊢ iprop(((ins c fg fw X B D x b d s e ∗ owns (c : Thread nD τ) Y fullShare (View.canon (pieces7 x b d (gSlab c fg e) (dSlab c fw e))))
              -∗ wp frame (wpE (defs₀ (F := F)) Variants.none c none) Set.univ (kk ⟨⟩) Q)
          -∗ wp frame (wpE (defs₀ (F := F)) Variants.none c none) Set.univ (row7 i X hX B hB D hD Y hY v0 v3 (sw s) h kk) Q) := by
  unfold row7
  iintro ⟨HI, %y, HY⟩ Hk
  iapply (wp_pos c hi)
  rw [wp_bind]
  iapply (wp_part7 c fg fw i X hX B hB D hD Y hY x b d s e v0 v3 h hi) $$ HI
  iintro HI
  ihave HY := (wrote_of_owns c) $$ HY
  iapply (wp_peek c) $$ HY
  iintro HY
  iapply (wp_put c) $$ HY
  iintro HY
  iapply Hk
  isplitl [HI]; · iexact HI
  iapply (owns_of_wrote c (cover7 x b d (gSlab c fg e) (dSlab c fw e)))
  iexact HY

theorem wp_row7_not (v6 : Elt F .i32) (h : k0_chk6 i v0 v3 v6) (hi : ¬ k0_cond7 i v0 v3 = 1#1) {Q : α → sProp 𝕄} (kk : PUnit.{1} → Prog (TpuEff nD τ sig (Elt F) Λ₀ .tc) α) :
    (wp frame (wpE (defs₀ (F := F)) Variants.none c none) Set.univ (kk ⟨⟩) Q : sProp 𝕄)
      ⊢ wp frame (wpE (defs₀ (F := F)) Variants.none c none) Set.univ (row7 i X hX B hB D hD Y hY v0 v3 v6 h kk) Q := by
  unfold row7; rw [dif_neg hi]

/-- A point past the used blocks: zeros. -/
abbrev ry8 : Rect S1024x512 := Rect.unit (s := S1024x512) ![0, 0] S1024x512.size inb_S1024x512_S1024x512_0_0
def pieces8 : List (View.Piece (Elt F) S1024x512 .i32) := [⟨ry8, k0_pay1⟩]

theorem cover8 (y : S1024x512.Idx) : ∃ p ∈ pieces8 (F := F), y ∈ p.1.set :=
  View.cover_of_tiledBy pieces8 ![256, 512] (by sl_kernel_rfl) y

theorem wp_row8 (hi : k0_cond8 i v0 = 1#1) {Q : α → sProp 𝕄} (kk : PUnit.{1} → Prog (TpuEff nD τ sig (Elt F) Λ₀ .tc) α) :
    iprop(∃ y, owns (c : Thread nD τ) Y fullShare y)
      ⊢ iprop((owns (c : Thread nD τ) Y fullShare (View.canon pieces8) -∗ wp frame (wpE (defs₀ (F := F)) Variants.none c none) Set.univ (kk ⟨⟩) Q)
          -∗ wp frame (wpE (defs₀ (F := F)) Variants.none c none) Set.univ (row8 i Y hY v0 kk) Q) := by
  unfold row8
  iintro ⟨%y, HY⟩ Hk
  iapply (wp_pos c hi)
  ihave HY := (wrote_of_owns c) $$ HY
  iapply (wp_peek c) $$ HY
  iintro HY
  iapply (wp_put c) $$ HY
  iintro HY
  iapply Hk
  iapply (owns_of_wrote c cover8)
  iexact HY

theorem wp_row8_not (hi : ¬ k0_cond8 i v0 = 1#1) {Q : α → sProp 𝕄} (kk : PUnit.{1} → Prog (TpuEff nD τ sig (Elt F) Λ₀ .tc) α) :
    (wp frame (wpE (defs₀ (F := F)) Variants.none c none) Set.univ (kk ⟨⟩) Q : sProp 𝕄)
      ⊢ wp frame (wpE (defs₀ (F := F)) Variants.none c none) Set.univ (row8 i Y hY v0 kk) Q := by
  unfold row8; rw [dif_neg hi]

end Rows

end Cert.Kernel2.Ffn

end
-- ==== Proof.FfnCopy.lean ====
/-
  The expert call's own copies: the two weight arrays stay in HBM, and the kernel copies one
  expert's slab of each into one of two slots of a scratch array, two blocks ahead of their use.
  Here: the slots and the slabs as the kernel names them, what holding a slot free, filled or being
  filled means, and the two steps — a copy started, a copy waited for — in those terms.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The offsets of slot `s`, of expert `e`'s slab, and of slot `s`'s cell for array `j`. -/
def so (s : Fin 2) : Fin 3 → ℕ := ![s.val, 0, 0]
def eo (e : Fin 32) : Fin 3 → ℕ := ![e.val, 0, 0]
def co (s j : Fin 2) : Fin 2 → ℕ := ![s.val, j.val]

theorem co_inb : ∀ (s j : Fin 2) (a : Fin 2), co s j a + S1x1.size a ≤ S2x2.size a := by decide

/-- A cell of the kernel's four, as the kernel names it. -/
abbrev cell (o : Fin 2 → ℕ) (h : ∀ a, o a + S1x1.size a ≤ S2x2.size a) : DmaSems sig S_ :=
  (cc0_scratch2.slice (Rect.unit (s := S2x2) o S1x1.size h)).squeeze S_ squeezes_S1x1_S_

/-- Slot `s`'s cell for array `j`. -/
abbrev own (s j : Fin 2) : SemLoc sig := .dma (cell (co s j) (co_inb s j)).sem

variable (c : Dev nD)

/-! ### The first weight array -/

theorem gso_inb : ∀ (s : Fin 2) (a : Fin 3), so s a + S1x1024x2048.size a ≤ S2x1024x2048.size a := by decide
theorem geo_inb : ∀ (e : Fin 32) (a : Fin 3), eo e a + S1x1024x2048.size a ≤ S32x1024x2048.size a := by decide

/-- A slot of the scratch array and a slab of the array, as the kernel names them. -/
abbrev gWin (o : Fin 3 → ℕ) (h : ∀ a, o a + S1x1024x2048.size a ≤ S2x1024x2048.size a) : Memref sig .tc .vmem S1024x2048 .f32 :=
  ((Memref.whole cc0_scratch0).slice (Rect.unit (s := S2x1024x2048) o S1x1024x2048.size h) (fun _ => rfl)).squeeze S1024x2048 squeezes_S1x1024x2048_S1024x2048
abbrev gSrc (o : Fin 3 → ℕ) (h : ∀ a, o a + S1x1024x2048.size a ≤ S32x1024x2048.size a) : Memref sig .tc .hbm S1024x2048 .f32 :=
  ((Memref.whole main_arg4).slice (Rect.unit (s := S32x1024x2048) o S1x1024x2048.size h) (fun _ => rfl)).squeeze S1024x2048 squeezes_S1x1024x2048_S1024x2048

/-- The elements of the scratch array held as slot `s`: the first slot's own, or all the others. -/
def gS (s : Fin 2) : Finset (Idx ((c : Thread nD τ).loc cc0_scratch0)) :=
  match s with
  | 0 => (gWin (so 0) (gso_inb 0)).view.set
  | 1 => Finset.univ \ (gWin (so 0) (gso_inb 0)).view.set

theorem gWin_set (o : Fin 3 → ℕ) (h : ∀ a, o a + S1x1024x2048.size a ≤ S2x1024x2048.size a) :
    (gWin o h).view.set = (Rect.unit (s := S2x1024x2048) o S1x1024x2048.size h).set :=
  (View.set_reshape (v := ((Memref.whole cc0_scratch0).slice (Rect.unit (s := S2x1024x2048) o S1x1024x2048.size h) (fun _ => rfl)).view) _).trans (View.set_slice_whole (b := cc0_scratch0) (Rect.unit (s := S2x1024x2048) o S1x1024x2048.size h))

theorem gWin_sub : ∀ s : Fin 2, (gWin (so s) (gso_inb s)).view.set ⊆ gS c s
  | 0 => Finset.Subset.refl _
  | 1 => Finset.subset_sdiff.mpr ⟨Finset.subset_univ _, by
      rw [gWin_set, gWin_set]
      exact Ring.lead_disjoint (s := S2x1024x2048) (NB := 2) 0 1 so S1x1024x2048.size gso_inb (fun b => (Nat.one_mul _).symm) rfl 1 0 (by decide)⟩

theorem gAcc_sub (s : Fin 2) :
    ((Memref.whole cc0_scratch0).access (Rect.unit (s := S2x1024x2048) (so s) S1x1024x2048.size (gso_inb s))).set ⊆ gS c s := by
  have h := gWin_sub c s
  rw [View.set_reshape] at h
  exact h

variable (fg : Buf (Elt F) ((c : Thread nD τ).loc main_arg4))

/-- Expert `e`'s slab. -/
def gSlab (e : Fin 32) : Vec F S1x1024x2048 .f32 :=
  ((Memref.whole main_arg4).access (Rect.unit (s := S32x1024x2048) (eo e) S1x1024x2048.size (geo_inb e))).read (Elt F) fg

/-- Slot `s` free; slot `s` holding expert `e`'s slab; the array whole; expert `e`'s slab on its way to slot `s`. -/
def gFree (s : Fin 2) : sProp 𝕄 := iprop(∃ f, ((c : Thread nD τ).loc cc0_scratch0) ↦[gS c s]{fullShare} f)
def gHas (s : Fin 2) (e : Fin 32) : sProp 𝕄 :=
  iprop(∃ f, (((c : Thread nD τ).loc cc0_scratch0) ↦[gS c s]{fullShare} f)
    ∗ ⌜((Memref.whole cc0_scratch0).access (Rect.unit (s := S2x1024x2048) (so s) S1x1024x2048.size (gso_inb s))).read (Elt F) f = gSlab c fg e⌝)
def gArr : sProp 𝕄 := (((c : Thread nD τ).loc main_arg4) ↦{fullShare} fg)
def gN : ℕ := (gWin (so 0) (gso_inb 0)).view.dmaCredit
def gFly (s : Fin 2) (e : Fin 32) : sProp 𝕄 :=
  iprop(Transfers.Flight (countersEmb) (c : Thread nD τ) (own s 0) () gN
      iprop(gHas c fg s e ∗ (((c : Thread nD τ).loc main_arg4) ↦[(gSrc (eo e) (geo_inb e)).view.set]{fullShare} fg))
    ∗ (((c : Thread nD τ).loc main_arg4) ↦[Finset.univ \ (gSrc (eo e) (geo_inb e)).view.set]{fullShare} fg))

theorem gCredit (o : Fin 3 → ℕ) (h : ∀ a, o a + S1x1024x2048.size a ≤ S2x1024x2048.size a) : (gWin o h).view.dmaCredit = gN := by
  unfold gN; exact congrArg (fun b => sig.dmaCredit .tc (Kind.tc.table .vmem) b S1024x2048 .f32) rfl

theorem gN_pos : 0 < gN := by unfold gN; decide +kernel

theorem glanded (s : Fin 2) (e : Fin 32) (fd : Buf (Elt F) ((c : Thread nD τ).loc cc0_scratch0)) :
    ((Memref.whole cc0_scratch0).access (Rect.unit (s := S2x1024x2048) (so s) S1x1024x2048.size (gso_inb s))).read (Elt F)
      ((gWin (so s) (gso_inb s)).view.write (Elt F) fd ((gSrc (eo e) (geo_inb e)).view.read (Elt F) fg) Finset.univ)
      = gSlab c fg e := by
  have h := View.read_write_univ (v := (gWin (so s) (gso_inb s)).view) fd ((gSrc (eo e) (geo_inb e)).view.read (Elt F) fg)
  funext x
  obtain ⟨y, rfl⟩ := (Shape.reshapeEquiv (squeezes_S1x1024x2048_S1024x2048 : S1x1024x2048.Squeezes S1024x2048).numel_eq).surjective x
  exact congrFun h y

/-- A copy started: the slot free, the array whole and the cell at zero become the copy on its way. -/
theorem gstart {α : Type} {𝒱 : Variants} {bd : Option 𝒱.V} {Q : α → sProp 𝕄} {s : Fin 2} {e : Fin 32}
    {od : Fin 3 → ℕ} {hd : ∀ a, od a + S1x1024x2048.size a ≤ S2x1024x2048.size a}
    {os : Fin 3 → ℕ} {hs : ∀ a, os a + S1x1024x2048.size a ≤ S32x1024x2048.size a}
    {oc : Fin 2 → ℕ} {hc : ∀ a, oc a + S1x1.size a ≤ S2x2.size a}
    (ed : od = so s) (es : os = eo e) (ec : oc = co s 0)
    {hsrc : (gSrc os hs).view.WordExact} {hdst : (gWin od hd).view.WordExact}
    {hsem : DmaTarget.Typed (nD := nD) .hbm (.dma (cell oc hc).sem) (DmaTarget.here (p := (.tc : Proc τ)) (gWin od hd))}
    {k : PUnit → Prog (TpuEff nD τ sig (Elt F) Λ₀ .tc) α} :
    iprop(gFree c s ∗ gArr c fg ∗ semVal ((c : Thread nD τ), own s 0) 0)
      ⊢ iprop((gFly c fg s e -∗ wp frame (wpE (defs₀ (F := F)) 𝒱 c bd) Set.univ (k ⟨⟩) Q)
          -∗ wp frame (wpE (defs₀ (F := F)) 𝒱 c bd) Set.univ
            (Prog.lift (.enqueueDma (gSrc os hs) (.here (gWin od hd)) (.dma (cell oc hc).sem) hsrc hdst hsem) >>= k) Q) := by
  subst ed es ec
  iintro ⟨HF, HA, Hv⟩ Hk
  unfold gFree gArr
  icases HF with ⟨%fd, HF⟩
  ihave HA' := (pointsTo_split_subset (Finset.subset_univ (gSrc (eo e) hs).view.set)).1 $$ HA
  icases HA' with ⟨Hs, Hrest⟩
  have h := Transfers.wp_dmaLocal (countersEmb : UEmb Counters 𝕄) (defs := defs₀ (F := F)) 𝒱 (c : Thread nD τ) bd (Q := Q) (src := gSrc (eo e) hs)
    (dst := gWin (so s) hd) (via := .same) (sm := .dma (cell (co s 0) hc).sem) (hsrc := hsrc) (hdst := hdst) (hsem := hsem) (k := k)
    (q := fullShare) (fs := fg) (Sd := gS c s) (fd := fd) () gN (gCredit _ _) gN_pos (gWin_sub c s)
  iapply h $$ [HF Hs Hv]
  · isplitl [Hs]; · iexact Hs
    isplitl [HF]; · iexact HF
    iexact Hv
  iintro HFl
  iapply Hk
  unfold gFly
  isplitl [HFl]
  · iapply (Transfers.Flight_mono (EC := countersEmb) (c := (c : Thread nD τ)) ?_) $$ HFl
    iintro ⟨Hd, Hs⟩
    isplitl [Hd]
    · unfold gHas
      iexists _
      isplitl [Hd]; · iexact Hd
      ipureintro
      exact glanded c fg s e fd
    iexact Hs
  iexact Hrest

/-- A copy waited for: the slot holds the slab, the array is whole again, the cell is at zero. -/
theorem gwait {α : Type} {𝒱 : Variants} {bd : Option 𝒱.V} {Q : α → sProp 𝕄} {s : Fin 2} {e : Fin 32}
    {od : Fin 3 → ℕ} {hd : ∀ a, od a + S1x1024x2048.size a ≤ S2x1024x2048.size a}
    {os : Fin 3 → ℕ} {hs : ∀ a, os a + S1x1024x2048.size a ≤ S32x1024x2048.size a}
    {oc : Fin 2 → ℕ} {hc : ∀ a, oc a + S1x1.size a ≤ S2x2.size a}
    (ec : oc = co s 0) {W : Waits sig Unit}
    {hsrc : (gSrc os hs).view.WordExact} {hdst : (gWin od hd).view.WordExact}
    {k : PUnit → Prog (TpuEff nD τ sig (Elt F) Λ₀ .tc) α} :
    iprop(gFly c fg s e ∗ owes (c : Thread nD τ) 0 W)
      ⊢ iprop((iprop(gHas c fg s e ∗ gArr c fg ∗ semVal ((c : Thread nD τ), own s 0) 0 ∗ ∃ W', owes (c : Thread nD τ) 0 W')
            -∗ wp frame (wpE (defs₀ (F := F)) 𝒱 c bd) Set.univ (k ⟨⟩) Q)
          -∗ wp frame (wpE (defs₀ (F := F)) 𝒱 c bd) Set.univ
            (Prog.lift (.waitDma2 (cell oc hc).sem (gSrc os hs) (gWin od hd) hsrc hdst) >>= k) Q) := by
  subst ec
  iintro ⟨HF, HO⟩ Hk
  unfold gFly
  icases HF with ⟨HF, Hrest⟩
  have h := Transfers.wp_waitLocal (countersEmb : UEmb Counters 𝕄) (defs := defs₀ (F := F)) 𝒱 (c : Thread nD τ) bd (Q := Q)
    (sem := (cell (co s 0) hc).sem) (srcw := gSrc os hs) (dstw := gWin od hd) (hsrc := hsrc) (hdst := hdst) (k := k)
    () (N := gN) (gCredit _ _) (W := W)
    (D := iprop(gHas c fg s e ∗ (((c : Thread nD τ).loc main_arg4) ↦[(gSrc (eo e) (geo_inb e)).view.set]{fullShare} fg)))
  iapply h $$ [HF HO]
  · isplitl [HF]; · iexact HF
    iexact HO
  iintro ⟨⟨HH, Hs⟩, Hv, HO⟩
  iapply Hk
  isplitl [HH]; · iexact HH
  isplitl [Hs Hrest]
  · unfold gArr
    iapply (pointsTo_split_subset (Finset.subset_univ (gSrc (eo e) (geo_inb e)).view.set)).2
    isplitl [Hs]; · iexact Hs
    iexact Hrest
  isplitl [Hv]; · iexact Hv
  iexists _
  iexact HO

/-! ### The second weight array -/

theorem dso_inb : ∀ (s : Fin 2) (a : Fin 3), so s a + S1x1024x1024.size a ≤ S2x1024x1024.size a := by decide
theorem deo_inb : ∀ (e : Fin 32) (a : Fin 3), eo e a + S1x1024x1024.size a ≤ S32x1024x1024.size a := by decide

/-- A slot of the scratch array and a slab of the array, as the kernel names them. -/
abbrev dWin (o : Fin 3 → ℕ) (h : ∀ a, o a + S1x1024x1024.size a ≤ S2x1024x1024.size a) : Memref sig .tc .vmem S1024x1024 .f32 :=
  ((Memref.whole cc0_scratch1).slice (Rect.unit (s := S2x1024x1024) o S1x1024x1024.size h) (fun _ => rfl)).squeeze S1024x1024 squeezes_S1x1024x1024_S1024x1024
abbrev dSrc (o : Fin 3 → ℕ) (h : ∀ a, o a + S1x1024x1024.size a ≤ S32x1024x1024.size a) : Memref sig .tc .hbm S1024x1024 .f32 :=
  ((Memref.whole main_arg6).slice (Rect.unit (s := S32x1024x1024) o S1x1024x1024.size h) (fun _ => rfl)).squeeze S1024x1024 squeezes_S1x1024x1024_S1024x1024

/-- The elements of the scratch array held as slot `s`: the first slot's own, or all the others. -/
def dS (s : Fin 2) : Finset (Idx ((c : Thread nD τ).loc cc0_scratch1)) :=
  match s with
  | 0 => (dWin (so 0) (dso_inb 0)).view.set
  | 1 => Finset.univ \ (dWin (so 0) (dso_inb 0)).view.set

theorem dWin_set (o : Fin 3 → ℕ) (h : ∀ a, o a + S1x1024x1024.size a ≤ S2x1024x1024.size a) :
    (dWin o h).view.set = (Rect.unit (s := S2x1024x1024) o S1x1024x1024.size h).set :=
  (View.set_reshape (v := ((Memref.whole cc0_scratch1).slice (Rect.unit (s := S2x1024x1024) o S1x1024x1024.size h) (fun _ => rfl)).view) _).trans (View.set_slice_whole (b := cc0_scratch1) (Rect.unit (s := S2x1024x1024) o S1x1024x1024.size h))

theorem dWin_sub : ∀ s : Fin 2, (dWin (so s) (dso_inb s)).view.set ⊆ dS c s
  | 0 => Finset.Subset.refl _
  | 1 => Finset.subset_sdiff.mpr ⟨Finset.subset_univ _, by
      rw [dWin_set, dWin_set]
      exact Ring.lead_disjoint (s := S2x1024x1024) (NB := 2) 0 1 so S1x1024x1024.size dso_inb (fun b => (Nat.one_mul _).symm) rfl 1 0 (by decide)⟩

theorem dAcc_sub (s : Fin 2) :
    ((Memref.whole cc0_scratch1).access (Rect.unit (s := S2x1024x1024) (so s) S1x1024x1024.size (dso_inb s))).set ⊆ dS c s := by
  have h := dWin_sub c s
  rw [View.set_reshape] at h
  exact h

variable (fw : Buf (Elt F) ((c : Thread nD τ).loc main_arg6))

/-- Expert `e`'s slab. -/
def dSlab (e : Fin 32) : Vec F S1x1024x1024 .f32 :=
  ((Memref.whole main_arg6).access (Rect.unit (s := S32x1024x1024) (eo e) S1x1024x1024.size (deo_inb e))).read (Elt F) fw

/-- Slot `s` free; slot `s` holding expert `e`'s slab; the array whole; expert `e`'s slab on its way to slot `s`. -/
def dFree (s : Fin 2) : sProp 𝕄 := iprop(∃ f, ((c : Thread nD τ).loc cc0_scratch1) ↦[dS c s]{fullShare} f)
def dHas (s : Fin 2) (e : Fin 32) : sProp 𝕄 :=
  iprop(∃ f, (((c : Thread nD τ).loc cc0_scratch1) ↦[dS c s]{fullShare} f)
    ∗ ⌜((Memref.whole cc0_scratch1).access (Rect.unit (s := S2x1024x1024) (so s) S1x1024x1024.size (dso_inb s))).read (Elt F) f = dSlab c fw e⌝)
def dArr : sProp 𝕄 := (((c : Thread nD τ).loc main_arg6) ↦{fullShare} fw)
def dN : ℕ := (dWin (so 0) (dso_inb 0)).view.dmaCredit
def dFly (s : Fin 2) (e : Fin 32) : sProp 𝕄 :=
  iprop(Transfers.Flight (countersEmb) (c : Thread nD τ) (own s 1) () dN
      iprop(dHas c fw s e ∗ (((c : Thread nD τ).loc main_arg6) ↦[(dSrc (eo e) (deo_inb e)).view.set]{fullShare} fw))
    ∗ (((c : Thread nD τ).loc main_arg6) ↦[Finset.univ \ (dSrc (eo e) (deo_inb e)).view.set]{fullShare} fw))

theorem dCredit (o : Fin 3 → ℕ) (h : ∀ a, o a + S1x1024x1024.size a ≤ S2x1024x1024.size a) : (dWin o h).view.dmaCredit = dN := by
  unfold dN; exact congrArg (fun b => sig.dmaCredit .tc (Kind.tc.table .vmem) b S1024x1024 .f32) rfl

theorem dN_pos : 0 < dN := by unfold dN; decide +kernel

theorem dlanded (s : Fin 2) (e : Fin 32) (fd : Buf (Elt F) ((c : Thread nD τ).loc cc0_scratch1)) :
    ((Memref.whole cc0_scratch1).access (Rect.unit (s := S2x1024x1024) (so s) S1x1024x1024.size (dso_inb s))).read (Elt F)
      ((dWin (so s) (dso_inb s)).view.write (Elt F) fd ((dSrc (eo e) (deo_inb e)).view.read (Elt F) fw) Finset.univ)
      = dSlab c fw e := by
  have h := View.read_write_univ (v := (dWin (so s) (dso_inb s)).view) fd ((dSrc (eo e) (deo_inb e)).view.read (Elt F) fw)
  funext x
  obtain ⟨y, rfl⟩ := (Shape.reshapeEquiv (squeezes_S1x1024x1024_S1024x1024 : S1x1024x1024.Squeezes S1024x1024).numel_eq).surjective x
  exact congrFun h y

/-- A copy started: the slot free, the array whole and the cell at zero become the copy on its way. -/
theorem dstart {α : Type} {𝒱 : Variants} {bd : Option 𝒱.V} {Q : α → sProp 𝕄} {s : Fin 2} {e : Fin 32}
    {od : Fin 3 → ℕ} {hd : ∀ a, od a + S1x1024x1024.size a ≤ S2x1024x1024.size a}
    {os : Fin 3 → ℕ} {hs : ∀ a, os a + S1x1024x1024.size a ≤ S32x1024x1024.size a}
    {oc : Fin 2 → ℕ} {hc : ∀ a, oc a + S1x1.size a ≤ S2x2.size a}
    (ed : od = so s) (es : os = eo e) (ec : oc = co s 1)
    {hsrc : (dSrc os hs).view.WordExact} {hdst : (dWin od hd).view.WordExact}
    {hsem : DmaTarget.Typed (nD := nD) .hbm (.dma (cell oc hc).sem) (DmaTarget.here (p := (.tc : Proc τ)) (dWin od hd))}
    {k : PUnit → Prog (TpuEff nD τ sig (Elt F) Λ₀ .tc) α} :
    iprop(dFree c s ∗ dArr c fw ∗ semVal ((c : Thread nD τ), own s 1) 0)
      ⊢ iprop((dFly c fw s e -∗ wp frame (wpE (defs₀ (F := F)) 𝒱 c bd) Set.univ (k ⟨⟩) Q)
          -∗ wp frame (wpE (defs₀ (F := F)) 𝒱 c bd) Set.univ
            (Prog.lift (.enqueueDma (dSrc os hs) (.here (dWin od hd)) (.dma (cell oc hc).sem) hsrc hdst hsem) >>= k) Q) := by
  subst ed es ec
  iintro ⟨HF, HA, Hv⟩ Hk
  unfold dFree dArr
  icases HF with ⟨%fd, HF⟩
  ihave HA' := (pointsTo_split_subset (Finset.subset_univ (dSrc (eo e) hs).view.set)).1 $$ HA
  icases HA' with ⟨Hs, Hrest⟩
  have h := Transfers.wp_dmaLocal (countersEmb : UEmb Counters 𝕄) (defs := defs₀ (F := F)) 𝒱 (c : Thread nD τ) bd (Q := Q) (src := dSrc (eo e) hs)
    (dst := dWin (so s) hd) (via := .same) (sm := .dma (cell (co s 1) hc).sem) (hsrc := hsrc) (hdst := hdst) (hsem := hsem) (k := k)
    (q := fullShare) (fs := fw) (Sd := dS c s) (fd := fd) () dN (dCredit _ _) dN_pos (dWin_sub c s)
  iapply h $$ [HF Hs Hv]
  · isplitl [Hs]; · iexact Hs
    isplitl [HF]; · iexact HF
    iexact Hv
  iintro HFl
  iapply Hk
  unfold dFly
  isplitl [HFl]
  · iapply (Transfers.Flight_mono (EC := countersEmb) (c := (c : Thread nD τ)) ?_) $$ HFl
    iintro ⟨Hd, Hs⟩
    isplitl [Hd]
    · unfold dHas
      iexists _
      isplitl [Hd]; · iexact Hd
      ipureintro
      exact dlanded c fw s e fd
    iexact Hs
  iexact Hrest

/-- A copy waited for: the slot holds the slab, the array is whole again, the cell is at zero. -/
theorem dwait {α : Type} {𝒱 : Variants} {bd : Option 𝒱.V} {Q : α → sProp 𝕄} {s : Fin 2} {e : Fin 32}
    {od : Fin 3 → ℕ} {hd : ∀ a, od a + S1x1024x1024.size a ≤ S2x1024x1024.size a}
    {os : Fin 3 → ℕ} {hs : ∀ a, os a + S1x1024x1024.size a ≤ S32x1024x1024.size a}
    {oc : Fin 2 → ℕ} {hc : ∀ a, oc a + S1x1.size a ≤ S2x2.size a}
    (ec : oc = co s 1) {W : Waits sig Unit}
    {hsrc : (dSrc os hs).view.WordExact} {hdst : (dWin od hd).view.WordExact}
    {k : PUnit → Prog (TpuEff nD τ sig (Elt F) Λ₀ .tc) α} :
    iprop(dFly c fw s e ∗ owes (c : Thread nD τ) 0 W)
      ⊢ iprop((iprop(dHas c fw s e ∗ dArr c fw ∗ semVal ((c : Thread nD τ), own s 1) 0 ∗ ∃ W', owes (c : Thread nD τ) 0 W')
            -∗ wp frame (wpE (defs₀ (F := F)) 𝒱 c bd) Set.univ (k ⟨⟩) Q)
          -∗ wp frame (wpE (defs₀ (F := F)) 𝒱 c bd) Set.univ
            (Prog.lift (.waitDma2 (cell oc hc).sem (dSrc os hs) (dWin od hd) hsrc hdst) >>= k) Q) := by
  subst ec
  iintro ⟨HF, HO⟩ Hk
  unfold dFly
  icases HF with ⟨HF, Hrest⟩
  have h := Transfers.wp_waitLocal (countersEmb : UEmb Counters 𝕄) (defs := defs₀ (F := F)) 𝒱 (c : Thread nD τ) bd (Q := Q)
    (sem := (cell (co s 1) hc).sem) (srcw := dSrc os hs) (dstw := dWin od hd) (hsrc := hsrc) (hdst := hdst) (k := k)
    () (N := dN) (dCredit _ _) (W := W)
    (D := iprop(dHas c fw s e ∗ (((c : Thread nD τ).loc main_arg6) ↦[(dSrc (eo e) (deo_inb e)).view.set]{fullShare} fw)))
  iapply h $$ [HF HO]
  · isplitl [HF]; · iexact HF
    iexact HO
  iintro ⟨⟨HH, Hs⟩, Hv, HO⟩
  iapply Hk
  isplitl [HH]; · iexact HH
  isplitl [Hs Hrest]
  · unfold dArr
    iapply (pointsTo_split_subset (Finset.subset_univ (dSrc (eo e) (deo_inb e)).view.set)).2
    isplitl [Hs]; · iexact Hs
    iexact Hrest
  isplitl [Hv]; · iexact Hv
  iexists _
  iexact HO

end Cert.Kernel2Ideal.Ffn

end
-- ==== Proof.FfnBlocks.lean ====
/-
  One point of the expert call: the kernel's body cut into its blocks — the first copies started,
  the copies waited for and the next ones started, the row blocks stored — and what each block does
  to the slots, the cells and the staging buffer.
-/
module

public import proofs.«01_k».proof.Proof.FfnCopy

@[expose] public section

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable {α : Type}

/-- The first point's block: both arrays' first copies started. -/
def blk1 (i : grid0.Coords) (kk : PUnit.{1} → Prog (TpuEff nD τ sig (Elt F) Λ₀ .tc) α) : Prog (TpuEff nD τ sig (Elt F) Λ₀ .tc) α :=
  if k0_h1 : k0_cond1 i = 1#1 then do
    let v43 : Elt F .i32 ← smemLoad (Memref.whole main_arg0) (Rect.unit (s := S160) ![0] S1.size inb_S160_S1_0) numel1_S1 rfl
    have k0_hw1 : k0_chk1 i v43 := (← Prog.lift (TpuEff.assume (k0_chk1 i v43) (k0_chk1.dec i v43))).down
    Prog.lift (.enqueueDma (gSrc (k0_off2 v43) (k0_off2_inb i v43 k0_hw1 k0_h1)) (.here (gWin ![0, 0, 0] inb_S2x1024x2048_S1x1024x2048_0_0_0)) (.dma (cell ![0, 0] inb_S2x2_S1x1_0_0).sem) ((View.wordExact_bits rfl).reshape _ _) ((View.wordExact_bits rfl).reshape _ _) ⟨Or.inl rfl, trivial⟩)
    Prog.lift (.enqueueDma (dSrc (k0_off3 v43) (k0_off3_inb i v43 k0_hw1 k0_h1)) (.here (dWin ![0, 0, 0] inb_S2x1024x1024_S1x1024x1024_0_0_0)) (.dma (cell ![0, 1] inb_S2x2_S1x1_0_1).sem) ((View.wordExact_bits rfl).reshape _ _) ((View.wordExact_bits rfl).reshape _ _) ⟨Or.inl rfl, trivial⟩)
    kk ⟨⟩
  else kk ⟨⟩

/-- A new expert's first block: its slabs waited for, the next expert's copies started. -/
def blk2 (i : grid0.Coords) (v0 v6 v11 : Elt F .i32) (k0_hw2 : k0_chk2 i v0 v6 v11) (kk : PUnit.{1} → Prog (TpuEff nD τ sig (Elt F) Λ₀ .tc) α) :
    Prog (TpuEff nD τ sig (Elt F) Λ₀ .tc) α :=
  if k0_h2 : k0_cond2 i v0 v11 = 1#1 then do
    let v44 : Elt F .i32 ← smemLoad (Memref.whole main_arg0) (Rect.unit (s := S160) (k0_off4 i) S1.size (k0_off4_inb i)) numel1_S1 rfl
    have k0_hw3 : k0_chk3 i v0 v11 v44 := (← Prog.lift (TpuEff.assume (k0_chk3 i v0 v11 v44) (k0_chk3.dec i v0 v11 v44))).down
    Prog.lift (.waitDma2 (cell (k0_off5 v6) (k0_off5_inb i v0 v6 v11 k0_hw2 k0_h2)).sem (gSrc (k0_off7 v44) (k0_off7_inb i v0 v11 v44 k0_hw3 k0_h2)) (gWin (k0_off6 v6) (k0_off6_inb i v0 v6 v11 k0_hw2 k0_h2)) ((View.wordExact_bits rfl).reshape _ _) ((View.wordExact_bits rfl).reshape _ _))
    Prog.lift (.waitDma2 (cell (k0_off8 v6) (k0_off8_inb i v0 v6 v11 k0_hw2 k0_h2)).sem (dSrc (k0_off10 v44) (k0_off10_inb i v0 v11 v44 k0_hw3 k0_h2)) (dWin (k0_off9 v6) (k0_off9_inb i v0 v6 v11 k0_hw2 k0_h2)) ((View.wordExact_bits rfl).reshape _ _) ((View.wordExact_bits rfl).reshape _ _))
    let v58 : Elt F .i32 ← smemLoad (Memref.whole main_v44) (Rect.unit (s := S160) (k0_off11 i) S1.size (k0_off11_inb i)) numel1_S1 rfl
    have k0_hw4 : k0_chk4 i v0 v6 v11 v58 := (← Prog.lift (TpuEff.assume (k0_chk4 i v0 v6 v11 v58) (k0_chk4.dec i v0 v6 v11 v58))).down
    if k0_h3 : k0_cond3 v58 = 1#1 then do
      let v63 : Elt F .i32 ← smemLoad (Memref.whole main_v44) (Rect.unit (s := S160) (k0_off12 i) S1.size (k0_off12_inb i)) numel1_S1 rfl
      have k0_hw5 : k0_chk5 i v0 v11 v58 v63 := (← Prog.lift (TpuEff.assume (k0_chk5 i v0 v11 v58 v63) (k0_chk5.dec i v0 v11 v58 v63))).down
      Prog.lift (.enqueueDma (gSrc (k0_off15 v63) (k0_off15_inb i v0 v11 v58 v63 k0_hw5 k0_h2 k0_h3)) (.here (gWin (k0_off14 v6) (k0_off14_inb i v0 v6 v11 v58 k0_hw4 k0_h2 k0_h3))) (.dma (cell (k0_off13 v6) (k0_off13_inb i v0 v6 v11 v58 k0_hw4 k0_h2 k0_h3)).sem) ((View.wordExact_bits rfl).reshape _ _) ((View.wordExact_bits rfl).reshape _ _) ⟨Or.inl rfl, trivial⟩)
      Prog.lift (.enqueueDma (dSrc (k0_off18 v63) (k0_off18_inb i v0 v11 v58 v63 k0_hw5 k0_h2 k0_h3)) (.here (dWin (k0_off17 v6) (k0_off17_inb i v0 v6 v11 v58 k0_hw4 k0_h2 k0_h3))) (.dma (cell (k0_off16 v6) (k0_off16_inb i v0 v6 v11 v58 k0_hw4 k0_h2 k0_h3)).sem) ((View.wordExact_bits rfl).reshape _ _) ((View.wordExact_bits rfl).reshape _ _) ⟨Or.inl rfl, trivial⟩)
      kk ⟨⟩
    else kk ⟨⟩
  else kk ⟨⟩

/-- The rows of a block of at most 256 routed rows. -/
def row4 (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x2x512 .bf16) (hY : Y.IsWhole) (v0 v3 v6 : Elt F .i32) (k0_hw6 : k0_chk6 i v0 v3 v6)
    (kk : PUnit.{1} → Prog (TpuEff nD τ sig (Elt F) Λ₀ .tc) α) : Prog (TpuEff nD τ sig (Elt F) Λ₀ .tc) α :=
  if k0_h : k0_cond4 i v0 v3 = 1#1 then do
    let ⟨lo, hi⟩ : Σ' (lo : FVec F S256x512 .bf16), FVec F S256x512 .bf16 ← k0_part1 i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 v0 v3 v6 k0_hw6 k0_h
    let v83 : Vec F S256x2x512 .bf16 ← Prog.lift (.load Y (Rect.unit (s := S1024x2x512) ![0, 0, 0] S256x2x512.size inb_S1024x2x512_S256x2x512_0_0_0).toLoadRect (View.loadsAt_vmem h_S256x2x512))
    Prog.lift (.store Y (Rect.unit (s := S1024x2x512) ![0, 0, 0] S256x2x512.size inb_S1024x2x512_S256x2x512_0_0_0) (k0_pay14 lo hi) Finset.univ (View.stores_vmem h_S256x2x512 ((hY.pairWhole rank2_S1024x2x512).storeExact_slice rfl _ (Rect.wholeRows_unit rank2_S1024x2x512 rfl rfl) pairs_S1024x2x512_bf16) (fun _ => rfl)) (.inl rfl))
    let v85 : Vec F S768x2x512 .bf16 ← Prog.lift (.load Y (Rect.unit (s := S1024x2x512) ![256, 0, 0] S768x2x512.size inb_S1024x2x512_S768x2x512_256_0_0).toLoadRect (View.loadsAt_vmem h_S768x2x512))
    Prog.lift (.store Y (Rect.unit (s := S1024x2x512) ![256, 0, 0] S768x2x512.size inb_S1024x2x512_S768x2x512_256_0_0) (constant S768x2x512 .bf16 0x0000#16) Finset.univ (View.stores_vmem h_S768x2x512 ((hY.pairWhole rank2_S1024x2x512).storeExact_slice rfl _ (Rect.wholeRows_unit rank2_S1024x2x512 rfl rfl) pairs_S1024x2x512_bf16) (fun _ => rfl)) (.inl rfl))
    kk ⟨⟩
  else kk ⟨⟩

/-- The rows of a block of at most 512 routed rows. -/
def row5 (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x2x512 .bf16) (hY : Y.IsWhole) (v0 v3 v6 : Elt F .i32) (k0_hw6 : k0_chk6 i v0 v3 v6)
    (kk : PUnit.{1} → Prog (TpuEff nD τ sig (Elt F) Λ₀ .tc) α) : Prog (TpuEff nD τ sig (Elt F) Λ₀ .tc) α :=
  if k0_h : k0_cond5 i v0 v3 = 1#1 then do
    let ⟨lo, hi⟩ : Σ' (lo : FVec F S512x512 .bf16), FVec F S512x512 .bf16 ← k0_part2 i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 v0 v3 v6 k0_hw6 k0_h
    let v83 : Vec F S512x2x512 .bf16 ← Prog.lift (.load Y (Rect.unit (s := S1024x2x512) ![0, 0, 0] S512x2x512.size inb_S1024x2x512_S512x2x512_0_0_0).toLoadRect (View.loadsAt_vmem h_S512x2x512))
    Prog.lift (.store Y (Rect.unit (s := S1024x2x512) ![0, 0, 0] S512x2x512.size inb_S1024x2x512_S512x2x512_0_0_0) (k0_pay15 lo hi) Finset.univ (View.stores_vmem h_S512x2x512 ((hY.pairWhole rank2_S1024x2x512).storeExact_slice rfl _ (Rect.wholeRows_unit rank2_S1024x2x512 rfl rfl) pairs_S1024x2x512_bf16) (fun _ => rfl)) (.inl rfl))
    let v85 : Vec F S512x2x512 .bf16 ← Prog.lift (.load Y (Rect.unit (s := S1024x2x512) ![512, 0, 0] S512x2x512.size inb_S1024x2x512_S512x2x512_512_0_0).toLoadRect (View.loadsAt_vmem h_S512x2x512))
    Prog.lift (.store Y (Rect.unit (s := S1024x2x512) ![512, 0, 0] S512x2x512.size inb_S1024x2x512_S512x2x512_512_0_0) (constant S512x2x512 .bf16 0x0000#16) Finset.univ (View.stores_vmem h_S512x2x512 ((hY.pairWhole rank2_S1024x2x512).storeExact_slice rfl _ (Rect.wholeRows_unit rank2_S1024x2x512 rfl rfl) pairs_S1024x2x512_bf16) (fun _ => rfl)) (.inl rfl))
    kk ⟨⟩
  else kk ⟨⟩

/-- The rows of a block of at most 768 routed rows. -/
def row6 (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x2x512 .bf16) (hY : Y.IsWhole) (v0 v3 v6 : Elt F .i32) (k0_hw6 : k0_chk6 i v0 v3 v6)
    (kk : PUnit.{1} → Prog (TpuEff nD τ sig (Elt F) Λ₀ .tc) α) : Prog (TpuEff nD τ sig (Elt F) Λ₀ .tc) α :=
  if k0_h : k0_cond6 i v0 v3 = 1#1 then do
    let ⟨lo, hi⟩ : Σ' (lo : FVec F S768x512 .bf16), FVec F S768x512 .bf16 ← k0_part3 i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 v0 v3 v6 k0_hw6 k0_h
    let v83 : Vec F S768x2x512 .bf16 ← Prog.lift (.load Y (Rect.unit (s := S1024x2x512) ![0, 0, 0] S768x2x512.size inb_S1024x2x512_S768x2x512_0_0_0).toLoadRect (View.loadsAt_vmem h_S768x2x512))
    Prog.lift (.store Y (Rect.unit (s := S1024x2x512) ![0, 0, 0] S768x2x512.size inb_S1024x2x512_S768x2x512_0_0_0) (k0_pay16 lo hi) Finset.univ (View.stores_vmem h_S768x2x512 ((hY.pairWhole rank2_S1024x2x512).storeExact_slice rfl _ (Rect.wholeRows_unit rank2_S1024x2x512 rfl rfl) pairs_S1024x2x512_bf16) (fun _ => rfl)) (.inl rfl))
    let v85 : Vec F S256x2x512 .bf16 ← Prog.lift (.load Y (Rect.unit (s := S1024x2x512) ![768, 0, 0] S256x2x512.size inb_S1024x2x512_S256x2x512_768_0_0).toLoadRect (View.loadsAt_vmem h_S256x2x512))
    Prog.lift (.store Y (Rect.unit (s := S1024x2x512) ![768, 0, 0] S256x2x512.size inb_S1024x2x512_S256x2x512_768_0_0) (constant S256x2x512 .bf16 0x0000#16) Finset.univ (View.stores_vmem h_S256x2x512 ((hY.pairWhole rank2_S1024x2x512).storeExact_slice rfl _ (Rect.wholeRows_unit rank2_S1024x2x512 rfl rfl) pairs_S1024x2x512_bf16) (fun _ => rfl)) (.inl rfl))
    kk ⟨⟩
  else kk ⟨⟩

/-- The rows of a fuller block. -/
def row7 (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x2x512 .bf16) (hY : Y.IsWhole) (v0 v3 v6 : Elt F .i32) (k0_hw6 : k0_chk6 i v0 v3 v6)
    (kk : PUnit.{1} → Prog (TpuEff nD τ sig (Elt F) Λ₀ .tc) α) : Prog (TpuEff nD τ sig (Elt F) Λ₀ .tc) α :=
  if k0_h : k0_cond7 i v0 v3 = 1#1 then do
    let ⟨lo, hi⟩ : Σ' (lo : FVec F S1024x512 .bf16), FVec F S1024x512 .bf16 ← k0_part4 i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 v0 v3 v6 k0_hw6 k0_h
    let v83 : Vec F S1024x2x512 .bf16 ← Prog.lift (.load Y (Rect.unit (s := S1024x2x512) ![0, 0, 0] S1024x2x512.size inb_S1024x2x512_S1024x2x512_0_0_0).toLoadRect (View.loadsAt_vmem h_S1024x2x512))
    Prog.lift (.store Y (Rect.unit (s := S1024x2x512) ![0, 0, 0] S1024x2x512.size inb_S1024x2x512_S1024x2x512_0_0_0) (k0_pay1 lo hi) Finset.univ (View.stores_vmem h_S1024x2x512 ((hY.pairWhole rank2_S1024x2x512).storeExact_slice rfl _ (Rect.wholeRows_unit rank2_S1024x2x512 rfl rfl) pairs_S1024x2x512_bf16) (fun _ => rfl)) (.inl rfl))
    kk ⟨⟩
  else kk ⟨⟩

/-- The rows of a block past the used ones. -/
def row8 (i : grid0.Coords) (Y : Memref sig .tc .vmem S1024x2x512 .bf16) (hY : Y.IsWhole) (v0 : Elt F .i32)
    (kk : PUnit.{1} → Prog (TpuEff nD τ sig (Elt F) Λ₀ .tc) α) : Prog (TpuEff nD τ sig (Elt F) Λ₀ .tc) α :=
  if k0_h : k0_cond8 i v0 = 1#1 then do
    let v44 : Vec F S1024x2x512 .bf16 ← Prog.lift (.load Y (Rect.unit (s := S1024x2x512) ![0, 0, 0] S1024x2x512.size inb_S1024x2x512_S1024x2x512_0_0_0).toLoadRect (View.loadsAt_vmem h_S1024x2x512))
    Prog.lift (.store Y (Rect.unit (s := S1024x2x512) ![0, 0, 0] S1024x2x512.size inb_S1024x2x512_S1024x2x512_0_0_0) (constant S1024x2x512 .bf16 0x0000#16) Finset.univ (View.stores_vmem h_S1024x2x512 ((hY.pairWhole rank2_S1024x2x512).storeExact_slice rfl _ (Rect.wholeRows_unit rank2_S1024x2x512 rfl rfl) pairs_S1024x2x512_bf16) (fun _ => rfl)) (.inl rfl))
    kk ⟨⟩
  else kk ⟨⟩

/-- The kernel's body as its blocks: up to the third, and the rest. -/
def blocks5 (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x2x512 .bf16) (hY : Y.IsWhole) : Prog (TpuEff nD τ sig (Elt F) Λ₀ .tc) (Σ' (v0 : Elt F .i32) (v1 : BitVec 1) (v3 : Elt F .i32) (v4 : BitVec 32) (v6 : Elt F .i32) (k0_hw6 : k0_chk6 i v0 v3 v6), BitVec 1) := do
  let v0 : Elt F .i32 ← smemLoad (Memref.whole main_arg1) (Rect.unit (s := S1) ![0] S1.size inb_S1_S1_0) numel1_S1 rfl
  let v3 : Elt F .i32 ← smemLoad (Memref.whole main_arg2) (Rect.unit (s := S160) (k0_off1 i) S1.size (k0_off1_inb i)) numel1_S1 rfl
  let v6 : Elt F .i32 ← smemLoad (Memref.whole main_v15) (Rect.unit (s := S160) (k0_off1 i) S1.size (k0_off1_inb i)) numel1_S1 rfl
  have k0_hw6 : k0_chk6 i v0 v3 v6 := (← Prog.lift (TpuEff.assume (k0_chk6 i v0 v3 v6) (k0_chk6.dec i v0 v3 v6))).down
  blk1 i fun _ => do
    let v11 : Elt F .i32 ← smemLoad (Memref.whole main_v10) (Rect.unit (s := S160) (k0_off1 i) S1.size (k0_off1_inb i)) numel1_S1 rfl
    have k0_hw2 : k0_chk2 i v0 v6 v11 := (← Prog.lift (TpuEff.assume (k0_chk2 i v0 v6 v11) (k0_chk2.dec i v0 v6 v11))).down
    blk2 i v0 v6 v11 k0_hw2 fun _ =>
      row4 i X hX B hB D hD Y hY v0 v3 v6 k0_hw6 fun _ =>
      row5 i X hX B hB D hD Y hY v0 v3 v6 k0_hw6 fun _ =>
      row6 i X hX B hB D hD Y hY v0 v3 v6 k0_hw6 fun _ =>
      pure ⟨v0, Scalar.cmpi .slt (BitVec.ofNat 32 (i 0).val) v0, v3, Scalar.maxsi v3 1#32, v6, k0_hw6,
        Scalar.andi (Scalar.cmpi .slt (BitVec.ofNat 32 (i 0).val) v0) (Scalar.cmpi .sgt (Scalar.maxsi v3 1#32) 768#32)⟩

def blocks (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x2x512 .bf16) (hY : Y.IsWhole) : Prog (TpuEff nD τ sig (Elt F) Λ₀ .tc) PUnit.{1} := do
  let ⟨v0, _, v3, _, v6, k0_hw6, _⟩ ← blocks5 i X hX B hB D hD Y hY
  row7 i X hX B hB D hD Y hY v0 v3 v6 k0_hw6 fun _ => row8 i Y hY v0 fun _ => pure ⟨⟩

set_option maxRecDepth 65536 in
theorem part5_eq (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x2x512 .bf16) (hY : Y.IsWhole) : k0_part5 (F := F) i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 = blocks5 i X hX B hB D hD Y hY := by
  rw [k0_part5_eq_skeleton]
  rfl

set_option maxRecDepth 65536 in
theorem body_eq (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x2x512 .bf16) (hY : Y.IsWhole) : cc0_expert_ffn (F := F) i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 = blocks i X hX B hB D hD Y hY := by
  rw [cc0_expert_ffn_eq_skeleton]
  unfold cc0_expert_ffn_skel blocks
  rw [part5_eq]
  rfl

/-! ### One word of a table, one check -/

/-- The word of a table that a load of it reads. -/
abbrev word {s : Shape} (m : Memref sig .tc .smem s .i32) (r : Rect s) (h1 : r.shape.numel = 1) {c : Dev nD}
    (f : Buf (Elt F) (m.view.loc (c : Thread nD τ))) : Elt F .i32 :=
  (m.access r).read (Elt F) f (Shape.Idx.first (h1.symm ▸ Nat.one_pos))

theorem wp_word (c : Dev nD) {s : Shape} (m : Memref sig .tc .smem s .i32) (r : Rect s) (h1 : r.shape.numel = 1) (hp : EltTy.i32.packing = 1)
    {f : Buf (Elt F) (m.view.loc (c : Thread nD τ))} {v : Elt F .i32} (hv : word m r h1 f = v) {Q : α → sProp 𝕄} {k : Elt F .i32 → Prog (TpuEff nD τ sig (Elt F) Λ₀ .tc) α} :
    (m.view.loc (c : Thread nD τ) ↦{fullShare} f : sProp 𝕄)
      ⊢ iprop(((m.view.loc (c : Thread nD τ) ↦{fullShare} f) -∗ wp frame (wpE (defs₀ (F := F)) Variants.none c none) Set.univ (k v) Q)
          -∗ wp frame (wpE (defs₀ (F := F)) Variants.none c none) Set.univ (smemLoad m r h1 hp >>= k) Q) := by
  subst hv
  exact wp_load_rect Variants.none (c : Thread nD τ) none Set.univ (m := m) (r := r)
    (k := fun g => k (g (Shape.Idx.first (h1.symm ▸ Nat.one_pos)))) (Finset.subset_univ _)

theorem wp_chk (c : Dev nD) {P : Prop} {d : Decidable P} {Q : α → sProp 𝕄} {k : PLift P → Prog (TpuEff nD τ sig (Elt F) Λ₀ .tc) α} (h : P) :
    (wp frame (wpE (defs₀ (F := F)) Variants.none c none) Set.univ (k ⟨h⟩) Q : sProp 𝕄)
      ⊢ wp frame (wpE (defs₀ (F := F)) Variants.none c none) Set.univ (Prog.lift (TpuEff.assume P d) >>= k) Q :=
  wp_assume Variants.none (c : Thread nD τ) none Set.univ h

theorem wp_pos (c : Dev nD) {C : Prop} [Decidable C] (h : C) {A : C → Prog (TpuEff nD τ sig (Elt F) Λ₀ .tc) α} {B : ¬C → Prog (TpuEff nD τ sig (Elt F) Λ₀ .tc) α}
    {Q : α → sProp 𝕄} : (wp frame (wpE (defs₀ (F := F)) Variants.none c none) Set.univ (A h) Q : sProp 𝕄)
      ⊢ wp frame (wpE (defs₀ (F := F)) Variants.none c none) Set.univ (dite C A B) Q := by rw [dif_pos h]
theorem wp_neg (c : Dev nD) {C : Prop} [Decidable C] (h : ¬C) {A : C → Prog (TpuEff nD τ sig (Elt F) Λ₀ .tc) α} {B : ¬C → Prog (TpuEff nD τ sig (Elt F) Λ₀ .tc) α}
    {Q : α → sProp 𝕄} : (wp frame (wpE (defs₀ (F := F)) Variants.none c none) Set.univ (B h) Q : sProp 𝕄)
      ⊢ wp frame (wpE (defs₀ (F := F)) Variants.none c none) Set.univ (dite C A B) Q := by rw [dif_neg h]

/-- The word of a table of 160 at a point. -/
abbrev wBe (c : Dev nD) (i : grid0.Coords) (f : Buf (Elt F) ((c : Thread nD τ).loc main_arg0)) : Elt F .i32 :=
  word (c := c) (Memref.whole main_arg0) (Rect.unit (s := S160) (k0_off1 i) S1.size (k0_off1_inb i)) numel1_S1 f
abbrev wBe0 (c : Dev nD) (f : Buf (Elt F) ((c : Thread nD τ).loc main_arg0)) : Elt F .i32 :=
  word (c := c) (Memref.whole main_arg0) (Rect.unit (s := S160) ![0] S1.size inb_S160_S1_0) numel1_S1 f
abbrev wNv (c : Dev nD) (f : Buf (Elt F) ((c : Thread nD τ).loc main_arg1)) : Elt F .i32 :=
  word (c := c) (Memref.whole main_arg1) (Rect.unit (s := S1) ![0] S1.size inb_S1_S1_0) numel1_S1 f
abbrev wFirst (c : Dev nD) (i : grid0.Coords) (f : Buf (Elt F) ((c : Thread nD τ).loc main_v10)) : Elt F .i32 :=
  word (c := c) (Memref.whole main_v10) (Rect.unit (s := S160) (k0_off1 i) S1.size (k0_off1_inb i)) numel1_S1 f
abbrev wSlot (c : Dev nD) (i : grid0.Coords) (f : Buf (Elt F) ((c : Thread nD τ).loc main_v15)) : Elt F .i32 :=
  word (c := c) (Memref.whole main_v15) (Rect.unit (s := S160) (k0_off1 i) S1.size (k0_off1_inb i)) numel1_S1 f
abbrev wNxt (c : Dev nD) (i : grid0.Coords) (f : Buf (Elt F) ((c : Thread nD τ).loc main_v44)) : Elt F .i32 :=
  word (c := c) (Memref.whole main_v44) (Rect.unit (s := S160) (k0_off1 i) S1.size (k0_off1_inb i)) numel1_S1 f
abbrev wRows (c : Dev nD) (i : grid0.Coords) (f : Buf (Elt F) ((c : Thread nD τ).loc main_arg2)) : Elt F .i32 :=
  word (c := c) (Memref.whole main_arg2) (Rect.unit (s := S160) (k0_off1 i) S1.size (k0_off1_inb i)) numel1_S1 f

/-- A table held whole. -/
abbrev tab (c : Dev nD) (b : Ref sig .tc) (f : Buf (Elt F) ((c : Thread nD τ).loc b)) : sProp 𝕄 := (((c : Thread nD τ).loc b) ↦{fullShare} f)

/-! ### The words the offsets are made of -/

/-- Slot `s` and expert `e` as words. -/
def sw (s : Fin 2) : BitVec 32 := BitVec.ofNat 32 s.val
def ew (e : Fin 32) : BitVec 32 := BitVec.ofNat 32 e.val

theorem slot3 : ∀ s : Fin 2, (![(sw s).toNat, 0, 0] : Fin 3 → ℕ) = so s := by decide
theorem slot2 : ∀ s j : Fin 2, (![(sw s).toNat, j.val] : Fin 2 → ℕ) = co s j := by decide
theorem slab3 : ∀ e : Fin 32, (![(ew e).toNat, 0, 0] : Fin 3 → ℕ) = eo e := by decide
theorem other3 : ∀ s : Fin 2, (![(Scalar.subi 1#32 (sw s)).toNat, 0, 0] : Fin 3 → ℕ) = so s.rev := by decide
theorem other2 : ∀ s j : Fin 2, (![(Scalar.subi 1#32 (sw s)).toNat, j.val] : Fin 2 → ℕ) = co s.rev j := by decide

theorem inb_of {n : ℕ} {o o' sz tot : Fin n → ℕ} (h : o = o') (h' : ∀ a, o' a + sz a ≤ tot a) : ∀ a, o a + sz a ≤ tot a := h ▸ h'

theorem chk1 (i : grid0.Coords) (e : Fin 32) : k0_chk1 i (ew e) :=
  ⟨fun _ => inb_of (slab3 e) (geo_inb e), fun _ => inb_of (slab3 e) (deo_inb e)⟩
theorem chk2 (i : grid0.Coords) (v0 v11 : BitVec 32) (s : Fin 2) : k0_chk2 i v0 (sw s) v11 :=
  ⟨fun _ => inb_of (slot2 s 0) (co_inb s 0), fun _ => inb_of (slot3 s) (gso_inb s), fun _ => inb_of (slot2 s 1) (co_inb s 1), fun _ => inb_of (slot3 s) (dso_inb s)⟩
theorem chk3 (i : grid0.Coords) (v0 v11 : BitVec 32) (e : Fin 32) : k0_chk3 i v0 v11 (ew e) :=
  ⟨fun _ => inb_of (slab3 e) (geo_inb e), fun _ => inb_of (slab3 e) (deo_inb e)⟩
theorem chk4 (i : grid0.Coords) (v0 v11 v58 : BitVec 32) (s : Fin 2) : k0_chk4 i v0 (sw s) v11 v58 :=
  ⟨fun _ _ => inb_of (other2 s 0) (co_inb s.rev 0), fun _ _ => inb_of (other3 s) (gso_inb s.rev), fun _ _ => inb_of (other2 s 1) (co_inb s.rev 1),
    fun _ _ => inb_of (other3 s) (dso_inb s.rev)⟩
theorem chk5 (i : grid0.Coords) (v0 v11 v58 : BitVec 32) (e : Fin 32) : k0_chk5 i v0 v11 v58 (ew e) :=
  ⟨fun _ _ => inb_of (slab3 e) (geo_inb e), fun _ _ => inb_of (slab3 e) (deo_inb e)⟩
theorem chk6 (i : grid0.Coords) (v0 v3 : BitVec 32) (s : Fin 2) : k0_chk6 i v0 v3 (sw s) :=
  ⟨fun _ => inb_of (slot3 s) (gso_inb s), fun _ => inb_of (slot3 s) (dso_inb s), fun _ => inb_of (slot3 s) (gso_inb s), fun _ => inb_of (slot3 s) (dso_inb s),
    fun _ => inb_of (slot3 s) (gso_inb s), fun _ => inb_of (slot3 s) (dso_inb s), fun _ => inb_of (slot3 s) (gso_inb s), fun _ => inb_of (slot3 s) (dso_inb s)⟩

/-! ### The copy blocks -/

variable (c : Dev nD) (fg : Buf (Elt F) ((c : Thread nD τ).loc main_arg4)) (fw : Buf (Elt F) ((c : Thread nD τ).loc main_arg6))
  (tb : Buf (Elt F) ((c : Thread nD τ).loc main_arg0)) (tn : Buf (Elt F) ((c : Thread nD τ).loc main_v44))

/-- Both arrays' slot free, filled, being filled; both arrays whole; both cells of a slot at zero. -/
def free (s : Fin 2) : sProp 𝕄 := iprop(gFree c s ∗ dFree c s ∗ semVal ((c : Thread nD τ), own s 0) 0 ∗ semVal ((c : Thread nD τ), own s 1) 0)
def has (s : Fin 2) (e : Fin 32) : sProp 𝕄 := iprop(gHas c fg s e ∗ dHas c fw s e ∗ semVal ((c : Thread nD τ), own s 0) 0 ∗ semVal ((c : Thread nD τ), own s 1) 0)
def fly (s : Fin 2) (e : Fin 32) : sProp 𝕄 := iprop(gFly c fg s e ∗ dFly c fw s e)
def arrs : sProp 𝕄 := iprop(gArr c fg ∗ dArr c fw)

theorem wp_blk1 (i : grid0.Coords) (hi : k0_cond1 i = 1#1) (e : Fin 32) (he : wBe0 c tb = ew e)
    {Q : α → sProp 𝕄} (kk : PUnit.{1} → Prog (TpuEff nD τ sig (Elt F) Λ₀ .tc) α) :
    iprop(tab c main_arg0 tb ∗ free c 0 ∗ arrs c fg fw)
      ⊢ iprop((iprop(tab c main_arg0 tb ∗ fly c fg fw 0 e) -∗ wp frame (wpE (defs₀ (F := F)) Variants.none c none) Set.univ (kk ⟨⟩) Q)
          -∗ wp frame (wpE (defs₀ (F := F)) Variants.none c none) Set.univ (blk1 i kk) Q) := by
  unfold blk1 free arrs fly
  rw [dif_pos hi]
  iintro ⟨HT, ⟨HgF, HdF, Hg, Hd⟩, HgA, HdA⟩ Hk
  iapply (wp_word c (Memref.whole main_arg0) _ _ _ he) $$ HT
  iintro HT
  iapply (wp_chk c (chk1 i e))
  iapply (gstart c fg (s := 0) (e := e) rfl (slab3 e) rfl) $$ [HgF HgA Hg]
  · isplitl [HgF]; · iexact HgF
    isplitl [HgA]; · iexact HgA
    iexact Hg
  iintro HgY
  iapply (dstart c fw (s := 0) (e := e) rfl (slab3 e) rfl) $$ [HdF HdA Hd]
  · isplitl [HdF]; · iexact HdF
    isplitl [HdA]; · iexact HdA
    iexact Hd
  iintro HdY
  iapply Hk
  isplitl [HT]; · iexact HT
  isplitl [HgY]; · iexact HgY
  iexact HdY

theorem wp_blk1_not (i : grid0.Coords) (hi : ¬ k0_cond1 i = 1#1) {Q : α → sProp 𝕄} (kk : PUnit.{1} → Prog (TpuEff nD τ sig (Elt F) Λ₀ .tc) α) :
    (wp frame (wpE (defs₀ (F := F)) Variants.none c none) Set.univ (kk ⟨⟩) Q : sProp 𝕄)
      ⊢ wp frame (wpE (defs₀ (F := F)) Variants.none c none) Set.univ (blk1 i kk) Q := by
  unfold blk1; rw [dif_neg hi]

theorem wp_blk2_not (i : grid0.Coords) (v0 v6 v11 : Elt F .i32) (h : k0_chk2 i v0 v6 v11) (hi : ¬ k0_cond2 i v0 v11 = 1#1) {Q : α → sProp 𝕄}
    (kk : PUnit.{1} → Prog (TpuEff nD τ sig (Elt F) Λ₀ .tc) α) :
    (wp frame (wpE (defs₀ (F := F)) Variants.none c none) Set.univ (kk ⟨⟩) Q : sProp 𝕄)
      ⊢ wp frame (wpE (defs₀ (F := F)) Variants.none c none) Set.univ (blk2 i v0 v6 v11 h kk) Q := by
  unfold blk2; rw [dif_neg hi]

/-- What a new expert's first block leaves beside the filled slot: the next expert's copies, if there is one. -/
def ahead (s : Fin 2) (p : Option (Fin 32)) : sProp 𝕄 :=
  match p with
  | some e' => fly c fg fw s e'
  | none => iprop(free c s ∗ arrs c fg fw)

theorem wp_blk2 (i : grid0.Coords) (v0 v11 : Elt F .i32) (s : Fin 2) (h : k0_chk2 i v0 (sw s) v11) (hi : k0_cond2 i v0 v11 = 1#1)
    (e : Fin 32) (he : wBe c i tb = ew e) (p : Option (Fin 32))
    (hp : (∃ e', p = some e' ∧ wNxt c i tn = ew e' ∧ k0_cond3 (wNxt c i tn) = 1#1) ∨ (p = none ∧ ¬ k0_cond3 (wNxt c i tn) = 1#1))
    {Q : α → sProp 𝕄} (kk : PUnit.{1} → Prog (TpuEff nD τ sig (Elt F) Λ₀ .tc) α) :
    iprop(tab c main_arg0 tb ∗ tab c main_v44 tn ∗ fly c fg fw s e ∗ free c s.rev ∗ ∃ W, owes (c : Thread nD τ) 0 W)
      ⊢ iprop((iprop(tab c main_arg0 tb ∗ tab c main_v44 tn ∗ has c fg fw s e ∗ ahead c fg fw s.rev p ∗ ∃ W, owes (c : Thread nD τ) 0 W)
            -∗ wp frame (wpE (defs₀ (F := F)) Variants.none c none) Set.univ (kk ⟨⟩) Q)
          -∗ wp frame (wpE (defs₀ (F := F)) Variants.none c none) Set.univ (blk2 i v0 (sw s) v11 h kk) Q) := by
  unfold blk2 fly
  rw [dif_pos hi]
  iintro ⟨HT, HN, ⟨HgY, HdY⟩, HF, %W, HO⟩ Hk
  iapply (wp_word c (Memref.whole main_arg0) _ _ _ he) $$ HT
  iintro HT
  iapply (wp_chk c (chk3 i v0 v11 e))
  iapply (gwait c fg (s := s) (e := e) (slot2 s 0)) $$ [HgY HO]
  · isplitl [HgY]; · iexact HgY
    iexact HO
  iintro ⟨HgH, HgA, Hg, %W1, HO⟩
  iapply (dwait c fw (s := s) (e := e) (slot2 s 1)) $$ [HdY HO]
  · isplitl [HdY]; · iexact HdY
    iexact HO
  iintro ⟨HdH, HdA, Hd, HO⟩
  iapply (wp_word c (Memref.whole main_v44) _ _ _ (v := wNxt c i tn) rfl) $$ HN
  iintro HN
  iapply (wp_chk c (chk4 i v0 v11 _ s))
  rcases hp with ⟨e', rfl, hn, h3⟩ | ⟨rfl, h3⟩
  · iapply (wp_pos c h3)
    iapply (wp_word c (Memref.whole main_v44) _ _ _ hn) $$ HN
    iintro HN
    iapply (wp_chk c (chk5 i v0 v11 _ e'))
    unfold free
    icases HF with ⟨HgF, HdF, Hg', Hd'⟩
    iapply (gstart c fg (s := s.rev) (e := e') (other3 s) (slab3 e') (other2 s 0)) $$ [HgF HgA Hg']
    · isplitl [HgF]; · iexact HgF
      isplitl [HgA]; · iexact HgA
      iexact Hg'
    iintro HgY
    iapply (dstart c fw (s := s.rev) (e := e') (other3 s) (slab3 e') (other2 s 1)) $$ [HdF HdA Hd']
    · isplitl [HdF]; · iexact HdF
      isplitl [HdA]; · iexact HdA
      iexact Hd'
    iintro HdY
    iapply Hk
    unfold has ahead fly
    isplitl [HT]; · iexact HT
    isplitl [HN]; · iexact HN
    isplitl [HgH HdH Hg Hd]
    · isplitl [HgH]; · iexact HgH
      isplitl [HdH]; · iexact HdH
      isplitl [Hg]; · iexact Hg
      iexact Hd
    isplitl [HgY HdY]
    · isplitl [HgY]; · iexact HgY
      iexact HdY
    iexact HO
  · iapply (wp_neg c h3)
    iapply Hk
    unfold has ahead arrs
    isplitl [HT]; · iexact HT
    isplitl [HN]; · iexact HN
    isplitl [HgH HdH Hg Hd]
    · isplitl [HgH]; · iexact HgH
      isplitl [HdH]; · iexact HdH
      isplitl [Hg]; · iexact Hg
      iexact Hd
    isplitl [HF HgA HdA]
    · isplitl [HF]; · iexact HF
      isplitl [HgA]; · iexact HgA
      iexact HdA
    iexact HO

end Cert.Kernel2Ideal.Ffn

end
-- ==== Proof.FfnRows.lean ====
/-
  The row blocks of one point of the expert call: what each stores in the result's staging buffer.
-/
module

public import proofs.«01_k».proof.Proof.FfnBlocks

@[expose] public section

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable {α : Type}

section Steps

variable (c : Dev nD)

/-- A load of a buffer held whole, and one of a buffer whose writes are listed. -/
theorem wp_get {s : Shape} {e : EltTy} {M : Memref sig .tc .vmem s e} {r : Rect s} {hl : M.view.LoadsAt r} {x : Vec F s e}
    {Q : α → sProp 𝕄} {k : (r.shape.Idx → Elt F e) → Prog (TpuEff nD τ sig (Elt F) Λ₀ .tc) α} :
    (owns (c : Thread nD τ) M fullShare x : sProp 𝕄)
      ⊢ iprop((owns (c : Thread nD τ) M fullShare x -∗ wp frame (wpE (defs₀ (F := F)) Variants.none c none) Set.univ (k (View.ld x r)) Q)
          -∗ wp frame (wpE (defs₀ (F := F)) Variants.none c none) Set.univ (Prog.lift (.load M r.toLoadRect hl) >>= k) Q) := by
  unfold owns
  iintro ⟨%f, %hf, H⟩ Hk
  subst hf
  have h := wp_load_rect (Γ := PendingWaitsCtx.empty) Variants.none (c : Thread nD τ) none Set.univ (defs := defs₀ (F := F)) (Q := Q) (m := M) (r := r) (hl := hl) (k := k)
    (S := M.view.set) (q := fullShare) (f := f) (View.set_slice_subset M.view r)
  iapply h $$ H
  iintro H
  iapply Hk
  iexists f
  isplitr; · ipureintro; rfl
  iexact H

/-- A buffer at the listed writes over some contents. -/
def wrote {s : Shape} {e : EltTy} (M : Memref sig .tc .vmem s e) (L : List (View.Piece (Elt F) s e)) : sProp 𝕄 :=
  iprop(∃ f, M.view.loc (c : Thread nD τ) ↦[M.view.set]{fullShare} M.view.writes (Elt F) f L)

theorem wp_peek {s : Shape} {e : EltTy} {M : Memref sig .tc .vmem s e} {r : Rect s} {hl : M.view.LoadsAt r} {L : List (View.Piece (Elt F) s e)}
    {Q : α → sProp 𝕄} {p : Prog (TpuEff nD τ sig (Elt F) Λ₀ .tc) α} :
    (wrote c M L : sProp 𝕄)
      ⊢ iprop((wrote c M L -∗ wp frame (wpE (defs₀ (F := F)) Variants.none c none) Set.univ p Q)
          -∗ wp frame (wpE (defs₀ (F := F)) Variants.none c none) Set.univ (Prog.lift (.load M r.toLoadRect hl) >>= fun _ => p) Q) := by
  unfold wrote
  iintro ⟨%f, H⟩ Hk
  have h := wp_load_rect (Γ := PendingWaitsCtx.empty) Variants.none (c : Thread nD τ) none Set.univ (defs := defs₀ (F := F)) (Q := Q) (m := M) (r := r) (hl := hl) (k := fun _ => p)
    (S := M.view.set) (q := fullShare) (f := M.view.writes (Elt F) f L) (View.set_slice_subset M.view r)
  iapply h $$ H
  iintro H
  iapply Hk
  iexists f
  iexact H

theorem wp_put {s : Shape} {e : EltTy} {M : Memref sig .tc .vmem s e} {r : Rect s} {w : r.shape.Idx → Elt F e} {hx : (M.access r).Stores Finset.univ}
    {hm : Finset.univ = Finset.univ ∨ ∀ a, r.stride a = 1} {L : List (View.Piece (Elt F) s e)}
    {Q : α → sProp 𝕄} {k : PUnit.{1} → Prog (TpuEff nD τ sig (Elt F) Λ₀ .tc) α} :
    (wrote c M L : sProp 𝕄)
      ⊢ iprop((wrote c M (⟨r, w⟩ :: L) -∗ wp frame (wpE (defs₀ (F := F)) Variants.none c none) Set.univ (k ⟨⟩) Q)
          -∗ wp frame (wpE (defs₀ (F := F)) Variants.none c none) Set.univ (Prog.lift (.store M r w Finset.univ hx hm) >>= k) Q) := by
  unfold wrote
  iintro ⟨%f, H⟩ Hk
  have h := wp_store_writes Variants.none (c : Thread nD τ) none Set.univ (defs := defs₀ (F := F)) (Q := Q) (m := M) (r := r) (w := w) (hx := hx) (hm := hm) (k := k)
    (S := M.view.set) (f := f) (L := L) (View.set_slice_subset M.view r)
  iapply h $$ H
  iintro H
  iapply Hk
  iexists f
  iexact H

theorem wrote_of_owns {s : Shape} {e : EltTy} {M : Memref sig .tc .vmem s e} {y : Vec F s e} :
    (owns (c : Thread nD τ) M fullShare y : sProp 𝕄) ⊢ wrote c M [] := by
  unfold owns wrote
  iintro ⟨%f, -, H⟩
  iexists f
  iexact H

theorem owns_of_wrote {s : Shape} {e : EltTy} {M : Memref sig .tc .vmem s e} {L : List (View.Piece (Elt F) s e)} (h : ∀ y, ∃ p ∈ L, y ∈ p.1.set) :
    (wrote c M L : sProp 𝕄) ⊢ owns (c : Thread nD τ) M fullShare (View.canon L) := by
  unfold owns wrote
  iintro ⟨%f, H⟩
  iexists _
  isplitr
  · ipureintro; exact View.read_writes_eq_canon M.view f L h
  iexact H

variable (fg : Buf (Elt F) ((c : Thread nD τ).loc main_arg4)) (fw : Buf (Elt F) ((c : Thread nD τ).loc main_arg6))

/-- A load of the slab slot `s` holds. -/
theorem wp_gload {s : Fin 2} {e : Fin 32} {o : Fin 3 → ℕ} {ho : ∀ a, o a + S1x1024x2048.size a ≤ S2x1024x2048.size a} (eo : o = so s)
    {hl : (Memref.whole cc0_scratch0).view.LoadsAt (Rect.unit (s := S2x1024x2048) o S1x1024x2048.size ho)}
    {Q : α → sProp 𝕄} {k : Vec F S1x1024x2048 .f32 → Prog (TpuEff nD τ sig (Elt F) Λ₀ .tc) α} :
    (gHas c fg s e : sProp 𝕄)
      ⊢ iprop((gHas c fg s e -∗ wp frame (wpE (defs₀ (F := F)) Variants.none c none) Set.univ (k (gSlab c fg e)) Q)
          -∗ wp frame (wpE (defs₀ (F := F)) Variants.none c none) Set.univ
            (Prog.lift (.load (Memref.whole cc0_scratch0) (Rect.unit (s := S2x1024x2048) o S1x1024x2048.size ho).toLoadRect hl) >>= k) Q) := by
  subst eo
  unfold gHas
  iintro ⟨%f, H, %hf⟩ Hk
  have h := wp_load_rect (Γ := PendingWaitsCtx.empty) Variants.none (c : Thread nD τ) none Set.univ (defs := defs₀ (F := F)) (Q := Q) (m := Memref.whole cc0_scratch0)
    (r := Rect.unit (s := S2x1024x2048) (so s) S1x1024x2048.size ho) (hl := hl) (k := k) (S := gS c s) (q := fullShare) (f := f) (gAcc_sub c s)
  rw [hf] at h
  iapply h $$ H
  iintro H
  iapply Hk
  iexists f
  isplitl [H]; · iexact H
  ipureintro; exact hf

/-- A load of the slab slot `s` holds. -/
theorem wp_dload {s : Fin 2} {e : Fin 32} {o : Fin 3 → ℕ} {ho : ∀ a, o a + S1x1024x1024.size a ≤ S2x1024x1024.size a} (eo : o = so s)
    {hl : (Memref.whole cc0_scratch1).view.LoadsAt (Rect.unit (s := S2x1024x1024) o S1x1024x1024.size ho)}
    {Q : α → sProp 𝕄} {k : Vec F S1x1024x1024 .f32 → Prog (TpuEff nD τ sig (Elt F) Λ₀ .tc) α} :
    (dHas c fw s e : sProp 𝕄)
      ⊢ iprop((dHas c fw s e -∗ wp frame (wpE (defs₀ (F := F)) Variants.none c none) Set.univ (k (dSlab c fw e)) Q)
          -∗ wp frame (wpE (defs₀ (F := F)) Variants.none c none) Set.univ
            (Prog.lift (.load (Memref.whole cc0_scratch1) (Rect.unit (s := S2x1024x1024) o S1x1024x1024.size ho).toLoadRect hl) >>= k) Q) := by
  subst eo
  unfold dHas
  iintro ⟨%f, H, %hf⟩ Hk
  have h := wp_load_rect (Γ := PendingWaitsCtx.empty) Variants.none (c : Thread nD τ) none Set.univ (defs := defs₀ (F := F)) (Q := Q) (m := Memref.whole cc0_scratch1)
    (r := Rect.unit (s := S2x1024x1024) (so s) S1x1024x1024.size ho) (hl := hl) (k := k) (S := dS c s) (q := fullShare) (f := f) (dAcc_sub c s)
  rw [hf] at h
  iapply h $$ H
  iintro H
  iapply Hk
  iexists f
  isplitl [H]; · iexact H
  ipureintro; exact hf

end Steps

section Rows

variable (c : Dev nD) (fg : Buf (Elt F) ((c : Thread nD τ).loc main_arg4)) (fw : Buf (Elt F) ((c : Thread nD τ).loc main_arg6))

/-- What a point's rows are computed from: the two slabs held, the block's words and biases. -/
def ins (X : Memref sig .tc .vmem S1024x512 .i32) (B : Memref sig .tc .vmem S1x1x2048 .f32) (D : Memref sig .tc .vmem S1x1x1024 .f32)
    (x : Vec F S1024x512 .i32) (b : Vec F S1x1x2048 .f32) (d : Vec F S1x1x1024 .f32) (s : Fin 2) (e : Fin 32) : sProp 𝕄 :=
  iprop(gHas c fg s e ∗ dHas c fw s e ∗ owns (c : Thread nD τ) X fullShare x ∗ owns (c : Thread nD τ) B fullShare b ∗ owns (c : Thread nD τ) D fullShare d)

abbrev rb : Rect S1x1x2048 := Rect.unit (s := S1x1x2048) ![0, 0, 0] S1x1x2048.size inb_S1x1x2048_S1x1x2048_0_0_0
abbrev rd : Rect S1x1x1024 := Rect.unit (s := S1x1x1024) ![0, 0, 0] S1x1x1024.size inb_S1x1x1024_S1x1x1024_0_0_0

variable (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x2x512 .bf16) (hY : Y.IsWhole)
  (x : Vec F S1024x512 .i32) (b : Vec F S1x1x2048 .f32) (d : Vec F S1x1x1024 .f32) (s : Fin 2) (e : Fin 32) (v0 v3 : Elt F .i32)

/-- The first 256 rows' words and the products of a point whose block has at most 256 rows. -/
abbrev rx4 : Rect S1024x512 := Rect.unit (s := S1024x512) ![0, 0] S256x512.size inb_S1024x512_S256x512_0_0
abbrev ry4 : Rect S1024x2x512 := Rect.unit (s := S1024x2x512) ![0, 0, 0] S256x2x512.size inb_S1024x2x512_S256x2x512_0_0_0
abbrev rz4 : Rect S1024x2x512 := Rect.unit (s := S1024x2x512) ![256, 0, 0] S768x2x512.size inb_S1024x2x512_S768x2x512_256_0_0
def pieces4 (g : Vec F S1x1024x2048 .f32) (w : Vec F S1x1024x1024 .f32) : List (View.Piece (Elt F) S1024x2x512 .bf16) :=
  [⟨rz4, constant S768x2x512 .bf16 0x0000#16⟩, ⟨ry4, k0_pay14 (k0_pay3 (View.ld x rx4) g (View.ld b rb) w (View.ld d rd)) (k0_pay4 (View.ld x rx4) g (View.ld b rb) w (View.ld d rd))⟩]

theorem cover4 (g : Vec F S1x1024x2048 .f32) (w : Vec F S1x1024x1024 .f32) (y : S1024x2x512.Idx) : ∃ p ∈ pieces4 x b d g w, y ∈ p.1.set :=
  View.cover_of_tiledBy (pieces4 x b d g w) ![256, 2, 512] (by sl_kernel_rfl) y

theorem wp_part4 (h : k0_chk6 i v0 v3 (sw s)) (hi : k0_cond4 i v0 v3 = 1#1) {Q : (Σ' (lo : FVec F S256x512 .bf16), FVec F S256x512 .bf16) → sProp 𝕄} :
    (ins c fg fw X B D x b d s e : sProp 𝕄)
      ⊢ iprop((ins c fg fw X B D x b d s e -∗ Q ⟨k0_pay3 (View.ld x rx4) (gSlab c fg e) (View.ld b rb) (dSlab c fw e) (View.ld d rd), k0_pay4 (View.ld x rx4) (gSlab c fg e) (View.ld b rb) (dSlab c fw e) (View.ld d rd)⟩)
          -∗ wp frame (wpE (defs₀ (F := F)) Variants.none c none) Set.univ
            (k0_part1 (F := F) i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 v0 v3 (sw s) h hi) Q) := by
  rw [k0_part1_eq_skeleton]
  unfold k0_part1_skel ins
  iintro ⟨Hg, Hw, HX, HB, HD⟩ Hk
  iapply (wp_get c) $$ HX
  iintro HX
  iapply (wp_gload c fg (s := s) (e := e) (slot3 s)) $$ Hg
  iintro Hg
  iapply (wp_get c) $$ HB
  iintro HB
  iapply (wp_dload c fw (s := s) (e := e) (slot3 s)) $$ Hw
  iintro Hw
  iapply (wp_get c) $$ HD
  iintro HD
  rw [wp_pure]
  imodintro
  iapply Hk
  isplitl [Hg]; · iexact Hg
  isplitl [Hw]; · iexact Hw
  isplitl [HX]; · iexact HX
  isplitl [HB]; · iexact HB
  iexact HD

theorem wp_row4 (h : k0_chk6 i v0 v3 (sw s)) (hi : k0_cond4 i v0 v3 = 1#1) {Q : α → sProp 𝕄} (kk : PUnit.{1} → Prog (TpuEff nD τ sig (Elt F) Λ₀ .tc) α) :
    iprop(ins c fg fw X B D x b d s e ∗ ∃ y, owns (c : Thread nD τ) Y fullShare y)
      ⊢ iprop(((ins c fg fw X B D x b d s e ∗ owns (c : Thread nD τ) Y fullShare (View.canon (pieces4 x b d (gSlab c fg e) (dSlab c fw e))))
              -∗ wp frame (wpE (defs₀ (F := F)) Variants.none c none) Set.univ (kk ⟨⟩) Q)
          -∗ wp frame (wpE (defs₀ (F := F)) Variants.none c none) Set.univ (row4 i X hX B hB D hD Y hY v0 v3 (sw s) h kk) Q) := by
  unfold row4
  iintro ⟨HI, %y, HY⟩ Hk
  iapply (wp_pos c hi)
  rw [wp_bind]
  iapply (wp_part4 c fg fw i X hX B hB D hD Y hY x b d s e v0 v3 h hi) $$ HI
  iintro HI
  ihave HY := (wrote_of_owns c) $$ HY
  iapply (wp_peek c) $$ HY
  iintro HY
  iapply (wp_put c) $$ HY
  iintro HY
  iapply (wp_peek c) $$ HY
  iintro HY
  iapply (wp_put c) $$ HY
  iintro HY
  iapply Hk
  isplitl [HI]; · iexact HI
  iapply (owns_of_wrote c (cover4 x b d (gSlab c fg e) (dSlab c fw e)))
  iexact HY

theorem wp_row4_not (v6 : Elt F .i32) (h : k0_chk6 i v0 v3 v6) (hi : ¬ k0_cond4 i v0 v3 = 1#1) {Q : α → sProp 𝕄} (kk : PUnit.{1} → Prog (TpuEff nD τ sig (Elt F) Λ₀ .tc) α) :
    (wp frame (wpE (defs₀ (F := F)) Variants.none c none) Set.univ (kk ⟨⟩) Q : sProp 𝕄)
      ⊢ wp frame (wpE (defs₀ (F := F)) Variants.none c none) Set.univ (row4 i X hX B hB D hD Y hY v0 v3 v6 h kk) Q := by
  unfold row4; rw [dif_neg hi]

/-- The first 512 rows' words and the products of a point whose block has at most 512 rows. -/
abbrev rx5 : Rect S1024x512 := Rect.unit (s := S1024x512) ![0, 0] S512x512.size inb_S1024x512_S512x512_0_0
abbrev ry5 : Rect S1024x2x512 := Rect.unit (s := S1024x2x512) ![0, 0, 0] S512x2x512.size inb_S1024x2x512_S512x2x512_0_0_0
abbrev rz5 : Rect S1024x2x512 := Rect.unit (s := S1024x2x512) ![512, 0, 0] S512x2x512.size inb_S1024x2x512_S512x2x512_512_0_0
def pieces5 (g : Vec F S1x1024x2048 .f32) (w : Vec F S1x1024x1024 .f32) : List (View.Piece (Elt F) S1024x2x512 .bf16) :=
  [⟨rz5, constant S512x2x512 .bf16 0x0000#16⟩, ⟨ry5, k0_pay15 (k0_pay6 (View.ld x rx5) g (View.ld b rb) w (View.ld d rd)) (k0_pay7 (View.ld x rx5) g (View.ld b rb) w (View.ld d rd))⟩]

theorem cover5 (g : Vec F S1x1024x2048 .f32) (w : Vec F S1x1024x1024 .f32) (y : S1024x2x512.Idx) : ∃ p ∈ pieces5 x b d g w, y ∈ p.1.set :=
  View.cover_of_tiledBy (pieces5 x b d g w) ![256, 2, 512] (by sl_kernel_rfl) y

theorem wp_part5 (h : k0_chk6 i v0 v3 (sw s)) (hi : k0_cond5 i v0 v3 = 1#1) {Q : (Σ' (lo : FVec F S512x512 .bf16), FVec F S512x512 .bf16) → sProp 𝕄} :
    (ins c fg fw X B D x b d s e : sProp 𝕄)
      ⊢ iprop((ins c fg fw X B D x b d s e -∗ Q ⟨k0_pay6 (View.ld x rx5) (gSlab c fg e) (View.ld b rb) (dSlab c fw e) (View.ld d rd), k0_pay7 (View.ld x rx5) (gSlab c fg e) (View.ld b rb) (dSlab c fw e) (View.ld d rd)⟩)
          -∗ wp frame (wpE (defs₀ (F := F)) Variants.none c none) Set.univ
            (k0_part2 (F := F) i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 v0 v3 (sw s) h hi) Q) := by
  rw [k0_part2_eq_skeleton]
  unfold k0_part2_skel ins
  iintro ⟨Hg, Hw, HX, HB, HD⟩ Hk
  iapply (wp_get c) $$ HX
  iintro HX
  iapply (wp_gload c fg (s := s) (e := e) (slot3 s)) $$ Hg
  iintro Hg
  iapply (wp_get c) $$ HB
  iintro HB
  iapply (wp_dload c fw (s := s) (e := e) (slot3 s)) $$ Hw
  iintro Hw
  iapply (wp_get c) $$ HD
  iintro HD
  rw [wp_pure]
  imodintro
  iapply Hk
  isplitl [Hg]; · iexact Hg
  isplitl [Hw]; · iexact Hw
  isplitl [HX]; · iexact HX
  isplitl [HB]; · iexact HB
  iexact HD

theorem wp_row5 (h : k0_chk6 i v0 v3 (sw s)) (hi : k0_cond5 i v0 v3 = 1#1) {Q : α → sProp 𝕄} (kk : PUnit.{1} → Prog (TpuEff nD τ sig (Elt F) Λ₀ .tc) α) :
    iprop(ins c fg fw X B D x b d s e ∗ ∃ y, owns (c : Thread nD τ) Y fullShare y)
      ⊢ iprop(((ins c fg fw X B D x b d s e ∗ owns (c : Thread nD τ) Y fullShare (View.canon (pieces5 x b d (gSlab c fg e) (dSlab c fw e))))
              -∗ wp frame (wpE (defs₀ (F := F)) Variants.none c none) Set.univ (kk ⟨⟩) Q)
          -∗ wp frame (wpE (defs₀ (F := F)) Variants.none c none) Set.univ (row5 i X hX B hB D hD Y hY v0 v3 (sw s) h kk) Q) := by
  unfold row5
  iintro ⟨HI, %y, HY⟩ Hk
  iapply (wp_pos c hi)
  rw [wp_bind]
  iapply (wp_part5 c fg fw i X hX B hB D hD Y hY x b d s e v0 v3 h hi) $$ HI
  iintro HI
  ihave HY := (wrote_of_owns c) $$ HY
  iapply (wp_peek c) $$ HY
  iintro HY
  iapply (wp_put c) $$ HY
  iintro HY
  iapply (wp_peek c) $$ HY
  iintro HY
  iapply (wp_put c) $$ HY
  iintro HY
  iapply Hk
  isplitl [HI]; · iexact HI
  iapply (owns_of_wrote c (cover5 x b d (gSlab c fg e) (dSlab c fw e)))
  iexact HY

theorem wp_row5_not (v6 : Elt F .i32) (h : k0_chk6 i v0 v3 v6) (hi : ¬ k0_cond5 i v0 v3 = 1#1) {Q : α → sProp 𝕄} (kk : PUnit.{1} → Prog (TpuEff nD τ sig (Elt F) Λ₀ .tc) α) :
    (wp frame (wpE (defs₀ (F := F)) Variants.none c none) Set.univ (kk ⟨⟩) Q : sProp 𝕄)
      ⊢ wp frame (wpE (defs₀ (F := F)) Variants.none c none) Set.univ (row5 i X hX B hB D hD Y hY v0 v3 v6 h kk) Q := by
  unfold row5; rw [dif_neg hi]

/-- The first 768 rows' words and the products of a point whose block has at most 768 rows. -/
abbrev rx6 : Rect S1024x512 := Rect.unit (s := S1024x512) ![0, 0] S768x512.size inb_S1024x512_S768x512_0_0
abbrev ry6 : Rect S1024x2x512 := Rect.unit (s := S1024x2x512) ![0, 0, 0] S768x2x512.size inb_S1024x2x512_S768x2x512_0_0_0
abbrev rz6 : Rect S1024x2x512 := Rect.unit (s := S1024x2x512) ![768, 0, 0] S256x2x512.size inb_S1024x2x512_S256x2x512_768_0_0
def pieces6 (g : Vec F S1x1024x2048 .f32) (w : Vec F S1x1024x1024 .f32) : List (View.Piece (Elt F) S1024x2x512 .bf16) :=
  [⟨rz6, constant S256x2x512 .bf16 0x0000#16⟩, ⟨ry6, k0_pay16 (k0_pay9 (View.ld x rx6) g (View.ld b rb) w (View.ld d rd)) (k0_pay10 (View.ld x rx6) g (View.ld b rb) w (View.ld d rd))⟩]

theorem cover6 (g : Vec F S1x1024x2048 .f32) (w : Vec F S1x1024x1024 .f32) (y : S1024x2x512.Idx) : ∃ p ∈ pieces6 x b d g w, y ∈ p.1.set :=
  View.cover_of_tiledBy (pieces6 x b d g w) ![256, 2, 512] (by sl_kernel_rfl) y

theorem wp_part6 (h : k0_chk6 i v0 v3 (sw s)) (hi : k0_cond6 i v0 v3 = 1#1) {Q : (Σ' (lo : FVec F S768x512 .bf16), FVec F S768x512 .bf16) → sProp 𝕄} :
    (ins c fg fw X B D x b d s e : sProp 𝕄)
      ⊢ iprop((ins c fg fw X B D x b d s e -∗ Q ⟨k0_pay9 (View.ld x rx6) (gSlab c fg e) (View.ld b rb) (dSlab c fw e) (View.ld d rd), k0_pay10 (View.ld x rx6) (gSlab c fg e) (View.ld b rb) (dSlab c fw e) (View.ld d rd)⟩)
          -∗ wp frame (wpE (defs₀ (F := F)) Variants.none c none) Set.univ
            (k0_part3 (F := F) i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 v0 v3 (sw s) h hi) Q) := by
  rw [k0_part3_eq_skeleton]
  unfold k0_part3_skel ins
  iintro ⟨Hg, Hw, HX, HB, HD⟩ Hk
  iapply (wp_get c) $$ HX
  iintro HX
  iapply (wp_gload c fg (s := s) (e := e) (slot3 s)) $$ Hg
  iintro Hg
  iapply (wp_get c) $$ HB
  iintro HB
  iapply (wp_dload c fw (s := s) (e := e) (slot3 s)) $$ Hw
  iintro Hw
  iapply (wp_get c) $$ HD
  iintro HD
  rw [wp_pure]
  imodintro
  iapply Hk
  isplitl [Hg]; · iexact Hg
  isplitl [Hw]; · iexact Hw
  isplitl [HX]; · iexact HX
  isplitl [HB]; · iexact HB
  iexact HD

theorem wp_row6 (h : k0_chk6 i v0 v3 (sw s)) (hi : k0_cond6 i v0 v3 = 1#1) {Q : α → sProp 𝕄} (kk : PUnit.{1} → Prog (TpuEff nD τ sig (Elt F) Λ₀ .tc) α) :
    iprop(ins c fg fw X B D x b d s e ∗ ∃ y, owns (c : Thread nD τ) Y fullShare y)
      ⊢ iprop(((ins c fg fw X B D x b d s e ∗ owns (c : Thread nD τ) Y fullShare (View.canon (pieces6 x b d (gSlab c fg e) (dSlab c fw e))))
              -∗ wp frame (wpE (defs₀ (F := F)) Variants.none c none) Set.univ (kk ⟨⟩) Q)
          -∗ wp frame (wpE (defs₀ (F := F)) Variants.none c none) Set.univ (row6 i X hX B hB D hD Y hY v0 v3 (sw s) h kk) Q) := by
  unfold row6
  iintro ⟨HI, %y, HY⟩ Hk
  iapply (wp_pos c hi)
  rw [wp_bind]
  iapply (wp_part6 c fg fw i X hX B hB D hD Y hY x b d s e v0 v3 h hi) $$ HI
  iintro HI
  ihave HY := (wrote_of_owns c) $$ HY
  iapply (wp_peek c) $$ HY
  iintro HY
  iapply (wp_put c) $$ HY
  iintro HY
  iapply (wp_peek c) $$ HY
  iintro HY
  iapply (wp_put c) $$ HY
  iintro HY
  iapply Hk
  isplitl [HI]; · iexact HI
  iapply (owns_of_wrote c (cover6 x b d (gSlab c fg e) (dSlab c fw e)))
  iexact HY

theorem wp_row6_not (v6 : Elt F .i32) (h : k0_chk6 i v0 v3 v6) (hi : ¬ k0_cond6 i v0 v3 = 1#1) {Q : α → sProp 𝕄} (kk : PUnit.{1} → Prog (TpuEff nD τ sig (Elt F) Λ₀ .tc) α) :
    (wp frame (wpE (defs₀ (F := F)) Variants.none c none) Set.univ (kk ⟨⟩) Q : sProp 𝕄)
      ⊢ wp frame (wpE (defs₀ (F := F)) Variants.none c none) Set.univ (row6 i X hX B hB D hD Y hY v0 v3 v6 h kk) Q := by
  unfold row6; rw [dif_neg hi]

/-- The first 1024 rows' words and the products of a point whose block has at most 1024 rows. -/
abbrev rx7 : Rect S1024x512 := Rect.unit (s := S1024x512) ![0, 0] S1024x512.size inb_S1024x512_S1024x512_0_0
abbrev ry7 : Rect S1024x2x512 := Rect.unit (s := S1024x2x512) ![0, 0, 0] S1024x2x512.size inb_S1024x2x512_S1024x2x512_0_0_0

def pieces7 (g : Vec F S1x1024x2048 .f32) (w : Vec F S1x1024x1024 .f32) : List (View.Piece (Elt F) S1024x2x512 .bf16) :=
  [⟨ry7, k0_pay1 (k0_pay12 (View.ld x rx7) g (View.ld b rb) w (View.ld d rd)) (k0_pay13 (View.ld x rx7) g (View.ld b rb) w (View.ld d rd))⟩]

theorem cover7 (g : Vec F S1x1024x2048 .f32) (w : Vec F S1x1024x1024 .f32) (y : S1024x2x512.Idx) : ∃ p ∈ pieces7 x b d g w, y ∈ p.1.set :=
  View.cover_of_tiledBy (pieces7 x b d g w) ![256, 2, 512] (by sl_kernel_rfl) y

theorem wp_part7 (h : k0_chk6 i v0 v3 (sw s)) (hi : k0_cond7 i v0 v3 = 1#1) {Q : (Σ' (lo : FVec F S1024x512 .bf16), FVec F S1024x512 .bf16) → sProp 𝕄} :
    (ins c fg fw X B D x b d s e : sProp 𝕄)
      ⊢ iprop((ins c fg fw X B D x b d s e -∗ Q ⟨k0_pay12 (View.ld x rx7) (gSlab c fg e) (View.ld b rb) (dSlab c fw e) (View.ld d rd), k0_pay13 (View.ld x rx7) (gSlab c fg e) (View.ld b rb) (dSlab c fw e) (View.ld d rd)⟩)
          -∗ wp frame (wpE (defs₀ (F := F)) Variants.none c none) Set.univ
            (k0_part4 (F := F) i (Memref.whole main_arg0) (Memref.isWhole_whole _) (Memref.whole main_arg1) (Memref.isWhole_whole _) (Memref.whole main_v10) (Memref.isWhole_whole _) (Memref.whole main_v15) (Memref.isWhole_whole _) (Memref.whole main_v44) (Memref.isWhole_whole _) (Memref.whole main_arg2) (Memref.isWhole_whole _) X hX (Memref.whole main_arg4) (Memref.isWhole_whole _) B hB (Memref.whole main_arg6) (Memref.isWhole_whole _) D hD Y hY (Memref.whole cc0_scratch0) (Memref.isWhole_whole _) (Memref.whole cc0_scratch1) (Memref.isWhole_whole _) cc0_scratch2 v0 v3 (sw s) h hi) Q) := by
  rw [k0_part4_eq_skeleton]
  unfold k0_part4_skel ins
  iintro ⟨Hg, Hw, HX, HB, HD⟩ Hk
  iapply (wp_get c) $$ HX
  iintro HX
  iapply (wp_gload c fg (s := s) (e := e) (slot3 s)) $$ Hg
  iintro Hg
  iapply (wp_get c) $$ HB
  iintro HB
  iapply (wp_dload c fw (s := s) (e := e) (slot3 s)) $$ Hw
  iintro Hw
  iapply (wp_get c) $$ HD
  iintro HD
  rw [wp_pure]
  imodintro
  iapply Hk
  isplitl [Hg]; · iexact Hg
  isplitl [Hw]; · iexact Hw
  isplitl [HX]; · iexact HX
  isplitl [HB]; · iexact HB
  iexact HD

theorem wp_row7 (h : k0_chk6 i v0 v3 (sw s)) (hi : k0_cond7 i v0 v3 = 1#1) {Q : α → sProp 𝕄} (kk : PUnit.{1} → Prog (TpuEff nD τ sig (Elt F) Λ₀ .tc) α) :
    iprop(ins c fg fw X B D x b d s e ∗ ∃ y, owns (c : Thread nD τ) Y fullShare y)
      ⊢ iprop(((ins c fg fw X B D x b d s e ∗ owns (c : Thread nD τ) Y fullShare (View.canon (pieces7 x b d (gSlab c fg e) (dSlab c fw e))))
              -∗ wp frame (wpE (defs₀ (F := F)) Variants.none c none) Set.univ (kk ⟨⟩) Q)
          -∗ wp frame (wpE (defs₀ (F := F)) Variants.none c none) Set.univ (row7 i X hX B hB D hD Y hY v0 v3 (sw s) h kk) Q) := by
  unfold row7
  iintro ⟨HI, %y, HY⟩ Hk
  iapply (wp_pos c hi)
  rw [wp_bind]
  iapply (wp_part7 c fg fw i X hX B hB D hD Y hY x b d s e v0 v3 h hi) $$ HI
  iintro HI
  ihave HY := (wrote_of_owns c) $$ HY
  iapply (wp_peek c) $$ HY
  iintro HY
  iapply (wp_put c) $$ HY
  iintro HY
  iapply Hk
  isplitl [HI]; · iexact HI
  iapply (owns_of_wrote c (cover7 x b d (gSlab c fg e) (dSlab c fw e)))
  iexact HY

theorem wp_row7_not (v6 : Elt F .i32) (h : k0_chk6 i v0 v3 v6) (hi : ¬ k0_cond7 i v0 v3 = 1#1) {Q : α → sProp 𝕄} (kk : PUnit.{1} → Prog (TpuEff nD τ sig (Elt F) Λ₀ .tc) α) :
    (wp frame (wpE (defs₀ (F := F)) Variants.none c none) Set.univ (kk ⟨⟩) Q : sProp 𝕄)
      ⊢ wp frame (wpE (defs₀ (F := F)) Variants.none c none) Set.univ (row7 i X hX B hB D hD Y hY v0 v3 v6 h kk) Q := by
  unfold row7; rw [dif_neg hi]

/-- A point past the used blocks: zeros. -/
abbrev ry8 : Rect S1024x2x512 := Rect.unit (s := S1024x2x512) ![0, 0, 0] S1024x2x512.size inb_S1024x2x512_S1024x2x512_0_0_0
def pieces8 : List (View.Piece (Elt F) S1024x2x512 .bf16) := [⟨ry8, constant S1024x2x512 .bf16 0x0000#16⟩]

theorem cover8 (y : S1024x2x512.Idx) : ∃ p ∈ pieces8 (F := F), y ∈ p.1.set :=
  View.cover_of_tiledBy pieces8 ![256, 2, 512] (by sl_kernel_rfl) y

theorem wp_row8 (hi : k0_cond8 i v0 = 1#1) {Q : α → sProp 𝕄} (kk : PUnit.{1} → Prog (TpuEff nD τ sig (Elt F) Λ₀ .tc) α) :
    iprop(∃ y, owns (c : Thread nD τ) Y fullShare y)
      ⊢ iprop((owns (c : Thread nD τ) Y fullShare (View.canon pieces8) -∗ wp frame (wpE (defs₀ (F := F)) Variants.none c none) Set.univ (kk ⟨⟩) Q)
          -∗ wp frame (wpE (defs₀ (F := F)) Variants.none c none) Set.univ (row8 i Y hY v0 kk) Q) := by
  unfold row8
  iintro ⟨%y, HY⟩ Hk
  iapply (wp_pos c hi)
  ihave HY := (wrote_of_owns c) $$ HY
  iapply (wp_peek c) $$ HY
  iintro HY
  iapply (wp_put c) $$ HY
  iintro HY
  iapply Hk
  iapply (owns_of_wrote c cover8)
  iexact HY

theorem wp_row8_not (hi : ¬ k0_cond8 i v0 = 1#1) {Q : α → sProp 𝕄} (kk : PUnit.{1} → Prog (TpuEff nD τ sig (Elt F) Λ₀ .tc) α) :
    (wp frame (wpE (defs₀ (F := F)) Variants.none c none) Set.univ (kk ⟨⟩) Q : sProp 𝕄)
      ⊢ wp frame (wpE (defs₀ (F := F)) Variants.none c none) Set.univ (row8 i Y hY v0 kk) Q := by
  unfold row8; rw [dif_neg hi]

end Rows

end Cert.Kernel2Ideal.Ffn

end
-- ==== Proof.FfnBody.lean ====
/-
  One point of the expert call as a whole: from the slots' state before it to the state after it.
-/
module

public import proofs.«01_k».proof.Proof.FfnRows

@[expose] public section

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable {α : Type}

/-- The row blocks of the body's first part, and its second part. -/
def tail (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x2x512 .bf16) (hY : Y.IsWhole) (v0 v3 v6 : Elt F .i32) (h : k0_chk6 i v0 v3 v6) : Prog (TpuEff nD τ sig (Elt F) Λ₀ .tc) (Σ' (v0 : Elt F .i32) (v1 : BitVec 1) (v3 : Elt F .i32) (v4 : BitVec 32) (v6 : Elt F .i32) (k0_hw6 : k0_chk6 i v0 v3 v6), BitVec 1) :=
  row4 i X hX B hB D hD Y hY v0 v3 v6 h fun _ =>
  row5 i X hX B hB D hD Y hY v0 v3 v6 h fun _ =>
  row6 i X hX B hB D hD Y hY v0 v3 v6 h fun _ =>
  pure ⟨v0, Scalar.cmpi .slt (BitVec.ofNat 32 (i 0).val) v0, v3, Scalar.maxsi v3 1#32, v6, h,
    Scalar.andi (Scalar.cmpi .slt (BitVec.ofNat 32 (i 0).val) v0) (Scalar.cmpi .sgt (Scalar.maxsi v3 1#32) 768#32)⟩

def rest (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x2x512 .bf16) (hY : Y.IsWhole) (r : (Σ' (v0 : Elt F .i32) (v1 : BitVec 1) (v3 : Elt F .i32) (v4 : BitVec 32) (v6 : Elt F .i32) (k0_hw6 : k0_chk6 i v0 v3 v6), BitVec 1)) : Prog (TpuEff nD τ sig (Elt F) Λ₀ .tc) PUnit.{1} :=
  row7 i X hX B hB D hD Y hY r.1 r.2.2.1 r.2.2.2.2.1 r.2.2.2.2.2.1 fun _ => row8 i Y hY r.1 fun _ => pure ⟨⟩

def first (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x2x512 .bf16) (hY : Y.IsWhole) : Prog (TpuEff nD τ sig (Elt F) Λ₀ .tc) (Σ' (v0 : Elt F .i32) (v1 : BitVec 1) (v3 : Elt F .i32) (v4 : BitVec 32) (v6 : Elt F .i32) (k0_hw6 : k0_chk6 i v0 v3 v6), BitVec 1) := do
  let v0 : Elt F .i32 ← smemLoad (Memref.whole main_arg1) (Rect.unit (s := S1) ![0] S1.size inb_S1_S1_0) numel1_S1 rfl
  let v3 : Elt F .i32 ← smemLoad (Memref.whole main_arg2) (Rect.unit (s := S160) (k0_off1 i) S1.size (k0_off1_inb i)) numel1_S1 rfl
  let v6 : Elt F .i32 ← smemLoad (Memref.whole main_v15) (Rect.unit (s := S160) (k0_off1 i) S1.size (k0_off1_inb i)) numel1_S1 rfl
  have k0_hw6 : k0_chk6 i v0 v3 v6 := (← Prog.lift (TpuEff.assume (k0_chk6 i v0 v3 v6) (k0_chk6.dec i v0 v3 v6))).down
  blk1 i fun _ => do
    let v11 : Elt F .i32 ← smemLoad (Memref.whole main_v10) (Rect.unit (s := S160) (k0_off1 i) S1.size (k0_off1_inb i)) numel1_S1 rfl
    have k0_hw2 : k0_chk2 i v0 v6 v11 := (← Prog.lift (TpuEff.assume (k0_chk2 i v0 v6 v11) (k0_chk2.dec i v0 v6 v11))).down
    blk2 i v0 v6 v11 k0_hw2 fun _ => tail i X hX B hB D hD Y hY v0 v3 v6 k0_hw6

theorem blocks_eq (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x2x512 .bf16) (hY : Y.IsWhole) : blocks (F := F) i X hX B hB D hD Y hY = (first i X hX B hB D hD Y hY >>= rest i X hX B hB D hD Y hY) := rfl

/-- Which row block a point runs: exactly one of the five. -/
def One (i : grid0.Coords) (v0 v3 : Elt F .i32) : Prop :=
  (k0_cond4 i v0 v3 = 1#1 ∧ ¬ k0_cond5 i v0 v3 = 1#1 ∧ ¬ k0_cond6 i v0 v3 = 1#1 ∧ ¬ k0_cond7 i v0 v3 = 1#1 ∧ ¬ k0_cond8 i v0 = 1#1)
  ∨ (¬ k0_cond4 i v0 v3 = 1#1 ∧ k0_cond5 i v0 v3 = 1#1 ∧ ¬ k0_cond6 i v0 v3 = 1#1 ∧ ¬ k0_cond7 i v0 v3 = 1#1 ∧ ¬ k0_cond8 i v0 = 1#1)
  ∨ (¬ k0_cond4 i v0 v3 = 1#1 ∧ ¬ k0_cond5 i v0 v3 = 1#1 ∧ k0_cond6 i v0 v3 = 1#1 ∧ ¬ k0_cond7 i v0 v3 = 1#1 ∧ ¬ k0_cond8 i v0 = 1#1)
  ∨ (¬ k0_cond4 i v0 v3 = 1#1 ∧ ¬ k0_cond5 i v0 v3 = 1#1 ∧ ¬ k0_cond6 i v0 v3 = 1#1 ∧ k0_cond7 i v0 v3 = 1#1 ∧ ¬ k0_cond8 i v0 = 1#1)
  ∨ (¬ k0_cond4 i v0 v3 = 1#1 ∧ ¬ k0_cond5 i v0 v3 = 1#1 ∧ ¬ k0_cond6 i v0 v3 = 1#1 ∧ ¬ k0_cond7 i v0 v3 = 1#1 ∧ k0_cond8 i v0 = 1#1)

/-- The pieces a point stores in the result's staging buffer, and what they leave there. -/
def piecesAt (i : grid0.Coords) (v0 v3 : Elt F .i32) (x : Vec F S1024x512 .i32) (b : Vec F S1x1x2048 .f32) (d : Vec F S1x1x1024 .f32)
    (g : Vec F S1x1024x2048 .f32) (w : Vec F S1x1024x1024 .f32) : List (View.Piece (Elt F) S1024x2x512 .bf16) :=
  if k0_cond4 i v0 v3 = 1#1 then pieces4 x b d g w else if k0_cond5 i v0 v3 = 1#1 then pieces5 x b d g w
  else if k0_cond6 i v0 v3 = 1#1 then pieces6 x b d g w else if k0_cond7 i v0 v3 = 1#1 then pieces7 x b d g w else pieces8

abbrev outAt (i : grid0.Coords) (v0 v3 : Elt F .i32) (x : Vec F S1024x512 .i32) (b : Vec F S1x1x2048 .f32) (d : Vec F S1x1x1024 .f32)
    (g : Vec F S1x1024x2048 .f32) (w : Vec F S1x1024x1024 .f32) : Vec F S1024x2x512 .bf16 := View.canon (piecesAt i v0 v3 x b d g w)

section Point

variable (c : Dev nD) (fg : Buf (Elt F) ((c : Thread nD τ).loc main_arg4)) (fw : Buf (Elt F) ((c : Thread nD τ).loc main_arg6))
  (i : grid0.Coords) (X : Memref sig .tc .vmem S1024x512 .i32) (hX : X.IsWhole) (B : Memref sig .tc .vmem S1x1x2048 .f32) (hB : B.IsWhole) (D : Memref sig .tc .vmem S1x1x1024 .f32) (hD : D.IsWhole) (Y : Memref sig .tc .vmem S1024x2x512 .bf16) (hY : Y.IsWhole)
  (x : Vec F S1024x512 .i32) (b : Vec F S1x1x2048 .f32) (d : Vec F S1x1x1024 .f32) (s : Fin 2) (e : Fin 32) (v0 v3 v6 : Elt F .i32)

theorem wp_tail (h : k0_chk6 i v0 v3 v6) (hone : One (F := F) i v0 v3) (hs : ¬ k0_cond8 i v0 = 1#1 → v6 = sw s) {Q : PUnit.{1} → sProp 𝕄} :
    iprop(ins c fg fw X B D x b d s e ∗ ∃ y, owns (c : Thread nD τ) Y fullShare y)
      ⊢ iprop(((ins c fg fw X B D x b d s e ∗ owns (c : Thread nD τ) Y fullShare (outAt i v0 v3 x b d (gSlab c fg e) (dSlab c fw e))) -∗ Q ⟨⟩)
          -∗ wp frame (wpE (defs₀ (F := F)) Variants.none c none) Set.univ (tail i X hX B hB D hD Y hY v0 v3 v6 h) fun r => wp frame (wpE (defs₀ (F := F)) Variants.none c none) Set.univ (rest i X hX B hB D hD Y hY r) Q) := by
  unfold tail outAt piecesAt
  rcases hone with ⟨h4, h5, h6, h7, h8⟩ | ⟨h4, h5, h6, h7, h8⟩ | ⟨h4, h5, h6, h7, h8⟩ | ⟨h4, h5, h6, h7, h8⟩ | ⟨h4, h5, h6, h7, h8⟩
  · obtain rfl := hs h8
    rw [if_pos h4]
    iintro HI Hk
    iapply (wp_row4 c fg fw i X hX B hB D hD Y hY x b d s e v0 v3 h h4) $$ HI
    iintro HI
    iapply (wp_row5_not c i X hX B hB D hD Y hY v0 v3 _ h h5)
    iapply (wp_row6_not c i X hX B hB D hD Y hY v0 v3 _ h h6)
    rw [wp_pure]
    imodintro
    unfold rest
    iapply (wp_row7_not c i X hX B hB D hD Y hY v0 v3 _ h h7)
    iapply (wp_row8_not c i Y hY v0 h8)
    rw [wp_pure]
    imodintro
    iapply Hk
    iexact HI
  · obtain rfl := hs h8
    rw [if_neg h4, if_pos h5]
    iintro HI Hk
    iapply (wp_row4_not c i X hX B hB D hD Y hY v0 v3 _ h h4)
    iapply (wp_row5 c fg fw i X hX B hB D hD Y hY x b d s e v0 v3 h h5) $$ HI
    iintro HI
    iapply (wp_row6_not c i X hX B hB D hD Y hY v0 v3 _ h h6)
    rw [wp_pure]
    imodintro
    unfold rest
    iapply (wp_row7_not c i X hX B hB D hD Y hY v0 v3 _ h h7)
    iapply (wp_row8_not c i Y hY v0 h8)
    rw [wp_pure]
    imodintro
    iapply Hk
    iexact HI
  · obtain rfl := hs h8
    rw [if_neg h4, if_neg h5, if_pos h6]
    iintro HI Hk
    iapply (wp_row4_not c i X hX B hB D hD Y hY v0 v3 _ h h4)
    iapply (wp_row5_not c i X hX B hB D hD Y hY v0 v3 _ h h5)
    iapply (wp_row6 c fg fw i X hX B hB D hD Y hY x b d s e v0 v3 h h6) $$ HI
    iintro HI
    rw [wp_pure]
    imodintro
    unfold rest
    iapply (wp_row7_not c i X hX B hB D hD Y hY v0 v3 _ h h7)
    iapply (wp_row8_not c i Y hY v0 h8)
    rw [wp_pure]
    imodintro
    iapply Hk
    iexact HI
  · obtain rfl := hs h8
    rw [if_neg h4, if_neg h5, if_neg h6, if_pos h7]
    iintro HI Hk
    iapply (wp_row4_not c i X hX B hB D hD Y hY v0 v3 _ h h4)
    iapply (wp_row5_not c i X hX B hB D hD Y hY v0 v3 _ h h5)
    iapply (wp_row6_not c i X hX B hB D hD Y hY v0 v3 _ h h6)
    rw [wp_pure]
    imodintro
    unfold rest
    iapply (wp_row7 c fg fw i X hX B hB D hD Y hY x b d s e v0 v3 h h7) $$ HI
    iintro HI
    iapply (wp_row8_not c i Y hY v0 h8)
    rw [wp_pure]
    imodintro
    iapply Hk
    iexact HI
  · rw [if_neg h4, if_neg h5, if_neg h6, if_neg h7]
    iintro HI Hk
    iapply (wp_row4_not c i X hX B hB D hD Y hY v0 v3 _ h h4)
    iapply (wp_row5_not c i X hX B hB D hD Y hY v0 v3 _ h h5)
    iapply (wp_row6_not c i X hX B hB D hD Y hY v0 v3 _ h h6)
    rw [wp_pure]
    imodintro
    unfold rest
    iapply (wp_row7_not c i X hX B hB D hD Y hY v0 v3 _ h h7)
    icases HI with ⟨HI, HY⟩
    iapply (wp_row8 c i Y hY v0 h8) $$ HY
    iintro HY
    ihave HI : iprop(ins c fg fw X B D x b d s e ∗ owns (c : Thread nD τ) Y fullShare (View.canon pieces8)) $$ [HI HY]
    · isplitl [HI]; · iexact HI
      iexact HY
    rw [wp_pure]
    imodintro
    iapply Hk
    iexact HI

/-- What the slots hold between two points: the current slot, its expert, and the expert on its way to the other slot. -/
structure St where
  s : Fin 2
  e : Fin 32
  p : Option (Fin 32)

def held (st : St) : sProp 𝕄 := iprop(has c fg fw st.s st.e ∗ ahead c fg fw st.s.rev st.p)
def start : sProp 𝕄 := iprop(free c 0 ∗ free c 1 ∗ arrs c fg fw)

theorem has_free (s : Fin 2) (e : Fin 32) : (has c fg fw s e : sProp 𝕄) ⊢ free c s := by
  unfold has free gHas dHas gFree dFree
  iintro ⟨⟨%f, Hf, -⟩, ⟨%g, Hg, -⟩, Hs, Hd⟩
  isplitl [Hf]; · iexists f; iexact Hf
  isplitl [Hg]; · iexists g; iexact Hg
  isplitl [Hs]; · iexact Hs
  iexact Hd

theorem ahead_some (s : Fin 2) (e : Fin 32) : (ahead c fg fw s (some e) : sProp 𝕄) ⊢ fly c fg fw s e := .rfl

variable (tb : Buf (Elt F) ((c : Thread nD τ).loc main_arg0)) (tv : Buf (Elt F) ((c : Thread nD τ).loc main_arg1))
  (tf : Buf (Elt F) ((c : Thread nD τ).loc main_v10)) (ts : Buf (Elt F) ((c : Thread nD τ).loc main_v15))
  (tn : Buf (Elt F) ((c : Thread nD τ).loc main_v44)) (tr : Buf (Elt F) ((c : Thread nD τ).loc main_arg2))

def tabs : sProp 𝕄 :=
  iprop(tab c main_arg0 tb ∗ tab c main_arg1 tv ∗ tab c main_v10 tf ∗ tab c main_v15 ts ∗ tab c main_v44 tn ∗ tab c main_arg2 tr)

/-- A point's staging buffers before and after it, and what it owes. -/
def stages : sProp 𝕄 :=
  iprop(owns (c : Thread nD τ) X fullShare x ∗ owns (c : Thread nD τ) B fullShare b ∗ owns (c : Thread nD τ) D fullShare d
    ∗ (∃ y, owns (c : Thread nD τ) Y fullShare y) ∗ ∃ W, owes (c : Thread nD τ) 0 W)
def done (y : Vec F S1024x2x512 .bf16) : sProp 𝕄 :=
  iprop(owns (c : Thread nD τ) X fullShare x ∗ owns (c : Thread nD τ) B fullShare b ∗ owns (c : Thread nD τ) D fullShare d
    ∗ owns (c : Thread nD τ) Y fullShare y ∗ ∃ W, owes (c : Thread nD τ) 0 W)

/-- How a point moves the slots' state. -/
inductive Move : Option St → St → Prop
  | first (hc : k0_cond1 i = 1#1) (hn : k0_cond2 i (wNv c tv) (wFirst c i tf) = 1#1) (e : Fin 32) (he : wBe c i tb = ew e) (he0 : wBe0 c tb = ew e)
      (hs : wSlot c i ts = sw 0) (p : Option (Fin 32))
      (hp : (∃ e', p = some e' ∧ wNxt c i tn = ew e' ∧ k0_cond3 (wNxt c i tn) = 1#1) ∨ (p = none ∧ ¬ k0_cond3 (wNxt c i tn) = 1#1)) :
      Move none ⟨0, e, p⟩
  | new (hc : ¬ k0_cond1 i = 1#1) (hn : k0_cond2 i (wNv c tv) (wFirst c i tf) = 1#1) (s : Fin 2) (e' e : Fin 32) (he : wBe c i tb = ew e)
      (hs : wSlot c i ts = sw s.rev) (p : Option (Fin 32))
      (hp : (∃ e', p = some e' ∧ wNxt c i tn = ew e' ∧ k0_cond3 (wNxt c i tn) = 1#1) ∨ (p = none ∧ ¬ k0_cond3 (wNxt c i tn) = 1#1)) :
      Move (some ⟨s, e', some e⟩) ⟨s.rev, e, p⟩
  | same (hc : ¬ k0_cond1 i = 1#1) (hn : ¬ k0_cond2 i (wNv c tv) (wFirst c i tf) = 1#1) (st : St) (q : Fin 2)
      (hs : wSlot c i ts = sw q) (hq : ¬ k0_cond8 i (wNv c tv) = 1#1 → q = st.s) : Move (some st) st

def state : Option St → sProp 𝕄
  | none => start c fg fw
  | some st => held c fg fw st

theorem wp_point (o : Option St) (st : St) (hm : Move c i tb tv tf ts tn o st)
    (hone : One (F := F) i (wNv c tv) (wRows c i tr)) {Q : PUnit.{1} → sProp 𝕄} :
    iprop(tabs c tb tv tf ts tn tr ∗ state c fg fw o ∗ stages c X B D Y x b d)
      ⊢ iprop((iprop(tabs c tb tv tf ts tn tr ∗ held c fg fw st
            ∗ done c X B D Y x b d (outAt i (wNv c tv) (wRows c i tr) x b d (gSlab c fg st.e) (dSlab c fw st.e))) -∗ Q ⟨⟩)
          -∗ wp frame (wpE (defs₀ (F := F)) Variants.none c none) Set.univ (blocks i X hX B hB D hD Y hY) Q) := by
  rw [blocks_eq, wp_bind]
  unfold first tabs stages done
  iintro ⟨⟨Tb, Tv, Tf, Ts, Tn, Tr⟩, HS, HX, HB, HD, HY, HO⟩ Hk
  iapply (wp_word c (Memref.whole main_arg1) _ _ _ (v := wNv c tv) rfl) $$ Tv
  iintro Tv
  iapply (wp_word c (Memref.whole main_arg2) _ _ _ (v := wRows c i tr) rfl) $$ Tr
  iintro Tr
  cases hm with
  | first hc hn e he he0 hs p hp =>
    unfold state
    iapply (wp_word c (Memref.whole main_v15) _ _ _ hs) $$ Ts
    iintro Ts
    iapply (wp_chk c (chk6 i _ _ 0))
    unfold start
    icases HS with ⟨F0, F1, HA⟩
    iapply (wp_blk1 c fg fw tb i hc e he0) $$ [Tb F0 HA]
    · isplitl [Tb]; · iexact Tb
      isplitl [F0]; · iexact F0
      iexact HA
    iintro ⟨Tb, HF⟩
    iapply (wp_word c (Memref.whole main_v10) _ _ _ (v := wFirst c i tf) rfl) $$ Tf
    iintro Tf
    iapply (wp_chk c (chk2 i _ _ 0))
    iapply (wp_blk2 c fg fw tb tn i (wNv c tv) (wFirst c i tf) 0 _ hn e he p hp) $$ [Tb Tn HF F1 HO]
    · isplitl [Tb]; · iexact Tb
      isplitl [Tn]; · iexact Tn
      isplitl [HF]; · iexact HF
      isplitl [F1]; · iexact F1
      iexact HO
    iintro ⟨Tb, Tn, HH, HA, HO⟩
    unfold has
    icases HH with ⟨Hg, Hw, Hs0, Hs1⟩
    iapply (wp_tail c fg fw i X hX B hB D hD Y hY x b d 0 e (wNv c tv) (wRows c i tr) _ _ hone (fun _ => rfl)) $$ [Hg Hw HX HB HD HY]
    · unfold ins
      isplitr [HY]
      · isplitl [Hg]; · iexact Hg
        isplitl [Hw]; · iexact Hw
        isplitl [HX]; · iexact HX
        isplitl [HB]; · iexact HB
        iexact HD
      iexact HY
    unfold ins
    iintro ⟨⟨Hg, Hw, HX, HB, HD⟩, HY⟩
    iapply Hk
    isplitl [Tb Tv Tf Ts Tn Tr]
    · isplitl [Tb]; · iexact Tb
      isplitl [Tv]; · iexact Tv
      isplitl [Tf]; · iexact Tf
      isplitl [Ts]; · iexact Ts
      isplitl [Tn]; · iexact Tn
      iexact Tr
    isplitl [Hg Hw Hs0 Hs1 HA]
    · unfold held has; dsimp only
      isplitr [HA]
      · isplitl [Hg]; · iexact Hg
        isplitl [Hw]; · iexact Hw
        isplitl [Hs0]; · iexact Hs0
        iexact Hs1
      iexact HA
    isplitl [HX]; · iexact HX
    isplitl [HB]; · iexact HB
    isplitl [HD]; · iexact HD
    isplitl [HY]; · iexact HY
    iexact HO
  | new hc hn s e' e he hs p hp =>
    unfold state
    iapply (wp_word c (Memref.whole main_v15) _ _ _ hs) $$ Ts
    iintro Ts
    iapply (wp_chk c (chk6 i _ _ s.rev))
    iapply (wp_blk1_not c i hc)
    unfold held
    icases HS with ⟨HH, HF⟩
    ihave HF := (ahead_some c fg fw s.rev e) $$ HF
    ihave F1 := (has_free c fg fw _ _) $$ HH
    iapply (wp_word c (Memref.whole main_v10) _ _ _ (v := wFirst c i tf) rfl) $$ Tf
    iintro Tf
    iapply (wp_chk c (chk2 i _ _ s.rev))
    iapply (wp_blk2 c fg fw tb tn i (wNv c tv) (wFirst c i tf) s.rev _ hn e he p hp) $$ [Tb Tn HF F1 HO]
    · isplitl [Tb]; · iexact Tb
      isplitl [Tn]; · iexact Tn
      isplitl [HF]; · iexact HF
      isplitl [F1]; · rw [Fin.rev_rev]; iexact F1
      iexact HO
    iintro ⟨Tb, Tn, HH, HA, HO⟩
    unfold has
    icases HH with ⟨Hg, Hw, Hs0, Hs1⟩
    iapply (wp_tail c fg fw i X hX B hB D hD Y hY x b d s.rev e (wNv c tv) (wRows c i tr) _ _ hone (fun _ => rfl)) $$ [Hg Hw HX HB HD HY]
    · unfold ins
      isplitr [HY]
      · isplitl [Hg]; · iexact Hg
        isplitl [Hw]; · iexact Hw
        isplitl [HX]; · iexact HX
        isplitl [HB]; · iexact HB
        iexact HD
      iexact HY
    unfold ins
    iintro ⟨⟨Hg, Hw, HX, HB, HD⟩, HY⟩
    iapply Hk
    isplitl [Tb Tv Tf Ts Tn Tr]
    · isplitl [Tb]; · iexact Tb
      isplitl [Tv]; · iexact Tv
      isplitl [Tf]; · iexact Tf
      isplitl [Ts]; · iexact Ts
      isplitl [Tn]; · iexact Tn
      iexact Tr
    isplitl [Hg Hw Hs0 Hs1 HA]
    · dsimp only
      isplitr [HA]
      · isplitl [Hg]; · iexact Hg
        isplitl [Hw]; · iexact Hw
        isplitl [Hs0]; · iexact Hs0
        iexact Hs1
      iexact HA
    isplitl [HX]; · iexact HX
    isplitl [HB]; · iexact HB
    isplitl [HD]; · iexact HD
    isplitl [HY]; · iexact HY
    iexact HO
  | same hc hn st q hs hq =>
    unfold state
    iapply (wp_word c (Memref.whole main_v15) _ _ _ hs) $$ Ts
    iintro Ts
    iapply (wp_chk c (chk6 i _ _ q))
    iapply (wp_blk1_not c i hc)
    iapply (wp_word c (Memref.whole main_v10) _ _ _ (v := wFirst c i tf) rfl) $$ Tf
    iintro Tf
    iapply (wp_chk c (chk2 i _ _ q))
    iapply (wp_blk2_not c i _ _ _ _ hn)
    unfold held has
    icases HS with ⟨⟨Hg, Hw, Hs0, Hs1⟩, HA⟩
    iapply (wp_tail c fg fw i X hX B hB D hD Y hY x b d st.s st.e (wNv c tv) (wRows c i tr) _ _ hone (fun h => (congrArg sw (hq h)))) $$ [Hg Hw HX HB HD HY]
    · unfold ins
      isplitr [HY]
      · isplitl [Hg]; · iexact Hg
        isplitl [Hw]; · iexact Hw
        isplitl [HX]; · iexact HX
        isplitl [HB]; · iexact HB
        iexact HD
      iexact HY
    unfold ins
    iintro ⟨⟨Hg, Hw, HX, HB, HD⟩, HY⟩
    iapply Hk
    isplitl [Tb Tv Tf Ts Tn Tr]
    · isplitl [Tb]; · iexact Tb
      isplitl [Tv]; · iexact Tv
      isplitl [Tf]; · iexact Tf
      isplitl [Ts]; · iexact Ts
      isplitl [Tn]; · iexact Tn
      iexact Tr
    isplitl [Hg Hw Hs0 Hs1 HA]
    · skip
      isplitr [HA]
      · isplitl [Hg]; · iexact Hg
        isplitl [Hw]; · iexact Hw
        isplitl [Hs0]; · iexact Hs0
        iexact Hs1
      iexact HA
    isplitl [HX]; · iexact HX
    isplitl [HB]; · iexact HB
    isplitl [HD]; · iexact HD
    isplitl [HY]; · iexact HY
    iexact HO

end Point

end Cert.Kernel2Ideal.Ffn

end
-- ==== Proof.FfnWords.lean ====
/-
  What the words of the host's tables say: which blocks start a run of one expert, in which slot, and who follows.
-/
module

public import proofs.«01_k».proof.Proof.Gen.Kernel2Ideal.Launch
public import Idealize.ShloMosaic.Lib.Routing.OpsSet
public import Idealize.ShloMosaic.Lib.Pointwise

public import Mathlib.Data.Finset.Fold
public import Idealize.ShloMosaic.PureOps.Reduce

@[expose] public section

noncomputable section

namespace Cert.Kernel2Ideal.Ffn

open Cert.Kernel2Ideal Cert.Kernel2Ideal.Gen
open Idealize.ShloMosaic Idealize.ShloMosaic.TcCoe Idealize.ShloMosaic.Tactic
/-! ### The tables as functions of the block experts and the number of used blocks -/

def hPos : IVec S160 32 := iotaInDim S160 32 0
def hUsed (nv : IVec S1 32) : IVec S160 1 :=
  cmpi .slt hPos (broadcastInDim S160 ![] bcast_S_S160 (shapeCast S_ nv shapeCasts_S1_S_))
def hHead : IVec S160 1 := cmpi .eq hPos (broadcastInDim S160 ![] bcast_S_S160 (constantI S_ 32 0#32))
def hBefore (be : IVec S160 32) : IVec S160 32 :=
  concatenate S160 0 [⟨S1, extractStridedSlice S1 ![159] be slices_S160_S1_159⟩, ⟨S159, extractStridedSlice S159 ![0] be slices_S160_S159_0⟩] concatenates_S1_S159_S160_d0
def hFirst (be : IVec S160 32) (nv : IVec S1 32) : IVec S160 32 :=
  extui 32 (andi (hUsed nv) (ori hHead (cmpi .ne be (hBefore be)))) natLt_1_32
def hCount (f : IVec S160 32) : IVec S160 32 :=
  Host.reduceWindow IntOp.addi ![160] ![1] ![159] ![0] f (broadcastInDim S_ ![] bcast_S_S_ (constantI S_ 32 0#32)) reduceWindows_S160_S160_w160s1p159_0 h_S_
def hSlot (f : IVec S160 32) : IVec S160 32 :=
  andi (subi (hCount f) (broadcastInDim S160 ![] bcast_S_S160 (constantI S_ 32 1#32))) (broadcastInDim S160 ![] bcast_S_S160 (constantI S_ 32 1#32))
def hRow {w : ℕ} (x : IVec S160 w) : IVec S160x160 w :=
  broadcastInDim S160x160 ![0, 1] bcast_S1x160_S160x160_0_1 (broadcastInDim S1x160 ![1] bcast_S160_S1x160_1 x)
def hCol {w : ℕ} (x : IVec S160 w) : IVec S160x160 w :=
  broadcastInDim S160x160 ![0, 1] bcast_S160x1_S160x160_0_1 (broadcastInDim S160x1 ![0] bcast_S160_S160x1_0 x)
def hLater (be : IVec S160 32) (nv : IVec S1 32) : IVec S160x160 1 :=
  andi (andi (hRow (hUsed nv)) (cmpi .sgt (hRow hPos) (hCol hPos))) (cmpi .ne (hRow be) (hCol be))
def hCand (be : IVec S160 32) (nv : IVec S1 32) : IVec S160x160 32 :=
  select (hLater be nv) (hRow hPos) (broadcastInDim S160x160 ![] bcast_S_S160x160 (constantI S_ 32 160#32))
def hNext (be : IVec S160 32) (nv : IVec S1 32) : IVec S160 32 :=
  Host.reduce IntOp.minsi (hCand be nv) (constantI S_ 32 2147483647#32) reducesTo_S160x160_S160_d1 h_S_
def hWrap (n : IVec S160 32) : IVec S160 32 :=
  have k := minsi n (broadcastInDim S160 ![] bcast_S_S160 (constantI S_ 32 159#32))
  select (cmpi .slt k (broadcastInDim S160 ![] bcast_S_S160 (constantI S_ 32 0#32)))
    (addi k (broadcastInDim S160 ![] bcast_S_S160 (constantI S_ 32 160#32))) k
def hTake (be n : IVec S160 32) : IVec S160 32 :=
  select (cmpi .slt n (broadcastInDim S160 ![] bcast_S_S160 (constantI S_ 32 160#32)))
    (Host.gather gather_S160_S160x1_S160_n_0_n_n_0_1_1 be (broadcastInDim S160x1 ![0] bcast_S160_S160x1_0 (hWrap n)))
    (broadcastInDim S160 ![] bcast_S_S160 (constantI S_ 32 4294967295#32))
def hNxt (be : IVec S160 32) (nv : IVec S1 32) : IVec S160 32 := hTake be (hNext be nv)

open Idealize.ShloMosaic.Routing

section Words

theorem andi_one (x y : BitVec 1) : IntOp.andi x y = 1#1 ↔ x = 1#1 ∧ y = 1#1 := by revert x y; decide
theorem ori_one (x y : BitVec 1) : IntOp.ori x y = 1#1 ↔ x = 1#1 ∨ y = 1#1 := by revert x y; decide
theorem ofBool_one (b : Bool) : BitVec.ofBool b = 1#1 ↔ b = true := by revert b; decide
theorem slt_one (x y : BitVec 32) : IntOp.cmpi .slt x y = 1#1 ↔ x.toInt < y.toInt := by
  rw [show IntOp.cmpi .slt x y = BitVec.ofBool (x.slt y) from rfl, ofBool_one, BitVec.slt_iff_toInt_lt]
theorem sgt_one (x y : BitVec 32) : IntOp.cmpi .sgt x y = 1#1 ↔ y.toInt < x.toInt := by
  rw [show IntOp.cmpi .sgt x y = BitVec.ofBool (y.slt x) from rfl, ofBool_one, BitVec.slt_iff_toInt_lt]
theorem sge_one (x y : BitVec 32) : IntOp.cmpi .sge x y = 1#1 ↔ y.toInt ≤ x.toInt := by
  rw [show IntOp.cmpi .sge x y = BitVec.ofBool (y.sle x) from rfl, ofBool_one, BitVec.sle_iff_toInt_le]
theorem sle_one (x y : BitVec 32) : IntOp.cmpi .sle x y = 1#1 ↔ x.toInt ≤ y.toInt := by
  rw [show IntOp.cmpi .sle x y = BitVec.ofBool (x.sle y) from rfl, ofBool_one, BitVec.sle_iff_toInt_le]
theorem eq_one (x y : BitVec 32) : IntOp.cmpi .eq x y = 1#1 ↔ x = y := by
  rw [show IntOp.cmpi .eq x y = BitVec.ofBool (x == y) from rfl, ofBool_one, beq_iff_eq]
theorem ne_one (x y : BitVec 32) : IntOp.cmpi .ne x y = 1#1 ↔ x ≠ y := by
  rw [show IntOp.cmpi .ne x y = BitVec.ofBool (x != y) from rfl, ofBool_one, bne_iff_ne]
theorem int_small {n : ℕ} (h : n < 2 ^ 31) : (BitVec.ofNat 32 n).toInt = n := by
  rw [BitVec.toInt_eq_toNat_cond, BitVec.toNat_ofNat, Nat.mod_eq_of_lt (by omega), if_pos (by omega)]
theorem zext_cases (b : BitVec 1) : BitVec.setWidth 32 b = if b = 1#1 then 1#32 else 0#32 := by revert b; decide
theorem minsi_small {a b : ℕ} (ha : a < 2 ^ 31) (hb : b < 2 ^ 31) :
    IntOp.minsi (BitVec.ofNat 32 a) (BitVec.ofNat 32 b) = BitVec.ofNat 32 (min a b) := by
  unfold IntOp.minsi
  by_cases h : a < b
  · rw [if_pos (by rw [BitVec.slt_iff_toInt_lt, int_small ha, int_small hb]; omega), min_eq_left (by omega)]
  · rw [if_neg (by rw [BitVec.slt_iff_toInt_lt, int_small ha, int_small hb]; omega), min_eq_right (by omega)]
theorem select_one {α : Type} {p : BitVec 1} (h : p = 1#1) (a b : α) : Scalar.select p a b = a := if_pos h
theorem select_not {α : Type} {p : BitVec 1} (h : ¬ p = 1#1) (a b : α) : Scalar.select p a b = b := if_neg h

end Words

section Entries

variable (be : IVec S160 32) (nv : IVec S1 32)

/-- Block `t` is used; it starts a run of one expert; a later block is another expert's. -/
def Used (t : Fin 160) : Prop := (t.val : ℤ) < (nv (ix1 0)).toInt
def Starts (t : Fin 160) : Prop := Used nv t ∧ (t.val = 0 ∨ ∀ h : t.val - 1 < 160, be (ix1 t) ≠ be (ix1 ⟨t.val - 1, h⟩))
def Later (t s : Fin 160) : Prop := Used nv s ∧ t.val < s.val ∧ be (ix1 s) ≠ be (ix1 t)

theorem hUsed_at (t : Fin 160) : hUsed nv (ix1 t) = 1#1 ↔ Used nv t := by
  unfold hUsed hPos
  pointwise
  rw [slt_one, int_small (by have := t.isLt; omega)]
  rfl

open Classical in
theorem hFirst_at (t : Fin 160) : hFirst be nv (ix1 t) = if Starts be nv t then 1#32 else 0#32 := by
  have ht := t.isLt
  unfold hFirst hUsed hPos hHead hBefore
  pointwise
  rw [zext_cases]
  congr 1
  rw [andi_one, slt_one, int_small (by omega), ori_one, eq_one, ne_one]
  refine propext (and_congr Iff.rfl ?_)
  have h0 : hPos (ix1 t) = 0#32 ↔ t.val = 0 := by
    rw [show hPos (ix1 t) = BitVec.ofNat 32 t.val from rfl, ← BitVec.toNat_inj, BitVec.toNat_ofNat, BitVec.toNat_ofNat]
    omega
  rw [h0]
  by_cases h : t.val = 0
  · exact ⟨fun _ => Or.inl h, fun _ => Or.inl h⟩
  · rw [dif_neg (by omega)]
    exact or_congr Iff.rfl ⟨fun g _ => g, fun g => g (by omega)⟩

theorem hFirst_one (t : Fin 160) : hFirst be nv (ix1 t) = 1#32 ↔ Starts be nv t := by
  classical
  rw [hFirst_at]
  by_cases h : Starts be nv t
  · simp [h]
  · simp [h]

open Classical in
def cand (t s : Fin 160) : ℕ := if Later be nv t s then s.val else 160

theorem hCand_at (t s : Fin 160) : hCand be nv (ix2 t s) = BitVec.ofNat 32 (cand be nv t s) := by
  have ht := t.isLt; have hs := s.isLt
  unfold hCand hLater hRow hCol hUsed hPos cand
  pointwise
  have key : IntOp.andi
        (IntOp.andi (IntOp.cmpi CmpIPredicate.slt (BitVec.ofNat 32 ↑s) (nv (ix1 0)))
          (IntOp.cmpi CmpIPredicate.sgt (BitVec.ofNat 32 ↑s) (BitVec.ofNat 32 ↑t)))
        (IntOp.cmpi CmpIPredicate.ne (be (ix1 s)) (be (ix1 t))) = 1#1 ↔ Later be nv t s := by
    rw [andi_one, andi_one, slt_one, sgt_one, ne_one, int_small (by omega), int_small (by omega), and_assoc]
    exact and_congr Iff.rfl (and_congr (by omega) Iff.rfl)
  by_cases h : Later be nv t s
  · rw [select_one (key.2 h), if_pos h]
  · rw [select_not (fun g => h (key.1 g)), if_neg h]

def soonest (t : Fin 160) : ℕ := (Finset.univ : Finset (Fin 160)).fold min 2147483647 (cand be nv t)

theorem reduces_row : S160x160.Reduces [1] S160 := by decide

theorem fold_small (S : Finset (Fin 160)) (f : Fin 160 → ℕ) (hf : ∀ i, f i < 2 ^ 31) :
    S.fold min 2147483647 f < 2 ^ 31 ∧
      S.fold IntOp.minsi 2147483647#32 (fun i => BitVec.ofNat 32 (f i)) = BitVec.ofNat 32 (S.fold min 2147483647 f) := by
  classical
  induction S using Finset.induction_on with
  | empty => exact ⟨by simp, rfl⟩
  | insert a S ha ih =>
    rw [Finset.fold_insert ha, Finset.fold_insert ha, ih.2, minsi_small (hf a) ih.1]
    exact ⟨lt_of_le_of_lt (min_le_right _ _) ih.1, rfl⟩

theorem cand_lt (t s : Fin 160) : cand be nv t s ≤ 160 := by
  unfold cand; split
  · exact s.isLt.le
  · exact le_rfl

theorem hNext_at (t : Fin 160) : hNext be nv (ix1 t) = BitVec.ofNat 32 (soonest be nv t) := by
  unfold hNext
  rw [Host.reduce_eq_fold_single IntOp.minsi _ _ _ reduces_row]
  refine Eq.trans ?_ (fold_small Finset.univ (cand be nv t) fun i => lt_of_le_of_lt (cand_lt be nv t i) (by norm_num)).2
  refine Finset.fold_congr fun s _ => ?_
  refine Eq.trans (congrArg (hCand be nv) ?_) (hCand_at be nv t s)
  funext a
  fin_cases a <;> rfl

theorem soonest_le (t : Fin 160) : soonest be nv t ≤ 160 :=
  (Finset.fold_min_le _).2 (Or.inr ⟨t, Finset.mem_univ _, cand_lt be nv t t⟩)
theorem soonest_not (t s : Fin 160) (h : s.val < soonest be nv t) : ¬ Later be nv t s := fun g => by
  have := ((Finset.le_fold_min (s := Finset.univ) (f := cand be nv t) (b := 2147483647) _).1 le_rfl).2 s (Finset.mem_univ _)
  unfold soonest at h
  unfold cand at this h
  rw [if_pos g] at this
  omega
theorem soonest_later (t : Fin 160) (h : soonest be nv t < 160) : Later be nv t ⟨soonest be nv t, h⟩ := by
  obtain h' | ⟨s, -, hs⟩ := (Finset.fold_min_le (s := Finset.univ) (f := cand be nv t) (b := 2147483647) (soonest be nv t)).1 le_rfl
  · omega
  · have h2 := ((Finset.le_fold_min (s := Finset.univ) (f := cand be nv t) (b := 2147483647) _).1 le_rfl).2 s (Finset.mem_univ _)
    have h3 : cand be nv t s = soonest be nv t := le_antisymm hs h2
    unfold cand at h3
    by_cases g : Later be nv t s
    · rw [if_pos g] at h3
      have : (⟨soonest be nv t, h⟩ : Fin 160) = s := Fin.ext h3.symm
      rw [this]; exact g
    · rw [if_neg g] at h3; omega

theorem hWrap_at (n : IVec S160 32) (t : Fin 160) {k : ℕ} (hk : k ≤ 160) (hn : n (ix1 t) = BitVec.ofNat 32 k) :
    hWrap n (ix1 t) = BitVec.ofNat 32 (min k 159) := by
  unfold hWrap
  pointwise
  rw [hn, show (159#32 : BitVec 32) = BitVec.ofNat 32 159 from rfl, minsi_small (by omega) (by omega), select_not]
  rw [slt_one, int_small (by omega)]
  simp
theorem hTake_at (n : IVec S160 32) (t : Fin 160) {k : ℕ} (hk : k ≤ 160) (hn : n (ix1 t) = BitVec.ofNat 32 k) :
    hTake be n (ix1 t) = if h : k < 160 then be (ix1 ⟨k, h⟩) else 4294967295#32 := by
  unfold hTake
  pointwise
  rw [hn]
  by_cases h : k < 160
  · rw [select_one, dif_pos h]
    · refine (gather_take1 (N := 160) (n := 160) gather_S160_S160x1_S160_n_0_n_n_0_1_1 rfl rfl rfl rfl be _ t ⟨k, h⟩ ?_ (by norm_num)).trans rfl
      refine Eq.trans ?_ ((hWrap_at n t hk hn).trans (by rw [min_eq_left (by omega)]))
      show broadcastInDim S160x1 ![0] bcast_S160_S160x1_0 (hWrap n) (Idealize.ShloMosaic.ix2 t 0) = _
      pointwise
    · rw [slt_one, int_small (by omega), show (160#32 : BitVec 32) = BitVec.ofNat 32 160 from rfl, int_small (by omega)]; omega
  · rw [select_not, dif_neg h]
    rw [slt_one, int_small (by omega), show (160#32 : BitVec 32) = BitVec.ofNat 32 160 from rfl, int_small (by omega)]; omega

theorem hNxt_at (t : Fin 160) : hNxt be nv (ix1 t) = if h : soonest be nv t < 160 then be (ix1 ⟨soonest be nv t, h⟩) else 4294967295#32 :=
  hTake_at be _ t (soonest_le be nv t) (hNext_at be nv t)

/-- How many runs have started by block `t`. -/
def started (f : IVec S160 32) (n : ℕ) : ℕ := if h : n < 160 then (f (ix1 ⟨n, h⟩)).toNat else 0
theorem hCount_at (f : IVec S160 32) (t : Fin 160) : hCount f (ix1 t) = BitVec.ofNat 32 ((List.range (t.val + 1)).map (started f)).sum := by
  unfold hCount
  refine cumsum1 (Nm1 := 159) rfl f (started f) (fun i => ?_) _ rfl _ _ t
  unfold started
  rw [dif_pos i.isLt, BitVec.ofNat_toNat, BitVec.setWidth_eq]
  rfl
theorem hSlot_at (f : IVec S160 32) (t : Fin 160) : hSlot f (ix1 t) = IntOp.andi (IntOp.subi (hCount f (ix1 t)) 1#32) 1#32 := by
  unfold hSlot
  pointwise

end Entries

section Run

variable (be : IVec S160 32) (nv : IVec S1 32)

/-- What the argument's range says of the tables' words. -/
structure Fits : Prop where
  lo : ∀ t : Fin 160, 0 ≤ (be (ix1 t)).toInt
  hi : ∀ t : Fin 160, (be (ix1 t)).toInt < 32
  one : 1 ≤ (nv (ix1 0)).toInt

def expert (t : Fin 160) : Fin 32 := ⟨(be (ix1 t)).toNat % 32, Nat.mod_lt _ (by norm_num)⟩
def slotOf (t : Fin 160) : Fin 2 := ⟨(hSlot (hFirst be nv) (ix1 t)).toNat % 2, Nat.mod_lt _ (by norm_num)⟩
theorem expert_val (t : Fin 160) : (expert be t).val = (be (ix1 t)).toNat % 32 := rfl
theorem slotOf_val (t : Fin 160) : (slotOf be nv t).val = (hSlot (hFirst be nv) (ix1 t)).toNat % 2 := rfl
def nextOf (t : Fin 160) : Option (Fin 32) := if h : soonest be nv t < 160 then some (expert be ⟨soonest be nv t, h⟩) else none

variable {be nv} (h : Fits be nv)
include h

theorem be_word (t : Fin 160) : be (ix1 t) = BitVec.ofNat 32 (expert be t).val := by
  have h1 := h.lo t; have h2 := h.hi t
  have h3 : (be (ix1 t)).toNat < 32 := by
    have := BitVec.toInt_eq_toNat_cond (be (ix1 t))
    have := (be (ix1 t)).isLt
    omega
  rw [expert_val, Nat.mod_eq_of_lt h3, BitVec.ofNat_toNat, BitVec.setWidth_eq]

omit h in
theorem slot_word (t : Fin 160) : hSlot (hFirst be nv) (ix1 t) = BitVec.ofNat 32 (slotOf be nv t).val := by
  rw [slotOf_val, hSlot_at]
  refine BitVec.eq_of_toNat_eq ?_
  unfold IntOp.andi
  rw [BitVec.toNat_ofNat, BitVec.toNat_and, show (1#32 : BitVec 32).toNat = 1 from rfl, Nat.and_one_is_mod]
  omega

theorem next_some (t : Fin 160) {e : Fin 32} (he : nextOf be nv t = some e) : hNxt be nv (ix1 t) = BitVec.ofNat 32 e.val := by
  unfold nextOf at he
  rw [hNxt_at]
  by_cases g : soonest be nv t < 160
  · rw [dif_pos g] at he ⊢
    rw [be_word h, ← Option.some.inj he]
  · rw [dif_neg g] at he; exact absurd he (by simp)
omit h in
theorem next_none (t : Fin 160) (he : nextOf be nv t = none) : hNxt be nv (ix1 t) = 4294967295#32 := by
  unfold nextOf at he
  rw [hNxt_at]
  by_cases g : soonest be nv t < 160
  · rw [dif_pos g] at he; exact absurd he (by simp)
  · rw [dif_neg g]

omit h in
theorem soonest_eq {t s : Fin 160} (hs : Later be nv t s) (hmin : ∀ r : Fin 160, r.val < s.val → ¬ Later be nv t r) :
    soonest be nv t = s.val := by
  have h1 : ¬ s.val < soonest be nv t := fun g => soonest_not be nv t s g hs
  have h2 : soonest be nv t < 160 := by have := s.isLt; omega
  have h3 : ¬ soonest be nv t < s.val := fun g => hmin ⟨_, h2⟩ g (soonest_later be nv t h2)
  omega

omit h in
/-- At a later block that starts a run, the block before it names its expert next, in the other slot. -/
theorem next_new {t u : Fin 160} (hu : u.val = t.val + 1) (hst : Starts be nv u) : nextOf be nv t = some (expert be u) := by
  have hne : be (ix1 u) ≠ be (ix1 t) := by
    have := hst.2.resolve_left (by omega) (by omega)
    rwa [show (⟨u.val - 1, by omega⟩ : Fin 160) = t from Fin.ext (by simp; omega)] at this
  have hk : soonest be nv t = u.val := soonest_eq ⟨hst.1, by omega, hne⟩ fun r hr g => by have := g.2.1; omega
  unfold nextOf
  rw [dif_pos (by rw [hk]; exact u.isLt)]
  congr 2
  exact Fin.ext hk

omit h in
theorem same_be {t u : Fin 160} (hu : u.val = t.val + 1) (hus : Used nv u) (hst : ¬ Starts be nv u) : be (ix1 u) = be (ix1 t) := by
  by_contra hne
  refine hst ⟨hus, Or.inr fun _ => ?_⟩
  rwa [show (⟨u.val - 1, by omega⟩ : Fin 160) = t from Fin.ext (by simp; omega)]

omit h in
theorem next_same {t u : Fin 160} (hu : u.val = t.val + 1) (hus : Used nv u) (hst : ¬ Starts be nv u) : nextOf be nv u = nextOf be nv t := by
  have hb := same_be hu hus hst
  have hl : ∀ s, Later be nv u s ↔ Later be nv t s := fun s => by
    unfold Later
    rw [hb]
    refine and_congr Iff.rfl ⟨fun g => ⟨by omega, g.2⟩, fun g => ⟨?_, g.2⟩⟩
    have h1 := g.1
    have h2 : s ≠ u := fun e => g.2 (e ▸ hb)
    have : s.val ≠ u.val := fun e => h2 (Fin.ext e)
    omega
  have hs : soonest be nv u = soonest be nv t := by
    unfold soonest
    congr 1
    funext s
    unfold cand
    classical
    by_cases g : Later be nv t s
    · rw [if_pos g, if_pos ((hl s).2 g)]
    · rw [if_neg g, if_neg (fun g' => g ((hl s).1 g'))]
  unfold nextOf
  simp only [hs]

omit h in
theorem next_last (t : Fin 160) (hl : ∀ s : Fin 160, t.val < s.val → ¬ Used nv s) : nextOf be nv t = none := by
  unfold nextOf
  refine dif_neg fun g => ?_
  have := soonest_later be nv t g
  exact hl _ this.2.1 this.1

omit h in
theorem count_succ (f : IVec S160 32) {t u : Fin 160} (hu : u.val = t.val + 1) : hCount f (ix1 u) = hCount f (ix1 t) + f (ix1 u) := by
  rw [hCount_at, hCount_at, hu, List.range_succ (n := t.val + 1), List.map_append, List.sum_append, BitVec.ofNat_add]
  congr 1
  have : started f (t.val + 1) = (f (ix1 u)).toNat := by
    unfold started
    rw [dif_pos (by have := u.isLt; omega)]
    congr 3
    exact Fin.ext hu.symm
  simp [this]

omit h in
theorem slot_new {t u : Fin 160} (hu : u.val = t.val + 1) (hst : Starts be nv u) : slotOf be nv u = (slotOf be nv t).rev := by
  have h1 : hFirst be nv (ix1 u) = 1#32 := (hFirst_one be nv u).2 hst
  have h2 := count_succ (hFirst be nv) hu
  refine Fin.ext ?_
  rw [Fin.val_rev, slotOf_val, slotOf_val]
  show (hSlot (hFirst be nv) (ix1 u)).toNat % 2 = 2 - ((hSlot (hFirst be nv) (ix1 t)).toNat % 2 + 1)
  rw [hSlot_at, hSlot_at, h2, h1]
  generalize hCount (hFirst be nv) (ix1 t) = x
  unfold IntOp.andi IntOp.subi
  rw [BitVec.toNat_and, BitVec.toNat_and, show (1#32 : BitVec 32).toNat = 1 from rfl, Nat.and_one_is_mod, Nat.and_one_is_mod,
    BitVec.toNat_sub, BitVec.toNat_sub, BitVec.toNat_add, show (1#32 : BitVec 32).toNat = 1 from rfl]
  have := x.isLt
  omega

omit h in
theorem slot_same {t u : Fin 160} (hu : u.val = t.val + 1) (hst : ¬ Starts be nv u) : slotOf be nv u = slotOf be nv t := by
  have h1 : hFirst be nv (ix1 u) = 0#32 := by
    classical
    rw [hFirst_at, if_neg hst]
  have h2 := count_succ (hFirst be nv) hu
  refine Fin.ext ?_
  rw [slotOf_val, slotOf_val, hSlot_at, hSlot_at, h2, h1]
  simp

theorem starts_head : Starts be nv 0 := ⟨by have := h.one; unfold Used; simp; omega, Or.inl rfl⟩
theorem slot_head : slotOf be nv 0 = 0 := by
  have h1 : hFirst be nv (ix1 0) = 1#32 := (hFirst_one be nv 0).2 (starts_head h)
  have h2 : hCount (hFirst be nv) (ix1 0) = 1#32 := by
    rw [hCount_at]
    have : started (hFirst be nv) 0 = 1 := by
      unfold started
      rw [dif_pos (by norm_num)]
      exact (congrArg BitVec.toNat h1).trans rfl
    simp [this]
  refine Fin.ext ?_
  rw [slotOf_val, hSlot_at, h2]
  decide

end Run

/-! ### Which rows a block holds: exactly one of the kernel's five branches -/

section Rows

theorem zne (b : BitVec 1) : IntOp.cmpi .ne (BitVec.setWidth 32 b) 0#32 = b := by revert b; decide

theorem cond1_iff (i : grid0.Coords) : k0_cond1 i = 1#1 ↔ (i 0).val = 0 := by
  have hi : (i 0).val < 160 := (i 0).isLt
  show IntOp.cmpi .ne (BitVec.setWidth 32 (IntOp.cmpi .eq (BitVec.ofNat 32 (i 0).val) 0#32)) 0#32 = 1#1 ↔ _
  rw [zne, eq_one, ← BitVec.toNat_inj, BitVec.toNat_ofNat, BitVec.toNat_ofNat]
  omega
theorem cond2_iff (i : grid0.Coords) (v0 v11 : BitVec 32) : k0_cond2 i v0 v11 = 1#1 ↔ ((i 0).val : ℤ) < v0.toInt ∧ v11 = 1#32 := by
  have hi : (i 0).val < 160 := (i 0).isLt
  show IntOp.cmpi .ne (BitVec.setWidth 32 (IntOp.andi (IntOp.cmpi .slt (BitVec.ofNat 32 (i 0).val) v0) (IntOp.cmpi .eq v11 1#32))) 0#32 = 1#1 ↔ _
  rw [zne, andi_one, slt_one, eq_one, int_small (by omega)]
theorem cond3_iff (v58 : BitVec 32) : k0_cond3 v58 = 1#1 ↔ 0 ≤ v58.toInt := by
  show IntOp.cmpi .ne (BitVec.setWidth 32 (IntOp.cmpi .sge v58 0#32)) 0#32 = 1#1 ↔ _
  rw [zne, sge_one]
  rfl
theorem maxsi_int (v3 : BitVec 32) : (IntOp.maxsi v3 1#32).toInt = max v3.toInt 1 := by
  have h1 : (1#32 : BitVec 32).toInt = 1 := by decide
  unfold IntOp.maxsi
  split
  · rename_i h
    rw [BitVec.slt_iff_toInt_lt, h1] at h
    omega
  · rename_i h
    rw [BitVec.slt_iff_toInt_lt, h1] at h
    rw [h1]; omega

theorem between_iff (i : grid0.Coords) (v0 v3 : BitVec 32) (lo hi : ℕ) (hlo : lo < 2 ^ 31) (hhi : hi < 2 ^ 31) :
    IntOp.cmpi .ne (BitVec.setWidth 32 (IntOp.andi (IntOp.andi (IntOp.cmpi .slt (BitVec.ofNat 32 (i 0).val) v0)
      (IntOp.cmpi .sgt (IntOp.maxsi v3 1#32) (BitVec.ofNat 32 lo))) (IntOp.cmpi .sle (IntOp.maxsi v3 1#32) (BitVec.ofNat 32 hi)))) 0#32 = 1#1
      ↔ ((i 0).val : ℤ) < v0.toInt ∧ (lo : ℤ) < max v3.toInt 1 ∧ max v3.toInt 1 ≤ hi := by
  have h160 : (i 0).val < 160 := (i 0).isLt
  rw [zne, andi_one, andi_one, slt_one, sgt_one, sle_one, maxsi_int, int_small (by omega), int_small hlo, int_small hhi, and_assoc]
theorem cond4_iff (i : grid0.Coords) (v0 v3 : BitVec 32) :
    k0_cond4 i v0 v3 = 1#1 ↔ ((i 0).val : ℤ) < v0.toInt ∧ ((0 : ℕ) : ℤ) < max v3.toInt 1 ∧ max v3.toInt 1 ≤ (256 : ℕ) :=
  between_iff i v0 v3 0 256 (by norm_num) (by norm_num)
theorem cond5_iff (i : grid0.Coords) (v0 v3 : BitVec 32) :
    k0_cond5 i v0 v3 = 1#1 ↔ ((i 0).val : ℤ) < v0.toInt ∧ ((256 : ℕ) : ℤ) < max v3.toInt 1 ∧ max v3.toInt 1 ≤ (512 : ℕ) :=
  between_iff i v0 v3 256 512 (by norm_num) (by norm_num)
theorem cond6_iff (i : grid0.Coords) (v0 v3 : BitVec 32) :
    k0_cond6 i v0 v3 = 1#1 ↔ ((i 0).val : ℤ) < v0.toInt ∧ ((512 : ℕ) : ℤ) < max v3.toInt 1 ∧ max v3.toInt 1 ≤ (768 : ℕ) :=
  between_iff i v0 v3 512 768 (by norm_num) (by norm_num)
theorem cond7_iff (i : grid0.Coords) (v0 v3 : BitVec 32) :
    k0_cond7 i v0 v3 = 1#1 ↔ ((i 0).val : ℤ) < v0.toInt ∧ ((768 : ℕ) : ℤ) < max v3.toInt 1 ∧ max v3.toInt 1 ≤ (1024 : ℕ) :=
  between_iff i v0 v3 768 1024 (by norm_num) (by norm_num)
theorem not_one (b : BitVec 1) : IntOp.xori b 1#1 = 1#1 ↔ ¬ b = 1#1 := by revert b; decide
theorem cond8_iff (i : grid0.Coords) (v0 : BitVec 32) : k0_cond8 i v0 = 1#1 ↔ ¬ ((i 0).val : ℤ) < v0.toInt := by
  have hi : (i 0).val < 160 := (i 0).isLt
  show IntOp.cmpi .ne (BitVec.setWidth 32 (IntOp.xori (IntOp.cmpi .slt (BitVec.ofNat 32 (i 0).val) v0) 1#1)) 0#32 = 1#1 ↔ _
  rw [zne, not_one, slt_one, int_small (by omega)]

end Rows

end Cert.Kernel2Ideal.Ffn
-- ==== Proof.FfnMoves.lean ====
/-
  The slots' states along the grid: which expert each slot holds before every point.
-/
module

public import proofs.«01_k».proof.Proof.FfnBody
public import proofs.«01_k».proof.Proof.FfnWords

@[expose] public section

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ### The words a point reads -/

theorem off_at (i : grid0.Coords) (a : Fin 1) : k0_off1 i a = (i 0).val := by
  have h : (i 0).val < 160 := (i 0).isLt
  fin_cases a
  show (BitVec.ofNat 32 (i 0).val).toNat = (i 0).val
  rw [BitVec.toNat_ofNat]
  omega

/-- The block a point works on. -/
def pt (i : grid0.Coords) : Fin 160 := ⟨(i 0).val, (i 0).isLt⟩
theorem pt_val (i : grid0.Coords) : (pt i).val = (i 0).val := rfl

section Read

variable (c : Dev nD) (i : grid0.Coords)

theorem wBe_at (f : Buf (Elt F) ((c : Thread nD τ).loc main_arg0)) : wBe c i f = (f : IVec S160 32) (ix1 (pt i)) := by
  refine congrArg f (funext fun a => Fin.ext ?_)
  have := off_at i 0
  fin_cases a
  simpa [Shape.Idx.first, pt_val] using this
theorem wBe0_at (f : Buf (Elt F) ((c : Thread nD τ).loc main_arg0)) : wBe0 c f = (f : IVec S160 32) (ix1 0) :=
  congrArg f (funext fun a => Fin.ext (by fin_cases a; rfl))
theorem wNv_at (f : Buf (Elt F) ((c : Thread nD τ).loc main_arg1)) : wNv c f = (f : IVec S1 32) (ix1 0) :=
  congrArg f (funext fun a => Fin.ext (by fin_cases a; rfl))
theorem wFirst_at (f : Buf (Elt F) ((c : Thread nD τ).loc main_v10)) : wFirst c i f = (f : IVec S160 32) (ix1 (pt i)) := by
  refine congrArg f (funext fun a => Fin.ext ?_)
  have := off_at i 0
  fin_cases a
  simpa [Shape.Idx.first, pt_val] using this
theorem wSlot_at (f : Buf (Elt F) ((c : Thread nD τ).loc main_v15)) : wSlot c i f = (f : IVec S160 32) (ix1 (pt i)) := by
  refine congrArg f (funext fun a => Fin.ext ?_)
  have := off_at i 0
  fin_cases a
  simpa [Shape.Idx.first, pt_val] using this
theorem wNxt_at (f : Buf (Elt F) ((c : Thread nD τ).loc main_v44)) : wNxt c i f = (f : IVec S160 32) (ix1 (pt i)) := by
  refine congrArg f (funext fun a => Fin.ext ?_)
  have := off_at i 0
  fin_cases a
  simpa [Shape.Idx.first, pt_val] using this
theorem wRows_at (f : Buf (Elt F) ((c : Thread nD τ).loc main_arg2)) : wRows c i f = (f : IVec S160 32) (ix1 (pt i)) := by
  refine congrArg f (funext fun a => Fin.ext ?_)
  have := off_at i 0
  fin_cases a
  simpa [Shape.Idx.first, pt_val] using this

end Read

/-! ### The states -/

section States

variable (be : IVec S160 32) (nv : IVec S1 32)

/-- The last used block before point `t`. -/
def lastAt (t : ℕ) : Fin 160 := ⟨min (min t (nv (ix1 0)).toInt.toNat) 160 - 1, by omega⟩
/-- The slots' state after the points before `t`, for `t` past the first; before every point. -/
def stAt (t : ℕ) : St := ⟨slotOf be nv (lastAt nv t), expert be (lastAt nv t), nextOf be nv (lastAt nv t)⟩
def stateAt (t : ℕ) : Option St := if t = 0 then none else some (stAt be nv t)

variable {be nv} (h : Fits be nv)
include h

theorem cond3_next (i : grid0.Coords) {v : BitVec 32} (hv : v = hNxt be nv (ix1 (pt i))) :
    (∃ e', nextOf be nv (pt i) = some e' ∧ v = ew e' ∧ k0_cond3 v = 1#1) ∨ (nextOf be nv (pt i) = none ∧ ¬ k0_cond3 v = 1#1) := by
  rcases ho : nextOf be nv (pt i) with _ | e
  · refine Or.inr ⟨rfl, ?_⟩
    rw [hv.trans (next_none _ ho), cond3_iff]
    decide
  · refine Or.inl ⟨e, rfl, hv.trans (next_some h _ ho), ?_⟩
    rw [hv.trans (next_some h _ ho), cond3_iff, int_small (by have := e.isLt; omega)]
    omega

theorem move_at (c : Dev nD) (i : grid0.Coords) :
    Move (F := F) c i be nv (hFirst be nv) (hSlot (hFirst be nv)) (hNxt be nv) (stateAt be nv (i 0).val) (stAt be nv ((i 0).val + 1)) := by
  have hi : (i 0).val < 160 := (pt i).isLt
  have h1 := h.one
  have hb : ∀ (t : Fin 160), be (ix1 t) = ew (expert be t) := be_word h
  by_cases h0 : (i 0).val = 0
  · have e0 : pt i = (0 : Fin 160) := Fin.ext h0
    have hl : lastAt nv ((i 0).val + 1) = pt i := Fin.ext (by show min (min ((i 0).val + 1) (nv (ix1 0)).toInt.toNat) 160 - 1 = (i 0).val; omega)
    unfold stAt stateAt
    rw [if_pos h0, hl, show slotOf be nv (pt i) = 0 from (congrArg _ e0).trans (slot_head h)]
    have hq := pt_val i
    refine Move.first ((cond1_iff i).2 h0) ((cond2_iff i _ _).2 ⟨?_, ?_⟩) _ ?_ ?_ ?_ _ (cond3_next h i (wNxt_at c i _))
    · rw [wNv_at]; omega
    · rw [wFirst_at]; exact (hFirst_one be nv _).2 ((congrArg _ e0).mpr (starts_head h))
    · rw [wBe_at]; exact hb _
    · rw [wBe0_at, e0]; exact hb _
    · rw [wSlot_at, slot_word, e0, slot_head h]; rfl
  · by_cases hu : Used nv (pt i)
    · have hu' : ((i 0).val : ℤ) < (nv (ix1 0)).toInt := hu
      obtain ⟨p, hp⟩ : ∃ p : Fin 160, (pt i).val = p.val + 1 := ⟨⟨(i 0).val - 1, by omega⟩, by show (i 0).val = (i 0).val - 1 + 1; omega⟩
      have hp' : (i 0).val = p.val + 1 := hp
      have hl : lastAt nv ((i 0).val + 1) = pt i := Fin.ext (by show min (min ((i 0).val + 1) (nv (ix1 0)).toInt.toNat) 160 - 1 = (i 0).val; omega)
      have hl' : lastAt nv (i 0).val = p := Fin.ext (by show min (min (i 0).val (nv (ix1 0)).toInt.toNat) 160 - 1 = p.val; omega)
      by_cases hs : Starts be nv (pt i)
      · unfold stAt stateAt
        rw [if_neg h0, stAt, hl, hl', next_new hp hs, slot_new hp hs]
        refine Move.new (fun g => h0 ((cond1_iff i).1 g)) ((cond2_iff i _ _).2 ⟨?_, ?_⟩) _ _ _ ?_ ?_ _ (cond3_next h i (wNxt_at c i _))
        · rw [wNv_at]; exact hu'
        · rw [wFirst_at]; exact (hFirst_one be nv _).2 hs
        · rw [wBe_at]; exact hb _
        · rw [wSlot_at, slot_word, slot_new hp hs]; rfl
      · unfold stAt stateAt
        rw [if_neg h0, stAt, hl, hl', next_same hp hu hs, slot_same hp hs,
          show expert be (pt i) = expert be p from Fin.ext (by rw [expert_val, expert_val, same_be hp hu hs])]
        refine Move.same (fun g => h0 ((cond1_iff i).1 g)) (fun g => hs ?_) _ (slotOf be nv (pt i)) ?_ (fun _ => slot_same hp hs)
        · have := ((cond2_iff i _ _).1 g).2
          rw [wFirst_at] at this
          exact (hFirst_one be nv _).1 this
        · rw [wSlot_at]; exact slot_word _
    · have hu' : ¬ ((i 0).val : ℤ) < (nv (ix1 0)).toInt := hu
      have hl : lastAt nv ((i 0).val + 1) = lastAt nv (i 0).val := Fin.ext (by
        show min (min ((i 0).val + 1) (nv (ix1 0)).toInt.toNat) 160 - 1 = min (min (i 0).val (nv (ix1 0)).toInt.toNat) 160 - 1
        omega)
      unfold stAt stateAt
      rw [if_neg h0, stAt, hl]
      refine Move.same (fun g => h0 ((cond1_iff i).1 g)) (fun g => hu' ?_) _ (slotOf be nv (pt i)) ?_ (fun g => absurd ((cond8_iff i _).2 ?_) g)
      · have := ((cond2_iff i _ _).1 g).1
        rwa [wNv_at] at this
      · rw [wSlot_at]; exact slot_word _
      · rw [wNv_at]; exact hu'

omit h in
theorem one_at (i : grid0.Coords) (v0 v3 : BitVec 32) (hr : v3.toInt ≤ 1024) : One (F := F) i v0 v3 := by
  unfold One
  rw [cond4_iff, cond5_iff, cond6_iff, cond7_iff, cond8_iff]
  omega

/-- After the last point nothing is ahead. -/
theorem last_none : (stAt be nv 160).p = none := by
  have h1 := h.one
  refine next_last _ fun s hs hu => ?_
  have hs' : min (min 160 (nv (ix1 0)).toInt.toNat) 160 - 1 < s.val := hs
  have hu' : ((s.val : ℕ) : ℤ) < (nv (ix1 0)).toInt := hu
  have := s.isLt
  omega

end States

end Cert.Kernel2Ideal.Ffn
-- ==== Proof.FfnTabs.lean ====
/-
  The tables the host hands the expert call are the ones FfnWords reads.
-/
module

public import proofs.«01_k».proof.Proof.Gen.Kernel2Ideal.Regions
public import proofs.«01_k».proof.Proof.FfnWords

@[expose] public section

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Host

variable (m : (ℓ : Loc nD τ sig) → Buf (Elt F) ℓ) (c : Dev nD)

abbrev beOf : IVec S160 32 := m ((c.tc : Thread nD τ).loc main_arg0)
abbrev nvOf : IVec S1 32 := m ((c.tc : Thread nD τ).loc main_arg1)

section Stretches

variable (V : Valuation τ sig (Elt F))

theorem s0_v0 : StableHlo.after hostOps0 V main_v0 = hPos := rfl
theorem s0_v3 : StableHlo.after hostOps0 V main_v3 = hUsed (V main_arg1) := rfl
theorem s0_v5 : StableHlo.after hostOps0 V main_v5 = hHead := rfl
theorem s1_v6 : StableHlo.after hostOps0_1 V main_v6 = hBefore (V main_arg0) := rfl
theorem s2_v10 : StableHlo.after hostOps0_2 V main_v10 = extui 32 (andi (V main_v3) (ori (V main_v5) (cmpi .ne (V main_arg0) (V main_v6)))) natLt_1_32 := rfl
theorem s3_v11 : StableHlo.after hostOps0_3 V main_v11 = hCount (V main_v10) := rfl
theorem s4_v15 : StableHlo.after hostOps0_4 V main_v15 = andi (subi (V main_v11) (broadcastInDim S160 ![] bcast_S_S160 (constantI S_ 32 1#32))) (broadcastInDim S160 ![] bcast_S_S160 (constantI S_ 32 1#32)) := rfl
theorem s4_v29 : StableHlo.after hostOps0_4 V main_v29 = andi (andi (hRow (V main_v3)) (cmpi .sgt (hRow (V main_v0)) (hCol (V main_v0)))) (cmpi .ne (hRow (V main_arg0)) (hCol (V main_arg0))) := rfl
theorem s4_v30 : StableHlo.after hostOps0_4 V main_v30 = broadcastInDim S1x160 ![1] bcast_S160_S1x160_1 (V main_v0 : IVec S160 32) := rfl
theorem s4_c2 : StableHlo.after hostOps0_4 V main_c_2 = constantI S_ 32 160#32 := rfl
theorem s5_v31 : StableHlo.after hostOps0_5 V main_v31 = select (V main_v29) (broadcastInDim S160x160 ![0, 1] bcast_S1x160_S160x160_0_1 (V main_v30 : IVec S1x160 32)) (broadcastInDim S160x160 ![] bcast_S_S160x160 (V main_c_2 : IVec S_ 32)) := rfl
theorem s6_v34 : StableHlo.after hostOps0_6 V main_v34 = cmpi .slt (Host.reduce IntOp.minsi (V main_v31 : IVec S160x160 32) (constantI S_ 32 2147483647#32) reducesTo_S160x160_S160_d1 h_S_) (broadcastInDim S160 ![] bcast_S_S160 (constantI S_ 32 160#32)) := by
  unfold hostOps0_6
  after_results
theorem s6_v43 : StableHlo.after hostOps0_6 V main_v43 = Host.gather gather_S160_S160x1_S160_n_0_n_n_0_1_1 (V main_arg0 : IVec S160 32) (broadcastInDim S160x1 ![0] bcast_S160_S160x1_0 (hWrap (Host.reduce IntOp.minsi (V main_v31 : IVec S160x160 32) (constantI S_ 32 2147483647#32) reducesTo_S160x160_S160_d1 h_S_))) := by
  unfold hostOps0_6
  after_results
  rfl
theorem s6_c8 : StableHlo.after hostOps0_6 V main_c_8 = constantI S_ 32 4294967295#32 := rfl
theorem s7_v44 : StableHlo.after hostOps0_7 V main_v44 = select (V main_v34) (V main_v43) (broadcastInDim S160 ![] bcast_S_S160 (V main_c_8 : IVec S_ 32)) := rfl

end Stretches

theorem V3_v10 : V3 m c main_v10 = hFirst (beOf m c) (nvOf m c) := by
  refine (s2_v10 (V2 m c)).trans ?_
  rw [V2_of m c main_v3 (by decide), V2_of m c main_v5 (by decide), V2_of m c main_arg0 (by decide), V1_of m c main_arg0 (by decide),
    show V2 m c main_v6 = hBefore (V1 m c main_arg0) from s1_v6 _, V1_of m c main_arg0 (by decide),
    show V1 m c main_v3 = _ from s0_v3 _, show V1 m c main_v5 = _ from s0_v5 _]
  rfl
theorem V9_v10 : V9 m c main_v10 = hFirst (beOf m c) (nvOf m c) := by
  rw [V9_of m c main_v10 (by decide), V8_of m c main_v10 (by decide), V7_of m c main_v10 (by decide), V6_of m c main_v10 (by decide),
    V5_of m c main_v10 (by decide), V4_of m c main_v10 (by decide), V3_v10]
theorem V9_v15 : V9 m c main_v15 = hSlot (hFirst (beOf m c) (nvOf m c)) := by
  rw [V9_of m c main_v15 (by decide), V8_of m c main_v15 (by decide), V7_of m c main_v15 (by decide), V6_of m c main_v15 (by decide)]
  refine (s4_v15 (V4 m c)).trans ?_
  rw [show V4 m c main_v11 = hCount (V3 m c main_v10) from s3_v11 _, V3_v10]
  rfl
theorem V4_v0 : V4 m c main_v0 = hPos := by
  rw [V4_of m c main_v0 (by decide), V3_of m c main_v0 (by decide), V2_of m c main_v0 (by decide)]; exact s0_v0 _
theorem V4_v3 : V4 m c main_v3 = hUsed (nvOf m c) := by
  rw [V4_of m c main_v3 (by decide), V3_of m c main_v3 (by decide), V2_of m c main_v3 (by decide)]; exact s0_v3 _
theorem V4_be : V4 m c main_arg0 = beOf m c := by
  rw [V4_of m c main_arg0 (by decide), V3_of m c main_arg0 (by decide), V2_of m c main_arg0 (by decide), V1_of m c main_arg0 (by decide)]
theorem V6_v31 : V6 m c main_v31 = hCand (beOf m c) (nvOf m c) := by
  refine (s5_v31 (V5 m c)).trans ?_
  rw [show V5 m c main_v29 = _ from s4_v29 (V4 m c), show V5 m c main_v30 = _ from s4_v30 (V4 m c), show V5 m c main_c_2 = _ from s4_c2 (V4 m c), V4_v0, V4_v3, V4_be]
  rfl
theorem V9_v44 : V9 m c main_v44 = hNxt (beOf m c) (nvOf m c) := by
  rw [V9_of m c main_v44 (by decide)]
  refine (s7_v44 (V7 m c)).trans ?_
  rw [show V7 m c main_v34 = _ from s6_v34 (V6 m c), show V7 m c main_v43 = _ from s6_v43 (V6 m c), show V7 m c main_c_8 = _ from s6_c8 (V6 m c), V6_v31,
    V6_of m c main_arg0 (by decide), V5_of m c main_arg0 (by decide), V4_be]
  rfl

end Host

end Cert.Kernel2Ideal.Ffn
-- ==== Proof.FfnDat.lean ====
/-
  The call's tables, its proof data, and its body at every point of the grid.
-/
module

public import proofs.«01_k».proof.Proof.FfnMoves
public import proofs.«01_k».proof.Proof.FfnTabs
public import proofs.«01_k».proof.Proof.Gen.Kernel2Ideal.Launch
public import proofs.«01_k».proof.Proof.Gen.Kernel2Ideal.Regions
public import proofs.«01_k».proof.Proof.Gen.Kernel2Ideal.Points
public import Idealize.ShloMosaic.Lib.Pipeline.Frame

@[expose] public section

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Data

variable (m : (ℓ : Loc nD τ sig) → Buf (Elt F) ℓ)

abbrev rowsOf (c : Dev nD) : IVec S160 32 := m ((c.tc : Thread nD τ).loc main_arg2)

/-- What the arrays admit: block owners among the experts, a first block in use, no block with more rows than it has. -/
structure Admits : Prop where
  fits : Fits (beOf m 0) (nvOf m 0)
  rows : ∀ t : Fin 160, (rowsOf m 0 (ix1 t)).toInt ≤ 1024

/-- The six tables as the region finds them. -/
def pf : pre0.Contents (Elt F) := fun
  | ⟨0, _⟩ => beOf m 0
  | ⟨1, _⟩ => nvOf m 0
  | ⟨2, _⟩ => hFirst (beOf m 0) (nvOf m 0)
  | ⟨3, _⟩ => hSlot (hFirst (beOf m 0) (nvOf m 0))
  | ⟨4, _⟩ => hNxt (beOf m 0) (nvOf m 0)
  | ⟨5, _⟩ => rowsOf m 0
  | ⟨_ + 6, h⟩ => absurd h (by simp)

theorem pf_be (i : grid0.Coords) (h : ∀ a, k0_off1 i a + S1.size a ≤ S160.size a) :
    ((pf m).at 0 (Rect.unit (s := S160) (k0_off1 i) S1.size h) numel1_S1 : BitVec 32) = beOf m 0 (ix1 (pt i)) := by
  refine congrArg (beOf m 0) (funext fun a => Fin.ext ?_)
  have := off_at i 0
  fin_cases a
  exact this

theorem ix_1 (i : grid0.Coords) : cc0_transform_2 k0_off1_inb numel1_S1 (pf m) i = ![(beOf m 0 (ix1 (pt i))).toNat, 0, 0] :=
  congrArg (fun v : BitVec 32 => (![v.toNat, 0, 0] : Fin 3 → ℕ)) (pf_be m i (k0_off1_inb i))
theorem ix_2 (i : grid0.Coords) : cc0_transform_4 k0_off1_inb numel1_S1 (pf m) i = ![(beOf m 0 (ix1 (pt i))).toNat, 0, 0] :=
  congrArg (fun v : BitVec 32 => (![v.toNat, 0, 0] : Fin 3 → ℕ)) (pf_be m i (k0_off1_inb i))

theorem pf_nv : ((pf m).atD 1 ![0] : BitVec 32) = nvOf m 0 (ix1 0) := by
  unfold Pipeline.Prefetch.Contents.atD
  split
  · exact congrArg (nvOf m 0) (funext fun a => Fin.ext (by fin_cases a; rfl))
  · next hn => exact absurd (fun a => by fin_cases a; decide) hn
theorem pf_rows (i : grid0.Coords) : ((pf m).atD 5 (k0_off1 i) : BitVec 32) = rowsOf m 0 (ix1 (pt i)) := by
  unfold Pipeline.Prefetch.Contents.atD
  split
  · refine congrArg (rowsOf m 0) (funext fun a => Fin.ext ?_)
    have := off_at i 0
    fin_cases a
    exact this
  · next hn => exact absurd (fun a => by fin_cases a; exact k0_off1_inb i 0) hn

variable {m} (H : Admits m)
include H

theorem ok_pf : ok0 (F := F) (pf m) := by
  have hn : ∀ t : Fin 160, (beOf m 0 (ix1 t)).toNat < 32 := fun t => by
    rw [be_word H.fits t]
    exact lt_of_eq_of_lt (BitVec.toNat_ofNat ..) (lt_of_le_of_lt (Nat.mod_le _ _) (expert (beOf m 0) t).isLt)
  unfold ok0
  refine ⟨fun i => ⟨fun a => ?_, Or.inl rfl⟩, fun i => ⟨fun a => ?_, Or.inl rfl⟩⟩
  · rw [ix_1]
    have := hn (pt i)
    fin_cases a
    · show (_ + 1) * 1 ≤ 32; simp; omega
    · show (0 + 1) * 1 ≤ 1; omega
    · show (0 + 1) * 2048 ≤ 2048; omega
  · rw [ix_2]
    have := hn (pt i)
    fin_cases a
    · show (_ + 1) * 1 ≤ 32; simp; omega
    · show (0 + 1) * 1 ≤ 1; omega
    · show (0 + 1) * 1024 ≤ 1024; omega

omit H in
/-- Where one of the five branches runs, the result's block is written. -/
theorem idle_of_one (i : grid0.Coords) (h : One (F := F) i (nvOf m 0 (ix1 0)) (rowsOf m 0 (ix1 (pt i)))) : idle0 (F := F) (pf m) 3 i = false := by
  show (!(k0_cond4 i ((pf m).atD 1 ![0]) ((pf m).atD 5 (k0_off1 i)) == 1#1) && !(k0_cond5 i ((pf m).atD 1 ![0]) ((pf m).atD 5 (k0_off1 i)) == 1#1) && !(k0_cond6 i ((pf m).atD 1 ![0]) ((pf m).atD 5 (k0_off1 i)) == 1#1) && !(k0_cond7 i ((pf m).atD 1 ![0]) ((pf m).atD 5 (k0_off1 i)) == 1#1) && !(k0_cond8 i ((pf m).atD 1 ![0]) == 1#1)) = false
  rw [pf_nv, pf_rows]
  unfold One at h
  by_cases h4 : k0_cond4 i (nvOf m 0 (ix1 0)) (rowsOf m 0 (ix1 (pt i))) = 1#1
  · simp [h4]
  by_cases h5 : k0_cond5 i (nvOf m 0 (ix1 0)) (rowsOf m 0 (ix1 (pt i))) = 1#1
  · simp [h5]
  by_cases h6 : k0_cond6 i (nvOf m 0 (ix1 0)) (rowsOf m 0 (ix1 (pt i))) = 1#1
  · simp [h6]
  by_cases h7 : k0_cond7 i (nvOf m 0 (ix1 0)) (rowsOf m 0 (ix1 (pt i))) = 1#1
  · simp [h7]
  by_cases h8 : k0_cond8 i (nvOf m 0 (ix1 0)) = 1#1
  · simp [h8]
  · tauto

/-- The tables' contents, admissible. -/
def adm : (pcfg0 (F := F)).Adm := ⟨pf m, ok_pf H⟩

/-- The pipeline at them. -/
abbrev cfgA : Cfg sig Λ₀ := cfg0 (adm H)

theorem idle_A (w : Fin 4) (i : grid0.Coords) : (cfgA H).idle w i = false := by
  fin_cases w
  · rfl
  · rfl
  · rfl
  · exact idle_of_one i (one_at i _ _ (H.rows (pt i)))

/-- Window `w`'s block at point `t`, read off its array as the region finds it. -/
def iblk0 (c : Dev nD) (w : Fin 4) (t : Fin (cfgA H).N) : (((cfgA H).win w).xblock ((cfgA H).grid.coords t)).Idx → Elt F ((cfgA H).win w).elt :=
  (((cfgA H).win w).blk t).view.read (Elt F) (V9 m c (Pipeline.arrRef spec0 w))

abbrev fgOf (m : (ℓ : Loc nD τ sig) → Buf (Elt F) ℓ) (c : Dev nD) : Buf (Elt F) ((c : Thread nD τ).loc main_arg4) := m ((c.tc : Thread nD τ).loc main_arg4)
abbrev fwOf (m : (ℓ : Loc nD τ sig) → Buf (Elt F) ℓ) (c : Dev nD) : Buf (Elt F) ((c : Thread nD τ).loc main_arg6) := m ((c.tc : Thread nD τ).loc main_arg6)

/-- The scoped buffers the call does not touch: the second call's staging buffers. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- What is held between two points: the tables, the slots, and what the call does not touch. -/
def Phi (c : Dev nD) (t : ℕ) : sProp 𝕄 :=
  iprop(tabs c (pf m 0) (pf m 1) (pf m 2) (pf m 3) (pf m 4) (pf m 5)
    ∗ state c (fgOf m c) (fwOf m c) (stateAt (beOf m 0) (nvOf m 0) t) ∗ (∃ r, prngReg c r) ∗ others c)

/-- The result's block a point leaves. -/
def outA (c : Dev nD) (t : Fin (cfgA H).N) : Vec F S1024x2x512 .bf16 :=
  outAt (grid0.coords t) (nvOf m 0 (ix1 0)) (rowsOf m 0 (ix1 (pt (grid0.coords t)))) (iblk0 H c 0 t) (iblk0 H c 1 t) (iblk0 H c 2 t)
    (gSlab c (fgOf m c) (stAt (beOf m 0) (nvOf m 0) ((grid0.coords t 0).val + 1)).e) (dSlab c (fwOf m c) (stAt (beOf m 0) (nvOf m 0) ((grid0.coords t 0).val + 1)).e)

def dat0 (c : Dev nD) : Dat τ (Elt F) Unit ℕ (Pipeline.UD sig nD τ) ℕ (cfgA H) c where
  A w := V9 m c (Pipeline.arrRef spec0 w)
  after w t := match w with
    | ⟨0, _⟩ => iblk0 H c 0 t
    | ⟨1, _⟩ => iblk0 H c 1 t
    | ⟨2, _⟩ => iblk0 H c 2 t
    | ⟨3, _⟩ => outA H c t
  Φ t := Phi (m := m) c t.val
  q _ := fullShare
  owed _ := 0

theorem A_0 (c : Dev nD) (w : Fin 4) : (dat0 H c).A w = V9 m c (Pipeline.arrRef spec0 w) := by dsimp only [dat0]
theorem after_0 (c : Dev nD) (t : Fin (cfgA H).N) : (dat0 H c).after 0 t = iblk0 H c 0 t := by dsimp only [dat0]; rfl
theorem after_1 (c : Dev nD) (t : Fin (cfgA H).N) : (dat0 H c).after 1 t = iblk0 H c 1 t := by dsimp only [dat0]; rfl
theorem after_2 (c : Dev nD) (t : Fin (cfgA H).N) : (dat0 H c).after 2 t = iblk0 H c 2 t := by dsimp only [dat0]; rfl
theorem after_3 (c : Dev nD) (t : Fin (cfgA H).N) : (dat0 H c).after 3 t = outA H c t := by dsimp only [dat0]; rfl
theorem Phi_0 (c : Dev nD) (t : Fin ((cfgA H).N + 1)) : (dat0 H c).Φ t = Phi (m := m) c t.val := by dsimp only [dat0]

theorem before_0 (c : Dev nD) (t : Fin (cfgA H).N) (d) : (dat0 H c).before 0 t d = iblk0 H c 0 t :=
  ((dat0 H c).before_in_eq_fetched 0 rfl (fun _ => rfl) (fun _ _ _ => rfl) (fun t => by rw [after_0]; unfold Dat.blockOf iblk0; rw [A_0]; rfl) t d).trans
    (by unfold Dat.fetched Dat.blockOf iblk0; rw [A_0]; rfl)
theorem before_1 (c : Dev nD) (t : Fin (cfgA H).N) (d) : (dat0 H c).before 1 t d = iblk0 H c 1 t :=
  ((dat0 H c).before_in_eq_fetched 1 rfl (fun _ => rfl) (fun _ _ _ => rfl) (fun t => by rw [after_1]; unfold Dat.blockOf iblk0; rw [A_0]; rfl) t d).trans
    (by unfold Dat.fetched Dat.blockOf iblk0; rw [A_0]; rfl)
theorem before_2 (c : Dev nD) (t : Fin (cfgA H).N) (d) : (dat0 H c).before 2 t d = iblk0 H c 2 t :=
  ((dat0 H c).before_in_eq_fetched 2 rfl (fun _ => rfl) (fun _ _ _ => rfl) (fun t => by rw [after_2]; unfold Dat.blockOf iblk0; rw [A_0]; rfl) t d).trans
    (by unfold Dat.fetched Dat.blockOf iblk0; rw [A_0]; rfl)

/-! ### The body at every point -/

/-- The staging buffers at point `t`, -/
abbrev stg0_0 (t : Fin (cfgA H).N) : Memref sig .tc .vmem S1024x512 .i32 := spec0_0.stage ((cfgA H).slots t 0)
@[inherit_doc stg0_0] abbrev stg0_1 (t : Fin (cfgA H).N) : Memref sig .tc .vmem S1x1x2048 .f32 := spec0_1.stage ((cfgA H).slots t 1)
@[inherit_doc stg0_0] abbrev stg0_2 (t : Fin (cfgA H).N) : Memref sig .tc .vmem S1x1x1024 .f32 := spec0_2.stage ((cfgA H).slots t 2)
@[inherit_doc stg0_0] abbrev stg0_3 (t : Fin (cfgA H).N) : Memref sig .tc .vmem S1024x2x512 .bf16 := spec0_3.stage ((cfgA H).slots t 3)

/-- and the body, on them. -/
abbrev bodyAt0 (t : Fin (cfgA H).N) : Prog (TpuEff nD τ sig (Elt F) Λ₀ .tc) PUnit :=
  blocks (grid0.coords t) (stg0_0 H t) (hstage0_0 (((cfgA H).slots t 0).cast nbuf0_0)) (stg0_1 H t) (hstage0_1 (((cfgA H).slots t 1).cast nbuf0_1))
    (stg0_2 H t) (hstage0_2 (((cfgA H).slots t 2).cast nbuf0_2)) (stg0_3 H t) (hstage0_3 (((cfgA H).slots t 3).cast nbuf0_3))

theorem defs₀_row0 (t : Fin (cfgA H).N) :
    defs₀ (F := F) .tc (cfgA H).body ((cfgA H).bodyArgs t ((cfgA H).slots t)) = bodyAt0 H t := by
  unfold defs₀; rw [Defs.onTc_tc]
  exact body_eq _ _ _ _ _ _ _ _ _

omit H in
theorem coord0 : ∀ t : Fin grid0.N, (grid0.coords t 0).val = t.val := by decide +kernel

def bodyPre0 (c : Dev nD) (t : Fin (cfgA H).N) : sProp 𝕄 :=
  iprop((dat0 H c).Φ t.castSucc ∗ (dat0 H c).owesAt () t.castSucc
    ∗ (∃ d, owns (c : Thread nD τ) (stg0_0 H t) fullShare ((dat0 H c).before 0 t d))
    ∗ (∃ d, owns (c : Thread nD τ) (stg0_1 H t) fullShare ((dat0 H c).before 1 t d))
    ∗ (∃ d, owns (c : Thread nD τ) (stg0_2 H t) fullShare ((dat0 H c).before 2 t d))
    ∗ (∃ d, owns (c : Thread nD τ) (stg0_3 H t) fullShare ((dat0 H c).before 3 t d)))

def bodyPost0 (c : Dev nD) (t : Fin (cfgA H).N) : sProp 𝕄 :=
  iprop((dat0 H c).Φ t.succ ∗ (dat0 H c).owesAt () t.succ
    ∗ owns (c : Thread nD τ) (stg0_0 H t) fullShare ((dat0 H c).after 0 t)
    ∗ owns (c : Thread nD τ) (stg0_1 H t) fullShare ((dat0 H c).after 1 t)
    ∗ owns (c : Thread nD τ) (stg0_2 H t) fullShare ((dat0 H c).after 2 t)
    ∗ owns (c : Thread nD τ) (stg0_3 H t) fullShare ((dat0 H c).after 3 t))

theorem sound_body0 (c : Dev nD) (t : Fin (cfgA H).N) :
    bodyPre0 H c t ⊢ wp frame (wpE (defs₀ (F := F)) Variants.none c none) Set.univ (bodyAt0 H t) (fun _ => bodyPost0 H c t) := by
  have hm : Move (F := F) c (grid0.coords t) (pf m 0) (pf m 1) (pf m 2) (pf m 3) (pf m 4)
      (stateAt (beOf m 0) (nvOf m 0) t.val) (stAt (beOf m 0) (nvOf m 0) (t.val + 1)) := by
    have h := move_at (F := F) H.fits c (grid0.coords t)
    rw [coord0 t] at h
    exact h
  have hv : wNv c (pf m 1) = nvOf m 0 (ix1 0) := wNv_at c (pf m 1)
  have hw : wRows c (grid0.coords t) (pf m 5) = rowsOf m 0 (ix1 (pt (grid0.coords t))) := wRows_at c (grid0.coords t) (pf m 5)
  have hone : One (F := F) (grid0.coords t) (wNv c (pf m 1)) (wRows c (grid0.coords t) (pf m 5)) := by
    rw [hv, hw]
    exact one_at _ _ _ (H.rows _)
  have hs : state c (fgOf m c) (fwOf m c) (stateAt (beOf m 0) (nvOf m 0) (t.val + 1)) = (held c (fgOf m c) (fwOf m c) (stAt (beOf m 0) (nvOf m 0) (t.val + 1)) : sProp 𝕄) := by
    unfold stateAt
    rw [if_neg (by omega)]
    rfl
  unfold bodyPre0 bodyPost0
  simp only [before_0, before_1, before_2]
  rw [after_0, after_1, after_2, after_3, Phi_0, Phi_0]
  unfold Phi Dat.owesAt Pipeline.owesWithin
  rw [show (t.castSucc : Fin ((cfgA H).N + 1)).val = t.val from rfl, show (t.succ : Fin ((cfgA H).N + 1)).val = t.val + 1 from rfl, hs]
  iintro ⟨⟨HT, HS, Hr, Ho⟩, ⟨%W, -, HW⟩, ⟨%d0, H0⟩, ⟨%d1, H1⟩, ⟨%d2, H2⟩, ⟨%d3, H3⟩⟩
  iapply (wp_point c (fgOf m c) (fwOf m c) (grid0.coords t) (stg0_0 H t) _ (stg0_1 H t) _ (stg0_2 H t) _ (stg0_3 H t) _
    (iblk0 H c 0 t) (iblk0 H c 1 t) (iblk0 H c 2 t) (pf m 0) (pf m 1) (pf m 2) (pf m 3) (pf m 4) (pf m 5) _ _ hm hone) $$ [HT HS HW H0 H1 H2 H3]
  · isplitl [HT]; · iexact HT
    isplitl [HS]; · iexact HS
    unfold stages
    isplitl [H0]; · iexact H0
    isplitl [H1]; · iexact H1
    isplitl [H2]; · iexact H2
    isplitl [H3]; · iexists _; iexact H3
    iexists W; iexact HW
  unfold done
  iintro ⟨HT, HS, H0, H1, H2, H3, ⟨%W', HW⟩⟩
  isplitl [HT HS Hr Ho]
  · isplitl [HT]; · iexact HT
    isplitl [HS]; · iexact HS
    isplitl [Hr]; · iexact Hr
    iexact Ho
  isplitl [HW]
  · iexists W'
    isplitr
    · ipureintro; exact fun _ _ => Or.inl trivial
    iexact HW
  isplitl [H0]; · iexact H0
  isplitl [H1]; · iexact H1
  isplitl [H2]; · iexact H2
  rw [show outA H c t = outAt (grid0.coords t) (wNv c (pf m 1)) (wRows c (grid0.coords t) (pf m 5)) (iblk0 H c 0 t) (iblk0 H c 1 t) (iblk0 H c 2 t)
    (gSlab c (fgOf m c) (stAt (beOf m 0) (nvOf m 0) (t.val + 1)).e) (dSlab c (fwOf m c) (stAt (beOf m 0) (nvOf m 0) (t.val + 1)).e) from by
      unfold outA; rw [hv, hw, coord0 t]]
  iexact H3

theorem body_obligation0 (c : Dev nD) : BodyObligation (dat0 H c) (defs₀ (F := F)) Variants.none () Set.univ := fun t => by
  rw [bigSep_W0, bigSep_W0, defs₀_row0]
  refine triple_restated (sound_body0 H c t) rfl .rfl fun _ => ?_
  have h3 : idle0 (F := F) (adm H).1 3 (grid0.coords t) = false := idle_A H 3 _
  simp only [h3]
  exact (show (bodyPost0 H c t : sProp 𝕄) ⊢ bodyPost0 H c t from .rfl)

end Data

end Cert.Kernel2Ideal.Ffn
-- ==== Proof.FfnDat1.lean ====
/-
  The second call: its reader's body, from the words of a block to the halves of its rows.
-/
module

public import proofs.«01_k».proof.Proof.FfnDat
public import proofs.«01_k».proof.Proof.Gen.Kernel2Ideal.Skeleton
public import Idealize.ShloMosaic.Lib.Pipeline.FrameBody
public import Idealize.ShloMosaic.Lib.Tactic

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

abbrev rIn : Rect S1024x2x512 := Rect.unit (s := S1024x2x512) ![0, 0, 0] S1024x2x512.size inb_S1024x2x512_S1024x2x512_0_0_0
abbrev rOut : Rect S1024x1024 := Rect.unit (s := S1024x1024) ![0, 0] S1024x1024.size inb_S1024x1024_S1024x1024_0_0

/-- What the reader leaves of a block `x`. -/
def rowsOut (x : Vec F S1024x2x512 .bf16) : Vec F S1024x1024 .f32 := View.canon [⟨rOut, k1_pay1 (View.ld x rIn)⟩]

theorem rows_cover (p : Vec F S1024x1024 .f32) (y : S1024x1024.Idx) :
    ∃ pc ∈ ([⟨rOut, p⟩] : List (View.Piece (Elt F) S1024x1024 .f32)), y ∈ pc.1.set :=
  View.cover_of_tiled [⟨rOut, p⟩] S1024x1024.size (by rfl) y

set_option maxHeartbeats 1000000 in
theorem wp_rows (c : Dev nD) (i : grid1.Coords) (X : Memref sig .tc .vmem S1024x2x512 .bf16) (hX : X.IsWhole)
    (Y : Memref sig .tc .vmem S1024x1024 .f32) (hY : Y.IsWhole) (x : Vec F S1024x2x512 .bf16) (K : PUnit → sProp 𝕄) :
    iprop(owns (c : Thread nD τ) X fullShare x ∗ (∃ d, owns (c : Thread nD τ) Y fullShare d)
        ∗ (iprop(owns (c : Thread nD τ) X fullShare x ∗ owns (c : Thread nD τ) Y fullShare (rowsOut x)) -∗ K ⟨⟩))
      ⊢ wp frame (wpE (defs₀ (F := F)) Variants.none c none) Set.univ (cc1__rows_kernel i X hX Y hY) K := by
  simp only [cc1__rows_kernel_eq_skeleton]; unfold cc1__rows_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (rows_cover _)

/-! ### Its proof data, from any contents of its arrays -/

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => rowsOut (iblk1 V c 0 t)
  Φ _ := Pipeline.ΦA spec1 c
  q _ := fullShare
  owed _ := 0

theorem A_1 (c : Dev nD) (w : Fin 2) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = rowsOut (iblk1 V c 0 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_1]; try rfl) t d).trans
    (by unfold Dat.fetched Dat.blockOf iblk1; rw [A_1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl, after1_0, after1_1]
  iintro ⟨HΦ, Ho, ⟨%d0, H0⟩, ⟨%d1, H1⟩⟩
  iapply (wp_rows c (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row1 (t : Fin cfg1.N) : defs₀ (F := F) .tc cfg1.body (cfg1.bodyArgs t (cfg1.slots t)) = bodyAt1 t := by
  unfold defs₀; rw [Defs.onTc_tc]

theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

end Cert.Kernel2Ideal.Ffn
-- ==== Proof.FfnRun.lean ====
/-
  The run of the two calls one after the other, given each one's record.
-/
module

public import proofs.«01_k».proof.Proof.Gen.Kernel2Ideal.Launch
public import proofs.«01_k».proof.Proof.Gen.Kernel2Ideal.Regions

@[expose] public section

noncomputable section

namespace Cert.Kernel2Ideal.Ffn

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run with both calls' records supplied: each argument ends as launched, the result holds what the second call leaves. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V9 m c) ∗ E 0 c) ⊢ R0.pre c)
    (hpost0 : ∀ c : Dev nD, R0.post c ⊢ iprop(StableHlo.held (c : Thread nD τ) (Pipeline.ucRefs τ sig) (V10 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V10 m outs c) ∗ E 1 c) ⊢ R1.pre c)
    (hpost1 : ∀ c : Dev nD, R1.post c ⊢ iprop(StableHlo.held (c : Thread nD τ) (Pipeline.ucRefs τ sig) (V11 m outs c) ∗ E 2 c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_v48) = outs 11 main_v48 c)
      ∧ r.2.sem = fun _ => 0) := by
  refine Pipeline.θ_run_regions_kit_dev_sems (pcfgs (F := F)) a pdats ι (cellOf_inj a) EP defs₀ 𝒱₀ L lv m ρ main
    (segs m 𝒱₀ L lv E ι a pdats R0 R1)
    (fun c Q => by
      rewrite [main_chain c, Seg.run_eq_chain,
        show (segs m 𝒱₀ L lv E ι a pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, .rfl, .rfl, .rfl, .rfl, .rfl, .rfl, .rfl, .rfl, hpre0 c, (hpost0 c).trans (hpre1 c), (hpost1 c).trans (sep_mono .rfl (hE2 c))⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_v48) = outs 11 main_v48 c)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V11_main_arg0 m outs c),
        (h (Proc.devRef .tc main_arg1) (Finset.mem_filter.mpr ⟨StableHlo.devRef_mem_tcRefs main_arg1, by decide⟩)).trans (V11_main_arg1 m outs c),
        (h (Proc.devRef .tc main_arg2) (Finset.mem_filter.mpr ⟨StableHlo.devRef_mem_tcRefs main_arg2, by decide⟩)).trans (V11_main_arg2 m outs c),
        (h (Proc.devRef .tc main_arg3) (Finset.mem_filter.mpr ⟨StableHlo.devRef_mem_tcRefs main_arg3, by decide⟩)).trans (V11_main_arg3 m outs c),
        (h (Proc.devRef .tc main_arg4) (Finset.mem_filter.mpr ⟨StableHlo.devRef_mem_tcRefs main_arg4, by decide⟩)).trans (V11_main_arg4 m outs c),
        (h (Proc.devRef .tc main_arg5) (Finset.mem_filter.mpr ⟨StableHlo.devRef_mem_tcRefs main_arg5, by decide⟩)).trans (V11_main_arg5 m outs c),
        (h (Proc.devRef .tc main_arg6) (Finset.mem_filter.mpr ⟨StableHlo.devRef_mem_tcRefs main_arg6, by decide⟩)).trans (V11_main_arg6 m outs c),
        (h (Proc.devRef .tc main_arg7) (Finset.mem_filter.mpr ⟨StableHlo.devRef_mem_tcRefs main_arg7, by decide⟩)).trans (V11_main_arg7 m outs c),
        (h (Proc.devRef .tc main_v48) (Finset.mem_filter.mpr ⟨StableHlo.devRef_mem_tcRefs main_v48, by decide⟩)).trans (Function.update_self _ _ _)⟩
    · iexact HSI

end Cert.Kernel2Ideal.Ffn
-- ==== Proof.FfnRegions.lean ====
/-
  The two calls' records, and the run of the whole program.
-/
module

public import proofs.«01_k».proof.Proof.FfnDat1
public import proofs.«01_k».proof.Proof.FfnRun
public import Idealize.ShloMosaic.Lib.Pipeline.RegionArraysDT
public import Idealize.ShloMosaic.Lib.Pipeline.RegionArrays

@[expose] public section

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

/-! ### The scratch arrays whole, and by slots -/

section Slots

variable (c : Dev nD)

def gAll : sProp 𝕄 := iprop(∃ f : Buf (Elt F) ((c : Thread nD τ).loc cc0_scratch0), ((c : Thread nD τ).loc cc0_scratch0) ↦{fullShare} f)
def dAll : sProp 𝕄 := iprop(∃ f : Buf (Elt F) ((c : Thread nD τ).loc cc0_scratch1), ((c : Thread nD τ).loc cc0_scratch1) ↦{fullShare} f)

theorem g_split : (gAll c : sProp 𝕄) ⊢ iprop(gFree c 0 ∗ gFree c 1) := by
  unfold gAll gFree
  iintro ⟨%f, Hf⟩
  ihave H := (pointsTo_split_subset (I := gS c 0) (S := Finset.univ) (Finset.subset_univ _)).1 $$ Hf
  icases H with ⟨H0, H1⟩
  isplitl [H0]; · iexists f; iexact H0
  iexists f; iexact H1
theorem g_join : iprop(gFree c 0 ∗ gFree c 1) ⊢ (gAll c : sProp 𝕄) := by
  unfold gAll gFree
  iintro ⟨⟨%f, H0⟩, ⟨%g, H1⟩⟩
  iexists _
  iapply (pointsTo_join_subset (I := gS c 0) (S := Finset.univ) (Finset.subset_univ _))
  isplitl [H0]; · iexact H0
  iexact H1
theorem d_split : (dAll c : sProp 𝕄) ⊢ iprop(dFree c 0 ∗ dFree c 1) := by
  unfold dAll dFree
  iintro ⟨%f, Hf⟩
  ihave H := (pointsTo_split_subset (I := dS c 0) (S := Finset.univ) (Finset.subset_univ _)).1 $$ Hf
  icases H with ⟨H0, H1⟩
  isplitl [H0]; · iexists f; iexact H0
  iexists f; iexact H1
theorem d_join : iprop(dFree c 0 ∗ dFree c 1) ⊢ (dAll c : sProp 𝕄) := by
  unfold dAll dFree
  iintro ⟨⟨%f, H0⟩, ⟨%g, H1⟩⟩
  iexists _
  iapply (pointsTo_join_subset (I := dS c 0) (S := Finset.univ) (Finset.subset_univ _))
  isplitl [H0]; · iexact H0
  iexact H1

/-- The kernel's four cells, -/
def osem : Fin 4 → SemLoc sig := fun
  | ⟨0, _⟩ => own 0 0
  | ⟨1, _⟩ => own 0 1
  | ⟨2, _⟩ => own 1 0
  | ⟨3, _⟩ => own 1 1
  | ⟨_ + 4, h⟩ => absurd h (Nat.not_lt.2 (Nat.le_add_left _ _))

/-- at zero. -/
def cells0 : sProp 𝕄 := iprop(semVal ((c : Thread nD τ), own 0 0) 0 ∗ semVal ((c : Thread nD τ), own 0 1) 0 ∗ semVal ((c : Thread nD τ), own 1 0) 0 ∗ semVal ((c : Thread nD τ), own 1 1) 0)

theorem osem_facts : Pipeline.OwnSemFacts spec0 osem := by decide

theorem cells_eq : (Pipeline.ownSems0 osem c : sProp 𝕄) = cells0 c := by
  rw [Pipeline.ownSems0_eq_of_list c osem [0, 1, 2, 3] (by decide) (by decide)]
  rfl

variable (fg : Buf (Elt F) ((c : Thread nD τ).loc main_arg4)) (fw : Buf (Elt F) ((c : Thread nD τ).loc main_arg6))

theorem start_of : iprop(gAll c ∗ dAll c ∗ cells0 c ∗ gArr c fg ∗ dArr c fw) ⊢ (start c fg fw : sProp 𝕄) := by
  unfold start free arrs cells0
  iintro ⟨Hg, Hd, ⟨H0, H1, H2, H3⟩, Ha, Hb⟩
  ihave Hg' := (g_split c) $$ Hg
  icases Hg' with ⟨Hg0, Hg1⟩
  ihave Hd' := (d_split c) $$ Hd
  icases Hd' with ⟨Hd0, Hd1⟩
  isplitl [Hg0 Hd0 H0 H1]
  · isplitl [Hg0]; · iexact Hg0
    isplitl [Hd0]; · iexact Hd0
    isplitl [H0]; · iexact H0
    iexact H1
  isplitl [Hg1 Hd1 H2 H3]
  · isplitl [Hg1]; · iexact Hg1
    isplitl [Hd1]; · iexact Hd1
    isplitl [H2]; · iexact H2
    iexact H3
  isplitl [Ha]; · iexact Ha
  iexact Hb

theorem of_start : (start c fg fw : sProp 𝕄) ⊢ iprop(gAll c ∗ dAll c ∗ cells0 c ∗ gArr c fg ∗ dArr c fw) := by
  unfold start free arrs cells0
  iintro ⟨⟨Hg0, Hd0, H0, H1⟩, ⟨Hg1, Hd1, H2, H3⟩, Ha, Hb⟩
  isplitl [Hg0 Hg1]
  · iapply (g_join c)
    isplitl [Hg0]; · iexact Hg0
    iexact Hg1
  isplitl [Hd0 Hd1]
  · iapply (d_join c)
    isplitl [Hd0]; · iexact Hd0
    iexact Hd1
  isplitl [H0 H1 H2 H3]
  · isplitl [H0]; · iexact H0
    isplitl [H1]; · iexact H1
    isplitl [H2]; · iexact H2
    iexact H3
  isplitl [Ha]; · iexact Ha
  iexact Hb

/-- The last slot's state, with nothing on its way, is the starting one with a slab left in a slot. -/
theorem held_start (st : St) (hp : st.p = none) : (held c fg fw st : sProp 𝕄) ⊢ start c fg fw := by
  obtain ⟨s, e, p⟩ := st
  dsimp only at hp
  subst hp
  unfold held start ahead
  dsimp only
  iintro ⟨Hh, Hf, Ha⟩
  ihave Hh' := (has_free c fg fw s e) $$ Hh
  fin_cases s
  · isplitl [Hh']; · iexact Hh'
    isplitl [Hf]; · iexact Hf
    iexact Ha
  · isplitl [Hf]; · iexact Hf
    isplitl [Hh']; · iexact Hh'
    iexact Ha

end Slots

section Regions

variable {m : (ℓ : Loc nD τ sig) → Buf (Elt F) ℓ} (H : Admits m)

/-! ### What the calls leave -/

def y47 (c : Dev nD) : Buf (Elt F) ((c : Thread nD τ).loc main_v47) := (dat0 H c).arrAt 3 (cfgA H).N

/-- A core's buffers between the two calls. -/
def VA (c : Dev nD) : Valuation τ sig (Elt F) := Function.update (V9 m c) main_v47 (y47 H c)

abbrev datB (c : Dev nD) : Dat τ (Elt F) Unit ℕ (Pipeline.UD sig nD τ) ℕ cfg1 c := dat1 (fun c b => VA H c b) c

def y48 (c : Dev nD) : Buf (Elt F) ((c : Thread nD τ).loc main_v48) := (datB H c).arrAt 1 cfg1.N

def outs : Outs (F := F) := fun _ r c => (Function.update (VA H c) main_v48 (y48 H c) : Valuation τ sig (Elt F)) r

theorem outs_47 (n : ℕ) (c : Dev nD) : outs H n main_v47 c = y47 H c := by
  unfold outs VA
  rw [Function.update_of_ne (StableHlo.devRef_ne_of_ne (by decide)), Function.update_self]
theorem outs_48 (n : ℕ) (c : Dev nD) : outs H n main_v48 c = y48 H c := by
  unfold outs
  rw [Function.update_self]
theorem V10_eq (c : Dev nD) : V10 m (outs H) c = VA H c := by
  unfold VA
  rw [← outs_47 H 10 c]

def adms : (p : Fin 2) → (pcfgs (F := F) p).Adm := fun
  | ⟨0, _⟩ => adm H
  | ⟨1, _⟩ => cfg1.toPCfg_adm
  | ⟨_ + 2, h⟩ => absurd h (Nat.not_lt.2 (Nat.le_add_left _ _))

def pdats : (p : Fin 2) → (c : Dev nD) → Dat τ (Elt F) Unit ℕ (Pipeline.UD sig nD τ) ℕ (Pipeline.pin (pcfgs (F := F)) (adms H) p) c := fun
  | ⟨0, _⟩ => fun c => dat0 H c
  | ⟨1, _⟩ => fun c => datB H c
  | ⟨_ + 2, h⟩ => absurd h (Nat.not_lt.2 (Nat.le_add_left _ _))

def Lx (g : GSem nD τ sig) : Finset Unit := if g.1.2 = .tc then {()} else ∅
def lvx (_ : GSem nD τ sig) (_ : Unit) : ℕ := 0

theorem cut (p : Fin 2) : Pipeline.LevelCut (pcfgs (F := F)) (adms H) () Lx lvx p (fun _ => 0) (fun _ => 0) where
  hι c w s := by unfold Lx; rw [if_pos rfl]; exact Finset.mem_singleton_self _
  hιb c w s := le_refl _
  hD c g i h := absurd h (by simp)

/-! ### The first call's record -/

def HH : Finset (Ref sig .tc) := {main_arg4, main_arg6}
abbrev S0 : Finset (DevRef τ sig) := (Pipeline.ucRefs τ sig \ Pipeline.arrRefs (τ := τ) spec0) \ Pipeline.tblRefs (τ := τ) pre0

theorem HH_sub : Pipeline.hbmRefs (τ := τ) HH ⊆ S0 := by decide

theorem V9_arg0 (c : Dev nD) : V9 m c main_arg0 = m ((c : Thread nD τ).loc main_arg0) :=
  ((V11_of m (fun _ r c => m ((c : Thread nD τ).loc r)) c main_arg0 (by decide)).trans (V10_of m (fun _ r c => m ((c : Thread nD τ).loc r)) c main_arg0 (by decide))).symm.trans
    (V11_main_arg0 m (fun _ r c => m ((c : Thread nD τ).loc r)) c)
theorem V9_arg1 (c : Dev nD) : V9 m c main_arg1 = m ((c : Thread nD τ).loc main_arg1) :=
  ((V11_of m (fun _ r c => m ((c : Thread nD τ).loc r)) c main_arg1 (by decide)).trans (V10_of m (fun _ r c => m ((c : Thread nD τ).loc r)) c main_arg1 (by decide))).symm.trans
    (V11_main_arg1 m (fun _ r c => m ((c : Thread nD τ).loc r)) c)
theorem V9_arg2 (c : Dev nD) : V9 m c main_arg2 = m ((c : Thread nD τ).loc main_arg2) :=
  ((V11_of m (fun _ r c => m ((c : Thread nD τ).loc r)) c main_arg2 (by decide)).trans (V10_of m (fun _ r c => m ((c : Thread nD τ).loc r)) c main_arg2 (by decide))).symm.trans
    (V11_main_arg2 m (fun _ r c => m ((c : Thread nD τ).loc r)) c)
theorem V9_arg4 (c : Dev nD) : V9 m c main_arg4 = m ((c : Thread nD τ).loc main_arg4) :=
  ((V11_of m (fun _ r c => m ((c : Thread nD τ).loc r)) c main_arg4 (by decide)).trans (V10_of m (fun _ r c => m ((c : Thread nD τ).loc r)) c main_arg4 (by decide))).symm.trans
    (V11_main_arg4 m (fun _ r c => m ((c : Thread nD τ).loc r)) c)
theorem V9_arg6 (c : Dev nD) : V9 m c main_arg6 = m ((c : Thread nD τ).loc main_arg6) :=
  ((V11_of m (fun _ r c => m ((c : Thread nD τ).loc r)) c main_arg6 (by decide)).trans (V10_of m (fun _ r c => m ((c : Thread nD τ).loc r)) c main_arg6 (by decide))).symm.trans
    (V11_main_arg6 m (fun _ r c => m ((c : Thread nD τ).loc r)) c)

theorem tbl_ne : ∀ k : Fin 6, pre0.ref k ≠ main_v47 := by decide

theorem pf_V9 (c : Dev nD) (k : Fin 6) : pf m k = V9 m c (Proc.devRef .tc (pre0.ref k)) := by
  obtain rfl : c = 0 := Subsingleton.elim _ _
  fin_cases k
  · exact (V9_arg0 0).symm
  · exact (V9_arg1 0).symm
  · exact (V9_v10 m 0).symm
  · exact (V9_v15 m 0).symm
  · exact (V9_v44 m 0).symm
  · exact (V9_arg2 0).symm

theorem tabs_list (c : Dev nD) (T : pre0.Contents (Elt F)) :
    (bigSep (Finset.univ : Finset (Fin 6)) fun k => ((c.tc : Thread nD τ).loc (pre0.ref k)) ↦{fullShare} T k : sProp 𝕄) = tabs c (T 0) (T 1) (T 2) (T 3) (T 4) (T 5) := by
  rw [BI.bigSep_univ_eq_bigSepL [0, 1, 2, 3, 4, 5] (by decide) (by decide)]
  rfl
theorem tabs_eq (c : Dev nD) : (Pipeline.tablesAt (pcfgs (F := F)) (adms H) 0 c : sProp 𝕄) = tabs c (pf m 0) (pf m 1) (pf m 2) (pf m 3) (pf m 4) (pf m 5) :=
  tabs_list c (pf m)

theorem arrs_eq (c : Dev nD) : (bigSep HH fun b => ((c.tc : Thread nD τ).loc b) ↦{fullShare} V9 m c (Proc.devRef .tc b) : sProp 𝕄)
    = iprop(gArr c (fgOf m c) ∗ dArr c (fwOf m c)) := by
  unfold HH
  rw [BI.bigSep_insert (by decide), BI.bigSep_singleton]
  unfold gArr dArr
  rw [V9_arg4 c, V9_arg6 c]
  rfl

theorem rest_eq (c : Dev nD) : (Pipeline.scopedRest spec0 c : sProp 𝕄) = iprop(gAll c ∗ dAll c ∗ others c) := by
  rw [scopedRest0_eq]
  rfl

theorem hin0 (c : Dev nD) : iprop(iprop(Pipeline.scopedRest spec0 c ∗ (∃ r, prngReg c r) ∗ Pipeline.ownSems0 osem c
      ∗ (bigSep HH fun b => ((c.tc : Thread nD τ).loc b) ↦{fullShare} V9 m c (Proc.devRef .tc b)) ∗ Transfers.MayWaits (c : Thread nD τ) () 0)
      ∗ Pipeline.tablesAt (pcfgs (F := F)) (adms H) 0 c) ⊢ (Phi (m := m) c 0 : sProp 𝕄) := by
  rw [tabs_eq, arrs_eq, rest_eq, cells_eq]
  unfold Phi
  rw [show (state c (fgOf m c) (fwOf m c) (stateAt (beOf m 0) (nvOf m 0) 0) : sProp 𝕄) = start c (fgOf m c) (fwOf m c) from rfl]
  iintro ⟨⟨⟨Hg, Hd, Ho⟩, Hp, Hc, ⟨Ha, Hb⟩, -⟩, HT⟩
  isplitl [HT]; · iexact HT
  isplitl [Hg Hd Hc Ha Hb]
  · iapply (start_of c _ _)
    isplitl [Hg]; · iexact Hg
    isplitl [Hd]; · iexact Hd
    isplitl [Hc]; · iexact Hc
    isplitl [Ha]; · iexact Ha
    iexact Hb
  isplitl [Hp]; · iexact Hp
  iexact Ho

theorem hout0 (c : Dev nD) : (Phi (m := m) c 160 : sProp 𝕄) ⊢ iprop(iprop(Pipeline.scopedRest spec0 c ∗ (∃ r, prngReg c r) ∗ Pipeline.ownSems0 osem c
      ∗ (bigSep HH fun b => ((c.tc : Thread nD τ).loc b) ↦{fullShare} V9 m c (Proc.devRef .tc b)))
      ∗ Pipeline.tablesAt (pcfgs (F := F)) (adms H) 0 c) := by
  rw [tabs_eq, arrs_eq, rest_eq, cells_eq]
  unfold Phi
  rw [show (state c (fgOf m c) (fwOf m c) (stateAt (beOf m 0) (nvOf m 0) 160) : sProp 𝕄) = held c (fgOf m c) (fwOf m c) (stAt (beOf m 0) (nvOf m 0) 160) from rfl]
  iintro ⟨HT, HS, Hp, Ho⟩
  ihave HS' := (held_start c _ _ _ (last_none H.fits)) $$ HS
  ihave HS'' := (of_start c _ _) $$ HS'
  icases HS'' with ⟨Hg, Hd, Hc, Ha, Hb⟩
  isplitr [HT]
  · isplitl [Hg Hd Ho]
    · isplitl [Hg]; · iexact Hg
      isplitl [Hd]; · iexact Hd
      iexact Ho
    isplitl [Hp]; · iexact Hp
    isplitl [Hc]; · iexact Hc
    isplitl [Ha]; · iexact Ha
    iexact Hb
  iexact HT

theorem VA_of (c : Dev nD) (r : Ref sig .tc) (h : r ≠ main_v47) : VA H c r = V9 m c r := by
  unfold VA
  exact Function.update_of_ne (StableHlo.devRef_ne_of_ne h) _ _

theorem VA_47 (c : Dev nD) : VA H c main_v47 = y47 H c := by
  unfold VA
  exact Function.update_self _ _ _

theorem left0 (c : Dev nD) : ∀ w : Fin 4, (dat0 H c).arrAt w (cfgA H).N = VA H c (Proc.devRef .tc (Pipeline.arrRef spec0 w)) := fun
  | 0 => ((dat0 H c).arrAt_in 0 rfl _).trans ((A_0 H c 0).trans (VA_of H c (Pipeline.arrRef spec0 0) (by decide)).symm)
  | 1 => ((dat0 H c).arrAt_in 1 rfl _).trans ((A_0 H c 1).trans (VA_of H c (Pipeline.arrRef spec0 1) (by decide)).symm)
  | 2 => ((dat0 H c).arrAt_in 2 rfl _).trans ((A_0 H c 2).trans (VA_of H c (Pipeline.arrRef spec0 2) (by decide)).symm)
  | 3 => (VA_47 H c).symm
  | ⟨_ + 4, h⟩ => absurd h (Nat.not_lt.2 (Nat.le_add_left _ _))

def Ex (c : Dev nD) : sProp 𝕄 := iprop((∃ r, prngReg c r) ∗ ∃ W, owes (c : Thread nD τ) (0 : CellTallies nD τ sig Unit) W)

set_option backward.isDefEq.respectTransparency.types false in
def R0 : RegionSeg (pcfgs (F := F)) (adms H) (pdats H) () (defs₀ (F := F)) Variants.none Lx lvx 0 :=
  Pipeline.RegionSeg.ofHeldDHT (pcfgs (F := F)) (adms H) (pdats H) () defs₀ Variants.none Lx lvx 0 (fun _ => 0) () osem osem_facts HH S0 HH_sub
    launch0 (fun c => (body_obligation0 H c).loose) (fun _ _ => rfl) (fun _ => rfl) (fun c => (dat0 H c).share_full fun _ => rfl)
    (fun c => (Affine.affine).trans (Transfers.MayWaits.zero (c : Thread nD τ) ()))
    (fun c => V9 m c) (fun c => VA H c) (hin0 H) (hout0 H) (fun _ => 0) (cut H 0) (fun _ => BI.emp)
    (fun _ _ => rfl) (fun c k => pf_V9 c k)
    (left0 H)
    (fun c k => (pf_V9 c k).trans (VA_of H c (pre0.ref k) (tbl_ne k)).symm)

/-! ### The second call's record -/

theorem outs_ne (c : Dev nD) (r : Ref sig .tc) (h : r ≠ main_v48) : V11 m (outs H) c r = VA H c r := by
  rw [V11_of m (outs H) c r (by simpa using h), V10_eq]
theorem V11_48 (c : Dev nD) : V11 m (outs H) c main_v48 = y48 H c :=
  (Function.update_self _ _ _).trans (outs_48 H 11 c)

theorem left1 (c : Dev nD) : ∀ w : Fin 2, (datB H c).arrAt w cfg1.N = V11 m (outs H) c (Proc.devRef .tc (Pipeline.arrRef spec1 w)) := fun
  | 0 => ((datB H c).arrAt_in 0 rfl _).trans ((A_1 _ c 0).trans (outs_ne H c (Pipeline.arrRef spec1 0) (by decide)).symm)
  | 1 => (V11_48 H c).symm
  | ⟨_ + 2, h⟩ => absurd h (Nat.not_lt.2 (Nat.le_add_left _ _))

abbrev S1 : Finset (DevRef τ sig) := Pipeline.ucRefs τ sig \ Pipeline.arrRefs (τ := τ) spec1

set_option backward.isDefEq.respectTransparency.types false in
def R1 : RegionSeg (pcfgs (F := F)) (adms H) (pdats H) () (defs₀ (F := F)) Variants.none Lx lvx 1 :=
  Pipeline.RegionSeg.ofHeld (pcfgs (F := F)) (adms H) (pdats H) () defs₀ Variants.none Lx lvx 1 (fun _ => 0)
    (fun c => iprop(∃ r, prngReg c r)) (fun c => iprop(∃ r, prngReg c r)) launch1 rfl
    (fun c => (body_obligation1 (fun c b => VA H c b) c).loose) (fun _ _ => rfl) (fun _ => rfl) (fun c => (datB H c).share_full fun _ => rfl)
    (fun _ => .rfl) (fun _ => .rfl) (fun _ => 0) (cut H 1) (fun c => StableHlo.held (c : Thread nD τ) S1 (VA H c))
    (fun c => VA H c) (fun c => V11 m (outs H) c) (fun _ _ => rfl) (left1 H)

/-! ### Between the calls -/

theorem arrs0_sub : Pipeline.arrRefs (τ := τ) spec0 ⊆ Pipeline.ucRefs τ sig := Pipeline.arrRefs_sub_ucRefs spec0 winFacts0.arr_unscoped
theorem arrs1_sub : Pipeline.arrRefs (τ := τ) spec1 ⊆ Pipeline.ucRefs τ sig := Pipeline.arrRefs_sub_ucRefs spec1 winFacts1.arr_unscoped
theorem tbls0_sub : Pipeline.tblRefs (τ := τ) pre0 ⊆ Pipeline.ucRefs τ sig \ Pipeline.arrRefs (τ := τ) spec0 := by decide

theorem rest0 (c : Dev nD) : ∀ b ∈ S0, VA H c b = V9 m c b := by
  intro b hb
  unfold VA
  refine Function.update_of_ne ?_ _ _
  rintro rfl
  exact absurd hb (by decide)

theorem rest1 (c : Dev nD) : ∀ b ∈ S1, V11 m (outs H) c b = VA H c b := by
  intro b hb
  rw [← V10_eq H c]
  refine Function.update_of_ne ?_ _ _
  rintro rfl
  exact absurd hb (by decide)

theorem hpre0 (c : Dev nD) : iprop(StableHlo.held (c : Thread nD τ) (Pipeline.ucRefs τ sig) (V9 m c) ∗ Ex c) ⊢ ((R0 H).pre c : sProp 𝕄) := by
  show _ ⊢ iprop(StableHlo.held (c.tc : Thread nD τ) (Pipeline.arrRefs spec0) (V9 m c) ∗ StableHlo.held (c.tc : Thread nD τ) (Pipeline.tblRefs pre0) (V9 m c) ∗ (∃ r, prngReg c r)
    ∗ (StableHlo.held (c.tc : Thread nD τ) S0 (V9 m c) ∗ BI.emp) ∗ ∃ Wd, owes (c : Thread nD τ) (0 : CellTallies nD τ sig Unit) Wd)
  rw [StableHlo.held_sub_split (c : Thread nD τ) arrs0_sub (V9 m c), StableHlo.held_sub_split (c : Thread nD τ) tbls0_sub (V9 m c)]
  unfold Ex
  iintro ⟨⟨Ha, Ht, Hr⟩, Hp, HO⟩
  isplitl [Ha]; · iexact Ha
  isplitl [Ht]; · iexact Ht
  isplitl [Hp]; · iexact Hp
  isplitl [Hr]
  · isplitl [Hr]; · iexact Hr
    iempintro
  iexact HO

theorem hpost0 (c : Dev nD) : ((R0 H).post c : sProp 𝕄) ⊢ iprop(StableHlo.held (c : Thread nD τ) (Pipeline.ucRefs τ sig) (V10 m (outs H) c) ∗ Ex c) := by
  show iprop(StableHlo.held (c.tc : Thread nD τ) (Pipeline.arrRefs spec0) (VA H c) ∗ StableHlo.held (c.tc : Thread nD τ) (Pipeline.tblRefs pre0) (VA H c) ∗ (∃ r, prngReg c r)
    ∗ (StableHlo.held (c.tc : Thread nD τ) S0 (V9 m c) ∗ BI.emp) ∗ ∃ Wd, owes (c : Thread nD τ) (0 : CellTallies nD τ sig Unit) Wd) ⊢ _
  rw [V10_eq H c, StableHlo.held_sub_split (c : Thread nD τ) arrs0_sub (VA H c), StableHlo.held_sub_split (c : Thread nD τ) tbls0_sub (VA H c),
    StableHlo.held_congr (c : Thread nD τ) (S := S0) (rest0 H c)]
  unfold Ex
  iintro ⟨Ha, Ht, Hp, ⟨Hr, -⟩, HO⟩
  isplitl [Ha Ht Hr]
  · isplitl [Ha]; · iexact Ha
    isplitl [Ht]; · iexact Ht
    iexact Hr
  isplitl [Hp]; · iexact Hp
  iexact HO

theorem hpre1 (c : Dev nD) : iprop(StableHlo.held (c : Thread nD τ) (Pipeline.ucRefs τ sig) (V10 m (outs H) c) ∗ Ex c) ⊢ ((R1 H).pre c : sProp 𝕄) := by
  show _ ⊢ iprop(StableHlo.held (c.tc : Thread nD τ) (Pipeline.arrRefs spec1) (VA H c) ∗ (∃ r, prngReg c r) ∗ StableHlo.held (c : Thread nD τ) S1 (VA H c)
    ∗ ∃ Wd, owes (c : Thread nD τ) (0 : CellTallies nD τ sig Unit) Wd)
  rw [V10_eq H c, StableHlo.held_sub_split (c : Thread nD τ) arrs1_sub (VA H c)]
  unfold Ex
  iintro ⟨⟨Ha, Hr⟩, Hp, HO⟩
  isplitl [Ha]; · iexact Ha
  isplitl [Hp]; · iexact Hp
  isplitl [Hr]; · iexact Hr
  iexact HO

theorem hpost1 (c : Dev nD) : ((R1 H).post c : sProp 𝕄) ⊢ iprop(StableHlo.held (c : Thread nD τ) (Pipeline.ucRefs τ sig) (V11 m (outs H) c) ∗ Ex c) := by
  show iprop(StableHlo.held (c.tc : Thread nD τ) (Pipeline.arrRefs spec1) (V11 m (outs H) c) ∗ (∃ r, prngReg c r) ∗ StableHlo.held (c : Thread nD τ) S1 (VA H c)
    ∗ ∃ Wd, owes (c : Thread nD τ) (0 : CellTallies nD τ sig Unit) Wd) ⊢ _
  rw [StableHlo.held_sub_split (c : Thread nD τ) arrs1_sub (V11 m (outs H) c), StableHlo.held_congr (c : Thread nD τ) (S := S1) (rest1 H c)]
  unfold Ex
  iintro ⟨Ha, Hp, Hr, HO⟩
  isplitl [Ha Hr]
  · isplitl [Ha]; · iexact Ha
    iexact Hr
  isplitl [Hp]; · iexact Hp
  iexact HO

/-! ### The run -/

theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_v48) = outs H 11 main_v48 c)
      ∧ r.2.sem = fun _ => 0) :=
  run_cond m embL () Variants.none Lx lvx (fun g h => if_neg h) ρ (outs H) (adms H) (pdats H) 0 (fun _ => BI.emp)
    (initOf (Pipeline.cells (Pipeline.pin (pcfgs (F := F)) (adms H)) (cellOf_inj (adms H))) (Pipeline.launchToks (Pipeline.pin (pcfgs (F := F)) (adms H)) (cellOf_inj (adms H))), 1)
    (by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ => Ex)
    (by
      refine Pipeline.initEach Lx lvx fun c => ?_
      unfold Ex
      iintro ⟨⟨-, HO, -, Hp, -⟩, -⟩
      imodintro
      isplitl [Hp]; · iexists _; iexact Hp
      iexists _; iexact HO)
    (fun c => by
      unfold Ex
      iintro ⟨-, HO⟩
      iexact HO)
    (R0 H) (hpre0 H) (hpost0 H) (R1 H) (hpre1 H) (hpost1 H)

end Regions

end Cert.Kernel2Ideal.Ffn
-- ==== Proof.FfnPre.lean ====
/-
  What the precondition says of the tables.
-/
module

public import proofs.«01_k».proof.Proof.FfnRegions
public import proofs.«01_k».proof.Proof.Gen.Pre_admissible
public import proofs.«01_k».proof.Defs
public import Idealize.ShloMosaic.Lib.ReduceAll
public import Idealize.ShloMosaic.Lib.Affine
public import Idealize.ShloMosaic.Lib.Pointwise

@[expose] public section

noncomputable section

namespace Cert.Ffn

open Idealize.ShloMosaic Idealize.ShloMosaic.TcCoe
open Cert.Pre_admissible

theorem of_admissible {F : FTy → Type} [FloatOps F] (a0 : IVec S160 32) (a1 : IVec S1 32) (a2 : IVec S160 32) (a3 : IVec S163840x512 32)
    (a4 : FVec F S32x1024x2048 .f32) (a5 : FVec F S32x2048 .f32) (a6 : FVec F S32x1024x1024 .f32) (a7 : FVec F S32x1024 .f32)
    (h : Cert.Pre_admissible.fn (F := F) a0 a1 a2 a3 a4 a5 a6 a7 = fun _ => 1#1) :
    (∀ i, 0 ≤ (a0 i).toInt ∧ (a0 i).toInt < 32 ∧ (a2 i).toInt ≤ 1024) ∧ 1 ≤ (a1 (ix1 0)).toInt := by
  have h1 := congrFun h (fun a => a.elim0)
  unfold Cert.Pre_admissible.fn at h1
  dsimp only at h1
  obtain ⟨hr, hn⟩ := IntOp.andi_eq_one.1 h1
  constructor
  · intro i
    have hi := Host.reduce_andi_all _ _ _ _ _ hr i
    obtain ⟨hb, hr⟩ := IntOp.andi_eq_one.1 hi
    obtain ⟨h0, h32⟩ := IntOp.andi_eq_one.1 hb
    exact ⟨IntOp.cmpi_sge.1 h0, IntOp.cmpi_slt.1 h32, IntOp.cmpi_sle.1 hr⟩
  · have hx := IntOp.cmpi_sge.1 hn
    have he : shapeCast S_ a1 Gen.shapeCasts_S1_S_ (fun a => a.elim0) = a1 (ix1 0) :=
      congrArg a1 (funext fun a => by fin_cases a; exact Subsingleton.elim (α := Fin 1) _ _)
    exact (show (1 : ℤ) ≤ (shapeCast S_ a1 Gen.shapeCasts_S1_S_ (fun a => a.elim0)).toInt from hx).trans (le_of_eq (congrArg BitVec.toInt he))

end Cert.Ffn

namespace Cert.Kernel2Ideal.Ffn

open Idealize.ShloMosaic Idealize.ShloMosaic.TcCoe
open Cert.Kernel2Ideal

theorem admits (m : (ℓ : Loc nD τ sig) → Buf (Elt Ideal) ℓ) (h : Cert.Pre_Kernel2Ideal m) : Admits (F := Ideal) m := by
  have := Cert.Ffn.of_admissible _ _ _ _ _ _ _ _ (h 0)
  exact ⟨⟨fun t => (this.1 (ix1 t)).1, fun t => (this.1 (ix1 t)).2.1, this.2⟩, fun t => (this.1 (ix1 t)).2.2⟩

end Cert.Kernel2Ideal.Ffn
-- ==== Proof.WordPre.lean ====
/-
  What the precondition says of the tables, at the word instance.
-/
module

public import proofs.«01_k».proof.Proof.WordRegions
public import proofs.«01_k».proof.Proof.FfnPre

@[expose] public section

noncomputable section

namespace Cert.Kernel2.Ffn

open Idealize.ShloMosaic Idealize.ShloMosaic.TcCoe
open Cert.Kernel2

theorem admits (m : (ℓ : Loc nD τ sig) → Buf (Elt Bits) ℓ) (h : Cert.Pre_Kernel2 m) : Admits (F := Bits) m := by
  have := Cert.Ffn.of_admissible _ _ _ _ _ _ _ _ (h 0)
  exact ⟨⟨fun t => (this.1 (ix1 t)).1, fun t => (this.1 (ix1 t)).2.1, this.2⟩, fun t => (this.1 (ix1 t)).2.2⟩

end Cert.Kernel2.Ffn
-- ==== Proof.FfnClaims.lean ====
/-
  The expert call's frames, and the equalities of words its ideal reading rests on.
-/
module

public import proofs.«01_k».proof.Proof.WordPre
public import proofs.«01_k».proof.Proof.Gen.Reference2Ideal.Run
public import Idealize.ShloMosaic.Lib.Bf16PairInverse
public import Idealize.ShloMosaic.Lib.Quiescent

@[expose] public section

noncomputable section

open Idealize.ShloMosaic Idealize.ShloMosaic.TcCoe Idealize.SL.Sem

namespace Cert.Proof.FfnClaims

theorem frame_kernel : Cert.quiescent_Kernel2 := fun m ρ h =>
  (θ_run Cert.Kernel2.defs _ _).mono (fun _ e => ⟨fun c => by
      obtain ⟨h0, h1, h2, h3, h4, h5, h6, h7, -⟩ := e.1 c
      exact ⟨h0, h1, h2, h3, h4, h5, h6, h7⟩, e.2⟩)
    (Cert.Kernel2.Ffn.run (Cert.Kernel2.Ffn.admits m h) ρ)

theorem frame_ideal : Cert.quiescent_Kernel2Ideal := fun m ρ h =>
  (θ_run Cert.Kernel2Ideal.defs _ _).mono (fun _ e => ⟨fun c => by
      obtain ⟨h0, h1, h2, h3, h4, h5, h6, h7, -⟩ := e.1 c
      exact ⟨h0, h1, h2, h3, h4, h5, h6, h7⟩, e.2⟩)
    (Cert.Kernel2Ideal.Ffn.run (Cert.Kernel2Ideal.Ffn.admits m h) ρ)

theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- One statement per shape: the two re-typed buffers, then for each of the four row counts the pack, the store of the
    packed words and the store of zero words, and at the reader the two halves read as rows. -/
theorem preserves : Cert.preserves_Kernel2_Kernel2Ideal :=
  open Cert.Kernel2Ideal IdealRules.bf16_pair in
  ⟨bufferStatement S163840x2x512 S163840x1x512, bufferStatement S1024x2x512 S1024x1x512,
    packStatement S256x512, statement S256x2x512 S256x1x512, selectZeroStatement S768x512,
    packStatement S512x512, statement S512x2x512 S512x1x512, selectZeroStatement S512x512,
    packStatement S768x512, statement S768x2x512 S768x1x512, selectZeroStatement S256x512,
    packStatement S1024x512, statement S1024x2x512 S1024x1x512, selectZeroStatement S1024x512,
    statement S2048x512 S1024x512⟩

end Cert.Proof.FfnClaims

end
-- ==== Proof.FfnSpec.lean ====
/-
  What the experts' call computes, said element by element: a routed row is 512 words that hold two bf16
  values each; its expert's gated unit takes the row's 1024 lanes to 1024 values.
-/
module

public import proofs.«01_k».proof.Proof.FfnRegions
public import proofs.«01_k».proof.Proof.FinalValue

@[expose] public section

noncomputable section

open Idealize.ShloMosaic Idealize.ShloMosaic.TcCoe Idealize.SL.Sem

namespace Cert.FfnValue

open Cert.FinalValue (lane)

/-- The first product's column `f`, its bias added. -/
def mix (x : Fin 1024 → EReal) (g : Fin 1024 → Fin 2048 → EReal) (b : Fin 2048 → EReal) (f : Fin 2048) : EReal := (∑ k, x k * g k f) + b f

/-- The gated unit's value at `f`: the gate's column is `f`, the other one's `1024 + f`. -/
def unit (h : Fin 2048 → EReal) (f : Fin 1024) : EReal :=
  (min (Ideal.ofBits .f32 0x40E00000#32) (max (Ideal.ofBits .f32 0xC0E00000#32) (h ⟨1024 + f.val, by omega⟩)) + 1)
    * (min (h ⟨f.val, by omega⟩) (Ideal.ofBits .f32 0x40E00000#32)
        * Ideal.logistic (Ideal.ofBits .f32 0x3FD9DB23#32 * min (h ⟨f.val, by omega⟩) (Ideal.ofBits .f32 0x40E00000#32)))

/-- Lane `l` of an expert's output for one row. -/
def ffn (x : Fin 1024 → EReal) (g : Fin 1024 → Fin 2048 → EReal) (b : Fin 2048 → EReal) (w : Fin 1024 → Fin 1024 → EReal)
    (d : Fin 1024 → EReal) (l : Fin 1024) : EReal := (∑ f, unit (mix x g b) f * w f l) + d l

/-- The first product of a packed row: the low halves' lanes, then the high halves'. -/
theorem mix_lane (v : Fin 512 → BitVec 32) (g : Fin 1024 → Fin 2048 → EReal) (b : Fin 2048 → EReal) (f : Fin 2048) :
    mix (lane v) g b f
      = ∑ k : Fin 512, Ideal.ofBits .bf16 ((v k).extractLsb' 0 16) * g ⟨k.val, by omega⟩ f
        + ∑ k : Fin 512, Ideal.ofBits .bf16 ((v k).extractLsb' 16 16) * g ⟨512 + k.val, by omega⟩ f + b f := by
  unfold mix
  refine congrArg (· + b f) ((Fin.sum_univ_add (a := 512) (b := 512) fun k => lane v k * g k f).trans
    (congrArg₂ (· + ·) (Finset.sum_congr rfl fun k _ => ?_) (Finset.sum_congr rfl fun k _ => ?_)))
  · refine congrArg₂ (· * ·) ?_ rfl
    unfold lane
    exact dif_pos k.isLt
  · refine congrArg₂ (· * ·) ?_ rfl
    unfold lane
    refine (dif_neg (by simp)).trans ?_
    exact congrArg (fun q => Ideal.ofBits .bf16 ((v q).extractLsb' 16 16)) (Fin.ext (by simp))

end Cert.FfnValue

namespace Cert.Kernel2Ideal.Ffn

open Cert.Kernel2Ideal Cert.Kernel2Ideal.Gen
open Cert.FinalValue (lane)
open Cert.FfnValue

theorem pay2_apply (v : Vec Ideal S256x512 .i32) (g : Vec Ideal S1x1024x2048 .f32) (b : Vec Ideal S1x1x2048 .f32)
    (w : Vec Ideal S1x1024x1024 .f32) (d : Vec Ideal S1x1x1024 .f32) (r : Fin 256) (l : Fin 1024) :
    k0_pay2 v g b w d (ix2 r l)
      = ffn (lane fun q => v (ix2 r q)) (fun k f => g (ix3 0 k f)) (fun f => b (ix3 0 0 f)) (fun f l => w (ix3 0 f l)) (fun l => d (ix3 0 0 l)) l := by
  simp only [ffn, unit, mix_lane]
  pointwise [k0_pay2]

theorem pay5_apply (v : Vec Ideal S512x512 .i32) (g : Vec Ideal S1x1024x2048 .f32) (b : Vec Ideal S1x1x2048 .f32)
    (w : Vec Ideal S1x1024x1024 .f32) (d : Vec Ideal S1x1x1024 .f32) (r : Fin 512) (l : Fin 1024) :
    k0_pay5 v g b w d (ix2 r l)
      = ffn (lane fun q => v (ix2 r q)) (fun k f => g (ix3 0 k f)) (fun f => b (ix3 0 0 f)) (fun f l => w (ix3 0 f l)) (fun l => d (ix3 0 0 l)) l := by
  simp only [ffn, unit, mix_lane]
  pointwise [k0_pay5]

theorem pay8_apply (v : Vec Ideal S768x512 .i32) (g : Vec Ideal S1x1024x2048 .f32) (b : Vec Ideal S1x1x2048 .f32)
    (w : Vec Ideal S1x1024x1024 .f32) (d : Vec Ideal S1x1x1024 .f32) (r : Fin 768) (l : Fin 1024) :
    k0_pay8 v g b w d (ix2 r l)
      = ffn (lane fun q => v (ix2 r q)) (fun k f => g (ix3 0 k f)) (fun f => b (ix3 0 0 f)) (fun f l => w (ix3 0 f l)) (fun l => d (ix3 0 0 l)) l := by
  simp only [ffn, unit, mix_lane]
  pointwise [k0_pay8]

theorem pay11_apply (v : Vec Ideal S1024x512 .i32) (g : Vec Ideal S1x1024x2048 .f32) (b : Vec Ideal S1x1x2048 .f32)
    (w : Vec Ideal S1x1024x1024 .f32) (d : Vec Ideal S1x1x1024 .f32) (r : Fin 1024) (l : Fin 1024) :
    k0_pay11 v g b w d (ix2 r l)
      = ffn (lane fun q => v (ix2 r q)) (fun k f => g (ix3 0 k f)) (fun f => b (ix3 0 0 f)) (fun f l => w (ix3 0 f l)) (fun l => d (ix3 0 0 l)) l := by
  simp only [ffn, unit, mix_lane]
  pointwise [k0_pay11]

end Cert.Kernel2Ideal.Ffn

end
-- ==== Proof.FfnOut.lean ====
/-
  What a grid point leaves in its block, element by element.
-/
module

public import proofs.«01_k».proof.Proof.FfnSpec
public import Idealize.ShloMosaic.Lib.Pipeline.ValueKit
public import Idealize.ShloMosaic.Lib.Pipeline.Value
public import Idealize.ShloMosaic.Lib.Pointwise

@[expose] public section

noncomputable section

namespace Cert.Kernel2Ideal.Ffn

open Cert.Kernel2Ideal Cert.Kernel2Ideal.Gen
open Idealize.ShloMosaic Idealize.ShloMosaic.TcCoe
open Cert.FinalValue (lane)
open Cert.FfnValue

section Tile

variable (x : Vec Ideal S1024x512 .i32) (b : Vec Ideal S1x1x2048 .f32) (d : Vec Ideal S1x1x1024 .f32)
  (g : Vec Ideal S1x1024x2048 .f32) (w : Vec Ideal S1x1024x1024 .f32)

/-- The expert's output for row `r` of a block. -/
def rowFfn (r l : Fin 1024) : EReal :=
  ffn (lane fun q => x (ix2 r q)) (fun k f => g (ix3 0 k f)) (fun f => b (ix3 0 0 f)) (fun f l => w (ix3 0 f l)) (fun l => d (ix3 0 0 l)) l

/-- A block whose first `n` rows are the expert's and whose others are zero: lane `512 p + q` of a row is its pair's entry `p` at `q`. -/
def tile (n : ℕ) (r : Fin 1024) (p : Fin 2) (q : Fin 512) : EReal :=
  if r.val < n then rowFfn x b d g w r ⟨p.val * 512 + q.val, by omega⟩ else 0

def tileAt (n : ℕ) : Vec Ideal S1024x2x512 .bf16 := fun y => tile x b d g w n (y 0) (y 1) (y 2)

theorem pay14_at (lo hi : FVec Ideal S256x512 .bf16) (r : Fin 256) (p : Fin 2) (q : Fin 512) :
    k0_pay14 lo hi (ix3 r p q) = if p.val = 0 then lo (ix2 r q) else hi (ix2 r q) := by
  fin_cases p <;> pointwise [k0_pay14]

theorem store4_at (r : Fin 256) (p : Fin 2) (q : Fin 512) :
    k0_pay14 (k0_pay3 (View.ld x rx4) g (View.ld b rb) w (View.ld d rd)) (k0_pay4 (View.ld x rx4) g (View.ld b rb) w (View.ld d rd)) (ix3 r p q)
      = rowFfn x b d g w ⟨r.val, by omega⟩ ⟨p.val * 512 + q.val, by omega⟩ := by
  rw [pay14_at]
  have hb : View.ld b rb = b := View.ld_unit_zero (by decide) _ _
  have hd : View.ld d rd = d := View.ld_unit_zero (by decide) _ _
  have hx : ∀ (j : Fin 512), View.ld x rx4 (ix2 r j) = x (ix2 ⟨r.val, by omega⟩ j) := fun j => by pointwise
  have e : ∀ l : Fin 1024, k0_pay2 (View.ld x rx4) g (View.ld b rb) w (View.ld d rd) (ix2 r l) = rowFfn x b d g w ⟨r.val, by omega⟩ l := fun l => by
    rw [pay2_apply, hb, hd]; simp only [hx]; rfl
  have h0 : k0_pay3 (View.ld x rx4) g (View.ld b rb) w (View.ld d rd) (ix2 r q) = rowFfn x b d g w ⟨r.val, by omega⟩ ⟨q.val, by omega⟩ := by
    rw [← e]; pointwise [k0_pay3]
  have h1 : k0_pay4 (View.ld x rx4) g (View.ld b rb) w (View.ld d rd) (ix2 r q) = rowFfn x b d g w ⟨r.val, by omega⟩ ⟨512 + q.val, by omega⟩ := by
    rw [← e]; pointwise [k0_pay4]
  rw [h0, h1]
  fin_cases p
  · exact (if_pos rfl).trans (congrArg _ (Fin.ext (by simp)))
  · exact (if_neg (by decide)).trans (congrArg _ (Fin.ext (by simp)))

theorem canon4 : View.canon (pieces4 x b d g w) = tileAt x b d g w 256 := by
  funext y
  refine View.canon_apply_of_pieces (tileAt x b d g w 256) _ (fun p hp => ?_) y (cover4 x b d g w y)
  unfold pieces4 at hp
  simp only [List.mem_cons, List.not_mem_nil, or_false] at hp
  rcases hp with rfl | rfl
  · intro j
    obtain ⟨r, p, q, rfl⟩ : ∃ (r : Fin 768) (p : Fin 2) (q : Fin 512), j = ix3 r p q := ⟨j 0, j 1, j 2, by funext a; fin_cases a <;> rfl⟩
    refine (show constant (F := Ideal) S768x2x512 .bf16 0x0000#16 (ix3 r p q) = (0 : EReal) from by pointwise).trans ?_
    have h0 : rz4.emb (ix3 r p q) 0 = (⟨256 + r.val, by omega⟩ : Fin 1024) := Fin.ext (by blk_simp)
    unfold tileAt tile
    dsimp only
    rw [h0]
    exact (if_neg (by simp)).symm
  · intro j
    obtain ⟨r, p, q, rfl⟩ : ∃ (r : Fin 256) (p : Fin 2) (q : Fin 512), j = ix3 r p q := ⟨j 0, j 1, j 2, by funext a; fin_cases a <;> rfl⟩
    refine (store4_at x b d g w r p q).trans ?_
    have h0 : ry4.emb (ix3 r p q) 0 = (⟨r.val, by omega⟩ : Fin 1024) := Fin.ext (by blk_simp)
    have h1 : ry4.emb (ix3 r p q) 1 = p := Fin.ext (by blk_simp)
    have h2 : ry4.emb (ix3 r p q) 2 = q := Fin.ext (by blk_simp)
    unfold tileAt
    rw [h0, h1, h2]
    exact (if_pos r.isLt).symm

theorem pay15_at (lo hi : FVec Ideal S512x512 .bf16) (r : Fin 512) (p : Fin 2) (q : Fin 512) :
    k0_pay15 lo hi (ix3 r p q) = if p.val = 0 then lo (ix2 r q) else hi (ix2 r q) := by
  fin_cases p <;> pointwise [k0_pay15]

theorem store5_at (r : Fin 512) (p : Fin 2) (q : Fin 512) :
    k0_pay15 (k0_pay6 (View.ld x rx5) g (View.ld b rb) w (View.ld d rd)) (k0_pay7 (View.ld x rx5) g (View.ld b rb) w (View.ld d rd)) (ix3 r p q)
      = rowFfn x b d g w ⟨r.val, by omega⟩ ⟨p.val * 512 + q.val, by omega⟩ := by
  rw [pay15_at]
  have hb : View.ld b rb = b := View.ld_unit_zero (by decide) _ _
  have hd : View.ld d rd = d := View.ld_unit_zero (by decide) _ _
  have hx : ∀ (j : Fin 512), View.ld x rx5 (ix2 r j) = x (ix2 ⟨r.val, by omega⟩ j) := fun j => by pointwise
  have e : ∀ l : Fin 1024, k0_pay5 (View.ld x rx5) g (View.ld b rb) w (View.ld d rd) (ix2 r l) = rowFfn x b d g w ⟨r.val, by omega⟩ l := fun l => by
    rw [pay5_apply, hb, hd]; simp only [hx]; rfl
  have h0 : k0_pay6 (View.ld x rx5) g (View.ld b rb) w (View.ld d rd) (ix2 r q) = rowFfn x b d g w ⟨r.val, by omega⟩ ⟨q.val, by omega⟩ := by
    rw [← e]; pointwise [k0_pay6]
  have h1 : k0_pay7 (View.ld x rx5) g (View.ld b rb) w (View.ld d rd) (ix2 r q) = rowFfn x b d g w ⟨r.val, by omega⟩ ⟨512 + q.val, by omega⟩ := by
    rw [← e]; pointwise [k0_pay7]
  rw [h0, h1]
  fin_cases p
  · exact (if_pos rfl).trans (congrArg _ (Fin.ext (by simp)))
  · exact (if_neg (by decide)).trans (congrArg _ (Fin.ext (by simp)))

theorem canon5 : View.canon (pieces5 x b d g w) = tileAt x b d g w 512 := by
  funext y
  refine View.canon_apply_of_pieces (tileAt x b d g w 512) _ (fun p hp => ?_) y (cover5 x b d g w y)
  unfold pieces5 at hp
  simp only [List.mem_cons, List.not_mem_nil, or_false] at hp
  rcases hp with rfl | rfl
  · intro j
    obtain ⟨r, p, q, rfl⟩ : ∃ (r : Fin 512) (p : Fin 2) (q : Fin 512), j = ix3 r p q := ⟨j 0, j 1, j 2, by funext a; fin_cases a <;> rfl⟩
    refine (show constant (F := Ideal) S512x2x512 .bf16 0x0000#16 (ix3 r p q) = (0 : EReal) from by pointwise).trans ?_
    have h0 : rz5.emb (ix3 r p q) 0 = (⟨512 + r.val, by omega⟩ : Fin 1024) := Fin.ext (by blk_simp)
    unfold tileAt tile
    dsimp only
    rw [h0]
    exact (if_neg (by simp)).symm
  · intro j
    obtain ⟨r, p, q, rfl⟩ : ∃ (r : Fin 512) (p : Fin 2) (q : Fin 512), j = ix3 r p q := ⟨j 0, j 1, j 2, by funext a; fin_cases a <;> rfl⟩
    refine (store5_at x b d g w r p q).trans ?_
    have h0 : ry5.emb (ix3 r p q) 0 = (⟨r.val, by omega⟩ : Fin 1024) := Fin.ext (by blk_simp)
    have h1 : ry5.emb (ix3 r p q) 1 = p := Fin.ext (by blk_simp)
    have h2 : ry5.emb (ix3 r p q) 2 = q := Fin.ext (by blk_simp)
    unfold tileAt
    rw [h0, h1, h2]
    exact (if_pos r.isLt).symm

theorem pay16_at (lo hi : FVec Ideal S768x512 .bf16) (r : Fin 768) (p : Fin 2) (q : Fin 512) :
    k0_pay16 lo hi (ix3 r p q) = if p.val = 0 then lo (ix2 r q) else hi (ix2 r q) := by
  fin_cases p <;> pointwise [k0_pay16]

theorem store6_at (r : Fin 768) (p : Fin 2) (q : Fin 512) :
    k0_pay16 (k0_pay9 (View.ld x rx6) g (View.ld b rb) w (View.ld d rd)) (k0_pay10 (View.ld x rx6) g (View.ld b rb) w (View.ld d rd)) (ix3 r p q)
      = rowFfn x b d g w ⟨r.val, by omega⟩ ⟨p.val * 512 + q.val, by omega⟩ := by
  rw [pay16_at]
  have hb : View.ld b rb = b := View.ld_unit_zero (by decide) _ _
  have hd : View.ld d rd = d := View.ld_unit_zero (by decide) _ _
  have hx : ∀ (j : Fin 512), View.ld x rx6 (ix2 r j) = x (ix2 ⟨r.val, by omega⟩ j) := fun j => by pointwise
  have e : ∀ l : Fin 1024, k0_pay8 (View.ld x rx6) g (View.ld b rb) w (View.ld d rd) (ix2 r l) = rowFfn x b d g w ⟨r.val, by omega⟩ l := fun l => by
    rw [pay8_apply, hb, hd]; simp only [hx]; rfl
  have h0 : k0_pay9 (View.ld x rx6) g (View.ld b rb) w (View.ld d rd) (ix2 r q) = rowFfn x b d g w ⟨r.val, by omega⟩ ⟨q.val, by omega⟩ := by
    rw [← e]; pointwise [k0_pay9]
  have h1 : k0_pay10 (View.ld x rx6) g (View.ld b rb) w (View.ld d rd) (ix2 r q) = rowFfn x b d g w ⟨r.val, by omega⟩ ⟨512 + q.val, by omega⟩ := by
    rw [← e]; pointwise [k0_pay10]
  rw [h0, h1]
  fin_cases p
  · exact (if_pos rfl).trans (congrArg _ (Fin.ext (by simp)))
  · exact (if_neg (by decide)).trans (congrArg _ (Fin.ext (by simp)))

theorem canon6 : View.canon (pieces6 x b d g w) = tileAt x b d g w 768 := by
  funext y
  refine View.canon_apply_of_pieces (tileAt x b d g w 768) _ (fun p hp => ?_) y (cover6 x b d g w y)
  unfold pieces6 at hp
  simp only [List.mem_cons, List.not_mem_nil, or_false] at hp
  rcases hp with rfl | rfl
  · intro j
    obtain ⟨r, p, q, rfl⟩ : ∃ (r : Fin 256) (p : Fin 2) (q : Fin 512), j = ix3 r p q := ⟨j 0, j 1, j 2, by funext a; fin_cases a <;> rfl⟩
    refine (show constant (F := Ideal) S256x2x512 .bf16 0x0000#16 (ix3 r p q) = (0 : EReal) from by pointwise).trans ?_
    have h0 : rz6.emb (ix3 r p q) 0 = (⟨768 + r.val, by omega⟩ : Fin 1024) := Fin.ext (by blk_simp)
    unfold tileAt tile
    dsimp only
    rw [h0]
    exact (if_neg (by simp)).symm
  · intro j
    obtain ⟨r, p, q, rfl⟩ : ∃ (r : Fin 768) (p : Fin 2) (q : Fin 512), j = ix3 r p q := ⟨j 0, j 1, j 2, by funext a; fin_cases a <;> rfl⟩
    refine (store6_at x b d g w r p q).trans ?_
    have h0 : ry6.emb (ix3 r p q) 0 = (⟨r.val, by omega⟩ : Fin 1024) := Fin.ext (by blk_simp)
    have h1 : ry6.emb (ix3 r p q) 1 = p := Fin.ext (by blk_simp)
    have h2 : ry6.emb (ix3 r p q) 2 = q := Fin.ext (by blk_simp)
    unfold tileAt
    rw [h0, h1, h2]
    exact (if_pos r.isLt).symm

theorem pay1_at (lo hi : FVec Ideal S1024x512 .bf16) (r : Fin 1024) (p : Fin 2) (q : Fin 512) :
    k0_pay1 lo hi (ix3 r p q) = if p.val = 0 then lo (ix2 r q) else hi (ix2 r q) := by
  fin_cases p <;> pointwise [k0_pay1]

theorem store7_at (r : Fin 1024) (p : Fin 2) (q : Fin 512) :
    k0_pay1 (k0_pay12 (View.ld x rx7) g (View.ld b rb) w (View.ld d rd)) (k0_pay13 (View.ld x rx7) g (View.ld b rb) w (View.ld d rd)) (ix3 r p q)
      = rowFfn x b d g w ⟨r.val, by omega⟩ ⟨p.val * 512 + q.val, by omega⟩ := by
  rw [pay1_at]
  have hb : View.ld b rb = b := View.ld_unit_zero (by decide) _ _
  have hd : View.ld d rd = d := View.ld_unit_zero (by decide) _ _
  have hx : ∀ (j : Fin 512), View.ld x rx7 (ix2 r j) = x (ix2 ⟨r.val, by omega⟩ j) := fun j => by pointwise
  have e : ∀ l : Fin 1024, k0_pay11 (View.ld x rx7) g (View.ld b rb) w (View.ld d rd) (ix2 r l) = rowFfn x b d g w ⟨r.val, by omega⟩ l := fun l => by
    rw [pay11_apply, hb, hd]; simp only [hx]; rfl
  have h0 : k0_pay12 (View.ld x rx7) g (View.ld b rb) w (View.ld d rd) (ix2 r q) = rowFfn x b d g w ⟨r.val, by omega⟩ ⟨q.val, by omega⟩ := by
    rw [← e]; pointwise [k0_pay12]
  have h1 : k0_pay13 (View.ld x rx7) g (View.ld b rb) w (View.ld d rd) (ix2 r q) = rowFfn x b d g w ⟨r.val, by omega⟩ ⟨512 + q.val, by omega⟩ := by
    rw [← e]; pointwise [k0_pay13]
  rw [h0, h1]
  fin_cases p
  · exact (if_pos rfl).trans (congrArg _ (Fin.ext (by simp)))
  · exact (if_neg (by decide)).trans (congrArg _ (Fin.ext (by simp)))

theorem canon7 : View.canon (pieces7 x b d g w) = tileAt x b d g w 1024 := by
  funext y
  refine View.canon_apply_of_pieces (tileAt x b d g w 1024) _ (fun p hp => ?_) y (cover7 x b d g w y)
  unfold pieces7 at hp
  simp only [List.mem_cons, List.not_mem_nil, or_false] at hp
  rcases hp with rfl
  · intro j
    obtain ⟨r, p, q, rfl⟩ : ∃ (r : Fin 1024) (p : Fin 2) (q : Fin 512), j = ix3 r p q := ⟨j 0, j 1, j 2, by funext a; fin_cases a <;> rfl⟩
    refine (store7_at x b d g w r p q).trans ?_
    have h0 : ry7.emb (ix3 r p q) 0 = (⟨r.val, by omega⟩ : Fin 1024) := Fin.ext (by blk_simp)
    have h1 : ry7.emb (ix3 r p q) 1 = p := Fin.ext (by blk_simp)
    have h2 : ry7.emb (ix3 r p q) 2 = q := Fin.ext (by blk_simp)
    unfold tileAt
    rw [h0, h1, h2]
    exact (if_pos r.isLt).symm

theorem canon8 : View.canon (pieces8 (F := Ideal)) = tileAt x b d g w 0 := by
  funext y
  refine View.canon_apply_of_pieces (tileAt x b d g w 0) _ (fun p hp => ?_) y (cover8 y)
  unfold pieces8 at hp
  simp only [List.mem_cons, List.not_mem_nil, or_false] at hp
  rcases hp with rfl
  intro j
  obtain ⟨r, p, q, rfl⟩ : ∃ (r : Fin 1024) (p : Fin 2) (q : Fin 512), j = ix3 r p q := ⟨j 0, j 1, j 2, by funext a; fin_cases a <;> rfl⟩
  refine (show constant (F := Ideal) S1024x2x512 .bf16 0x0000#16 (ix3 r p q) = (0 : EReal) from by pointwise).trans ?_
  unfold tileAt tile
  exact (if_neg (Nat.not_lt_zero _)).symm

/-- The rows a block computes: none past the used blocks, else the block's row count rounded up to a multiple of 256. -/
def rowsUsed (t : ℕ) (v0 v3 : BitVec 32) : ℕ :=
  if (t : ℤ) < v0.toInt then
    if max v3.toInt 1 ≤ 256 then 256 else if max v3.toInt 1 ≤ 512 then 512 else if max v3.toInt 1 ≤ 768 then 768 else 1024
  else 0

theorem outAt_tile (i : grid0.Coords) (v0 v3 : BitVec 32) (h3 : v3.toInt ≤ 1024) :
    outAt (F := Ideal) i v0 v3 x b d g w = tileAt x b d g w (rowsUsed (i 0).val v0 v3) := by
  unfold outAt piecesAt
  rw [ite_congr (propext (cond4_iff i v0 v3)) (fun _ => rfl) (fun _ => rfl),
    ite_congr (propext (cond5_iff i v0 v3)) (fun _ => rfl) (fun _ => rfl),
    ite_congr (propext (cond6_iff i v0 v3)) (fun _ => rfl) (fun _ => rfl),
    ite_congr (propext (cond7_iff i v0 v3)) (fun _ => rfl) (fun _ => rfl)]
  unfold rowsUsed
  by_cases hu : ((i 0).val : ℤ) < v0.toInt
  · rw [if_pos hu]
    by_cases h1 : max v3.toInt 1 ≤ 256
    · rw [if_pos h1, if_pos ⟨hu, by omega, by omega⟩, canon4]
    · rw [if_neg h1, if_neg (by omega)]
      by_cases h2 : max v3.toInt 1 ≤ 512
      · rw [if_pos h2, if_pos ⟨hu, by omega, by omega⟩, canon5]
      · rw [if_neg h2, if_neg (by omega)]
        by_cases h3 : max v3.toInt 1 ≤ 768
        · rw [if_pos h3, if_pos ⟨hu, by omega, by omega⟩, canon6]
        · rw [if_neg h3, if_neg (by omega), if_pos ⟨hu, by omega, by omega⟩, canon7]
  · rw [if_neg hu, if_neg (by omega), if_neg (by omega), if_neg (by omega), if_neg (by omega)]
    exact canon8 x b d g w

/-- The reader's block: a row's low halves, then its high ones. -/
theorem rowsOut_at (v : Vec Ideal S1024x2x512 .bf16) (r l : Fin 1024) :
    rowsOut v (ix2 r l) = v (ix3 r ⟨l.val / 512, by omega⟩ ⟨l.val % 512, by omega⟩) := by
  unfold rowsOut
  rw [View.canon_unit_zero (by decide), View.ld_unit_zero (by decide)]
  by_cases h : l.val < 512
  · rw [show (⟨l.val / 512, by omega⟩ : Fin 2) = 0 from Fin.ext (Nat.div_eq_of_lt h), show (⟨l.val % 512, by omega⟩ : Fin 512) = ⟨l.val, h⟩ from Fin.ext (Nat.mod_eq_of_lt h)]
    pointwise [k1_pay1]
    exact dif_pos h
  · rw [show (⟨l.val / 512, by omega⟩ : Fin 2) = 1 from Fin.ext (by show l.val / 512 = 1; omega), show (⟨l.val % 512, by omega⟩ : Fin 512) = ⟨l.val - 512, by omega⟩ from Fin.ext (by show l.val % 512 = l.val - 512; omega)]
    pointwise [k1_pay1]
    exact dif_neg h

end Tile

end Cert.Kernel2Ideal.Ffn
-- ==== Proof.FfnEnd.lean ====
/-
  What the expert call's arrays hold at the end.
-/
module

public import proofs.«01_k».proof.Proof.FfnOut
public import Idealize.ShloMosaic.Lib.Pipeline.Covers

@[expose] public section

noncomputable section

namespace Cert.Kernel2Ideal.Ffn

open Cert.Kernel2Ideal Cert.Kernel2Ideal.Gen
open Idealize.ShloMosaic Idealize.ShloMosaic.TcCoe Idealize.ShloMosaic.StableHlo
open Cert.FinalValue (lane)
open Cert.FfnValue
open Idealize.SL.Sem Idealize.ShloMosaic.Pipeline

theorem idxB_0 : ∀ t : Fin grid1.N, (win1 0).index t = ![t.val, 0, 0] := by decide +kernel
theorem idxB_1 : ∀ t : Fin grid1.N, (win1 1).index t = ![t.val, 0] := by decide +kernel

theorem pairs_at (V : (c : Dev nD) → (r : Ref sig .tc) → Buf (Elt Ideal) ((c : Thread nD τ).loc r)) (c : Dev nD) (t : Fin cfg1.N) (r : Fin 1024) (p : Fin 2) (q : Fin 512) :
    iblk1 V c 0 t (ix3 r p q) = V c main_v47 (ix3 ⟨t.val * 1024 + r.val, by have : t.val < 160 := t.isLt; omega⟩ p q) := by
  blk_ext [iblk1, idxB_0 t]

theorem covered : (win1_1).Covers := by decide +kernel

theorem place_at (t : Fin grid1.N) (r l : Fin 1024) (h : t.val * 1024 + r.val < 163840) :
    (win1_1.blk t).view.emb (ix2 r l) = (ix2 (⟨t.val * 1024 + r.val, h⟩ : Fin 163840) l : S163840x1024.Idx) := by
  blk_ext [idxB_1 t]

theorem after1_1_at (V : (c : Dev nD) → (r : Ref sig .tc) → Buf (Elt Ideal) ((c : Thread nD τ).loc r)) (c : Dev nD) (t : Fin cfg1.N) (r l : Fin 1024) (h : t.val * 1024 + r.val < 163840) :
    (dat1 V c).after 1 t (ix2 r l) = V c main_v47 (ix3 (⟨t.val * 1024 + r.val, h⟩ : Fin 163840) (⟨l.val / 512, by omega⟩ : Fin 2) (⟨l.val % 512, by omega⟩ : Fin 512)) := by
  rw [after1_1]
  exact (rowsOut_at _ _ _).trans (pairs_at V c t r _ _)

theorem flush_at (V : (c : Dev nD) → (r : Ref sig .tc) → Buf (Elt Ideal) ((c : Thread nD τ).loc r)) (c : Dev nD) (G : S163840x1024.Idx → EReal)
    (hG : ∀ (n : Fin 163840) (l : Fin 1024), V c main_v47 (ix3 n (⟨l.val / 512, by omega⟩ : Fin 2) (⟨l.val % 512, by omega⟩ : Fin 512)) = G (ix2 n l))
    (t : Fin cfg1.N) (y : S1024x1024.Idx) : (dat1 V c).after 1 t y = G ((win1_1.blk t).view.emb y) := by
  obtain ⟨r, l, rfl⟩ : ∃ (r : Fin 1024) (l : Fin 1024), y = ix2 r l := ⟨y (0 : Fin 2), y (1 : Fin 2), by funext a; fin_cases a <;> rfl⟩
  have hr := r.isLt
  have ht : t.val < 160 := t.isLt
  have h : t.val * 1024 + r.val < 163840 := by omega
  exact (after1_1_at V c t r l h).trans ((hG _ l).trans (congrArg G (place_at t r l h)).symm)

theorem rows_out (V : (c : Dev nD) → (r : Ref sig .tc) → Buf (Elt Ideal) ((c : Thread nD τ).loc r)) (c : Dev nD) (G : S163840x1024.Idx → EReal)
    (hG : ∀ (n : Fin 163840) (l : Fin 1024), V c main_v47 (ix3 n (⟨l.val / 512, by omega⟩ : Fin 2) (⟨l.val % 512, by omega⟩ : Fin 512)) = G (ix2 n l)) :
    (dat1 V c).arrAt 1 cfg1.N = G := by
  refine (dat1 V c).arrAt_eq_of_covers 1 G covered fun t hf y => (flush_at V c G hG t y)

section End

variable {m : (ℓ : Loc nD τ sig) → Buf (Elt Ideal) ℓ} (H : Admits (F := Ideal) m) (c : Dev nD)

theorem V9_arg3 : V9 m c main_arg3 = m ((c : Thread nD τ).loc main_arg3) :=
  ((V11_of m (fun _ r c => m ((c : Thread nD τ).loc r)) c main_arg3 (by decide)).trans (V10_of m (fun _ r c => m ((c : Thread nD τ).loc r)) c main_arg3 (by decide))).symm.trans
    (V11_main_arg3 m (fun _ r c => m ((c : Thread nD τ).loc r)) c)

theorem idxA_0 (t : Fin (cfgA H).N) : (pcfg0.win (adm H) 0).index t = ![t.val, 0] := by
  have : ∀ t : Fin grid0.N, cc0_transform_0 (grid0.coords t) = ![t.val, 0] := by decide +kernel
  exact this t
theorem idxA_3 (t : Fin (cfgA H).N) : (pcfg0.win (adm H) 3).index t = ![t.val, 0, 0] := by
  have : ∀ t : Fin grid0.N, cc0_transform_5 (grid0.coords t) = ![t.val, 0, 0] := by decide +kernel
  exact this t

theorem words_at (t : Fin (cfgA H).N) (r : Fin 1024) (q : Fin 512) :
    iblk0 H c 0 t (ix2 r q) = m ((c : Thread nD τ).loc main_arg3) (ix2 ⟨t.val * 1024 + r.val, by have : t.val < 160 := t.isLt; omega⟩ q) := by
  blk_ext [iblk0, V9_arg3, idxA_0 H t]

theorem gSlab_at (f : Buf (Elt Ideal) ((c : Thread nD τ).loc main_arg4)) (e : Fin 32) (k : Fin 1024) (j : Fin 2048) :
    gSlab c f e (ix3 0 k j) = f (ix3 e k j) := by
  show f (((Memref.whole main_arg4).access (Rect.unit (s := S32x1024x2048) (eo e) S1x1024x2048.size (geo_inb e))).emb (ix3 0 k j)) = _
  refine congrArg f (funext fun a => Fin.ext ?_)
  fin_cases a
  · show eo e 0 + 1 * 0 = e.val; simp [eo]
  · show 0 + 1 * k.val = k.val; omega
  · show 0 + 1 * j.val = j.val; omega
theorem dSlab_at (f : Buf (Elt Ideal) ((c : Thread nD τ).loc main_arg6)) (e : Fin 32) (k : Fin 1024) (j : Fin 1024) :
    dSlab c f e (ix3 0 k j) = f (ix3 e k j) := by
  show f (((Memref.whole main_arg6).access (Rect.unit (s := S32x1024x1024) (eo e) S1x1024x1024.size (deo_inb e))).emb (ix3 0 k j)) = _
  refine congrArg f (funext fun a => Fin.ext ?_)
  fin_cases a
  · show eo e 0 + 1 * 0 = e.val; simp [eo]
  · show 0 + 1 * k.val = k.val; omega
  · show 0 + 1 * j.val = j.val; omega

theorem V9_arg5 : V9 m c main_arg5 = m ((c : Thread nD τ).loc main_arg5) :=
  ((V11_of m (fun _ r c => m ((c : Thread nD τ).loc r)) c main_arg5 (by decide)).trans (V10_of m (fun _ r c => m ((c : Thread nD τ).loc r)) c main_arg5 (by decide))).symm.trans
    (V11_main_arg5 m (fun _ r c => m ((c : Thread nD τ).loc r)) c)
theorem V9_arg7 : V9 m c main_arg7 = m ((c : Thread nD τ).loc main_arg7) :=
  ((V11_of m (fun _ r c => m ((c : Thread nD τ).loc r)) c main_arg7 (by decide)).trans (V10_of m (fun _ r c => m ((c : Thread nD τ).loc r)) c main_arg7 (by decide))).symm.trans
    (V11_main_arg7 m (fun _ r c => m ((c : Thread nD τ).loc r)) c)

theorem s8_v45 (V : Valuation τ sig (Elt Ideal)) : StableHlo.after hostOps0_8 V main_v45 = shapeCast S32x1x2048 (V main_arg5 : FVec Ideal S32x2048 .f32) shapeCasts_S32x2048_S32x1x2048 := rfl
theorem s8_v46 (V : Valuation τ sig (Elt Ideal)) : StableHlo.after hostOps0_8 V main_v46 = shapeCast S32x1x1024 (V main_arg7 : FVec Ideal S32x1024 .f32) shapeCasts_S32x1024_S32x1x1024 := rfl

theorem V9_v45 : V9 m c main_v45 = shapeCast S32x1x2048 (m ((c : Thread nD τ).loc main_arg5) : FVec Ideal S32x2048 .f32) shapeCasts_S32x2048_S32x1x2048 := by
  refine (s8_v45 (V8 m c)).trans ?_
  rw [← V9_of m c main_arg5 (by decide), V9_arg5]
theorem V9_v46 : V9 m c main_v46 = shapeCast S32x1x1024 (m ((c : Thread nD τ).loc main_arg7) : FVec Ideal S32x1024 .f32) shapeCasts_S32x1024_S32x1x1024 := by
  refine (s8_v46 (V8 m c)).trans ?_
  rw [← V9_of m c main_arg7 (by decide), V9_arg7]

theorem split1_at (x : FVec Ideal S32x2048 .f32) (e : Fin 32) (f : Fin 2048) : shapeCast S32x1x2048 x shapeCasts_S32x2048_S32x1x2048 (ix3 e 0 f) = x (ix2 e f) := by pointwise
theorem split2_at (x : FVec Ideal S32x1024 .f32) (e : Fin 32) (f : Fin 1024) : shapeCast S32x1x1024 x shapeCasts_S32x1024_S32x1x1024 (ix3 e 0 f) = x (ix2 e f) := by pointwise

theorem coordA (t : Fin (cfgA H).N) : (grid0.coords t 0).val = t.val := coord0 t

include H in
theorem be_expert (t : Fin 160) : (beOf m 0 (ix1 t)).toNat = (expert (beOf m 0) t).val := by
  rw [be_word H.fits t]
  show (BitVec.ofNat 32 _).toNat = _
  rw [BitVec.toNat_ofNat]
  have := (expert (beOf m 0) t).isLt
  omega

/-- The block a grid point works on. -/
abbrev at_ (t : Fin (cfgA H).N) : Fin 160 := pt (grid0.coords t)

theorem idxA_1 (t : Fin (cfgA H).N) : (pcfg0.win (adm H) 1).index t = ![(expert (beOf m 0) (at_ H t)).val, 0, 0] :=
  (ix_1 m (grid0.coords t)).trans (by rw [be_expert H])
theorem idxA_2 (t : Fin (cfgA H).N) : (pcfg0.win (adm H) 2).index t = ![(expert (beOf m 0) (at_ H t)).val, 0, 0] :=
  (ix_2 m (grid0.coords t)).trans (by rw [be_expert H])

theorem bias1_at (t : Fin (cfgA H).N) (f : Fin 2048) :
    iblk0 H c 1 t (ix3 0 0 f) = m ((c : Thread nD τ).loc main_arg5) (ix2 (expert (beOf m 0) (at_ H t)) f) := by
  show V9 m c main_v45 (((pcfg0.win (adm H) 1).blk t).view.emb (ix3 0 0 f)) = _
  rw [V9_v45, show (((pcfg0.win (adm H) 1).blk t).view.emb (ix3 0 0 f)) = ix3 (expert (beOf m 0) (at_ H t)) 0 f from
    funext fun a => Fin.ext (by fin_cases a <;> blk_simp [idxA_1 H t] <;> rfl)]
  exact split1_at _ _ _
theorem bias2_at (t : Fin (cfgA H).N) (f : Fin 1024) :
    iblk0 H c 2 t (ix3 0 0 f) = m ((c : Thread nD τ).loc main_arg7) (ix2 (expert (beOf m 0) (at_ H t)) f) := by
  show V9 m c main_v46 (((pcfg0.win (adm H) 2).blk t).view.emb (ix3 0 0 f)) = _
  rw [V9_v46, show (((pcfg0.win (adm H) 2).blk t).view.emb (ix3 0 0 f)) = ix3 (expert (beOf m 0) (at_ H t)) 0 f from
    funext fun a => Fin.ext (by fin_cases a <;> blk_simp [idxA_2 H t] <;> rfl)]
  exact split2_at _ _ _

/-- At a used point the slot read holds the point's own expert. -/
theorem expert_at (t : Fin (cfgA H).N) (hu : (t.val : ℤ) < (nvOf m 0 (ix1 0)).toInt) :
    (stAt (beOf m 0) (nvOf m 0) ((grid0.coords t 0).val + 1)).e = expert (beOf m 0) (at_ H t) := by
  refine congrArg (expert (beOf m 0)) (Fin.ext ?_)
  show min (min ((grid0.coords t 0).val + 1) (nvOf m 0 (ix1 0)).toInt.toNat) 160 - 1 = (grid0.coords t 0).val
  have : t.val < 160 := t.isLt
  rw [coordA H t]
  omega

/-- The value of row `r` of block `t`, lane `l`, from the arrays. -/
def value (c : Dev nD) (m : (ℓ : Loc nD τ sig) → Buf (Elt Ideal) ℓ) (t : Fin 160) (r l : Fin 1024) : EReal :=
  if r.val < rowsUsed t.val (nvOf m 0 (ix1 0)) (rowsOf m 0 (ix1 t)) then
    ffn (lane fun q => m ((c : Thread nD τ).loc main_arg3) (ix2 ⟨t.val * 1024 + r.val, by omega⟩ q))
      (fun k f => m ((c : Thread nD τ).loc main_arg4) (ix3 (expert (beOf m 0) t) k f)) (fun f => m ((c : Thread nD τ).loc main_arg5) (ix2 (expert (beOf m 0) t) f))
      (fun f l => m ((c : Thread nD τ).loc main_arg6) (ix3 (expert (beOf m 0) t) f l)) (fun l => m ((c : Thread nD τ).loc main_arg7) (ix2 (expert (beOf m 0) t) l)) l
  else 0

theorem rowsUsed_pos {t : ℕ} {v0 v3 : BitVec 32} {r : ℕ} (h : r < rowsUsed t v0 v3) : (t : ℤ) < v0.toInt := by
  by_contra hn
  unfold rowsUsed at h
  rw [if_neg hn] at h
  omega

theorem outA_at (t : Fin (cfgA H).N) (r : Fin 1024) (p : Fin 2) (q : Fin 512) :
    outA H c t (ix3 r p q) = value c m (at_ H t) r ⟨p.val * 512 + q.val, by omega⟩ := by
  unfold outA
  rw [outAt_tile _ _ _ _ _ _ _ _ (H.rows _)]
  show tile _ _ _ _ _ _ r p q = _
  unfold tile value
  by_cases hr : r.val < rowsUsed (grid0.coords t 0).val (nvOf m 0 (ix1 0)) (rowsOf m 0 (ix1 (pt (grid0.coords t))))
  · have hu := rowsUsed_pos hr
    rw [if_pos hr, if_pos (by exact hr)]
    unfold rowFfn
    rw [expert_at H t (by rw [← coordA H t]; exact hu)]
    simp only [words_at, bias1_at, bias2_at, gSlab_at, dSlab_at]
    rw [show (⟨t.val * 1024 + r.val, _⟩ : Fin 163840) = ⟨(at_ H t).val * 1024 + r.val, by omega⟩ from Fin.ext (congrArg (fun n => n * 1024 + r.val) (coordA H t).symm)]
  · rw [if_neg hr, if_neg (by exact hr)]

theorem y47_at (i : S163840x2x512.Idx) :
    y47 H c i = value c m ⟨(i 0).val / 1024, by have : (i 0).val < 163840 := (i 0).isLt; omega⟩ ⟨(i 0).val % 1024, by omega⟩
      ⟨(i 1).val * 512 + (i 2).val, by have : (i 1).val < 2 := (i 1).isLt; have : (i 2).val < 512 := (i 2).isLt; omega⟩ := by
  refine congrFun ((dat0 H c).arrAt_eq_of_covers 3 (fun i : S163840x2x512.Idx => value c m ⟨(i 0).val / 1024, by have : (i 0).val < 163840 := (i 0).isLt; omega⟩ ⟨(i 0).val % 1024, by omega⟩
      ⟨(i 1).val * 512 + (i 2).val, by have : (i 1).val < 2 := (i 1).isLt; have : (i 2).val < 512 := (i 2).isLt; omega⟩) ?_ fun t hf y => ?_) i
  · refine ((cfgA H).win 3).covers_of_index_surj rfl (show ∀ a : Fin 3, 0 < S1024x2x512.size a by decide) fun β => ?_
    have h0 : (β (0 : Fin 3)).val < 160 := lt_of_lt_of_eq (β (0 : Fin 3)).isLt (show (163840 + 1024 - 1) / 1024 = 160 by rfl)
    have h1 : (β (1 : Fin 3)).val < 1 := lt_of_lt_of_eq (β (1 : Fin 3)).isLt (show (2 + 2 - 1) / 2 = 1 by rfl)
    have h2 : (β (2 : Fin 3)).val < 1 := lt_of_lt_of_eq (β (2 : Fin 3)).isLt (show (512 + 512 - 1) / 512 = 1 by rfl)
    refine ⟨⟨(β (0 : Fin 3)).val, h0⟩, fun a => ?_⟩
    refine (congrFun (idxA_3 H ⟨(β (0 : Fin 3)).val, h0⟩) a).trans ?_
    fin_cases a
    · rfl
    · show 0 = (β (1 : Fin 3)).val; omega
    · show 0 = (β (2 : Fin 3)).val; omega
  · blk_simp
    obtain ⟨r, p, q, rfl⟩ : ∃ (r : Fin 1024) (p : Fin 2) (q : Fin 512), y = ix3 r p q := ⟨y (0 : Fin 3), y (1 : Fin 3), y (2 : Fin 3), by funext a; fin_cases a <;> rfl⟩
    have e0 : ((cfgA H).win 3).index t (0 : Fin 3) = t.val := congrFun (idxA_3 H t) 0
    have e1 : ((cfgA H).win 3).index t (1 : Fin 3) = 0 := congrFun (idxA_3 H t) 1
    have e2 : ((cfgA H).win 3).index t (2 : Fin 3) = 0 := congrFun (idxA_3 H t) 2
    have hr := r.isLt
    rw [after_3]
    refine (outA_at H c t r p q).trans ?_
    have g0 : (at_ H t).val = t.val := coordA H t
    congr 1
    · refine Fin.ext ?_
      show (at_ H t).val = (((cfgA H).win 3).index t (0 : Fin 3) * 1024 + r.val) / 1024
      rw [e0]; omega
    · refine Fin.ext ?_
      show r.val = (((cfgA H).win 3).index t (0 : Fin 3) * 1024 + r.val) % 1024
      rw [e0]; omega
    · refine Fin.ext ?_
      show p.val * 512 + q.val = (((cfgA H).win 3).index t (1 : Fin 3) * 2 + p.val) * 512 + (((cfgA H).win 3).index t (2 : Fin 3) * 512 + q.val)
      rw [e1, e2]; omega

theorem y48_at (n : Fin 163840) (l : Fin 1024) :
    y48 H c (ix2 n l) = value c m ⟨n.val / 1024, by omega⟩ ⟨n.val % 1024, by omega⟩ l := by
  refine congrFun (rows_out (fun c b => VA H c b) c (fun i : S163840x1024.Idx => value c m ⟨(i 0).val / 1024, by have : (i 0).val < 163840 := (i 0).isLt; omega⟩ ⟨(i 0).val % 1024, by omega⟩ (i 1)) fun n l => ?_) (ix2 n l)
  refine ((congrFun (VA_47 H c) _).trans (y47_at H c _)).trans ?_
  refine congrArg (value c m _ _) (Fin.ext ?_)
  show l.val / 512 * 512 + l.val % 512 = l.val
  omega

end End

end Cert.Kernel2Ideal.Ffn
-- ==== Proof.FfnRef.lean ====
/-
  The plain experts, read element by element: the composed term of the reference is `refValue` of its arguments.
-/
module

public import proofs.«01_k».proof.Proof.FfnOut
public import proofs.«01_k».proof.Proof.Gen.Reference2Ideal.Run
public import Idealize.ShloMosaic.Lib.Pointwise
public import Idealize.ShloMosaic.Lib.BitcastConvert
public import Idealize.ShloMosaic.Lib.Pipeline.ValueKit

@[expose] public section

noncomputable section

open Idealize.ShloMosaic Idealize.ShloMosaic.TcCoe Idealize.SL.Sem

namespace Cert.Reference2Ideal.Ffn

open Cert.Reference2Ideal Cert.Reference2Ideal.Value Cert.Reference2Ideal.Gen
open Cert.FinalValue (lane)
open Cert.FfnValue
open Cert.Kernel2Ideal.Ffn (slt_one int_small andi_one select_not rowsUsed expert maxsi_int)

/-! ### A table's boxes and rows picked by a column of entry numbers -/

section Take
variable {α : Type}

abbrev boxDims (E M N n : ℕ) (wf : GatherDims.WF ⟨3, ![E, M, N]⟩ ⟨2, ![n, 1]⟩ ⟨3, ![n, M, N]⟩ [1, 2] [0] [] [0] [] 1 ![1, M, N]) :
    GatherDims ⟨3, ![E, M, N]⟩ ⟨2, ![n, 1]⟩ ⟨3, ![n, M, N]⟩ where
  offsetDims := [1, 2]
  collapsedSliceDims := [0]
  operandBatchingDims := []
  startIndicesBatchingDims := []
  startIndexMap := [0]
  indexVectorDim := 1
  sliceSizes := ![1, M, N]
  wf := wf

/-- Entry `(j, k, f)` of the boxes picked is the table's at `(e, k, f)`, `e` the number the column holds at `j`. -/
theorem take_box {E M N n w : ℕ} (wf : GatherDims.WF ⟨3, ![E, M, N]⟩ ⟨2, ![n, 1]⟩ ⟨3, ![n, M, N]⟩ [1, 2] [0] [] [0] [] 1 ![1, M, N])
    (x : (⟨3, ![E, M, N]⟩ : Shape).Idx → α) (idx : IVec ⟨2, ![n, 1]⟩ w) (j : Fin n) (k : Fin M) (f : Fin N) (e : Fin E)
    (he : (idx (ix2 j (0 : Fin 1))).toInt.toNat = e.val) :
    Host.gather (boxDims E M N n wf) x idx (ix3 j k f) = x (ix3 e k f) := by
  unfold Host.gather
  refine congrArg x (funext fun a => Fin.ext ?_)
  show (boxDims E M N n wf).start (ix3 j k f) idx a + (boxDims E M N n wf).batchCoord (ix3 j k f) a + (boxDims E M N n wf).offCoord (ix3 j k f) a = _
  rw [GatherDims.batchCoord_eq_zero _ _ _ List.not_mem_nil]
  match a with
  | ⟨0, _⟩ =>
    have hm : (0 : Fin 3) ∈ (boxDims E M N n wf).startIndexMap := List.mem_singleton.mpr rfl
    have hsi : (boxDims E M N n wf).siIdx (ix3 j k f) ⟨List.idxOf (0 : Fin 3) (boxDims E M N n wf).startIndexMap, List.idxOf_lt_length_iff.2 hm⟩ = ix2 j (0 : Fin 1) := by
      funext b; refine Fin.ext ?_
      match b with
      | ⟨0, _⟩ => rfl
      | ⟨1, _⟩ => rfl
    have h0 : (boxDims E M N n wf).start (ix3 j k f) idx 0 = e.val := by
      unfold GatherDims.start
      rw [dif_pos hm, hsi, he]
      show min e.val (E - 1) = e.val
      have := e.isLt
      omega
    have h1 : (boxDims E M N n wf).offCoord (ix3 j k f) 0 = 0 :=
      GatherDims.offCoord_eq_zero _ _ _ fun h => ((GatherDims.mem_sKept _ _).mp h).1 (List.mem_singleton.mpr rfl)
    show (boxDims E M N n wf).start (ix3 j k f) idx 0 + 0 + (boxDims E M N n wf).offCoord (ix3 j k f) 0 = e.val
    rw [h0, h1]
    omega
  | ⟨1, _⟩ =>
    show (boxDims E M N n wf).start (ix3 j k f) idx 1 + 0 + (boxDims E M N n wf).offCoord (ix3 j k f) 1 = k.val
    rw [show (boxDims E M N n wf).start (ix3 j k f) idx 1 = 0 from rfl, show (boxDims E M N n wf).offCoord (ix3 j k f) 1 = k.val from rfl]
    omega
  | ⟨2, _⟩ =>
    show (boxDims E M N n wf).start (ix3 j k f) idx 2 + 0 + (boxDims E M N n wf).offCoord (ix3 j k f) 2 = f.val
    rw [show (boxDims E M N n wf).start (ix3 j k f) idx 2 = 0 from rfl, show (boxDims E M N n wf).offCoord (ix3 j k f) 2 = f.val from rfl]
    omega

abbrev rowDims (E N n : ℕ) (wf : GatherDims.WF ⟨2, ![E, N]⟩ ⟨2, ![n, 1]⟩ ⟨2, ![n, N]⟩ [1] [0] [] [0] [] 1 ![1, N]) :
    GatherDims ⟨2, ![E, N]⟩ ⟨2, ![n, 1]⟩ ⟨2, ![n, N]⟩ where
  offsetDims := [1]
  collapsedSliceDims := [0]
  operandBatchingDims := []
  startIndicesBatchingDims := []
  startIndexMap := [0]
  indexVectorDim := 1
  sliceSizes := ![1, N]
  wf := wf

/-- Entry `(j, f)` of the rows picked is the table's at `(e, f)`. -/
theorem take_row {E N n w : ℕ} (wf : GatherDims.WF ⟨2, ![E, N]⟩ ⟨2, ![n, 1]⟩ ⟨2, ![n, N]⟩ [1] [0] [] [0] [] 1 ![1, N])
    (x : (⟨2, ![E, N]⟩ : Shape).Idx → α) (idx : IVec ⟨2, ![n, 1]⟩ w) (j : Fin n) (f : Fin N) (e : Fin E)
    (he : (idx (ix2 j (0 : Fin 1))).toInt.toNat = e.val) :
    Host.gather (rowDims E N n wf) x idx (ix2 j f) = x (ix2 e f) := by
  unfold Host.gather
  refine congrArg x (funext fun a => Fin.ext ?_)
  show (rowDims E N n wf).start (ix2 j f) idx a + (rowDims E N n wf).batchCoord (ix2 j f) a + (rowDims E N n wf).offCoord (ix2 j f) a = _
  rw [GatherDims.batchCoord_eq_zero _ _ _ List.not_mem_nil]
  match a with
  | ⟨0, _⟩ =>
    have hm : (0 : Fin 2) ∈ (rowDims E N n wf).startIndexMap := List.mem_singleton.mpr rfl
    have hsi : (rowDims E N n wf).siIdx (ix2 j f) ⟨List.idxOf (0 : Fin 2) (rowDims E N n wf).startIndexMap, List.idxOf_lt_length_iff.2 hm⟩ = ix2 j (0 : Fin 1) := by
      funext b; refine Fin.ext ?_
      match b with
      | ⟨0, _⟩ => rfl
      | ⟨1, _⟩ => rfl
    have h0 : (rowDims E N n wf).start (ix2 j f) idx 0 = e.val := by
      unfold GatherDims.start
      rw [dif_pos hm, hsi, he]
      show min e.val (E - 1) = e.val
      have := e.isLt
      omega
    have h1 : (rowDims E N n wf).offCoord (ix2 j f) 0 = 0 :=
      GatherDims.offCoord_eq_zero _ _ _ fun h => ((GatherDims.mem_sKept _ _).mp h).1 (List.mem_singleton.mpr rfl)
    show (rowDims E N n wf).start (ix2 j f) idx 0 + 0 + (rowDims E N n wf).offCoord (ix2 j f) 0 = e.val
    rw [h0, h1]
    omega
  | ⟨1, _⟩ =>
    show (rowDims E N n wf).start (ix2 j f) idx 1 + 0 + (rowDims E N n wf).offCoord (ix2 j f) 1 = f.val
    rw [show (rowDims E N n wf).start (ix2 j f) idx 1 = 0 from rfl, show (rowDims E N n wf).offCoord (ix2 j f) 1 = f.val from rfl]
    omega

end Take

/-! ### The stages of the composed term -/

/-- The experts' numbers as a column, a negative one counted from the end. -/
def slots (be : IVec S160 32) : IVec S160x1 32 :=
  broadcastInDim S160x1 ![0] bcast_S160_S160x1_0 (select (cmpi .slt be (broadcastInDim S160 ![] bcast_S_S160 (constantI S_ 32 0#32))) (addi be (broadcastInDim S160 ![] bcast_S_S160 (constantI S_ 32 32#32))) be)

def lanes (v : IVec S163840x512 32) : FVec Ideal S160x1024x1024 .f32 :=
  fn_main_v7 (F := Ideal) (shapeCast _ (extractStridedSlice S160x1024x512x1 ![0, 0, 0, 0] (extf .f32 (bitcastToFloat (F := Ideal) .bf16 (Host.bitcastConvertNarrow S160x1024x512x2 16 (shapeCast _ v shapeCasts_S163840x512_S160x1024x512) splits_S160x1024x512_w32_S160x1024x512x2_w16)) bitsLt_bf16_f32) slices_S160x1024x512x2_S160x1024x512x1_0_0_0_0) shapeCasts_S160x1024x512x1_S160x1024x512)
    (shapeCast _ (extractStridedSlice S160x1024x512x1 ![0, 0, 0, 1] (extf .f32 (bitcastToFloat (F := Ideal) .bf16 (Host.bitcastConvertNarrow S160x1024x512x2 16 (shapeCast _ v shapeCasts_S163840x512_S160x1024x512) splits_S160x1024x512_w32_S160x1024x512x2_w16)) bitsLt_bf16_f32) slices_S160x1024x512x2_S160x1024x512x1_0_0_0_1) shapeCasts_S160x1024x512x1_S160x1024x512)

def first (x : FVec Ideal S160x1024x1024 .f32) (g : FVec Ideal S160x1024x2048 .f32) (b : FVec Ideal S160x2048 .f32) : FVec Ideal S160x1024x2048 .f32 :=
  addf (Host.dotGeneral dot_S160x1024x1024_S160x1024x2048_S160x1024x2048_2_1_1_2_0_0 none x g)
    (broadcastInDim S160x1024x2048 ![0, 1, 2] bcast_S160x1x2048_S160x1024x2048_0_1_2 (broadcastInDim S160x1x2048 ![0, 2] bcast_S160x2048_S160x1x2048_0_2 b))

def capped (h : FVec Ideal S160x1024x2048 .f32) : FVec Ideal S160x1024x1024 .f32 :=
  minimumf (extractStridedSlice S160x1024x1024 ![0, 0, 0] h slices_S160x1024x2048_S160x1024x1024_0_0_0) (broadcastInDim S160x1024x1024 ![] bcast_S_S160x1024x1024 (constant S_ .f32 0x40E00000#32))

def gatedUnit (h : FVec Ideal S160x1024x2048 .f32) : FVec Ideal S160x1024x1024 .f32 :=
  mulf (addf (minimumf (broadcastInDim S160x1024x1024 ![] bcast_S_S160x1024x1024 (id (constant S_ .f32 0x40E00000#32))) (maximumf (broadcastInDim S160x1024x1024 ![] bcast_S_S160x1024x1024 (id (constant S_ .f32 0xC0E00000#32))) (extractStridedSlice S160x1024x1024 ![0, 0, 1024] h slices_S160x1024x2048_S160x1024x1024_0_0_1024))) (broadcastInDim S160x1024x1024 ![] bcast_S_S160x1024x1024 (constant S_ .f32 0x3F800000#32)))
    (mulf (capped h) (Host.divf (broadcastInDim S160x1024x1024 ![] bcast_S_S160x1024x1024 (constant S_ .f32 0x3F800000#32)) (addf (broadcastInDim S160x1024x1024 ![] bcast_S_S160x1024x1024 (constant S_ .f32 0x3F800000#32)) (Host.exp (Host.negf (mulf (broadcastInDim S160x1024x1024 ![] bcast_S_S160x1024x1024 (constant S_ .f32 0x3FD9DB23#32)) (capped h)))))))

def second (a : FVec Ideal S160x1024x1024 .f32) (w : FVec Ideal S160x1024x1024 .f32) (d : FVec Ideal S160x1024 .f32) : FVec Ideal S160x1024x1024 .f32 :=
  addf (Host.dotGeneral dot_S160x1024x1024_S160x1024x1024_S160x1024x1024_2_1_1_2_0_0 none a w)
    (broadcastInDim S160x1024x1024 ![0, 1, 2] bcast_S160x1x1024_S160x1024x1024_0_1_2 (broadcastInDim S160x1x1024 ![0, 2] bcast_S160x1024_S160x1x1024_0_2 d))

/-- The rows kept of each tile: the rows in use rounded up to the next multiple of 256. -/
def kept (rows : IVec S160 32) : IVec S160 32 :=
  muli (negi (select (andi (cmpi .ne (signi (negi (maxsi rows (broadcastInDim S160 ![] bcast_S_S160 (constantI S_ 32 1#32))))) (broadcastInDim S160 ![] bcast_S_S160 (signi (id (constantI S_ 32 256#32))))) (cmpi .ne (Host.remsi (negi (maxsi rows (broadcastInDim S160 ![] bcast_S_S160 (constantI S_ 32 1#32)))) (broadcastInDim S160 ![] bcast_S_S160 (id (constantI S_ 32 256#32)))) (broadcastInDim S160 ![] bcast_S_S160 (constantI S_ 32 0#32)))) (subi (Host.divsi (negi (maxsi rows (broadcastInDim S160 ![] bcast_S_S160 (constantI S_ 32 1#32)))) (broadcastInDim S160 ![] bcast_S_S160 (id (constantI S_ 32 256#32)))) (broadcastInDim S160 ![] bcast_S_S160 (constantI S_ 32 1#32))) (Host.divsi (negi (maxsi rows (broadcastInDim S160 ![] bcast_S_S160 (constantI S_ 32 1#32)))) (broadcastInDim S160 ![] bcast_S_S160 (id (constantI S_ 32 256#32)))))) (broadcastInDim S160 ![] bcast_S_S160 (constantI S_ 32 256#32))

def live (nv : IVec S1 32) (k : IVec S160 32) : IVec S160x1024 1 :=
  andi (broadcastInDim S160x1024 ![0, 1] bcast_S160x1_S160x1024_0_1 (broadcastInDim S160x1 ![0] bcast_S160_S160x1_0 (cmpi .slt (iotaInDim S160 32 0) (broadcastInDim S160 ![] bcast_S_S160 (shapeCast _ nv shapeCasts_S1_S_)))))
    (cmpi .slt (broadcastInDim S160x1024 ![0, 1] bcast_S1x1024_S160x1024_0_1 (broadcastInDim S1x1024 ![1] bcast_S1024_S1x1024_1 (iotaInDim S1024 32 0))) (broadcastInDim S160x1024 ![0, 1] bcast_S160x1_S160x1024_0_1 (broadcastInDim S160x1 ![0] bcast_S160_S160x1_0 k)))

def masked (q : IVec S160x1024 1) (y : FVec Ideal S160x1024x1024 .f32) : FVec Ideal S163840x1024 .f32 :=
  shapeCast _ (select (broadcastInDim S160x1024x1024 ![0, 1, 2] bcast_S160x1024x1_S160x1024x1024_0_1_2 (broadcastInDim S160x1024x1 ![0, 1] bcast_S160x1024_S160x1024x1_0_1 q)) y
    (broadcastInDim S160x1024x1024 ![] bcast_S_S160x1024x1024 (id (constant S_ .f32 0x00000000#32)))) shapeCasts_S160x1024x1024_S163840x1024

variable (m : (ℓ : Loc nD τ sig) → Buf (Elt Ideal) ℓ) (c : Dev nD)

def hidden (m : (ℓ : Loc nD τ sig) → Buf (Elt Ideal) ℓ) (c : Dev nD) : FVec Ideal S160x1024x2048 .f32 :=
  first (lanes (m ((c.tc : Thread nD τ).loc main_arg3)))
    (Host.gather gather_S32x1024x2048_S160x1_S160x1024x2048_12_0_n_n_0_1_110242048 (m ((c.tc : Thread nD τ).loc main_arg4)) (slots (m ((c.tc : Thread nD τ).loc main_arg0))))
    (Host.gather gather_S32x2048_S160x1_S160x2048_1_0_n_n_0_1_12048 (m ((c.tc : Thread nD τ).loc main_arg5)) (slots (m ((c.tc : Thread nD τ).loc main_arg0))))

theorem res_stages : res_out0 m c = masked (live (m ((c.tc : Thread nD τ).loc main_arg1)) (kept (m ((c.tc : Thread nD τ).loc main_arg2))))
    (second (gatedUnit (hidden m c))
      (Host.gather gather_S32x1024x1024_S160x1_S160x1024x1024_12_0_n_n_0_1_110241024 (m ((c.tc : Thread nD τ).loc main_arg6)) (slots (m ((c.tc : Thread nD τ).loc main_arg0))))
      (Host.gather gather_S32x1024_S160x1_S160x1024_1_0_n_n_0_1_11024 (m ((c.tc : Thread nD τ).loc main_arg7)) (slots (m ((c.tc : Thread nD τ).loc main_arg0))))) := rfl

/-! ### Each stage at an index -/

theorem lanes_at (v : IVec S163840x512 32) (t : Fin 160) (r l : Fin 1024) :
    lanes v (ix3 t r l) = lane (fun q => v (ix2 ⟨t.val * 1024 + r.val, by omega⟩ q)) l := by
  have hd : ∀ (p : Fin 512) (h : Fin 2), splits_S160x1024x512_w32_S160x1024x512x2_w16.drop (ix4 t r p h) = ix3 t r p := by
    intro p h
    funext a
    fin_cases a <;> rfl
  unfold lane
  pointwise [lanes, fn_main_v7]
  split
  · rename_i hl
    exact congrArg (fun z : Fin 512 => Ideal.ofBits .bf16 (BitVec.extractLsb' 0 16 (v (ix2 ⟨t.val * 1024 + r.val, by omega⟩ z)))) (congrFun (hd ⟨l.val, hl⟩ 0) (2 : Fin 3))
  · exact congrArg (fun z : Fin 512 => Ideal.ofBits .bf16 (BitVec.extractLsb' 16 16 (v (ix2 ⟨t.val * 1024 + r.val, by omega⟩ z)))) (congrFun (hd ⟨l.val - 512, by omega⟩ 1) (2 : Fin 3))

theorem first_at (x : FVec Ideal S160x1024x1024 .f32) (g : FVec Ideal S160x1024x2048 .f32) (b : FVec Ideal S160x2048 .f32)
    (t : Fin 160) (r : Fin 1024) (f : Fin 2048) :
    first x g b (ix3 t r f) = mix (fun k => x (ix3 t r k)) (fun k f => g (ix3 t k f)) (fun f => b (ix2 t f)) f := by
  unfold mix
  pointwise [first]

theorem gatedUnit_at (h : FVec Ideal S160x1024x2048 .f32) (t : Fin 160) (r f : Fin 1024) :
    gatedUnit h (ix3 t r f) = unit (fun f => h (ix3 t r f)) f := by
  unfold unit Ideal.logistic gatedUnit capped
  simp only [id_eq]
  pointwise

theorem second_at (a : FVec Ideal S160x1024x1024 .f32) (w : FVec Ideal S160x1024x1024 .f32) (d : FVec Ideal S160x1024 .f32)
    (t : Fin 160) (r l : Fin 1024) :
    second a w d (ix3 t r l) = (∑ f : Fin 1024, a (ix3 t r f) * w (ix3 t f l)) + d (ix2 t l) := by
  pointwise [second]

theorem masked_at (q : IVec S160x1024 1) (y : FVec Ideal S160x1024x1024 .f32) (n : Fin 163840) (l : Fin 1024) :
    masked q y (ix2 n l) = if q (ix2 (⟨n.val / 1024, by omega⟩ : Fin 160) (⟨n.val % 1024, by omega⟩ : Fin 1024)) = 1#1
      then y (ix3 (⟨n.val / 1024, by omega⟩ : Fin 160) (⟨n.val % 1024, by omega⟩ : Fin 1024) l) else 0 := by
  unfold masked
  simp only [id_eq]
  pointwise
  rfl

theorem slots_at (be : IVec S160 32) (t : Fin 160) (h : 0 ≤ (be (ix1 t)).toInt) : slots be (ix2 t 0) = be (ix1 t) := by
  pointwise [slots]
  exact select_not (fun h' => by rw [slt_one] at h'; simp at h'; omega) _ _

/-- One tile's kept rows, from its rows in use (at least one): minus the quotient, rounded down, of minus them by 256, times 256. -/
def up (y : BitVec 32) : BitVec 32 :=
  IntOp.muli (-Scalar.select
      (IntOp.andi
        (IntOp.cmpi .ne (if -y = 0 then (0 : BitVec 32) else if (-y).msb = true then -1 else 1) (if (256#32 : BitVec 32) = 0 then 0 else if (256#32 : BitVec 32).msb = true then -1 else 1))
        (IntOp.cmpi .ne (IntOp.remsi ArithUnit.host (-y) 256#32) 0#32))
      (IntOp.subi (IntOp.divsi ArithUnit.host (-y) 256#32) 1#32)
      (IntOp.divsi ArithUnit.host (-y) 256#32)) 256#32

theorem kept_at (rows : IVec S160 32) (t : Fin 160) : kept rows (ix1 t) = up (IntOp.maxsi (rows (ix1 t)) 1#32) := by
  unfold kept up
  simp only [id_eq]
  pointwise

theorem up_table : ∀ k : Fin 1025, 0 < k.val →
    (up (BitVec.ofNat 32 k.val)).toInt = if k.val ≤ 256 then 256 else if k.val ≤ 512 then 512 else if k.val ≤ 768 then 768 else 1024 := by
  decide +kernel

theorem up_int (y : BitVec 32) (h1 : 1 ≤ y.toInt) (h2 : y.toInt ≤ 1024) :
    (up y).toInt = if y.toInt ≤ 256 then 256 else if y.toInt ≤ 512 then 512 else if y.toInt ≤ 768 then 768 else 1024 := by
  obtain ⟨k, hk⟩ : ∃ k : Fin 1025, y = BitVec.ofNat 32 k.val := by
    refine ⟨⟨y.toInt.toNat, by omega⟩, BitVec.eq_of_toInt_eq ?_⟩
    rw [int_small (by show y.toInt.toNat < 2 ^ 31; omega)]
    show y.toInt = ((y.toInt.toNat : ℕ) : ℤ)
    omega
  have hk' := k.isLt
  have hi : y.toInt = k.val := by rw [hk, int_small (by omega)]
  have := up_table k (by omega)
  rw [hk, this, int_small (by omega)]
  norm_cast

theorem live_at (nv : IVec S1 32) (k : IVec S160 32) (t : Fin 160) (r : Fin 1024) :
    live nv k (ix2 t r) = 1#1 ↔ (t.val : ℤ) < (nv (ix1 0)).toInt ∧ (r.val : ℤ) < (k (ix1 t)).toInt := by
  pointwise [live]
  rw [andi_one, slt_one, slt_one, int_small (by omega), int_small (by omega)]

/-- A row is live where its tile is in use and it lies under the tile's kept rows. -/
theorem live_used (nv : IVec S1 32) (rows : IVec S160 32) (t : Fin 160) (r : Fin 1024) (h : (rows (ix1 t)).toInt ≤ 1024) :
    live nv (kept rows) (ix2 t r) = 1#1 ↔ r.val < rowsUsed t.val (nv (ix1 0)) (rows (ix1 t)) := by
  rw [live_at, kept_at, up_int _ (by rw [maxsi_int]; omega) (by rw [maxsi_int]; omega), maxsi_int]
  unfold rowsUsed
  split_ifs <;> omega

theorem slots_expert (be : IVec S160 32) (t : Fin 160) (h : 0 ≤ (be (ix1 t)).toInt) (h' : (be (ix1 t)).toInt < 32) :
    (slots be (ix2 t (0 : Fin 1))).toInt.toNat = (expert be t).val := by
  rw [slots_at be t h]
  show _ = (be (ix1 t)).toNat % 32
  have := BitVec.toInt_eq_toNat_cond (be (ix1 t))
  have := (be (ix1 t)).isLt
  split_ifs at * <;> omega

theorem gate_at (be : IVec S160 32) (x : FVec Ideal S32x1024x2048 .f32) (t : Fin 160) (h : 0 ≤ (be (ix1 t)).toInt) (h' : (be (ix1 t)).toInt < 32) (k : Fin 1024) (f : Fin 2048) :
    Host.gather gather_S32x1024x2048_S160x1_S160x1024x2048_12_0_n_n_0_1_110242048 x (slots be) (ix3 t k f) = x (ix3 (expert be t) k f) :=
  take_box _ x (slots be) t k f (expert be t) (slots_expert be t h h')
theorem gateBias_at (be : IVec S160 32) (x : FVec Ideal S32x2048 .f32) (t : Fin 160) (h : 0 ≤ (be (ix1 t)).toInt) (h' : (be (ix1 t)).toInt < 32) (f : Fin 2048) :
    Host.gather gather_S32x2048_S160x1_S160x2048_1_0_n_n_0_1_12048 x (slots be) (ix2 t f) = x (ix2 (expert be t) f) :=
  take_row _ x (slots be) t f (expert be t) (slots_expert be t h h')
theorem down_at (be : IVec S160 32) (x : FVec Ideal S32x1024x1024 .f32) (t : Fin 160) (h : 0 ≤ (be (ix1 t)).toInt) (h' : (be (ix1 t)).toInt < 32) (k f : Fin 1024) :
    Host.gather gather_S32x1024x1024_S160x1_S160x1024x1024_12_0_n_n_0_1_110241024 x (slots be) (ix3 t k f) = x (ix3 (expert be t) k f) :=
  take_box _ x (slots be) t k f (expert be t) (slots_expert be t h h')
theorem downBias_at (be : IVec S160 32) (x : FVec Ideal S32x1024 .f32) (t : Fin 160) (h : 0 ≤ (be (ix1 t)).toInt) (h' : (be (ix1 t)).toInt < 32) (f : Fin 1024) :
    Host.gather gather_S32x1024_S160x1_S160x1024_1_0_n_n_0_1_11024 x (slots be) (ix2 t f) = x (ix2 (expert be t) f) :=
  take_row _ x (slots be) t f (expert be t) (slots_expert be t h h')

/-- Row `n` of the plain experts, as a function of the eight argument arrays. -/
def plain (be : IVec S160 32) (nv : IVec S1 32) (rows : IVec S160 32) (v : IVec S163840x512 32) (g : FVec Ideal S32x1024x2048 .f32)
    (b : FVec Ideal S32x2048 .f32) (w : FVec Ideal S32x1024x1024 .f32) (d : FVec Ideal S32x1024 .f32) (t : Fin 160) (r l : Fin 1024) : EReal :=
  if r.val < rowsUsed t.val (nv (ix1 0)) (rows (ix1 t)) then
    ffn (lane fun q => v (ix2 ⟨t.val * 1024 + r.val, by omega⟩ q)) (fun k f => g (ix3 (expert be t) k f)) (fun f => b (ix2 (expert be t) f))
      (fun f l => w (ix3 (expert be t) f l)) (fun l => d (ix2 (expert be t) l)) l
  else 0

theorem res_at (n : Fin 163840) (l : Fin 1024)
    (hb : ∀ t : Fin 160, 0 ≤ ((m ((c.tc : Thread nD τ).loc main_arg0) : IVec S160 32) (ix1 t)).toInt ∧ ((m ((c.tc : Thread nD τ).loc main_arg0) : IVec S160 32) (ix1 t)).toInt < 32)
    (hr : ∀ t : Fin 160, ((m ((c.tc : Thread nD τ).loc main_arg2) : IVec S160 32) (ix1 t)).toInt ≤ 1024) :
    res_out0 m c (ix2 n l) = plain (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) ⟨n.val / 1024, by omega⟩ ⟨n.val % 1024, by omega⟩ l := by
  rw [res_stages, masked_at]
  generalize (⟨n.val / 1024, _⟩ : Fin 160) = t
  generalize (⟨n.val % 1024, _⟩ : Fin 1024) = r
  unfold plain
  refine ite_congr (propext (live_used _ _ t r (hr t))) (fun _ => ?_) (fun _ => rfl)
  rw [second_at, downBias_at _ _ t (hb t).1 (hb t).2]
  unfold ffn
  refine congrArg₂ (· + ·) (Finset.sum_congr rfl fun f _ => congrArg₂ (· * ·) ?_ (down_at _ _ t (hb t).1 (hb t).2 f l)) rfl
  rw [gatedUnit_at]
  refine congrArg (fun h => unit h f) (funext fun f => ?_)
  unfold hidden
  rw [first_at]
  unfold mix
  exact congrArg₂ (· + ·) (Finset.sum_congr rfl fun k _ => congrArg₂ (· * ·) (lanes_at _ t r k) (gate_at _ _ t (hb t).1 (hb t).2 k f)) (gateBias_at _ _ t (hb t).1 (hb t).2 f)

end Cert.Reference2Ideal.Ffn
-- ==== Proof.FfnAlg.lean ====
/-
  The experts' call and the plain experts leave the same array.
-/
module

public import proofs.«01_k».proof.Proof.FfnEnd
public import proofs.«01_k».proof.Proof.FfnRef
public import proofs.«01_k».proof.Proof.FfnPre

@[expose] public section

noncomputable section

open Idealize.ShloMosaic Idealize.ShloMosaic.TcCoe Idealize.SL.Sem

namespace Cert.Proof.FfnClaims

open Cert.Kernel2Ideal.Ffn (admits run outs_48 y48 y48_at value)

/-- The kernel's value at an index is the plain experts' of the same arrays. -/
theorem value_plain (m : (ℓ : Loc Cert.Kernel2Ideal.nD Cert.Kernel2Ideal.τ Cert.Kernel2Ideal.sig) → Buf (Elt Ideal) ℓ) (t : Fin 160) (r l : Fin 1024) :
    value 0 m t r l = Cert.Reference2Ideal.Ffn.plain (m (((0 : Dev Cert.Kernel2Ideal.nD).tc : Thread Cert.Kernel2Ideal.nD Cert.Kernel2Ideal.τ).loc Cert.Kernel2Ideal.main_arg0))
      (m (((0 : Dev Cert.Kernel2Ideal.nD).tc : Thread Cert.Kernel2Ideal.nD Cert.Kernel2Ideal.τ).loc Cert.Kernel2Ideal.main_arg1))
      (m (((0 : Dev Cert.Kernel2Ideal.nD).tc : Thread Cert.Kernel2Ideal.nD Cert.Kernel2Ideal.τ).loc Cert.Kernel2Ideal.main_arg2))
      (m (((0 : Dev Cert.Kernel2Ideal.nD).tc : Thread Cert.Kernel2Ideal.nD Cert.Kernel2Ideal.τ).loc Cert.Kernel2Ideal.main_arg3))
      (m (((0 : Dev Cert.Kernel2Ideal.nD).tc : Thread Cert.Kernel2Ideal.nD Cert.Kernel2Ideal.τ).loc Cert.Kernel2Ideal.main_arg4))
      (m (((0 : Dev Cert.Kernel2Ideal.nD).tc : Thread Cert.Kernel2Ideal.nD Cert.Kernel2Ideal.τ).loc Cert.Kernel2Ideal.main_arg5))
      (m (((0 : Dev Cert.Kernel2Ideal.nD).tc : Thread Cert.Kernel2Ideal.nD Cert.Kernel2Ideal.τ).loc Cert.Kernel2Ideal.main_arg6))
      (m (((0 : Dev Cert.Kernel2Ideal.nD).tc : Thread Cert.Kernel2Ideal.nD Cert.Kernel2Ideal.τ).loc Cert.Kernel2Ideal.main_arg7)) t r l := rfl

theorem algebraic : Cert.algebraic_Kernel2Ideal_Reference2Ideal := by
  intro m ρ m' ρ' hpre hagree
  have H := admits m hpre
  have hadm := Cert.Ffn.of_admissible _ _ _ _ _ _ _ _ (hpre 0)
  refine ⟨fun c => y48 H c, (θ_run Cert.Kernel2Ideal.defs _ _).mono (fun _ h => ?_) (run H ρ), ?_⟩
  · intro c
    obtain ⟨a0, a1, a2, a3, a4, a5, a6, a7, hv⟩ := h.1 c
    exact ⟨hv.trans (outs_48 H 11 c), a0, a1, a2, a3, a4, a5, a6, a7⟩
  refine (θ_run Cert.Reference2Ideal.defs _ _).mono (fun _ h c => ⟨(h c).1.trans ?_, (h c).2⟩)
    (Cert.Reference2Ideal.Value.run (F := Ideal) m' ρ')
  obtain ⟨h0, h1, h2, h3, h4, h5, h6, h7⟩ := hagree c
  obtain rfl : c = 0 := Subsingleton.elim _ _
  funext i
  obtain ⟨n, l, rfl⟩ : ∃ (n : Fin 163840) (l : Fin 1024), i = ix2 n l := ⟨i (0 : Fin 2), i (1 : Fin 2), by funext a; fin_cases a <;> rfl⟩
  refine (Cert.Reference2Ideal.Ffn.res_at m' 0 n l ?_ ?_).trans ?_
  · rw [h0]
    exact fun t => ⟨(hadm.1 (ix1 t)).1, (hadm.1 (ix1 t)).2.1⟩
  · rw [h2]
    exact fun t => (hadm.1 (ix1 t)).2.2
  refine Eq.trans ?_ ((y48_at H 0 n l).trans (value_plain m _ _ l)).symm
  rw [h0, h1, h2, h3, h4, h5, h6, h7]

end Cert.Proof.FfnClaims
-- ==== Proof.InValue.lean ====
/-
  The input projections. A row of the input is normalised, scaled by `g`, modulated by its batch's scale and shift, and
  multiplied with the columns of the weight array: columns 0 to 1535, 1536 to 3071, 3088 to 5135, and the sixteen columns
  from 3072, which stand in a result of 128 lanes whose other lanes are zero. The four functions `res …` say this index
  by index; here the kernel's four arrays are shown to be them.
-/
module

public import proofs.«01_k».proof.Proof.Gen.Kernel3Ideal.Value
public import Idealize.ShloMosaic.Lib.Pointwise
public import Idealize.ShloMosaic.Lib.Pipeline.Value
public import Idealize.ShloMosaic.Lib.Pipeline.ValueKit
public import Idealize.ShloMosaic.Lib.KernelVsHost

@[expose] public section

noncomputable section

open Idealize.ShloMosaic Idealize.ShloMosaic.TcCoe Idealize.SL.Sem

namespace Cert.InValue

open Cert.Kernel3Ideal

/-- A row's norm times `g`, modulated by the scale `sc` and the shift `sh`. -/
def hid (x g sc sh : Fin 1024 → EReal) (l : Fin 1024) : EReal :=
  x l * Ideal.rsqrt (Ideal.div (∑ k : Fin 1024, x k * x k) (Ideal.ofBits .f32 0x44800000#32) + Ideal.ofBits .f32 0x358637BD#32) * g l
    * (1 + sc l) + sh l

/-- Row `s` of batch `b`, modulated by the batch's entries 1 (scale) and 0 (shift). -/
def row (x : Vec Ideal S16x2048x1024 .f32) (md : Vec Ideal S6x16x1024 .f32) (g : Vec Ideal S1x1024 .f32) (b : Fin 16) (s : Fin 2048) :
    Fin 1024 → EReal :=
  hid (fun q => x (ix3 b s q)) (fun q => g (ix2 0 q)) (fun q => md (ix3 1 b q)) (fun q => md (ix3 0 b q))

/-- The row's product with column `n` of the weights. -/
def proj (x : Vec Ideal S16x2048x1024 .f32) (md : Vec Ideal S6x16x1024 .f32) (g : Vec Ideal S1x1024 .f32) (w : Vec Ideal S1x1024x5136 .f32)
    (b : Fin 16) (s : Fin 2048) (n : Fin 5136) : EReal :=
  ∑ k : Fin 1024, row x md g b s k * w (ix3 0 k n)

section
variable (x : Vec Ideal S16x2048x1024 .f32) (md : Vec Ideal S6x16x1024 .f32) (g : Vec Ideal S1x1024 .f32) (w : Vec Ideal S1x1024x5136 .f32)

def resA : Vec Ideal S16x2048x1536 .bf16 := fun i =>
  proj x md g w (i 0) (i 1) ⟨(i 2 : ℕ), by have h : (i 2 : ℕ) < 1536 := (i 2).isLt; omega⟩
def resG : Vec Ideal S16x2048x1536 .bf16 := fun i =>
  proj x md g w (i 0) (i 1) ⟨1536 + (i 2 : ℕ), by have h : (i 2 : ℕ) < 1536 := (i 2).isLt; omega⟩
def resGate : Vec Ideal S16x2048x2048 .bf16 := fun i =>
  proj x md g w (i 0) (i 1) ⟨3088 + (i 2 : ℕ), by have h : (i 2 : ℕ) < 2048 := (i 2).isLt; omega⟩
def resLow : Vec Ideal S16x2048x128 .f32 := fun i =>
  if h : (i 2 : ℕ) < 16 then proj x md g w (i 0) (i 1) ⟨3072 + (i 2 : ℕ), by omega⟩ else 0

end

end Cert.InValue

namespace Cert.Kernel3Ideal.InValue

open Cert.Kernel3Ideal Cert.Kernel3Ideal.Gen Cert.InValue

theorem pay4_apply (x : Vec Ideal S1x1024x1024 .f32) (g : Vec Ideal S1x1024 .f32) (sc sh : Vec Ideal S1x1x1x1024 .f32) (r l : Fin 1024) :
    k0_pay4 x g sc sh (ix2 r l)
      = hid (fun q => x (ix3 0 r q)) (fun q => g (ix2 0 q)) (fun q => sc (ix4 0 0 0 q)) (fun q => sh (ix4 0 0 0 q)) l := by
  pointwise [k0_pay4]
  rfl

theorem pay1_apply (h : FVec Ideal S1024x1024 .bf16) (w : Vec Ideal S1024x1536 .bf16) (r : Fin 1024) (l : Fin 1536) :
    k0_pay1 h w (ix3 0 r l) = ∑ k : Fin 1024, h (ix2 r k) * w (ix2 k l) := by
  pointwise [k0_pay1]

theorem pay2_apply (h : FVec Ideal S1024x1024 .bf16) (w : Vec Ideal S1024x2048 .bf16) (r : Fin 1024) (l : Fin 2048) :
    k0_pay2 h w (ix3 0 r l) = ∑ k : Fin 1024, h (ix2 r k) * w (ix2 k l) := by
  pointwise [k0_pay2]

theorem pay3_apply (h : FVec Ideal S1024x1024 .bf16) (w : Vec Ideal S1024x128 .bf16) (r : Fin 1024) (l : Fin 128) :
    k0_pay3 h w (ix3 0 r l) = ∑ k : Fin 1024, h (ix2 r k) * w (ix2 k l) := by
  pointwise [k0_pay3]

theorem pay5_apply (x : Vec Ideal S1x1024x1024 .f32) (g : Vec Ideal S1x1024 .f32) (sc sh : Vec Ideal S1x1x1x1024 .f32)
    (w : Vec Ideal S1024x1536 .bf16) : k0_pay5 x g sc sh w = k0_pay1 (k0_pay4 x g sc sh) w := rfl

variable (m : (ℓ : Loc nD τ sig) → Buf (Elt Ideal) ℓ)

theorem idx_0 : ∀ t : Fin grid0.N, win0_0.index t = ![t.val / 2, t.val % 2, 0] := by decide +kernel
theorem idx_1 : ∀ t : Fin grid0.N, win0_1.index t = ![0, t.val / 2, 0, 0] := by decide +kernel
theorem idx_2 : ∀ t : Fin grid0.N, win0_2.index t = ![1, t.val / 2, 0, 0] := by decide +kernel
theorem idx_3 : ∀ t : Fin grid0.N, win0_3.index t = ![0, 0] := by decide +kernel
theorem idx_4 : ∀ t : Fin grid0.N, win0_4.index t = ![0, 0] := by decide +kernel
theorem idx_5 : ∀ t : Fin grid0.N, win0_5.index t = ![0, 0] := by decide +kernel
theorem idx_6 : ∀ t : Fin grid0.N, win0_6.index t = ![0, 0] := by decide +kernel
theorem idx_7 : ∀ t : Fin grid0.N, win0_7.index t = ![0, 0] := by decide +kernel
theorem idx_8 : ∀ t : Fin grid0.N, win0_8.index t = ![t.val / 2, t.val % 2, 0] := by decide +kernel
theorem idx_9 : ∀ t : Fin grid0.N, win0_9.index t = ![t.val / 2, t.val % 2, 0] := by decide +kernel
theorem idx_10 : ∀ t : Fin grid0.N, win0_10.index t = ![t.val / 2, t.val % 2, 0] := by decide +kernel
theorem idx_11 : ∀ t : Fin grid0.N, win0_11.index t = ![t.val / 2, t.val % 2, 0] := by decide +kernel

/-! ### The columns of the weights, as the host operations slice them and round them -/

def aCols (w : FVec Ideal S1x1024x5136 .f32) : FVec Ideal S1024x1536 .bf16 :=
  truncf .bf16 (extractStridedSlice S1024x1536 ![0, 0] (shapeCast _ w shapeCasts_S1x1024x5136_S1024x5136) slices_S1024x5136_S1024x1536_0_0) bitsLt_bf16_f32

theorem aCols_apply (w : FVec Ideal S1x1024x5136 .f32) (k : Fin 1024) (l : Fin 1536) : aCols w (ix2 k l) = w (ix3 0 k ⟨0 + l.val, by omega⟩) := by
  pointwise [aCols]

def gCols (w : FVec Ideal S1x1024x5136 .f32) : FVec Ideal S1024x1536 .bf16 :=
  truncf .bf16 (extractStridedSlice S1024x1536 ![0, 1536] (shapeCast _ w shapeCasts_S1x1024x5136_S1024x5136) slices_S1024x5136_S1024x1536_0_1536) bitsLt_bf16_f32

theorem gCols_apply (w : FVec Ideal S1x1024x5136 .f32) (k : Fin 1024) (l : Fin 1536) : gCols w (ix2 k l) = w (ix3 0 k ⟨1536 + l.val, by omega⟩) := by
  pointwise [gCols]

def gateCols (w : FVec Ideal S1x1024x5136 .f32) : FVec Ideal S1024x2048 .bf16 :=
  truncf .bf16 (extractStridedSlice S1024x2048 ![0, 3088] (shapeCast _ w shapeCasts_S1x1024x5136_S1024x5136) slices_S1024x5136_S1024x2048_0_3088) bitsLt_bf16_f32

theorem gateCols_apply (w : FVec Ideal S1x1024x5136 .f32) (k : Fin 1024) (l : Fin 2048) : gateCols w (ix2 k l) = w (ix3 0 k ⟨3088 + l.val, by omega⟩) := by
  pointwise [gateCols]

theorem sitofp_zero : (FloatOps.sitofp (F := Ideal) .f32 (0#32 : BitVec 32)) = (0 : EReal) := by
  show ((((0#32 : BitVec 32).toInt : ℤ) : ℝ) : EReal) = 0
  simp

/-- The sixteen columns, padded to 128 lanes with zeros. -/
def lowCols (w : FVec Ideal S1x1024x5136 .f32) : FVec Ideal S1024x128 .bf16 :=
  truncf .bf16 (pad S1024x128 ![0, 0] ![0, 112] ![0, 0] (extractStridedSlice S1024x16 ![0, 3072] (shapeCast _ w shapeCasts_S1x1024x5136_S1024x5136) slices_S1024x5136_S1024x16_0_3072) (sitofp .f32 (constantI S_ 32 0#32)) pads_S1024x16_S1024x128_000_01120 h_S_) bitsLt_bf16_f32

def lowNarrow (w : FVec Ideal S1x1024x5136 .f32) : FVec Ideal S1024x16 .f32 :=
  extractStridedSlice S1024x16 ![0, 3072] (shapeCast _ w shapeCasts_S1x1024x5136_S1024x5136) slices_S1024x5136_S1024x16_0_3072

theorem lowNarrow_apply (w : FVec Ideal S1x1024x5136 .f32) (k : Fin 1024) (l : Fin 16) : lowNarrow w (ix2 k l) = w (ix3 0 k ⟨3072 + l.val, by omega⟩) := by
  pointwise [lowNarrow]

/-- A lane below sixteen of the padded columns is the weights'. -/
theorem lowCols_apply (w : FVec Ideal S1x1024x5136 .f32) (k : Fin 1024) (l : Fin 128) (h : l.val < 16) : lowCols w (ix2 k l) = w (ix3 0 k ⟨3072 + l.val, by omega⟩) := by
  have e := pad_apply_of_inside (![0, 0] : Fin 2 → Nat) ![0, 112] ![0, 0] (lowNarrow w) (sitofp .f32 (constantI S_ 32 0#32) : FVec Ideal S_ .f32)
    pads_S1024x16_S1024x128_000_01120 h_S_ (ix2 k l) (ix2 k ⟨l.val, h⟩) fun a => by fin_cases a <;> simp [ix2]
  exact e.trans (lowNarrow_apply w k ⟨l.val, h⟩)

/-- The other lanes are zero. -/
theorem lowCols_zero (w : FVec Ideal S1x1024x5136 .f32) (k : Fin 1024) (l : Fin 128) (h : ¬l.val < 16) : lowCols w (ix2 k l) = (0 : EReal) := by
  have e := pad_apply_of_not_inside (![0, 0] : Fin 2 → Nat) ![0, 112] ![0, 0] (lowNarrow w) (sitofp .f32 (constantI S_ 32 0#32) : FVec Ideal S_ .f32)
    pads_S1024x16_S1024x128_000_01120 h_S_ (ix2 k l) (1 : Fin 2) fun ha => by
      have h2 := ha.2.2
      simp [ix2] at h2
      omega
  refine e.trans ?_
  pointwise
  exact sitofp_zero

def modT (md : FVec Ideal S6x16x1024 .f32) : FVec Ideal S6x16x1x1024 .f32 := shapeCast S6x16x1x1024 md shapeCasts_S6x16x1024_S6x16x1x1024

theorem modT_apply (md : FVec Ideal S6x16x1024 .f32) (j : Fin 6) (b : Fin 16) (q : Fin 1024) : modT md (ix4 j b 0 q) = md (ix3 j b q) := by
  pointwise [modT]

theorem V_mod (c : Dev nD) : V m c main_v10 = modT (m ((c : Thread nD τ).loc main_arg1)) := rfl
theorem V_a (c : Dev nD) : V m c main_v2 = aCols (m ((c : Thread nD τ).loc main_arg3)) := rfl
theorem V_g (c : Dev nD) : V m c main_v4 = gCols (m ((c : Thread nD τ).loc main_arg3)) := rfl
theorem V_gate (c : Dev nD) : V m c main_v9 = gateCols (m ((c : Thread nD τ).loc main_arg3)) := rfl
theorem V_low (c : Dev nD) : V m c main_v7 = lowCols (m ((c : Thread nD τ).loc main_arg3)) := rfl

/-! ### The blocks at a grid point -/

/-- The modulated rows, named apart for the last three results. -/
theorem pay6_eq (x0 : Vec Ideal S1x1024x1024 .f32) (x1 x2 : Vec Ideal S1x1x1x1024 .f32) (x3 : Vec Ideal S1x1024 .f32) (x4 x5 : Vec Ideal S1024x1536 .bf16)
    (x6 : Vec Ideal S1024x2048 .bf16) (x7 : Vec Ideal S1024x128 .bf16) : k0_pay6 x0 x1 x2 x3 x4 x5 x6 x7 = k0_pay4 x0 x3 x2 x1 := by
  unfold k0_pay6
  frame_out

theorem sh_blk (c : Dev nD) (t : Fin cfg0.N) (q : Fin 1024) : (iblk m c 1 t : Vec Ideal S1x1x1x1024 .f32) (ix4 0 0 0 q)
    = (V m c main_v10 : FVec Ideal S6x16x1x1024 .f32) (ix4 0 ⟨t.val / 2, by have h : t.val < 32 := t.isLt; omega⟩ 0 q) := by
  blk_ext [iblk, idx_1 t]

theorem sc_blk (c : Dev nD) (t : Fin cfg0.N) (q : Fin 1024) : (iblk m c 2 t : Vec Ideal S1x1x1x1024 .f32) (ix4 0 0 0 q)
    = (V m c main_v10 : FVec Ideal S6x16x1x1024 .f32) (ix4 1 ⟨t.val / 2, by have h : t.val < 32 := t.isLt; omega⟩ 0 q) := by
  blk_ext [iblk, idx_2 t]

theorem row_at (c : Dev nD) (t : Fin cfg0.N) (r : Fin 1024) (b : Fin 16) (s : Fin 2048) (hb : b.val = t.val / 2)
    (hs : s.val = t.val % 2 * 1024 + r.val) (k : Fin 1024) :
    k0_pay4 (iblk m c 0 t) (iblk m c 3 t) (iblk m c 2 t) (iblk m c 1 t) (ix2 r k)
      = row (m ((c : Thread nD τ).loc main_arg0)) (m ((c : Thread nD τ).loc main_arg1)) (m ((c : Thread nD τ).loc main_arg2)) b s k := by
  rw [pay4_apply]
  unfold row
  refine congrFun (congr (congr (congrArg₂ hid (funext fun q => ?_) (funext fun q => ?_)) (funext fun q => ?_)) (funext fun q => ?_)) _
  · blk_ext [iblk, V, idx_0 t]
  · blk_ext [iblk, V, idx_3 t]
  · exact (sc_blk m c t q).trans (((congrFun (V_mod m c) _).trans (modT_apply _ 1 _ q)).trans (congrArg _ (congrArg (ix3 1 · q) (Fin.ext hb.symm))))
  · exact (sh_blk m c t q).trans (((congrFun (V_mod m c) _).trans (modT_apply _ 0 _ q)).trans (congrArg _ (congrArg (ix3 0 · q) (Fin.ext hb.symm))))

theorem a_blk (c : Dev nD) (t : Fin cfg0.N) (k : Fin 1024) (l : Fin 1536) :
    (iblk m c 4 t : Vec Ideal S1024x1536 .bf16) (ix2 k l) = (V m c main_v2 : FVec Ideal S1024x1536 .bf16) (ix2 k l) := by
  blk_ext [iblk, idx_4 t]

theorem g_blk (c : Dev nD) (t : Fin cfg0.N) (k : Fin 1024) (l : Fin 1536) :
    (iblk m c 5 t : Vec Ideal S1024x1536 .bf16) (ix2 k l) = (V m c main_v4 : FVec Ideal S1024x1536 .bf16) (ix2 k l) := by
  blk_ext [iblk, idx_5 t]

theorem gate_blk (c : Dev nD) (t : Fin cfg0.N) (k : Fin 1024) (l : Fin 2048) :
    (iblk m c 6 t : Vec Ideal S1024x2048 .bf16) (ix2 k l) = (V m c main_v9 : FVec Ideal S1024x2048 .bf16) (ix2 k l) := by
  blk_ext [iblk, idx_6 t]

theorem low_blk (c : Dev nD) (t : Fin cfg0.N) (k : Fin 1024) (l : Fin 128) :
    (iblk m c 7 t : Vec Ideal S1024x128 .bf16) (ix2 k l) = (V m c main_v7 : FVec Ideal S1024x128 .bf16) (ix2 k l) := by
  blk_ext [iblk, idx_7 t]

theorem a_at (c : Dev nD) (t : Fin cfg0.N) (r : Fin 1024) (b : Fin 16) (s : Fin 2048) (hb : b.val = t.val / 2)
    (hs : s.val = t.val % 2 * 1024 + r.val) (l : Fin 1536) :
    k0_pay5 (iblk m c 0 t) (iblk m c 3 t) (iblk m c 2 t) (iblk m c 1 t) (iblk m c 4 t) (ix3 0 r l)
      = proj (m ((c : Thread nD τ).loc main_arg0)) (m ((c : Thread nD τ).loc main_arg1)) (m ((c : Thread nD τ).loc main_arg2)) (m ((c : Thread nD τ).loc main_arg3)) b s ⟨l.val, by omega⟩ := by
  rw [pay5_apply, pay1_apply]
  unfold proj
  refine Finset.sum_congr rfl fun k _ => congrArg₂ (· * ·) (row_at m c t r b s hb hs k) ?_
  exact (a_blk m c t k l).trans ((congrFun (V_a m c) _).trans (aCols_apply _ k l))
    |>.trans (congrArg _ (congrArg (ix3 0 k) (Fin.ext (Nat.zero_add _))))

theorem g_at (c : Dev nD) (t : Fin cfg0.N) (r : Fin 1024) (b : Fin 16) (s : Fin 2048) (hb : b.val = t.val / 2)
    (hs : s.val = t.val % 2 * 1024 + r.val) (l : Fin 1536) :
    k0_pay1 (k0_pay4 (iblk m c 0 t) (iblk m c 3 t) (iblk m c 2 t) (iblk m c 1 t)) (iblk m c 5 t) (ix3 0 r l)
      = proj (m ((c : Thread nD τ).loc main_arg0)) (m ((c : Thread nD τ).loc main_arg1)) (m ((c : Thread nD τ).loc main_arg2)) (m ((c : Thread nD τ).loc main_arg3)) b s ⟨1536 + l.val, by omega⟩ := by
  rw [pay1_apply]
  unfold proj
  refine Finset.sum_congr rfl fun k _ => congrArg₂ (· * ·) (row_at m c t r b s hb hs k) ?_
  exact (g_blk m c t k l).trans ((congrFun (V_g m c) _).trans (gCols_apply _ k l))

theorem gate_at (c : Dev nD) (t : Fin cfg0.N) (r : Fin 1024) (b : Fin 16) (s : Fin 2048) (hb : b.val = t.val / 2)
    (hs : s.val = t.val % 2 * 1024 + r.val) (l : Fin 2048) :
    k0_pay2 (k0_pay4 (iblk m c 0 t) (iblk m c 3 t) (iblk m c 2 t) (iblk m c 1 t)) (iblk m c 6 t) (ix3 0 r l)
      = proj (m ((c : Thread nD τ).loc main_arg0)) (m ((c : Thread nD τ).loc main_arg1)) (m ((c : Thread nD τ).loc main_arg2)) (m ((c : Thread nD τ).loc main_arg3)) b s ⟨3088 + l.val, by omega⟩ := by
  rw [pay2_apply]
  unfold proj
  refine Finset.sum_congr rfl fun k _ => congrArg₂ (· * ·) (row_at m c t r b s hb hs k) ?_
  exact (gate_blk m c t k l).trans ((congrFun (V_gate m c) _).trans (gateCols_apply _ k l))

theorem low_at (c : Dev nD) (t : Fin cfg0.N) (r : Fin 1024) (b : Fin 16) (s : Fin 2048) (hb : b.val = t.val / 2)
    (hs : s.val = t.val % 2 * 1024 + r.val) (l : Fin 128) :
    k0_pay3 (k0_pay4 (iblk m c 0 t) (iblk m c 3 t) (iblk m c 2 t) (iblk m c 1 t)) (iblk m c 7 t) (ix3 0 r l)
      = if h : l.val < 16 then proj (m ((c : Thread nD τ).loc main_arg0)) (m ((c : Thread nD τ).loc main_arg1)) (m ((c : Thread nD τ).loc main_arg2)) (m ((c : Thread nD τ).loc main_arg3)) b s ⟨3072 + l.val, by omega⟩ else 0 := by
  rw [pay3_apply]
  split
  next h =>
    refine Finset.sum_congr rfl fun k _ => congrArg₂ (· * ·) (row_at m c t r b s hb hs k) ?_
    exact (low_blk m c t k l).trans ((congrFun (V_low m c) _).trans (lowCols_apply _ k l h))
  next h =>
    refine Finset.sum_eq_zero fun k _ => ?_
    exact (congrArg₂ (· * ·) rfl ((low_blk m c t k l).trans ((congrFun (V_low m c) _).trans (lowCols_zero _ k l h)))).trans (mul_zero _)

theorem final_a (c : Dev nD) : (dats m 0 c).arrAt 8 cfg0.N
    = resA (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  frame_out
  have hb : (((View.whole main_v11_0).slice (win0_8.rect t)).emb y 0 : ℕ) = t.val / 2 := by
    blk_simp [idx_8 t]
  have hs : (((View.whole main_v11_0).slice (win0_8.rect t)).emb y 1 : ℕ) = t.val % 2 * 1024 + (y 1 : ℕ) := by
    blk_simp [idx_8 t]
  have hl : (((View.whole main_v11_0).slice (win0_8.rect t)).emb y 2 : ℕ) = (y 2 : ℕ) := by
    blk_simp [idx_8 t]
  generalize ((View.whole main_v11_0).slice (win0_8.rect t)).emb y = i at hb hs hl
  obtain ⟨r, l, rfl⟩ : ∃ (r : Fin 1024) (l : Fin 1536), y = ix3 0 r l :=
    ⟨y 1, y 2, by funext a; fin_cases a <;> first | rfl | exact Subsingleton.elim (α := Fin 1) _ _⟩
  refine (a_at m c t r (i 0) (i 1) hb hs l).trans ?_
  unfold resA
  have e : (i 2 : ℕ) = l.val := hl
  simp only [e]

theorem final_g (c : Dev nD) : (dats m 0 c).arrAt 9 cfg0.N
    = resG (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp
  rw [after0_9]
  frame_out
  rw [pay6_eq]
  have hb : (((View.whole main_v11_1).slice (win0_9.rect t)).emb y 0 : ℕ) = t.val / 2 := by
    blk_simp [idx_9 t]
  have hs : (((View.whole main_v11_1).slice (win0_9.rect t)).emb y 1 : ℕ) = t.val % 2 * 1024 + (y 1 : ℕ) := by
    blk_simp [idx_9 t]
  have hl : (((View.whole main_v11_1).slice (win0_9.rect t)).emb y 2 : ℕ) = (y 2 : ℕ) := by
    blk_simp [idx_9 t]
  generalize ((View.whole main_v11_1).slice (win0_9.rect t)).emb y = i at hb hs hl
  obtain ⟨r, l, rfl⟩ : ∃ (r : Fin 1024) (l : Fin 1536), y = ix3 0 r l :=
    ⟨y 1, y 2, by funext a; fin_cases a <;> first | rfl | exact Subsingleton.elim (α := Fin 1) _ _⟩
  refine (g_at m c t r (i 0) (i 1) hb hs l).trans ?_
  unfold resG
  have e : (i 2 : ℕ) = l.val := hl
  simp only [e]

theorem final_gate (c : Dev nD) : (dats m 0 c).arrAt 10 cfg0.N
    = resGate (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp
  rw [after0_10]
  frame_out
  rw [pay6_eq]
  have hb : (((View.whole main_v11_2).slice (win0_10.rect t)).emb y 0 : ℕ) = t.val / 2 := by
    blk_simp [idx_10 t]
  have hs : (((View.whole main_v11_2).slice (win0_10.rect t)).emb y 1 : ℕ) = t.val % 2 * 1024 + (y 1 : ℕ) := by
    blk_simp [idx_10 t]
  have hl : (((View.whole main_v11_2).slice (win0_10.rect t)).emb y 2 : ℕ) = (y 2 : ℕ) := by
    blk_simp [idx_10 t]
  generalize ((View.whole main_v11_2).slice (win0_10.rect t)).emb y = i at hb hs hl
  obtain ⟨r, l, rfl⟩ : ∃ (r : Fin 1024) (l : Fin 2048), y = ix3 0 r l :=
    ⟨y 1, y 2, by funext a; fin_cases a <;> first | rfl | exact Subsingleton.elim (α := Fin 1) _ _⟩
  refine (gate_at m c t r (i 0) (i 1) hb hs l).trans ?_
  unfold resGate
  have e : (i 2 : ℕ) = l.val := hl
  simp only [e]

theorem final_low (c : Dev nD) : (dats m 0 c).arrAt 11 cfg0.N
    = resLow (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  blk_simp
  rw [after0_11]
  frame_out
  rw [pay6_eq]
  have hb : (((View.whole main_v11_3).slice (win0_11.rect t)).emb y 0 : ℕ) = t.val / 2 := by
    blk_simp [idx_11 t]
  have hs : (((View.whole main_v11_3).slice (win0_11.rect t)).emb y 1 : ℕ) = t.val % 2 * 1024 + (y 1 : ℕ) := by
    blk_simp [idx_11 t]
  have hl : (((View.whole main_v11_3).slice (win0_11.rect t)).emb y 2 : ℕ) = (y 2 : ℕ) := by
    blk_simp [idx_11 t]
  generalize ((View.whole main_v11_3).slice (win0_11.rect t)).emb y = i at hb hs hl
  obtain ⟨r, l, rfl⟩ : ∃ (r : Fin 1024) (l : Fin 128), y = ix3 0 r l :=
    ⟨y 1, y 2, by funext a; fin_cases a <;> first | rfl | exact Subsingleton.elim (α := Fin 1) _ _⟩
  refine (low_at m c t r (i 0) (i 1) hb hs l).trans ?_
  unfold resLow
  have e : (i 2 : ℕ) = l.val := hl
  simp only [e]

/-- The run, read: the four result arrays at the four functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v11_0) = resA (m ((c : Thread nD τ).loc main_arg0)) (m ((c : Thread nD τ).loc main_arg1)) (m ((c : Thread nD τ).loc main_arg2)) (m ((c : Thread nD τ).loc main_arg3))
      ∧ r.2.mem ((c : Thread nD τ).loc main_v11_1) = resG (m ((c : Thread nD τ).loc main_arg0)) (m ((c : Thread nD τ).loc main_arg1)) (m ((c : Thread nD τ).loc main_arg2)) (m ((c : Thread nD τ).loc main_arg3))
      ∧ r.2.mem ((c : Thread nD τ).loc main_v11_2) = resGate (m ((c : Thread nD τ).loc main_arg0)) (m ((c : Thread nD τ).loc main_arg1)) (m ((c : Thread nD τ).loc main_arg2)) (m ((c : Thread nD τ).loc main_arg3))
      ∧ r.2.mem ((c : Thread nD τ).loc main_v11_3) = resLow (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_a m c), (h c).2.1.trans (final_g m c), (h c).2.2.1.trans (final_gate m c),
    (h c).2.2.2.1.trans (final_low m c), (h c).2.2.2.2⟩) (Value.run_blocks m ρ)

end Cert.Kernel3Ideal.InValue

end
-- ==== Proof.InRef.lean ====
/-
  The reference of the input projections: its composed term read at an index is `Cert.InValue`'s functions of the arguments.
-/
module

public import proofs.«01_k».proof.Proof.Gen.Reference3Ideal.Run
public import proofs.«01_k».proof.Proof.InValue

@[expose] public section

noncomputable section

open Idealize.ShloMosaic Idealize.ShloMosaic.TcCoe Idealize.SL.Sem

namespace Cert.Reference3Ideal.InRef

open Cert.Reference3Ideal Cert.Reference3Ideal.Gen Cert.InValue

def hidden (x : FVec Ideal S16x2048x1024 .f32) (md : FVec Ideal S6x16x1024 .f32) (g : FVec Ideal S1x1024 .f32) : FVec Ideal S16x2048x1024 .f32 :=
  addf (mulf (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![1, 2] bcast_S1x1024_S1x1x1024_1_2 g))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (shapeCast _ (extractStridedSlice S1x16x1024 ![1, 0, 0] md slices_S6x16x1024_S1x16x1024_1_0_0) shapeCasts_S1x16x1024_S16x1024))))) (broadcastInDim S16x2048x1024 ![0, 1, 2] bcast_S16x1x1024_S16x2048x1024_0_1_2 (broadcastInDim S16x1x1024 ![0, 2] bcast_S16x1024_S16x1x1024_0_2 (shapeCast _ (extractStridedSlice S1x16x1024 ![0, 0, 0] md slices_S6x16x1024_S1x16x1024_0_0_0) shapeCasts_S1x16x1024_S16x1024)))

theorem hidden_apply (x : FVec Ideal S16x2048x1024 .f32) (md : FVec Ideal S6x16x1024 .f32) (g : FVec Ideal S1x1024 .f32)
    (b : Fin 16) (s : Fin 2048) (l : Fin 1024) : hidden x md g (ix3 b s l) = row x md g b s l := by
  pointwise [hidden]
  rfl

def product (h : FVec Ideal S16x2048x1024 .f32) (w : FVec Ideal S1x1024x5136 .f32) : FVec Ideal S16x2048x5136 .f32 :=
  Host.dotGeneral dot_S16x2048x1024_S1024x5136_S16x2048x5136_2_0_01_1_n_n none h (shapeCast _ w shapeCasts_S1x1024x5136_S1024x5136)

theorem product_apply (h : FVec Ideal S16x2048x1024 .f32) (w : FVec Ideal S1x1024x5136 .f32) (b : Fin 16) (s : Fin 2048) (n : Fin 5136) :
    product h w (ix3 b s n) = ∑ k : Fin 1024, h (ix3 b s k) * w (ix3 0 k n) := by
  pointwise [product]

/-- All columns at once. -/
theorem product_hidden (x : FVec Ideal S16x2048x1024 .f32) (md : FVec Ideal S6x16x1024 .f32) (g : FVec Ideal S1x1024 .f32)
    (w : FVec Ideal S1x1024x5136 .f32) (b : Fin 16) (s : Fin 2048) (n : Fin 5136) :
    product (hidden x md g) w (ix3 b s n) = proj x md g w b s n :=
  (product_apply _ w b s n).trans (Finset.sum_congr rfl fun k _ => congrArg (· * w (ix3 0 k n)) (hidden_apply x md g b s k))

def aPart (p : FVec Ideal S16x2048x5136 .f32) : FVec Ideal S16x2048x1536 .bf16 :=
  truncf .bf16 (extractStridedSlice S16x2048x1536 ![0, 0, 0] p slices_S16x2048x5136_S16x2048x1536_0_0_0) bitsLt_bf16_f32

theorem aPart_apply (p : FVec Ideal S16x2048x5136 .f32) (b : Fin 16) (s : Fin 2048) (l : Fin 1536) :
    aPart p (ix3 b s l) = p (ix3 b s ⟨l.val, by omega⟩) := by
  pointwise [aPart]

def gPart (p : FVec Ideal S16x2048x5136 .f32) : FVec Ideal S16x2048x1536 .bf16 :=
  truncf .bf16 (extractStridedSlice S16x2048x1536 ![0, 0, 1536] p slices_S16x2048x5136_S16x2048x1536_0_0_1536) bitsLt_bf16_f32

theorem gPart_apply (p : FVec Ideal S16x2048x5136 .f32) (b : Fin 16) (s : Fin 2048) (l : Fin 1536) :
    gPart p (ix3 b s l) = p (ix3 b s ⟨1536 + l.val, by omega⟩) := by
  pointwise [gPart]

def gatePart (p : FVec Ideal S16x2048x5136 .f32) : FVec Ideal S16x2048x2048 .bf16 :=
  truncf .bf16 (extractStridedSlice S16x2048x2048 ![0, 0, 3088] p slices_S16x2048x5136_S16x2048x2048_0_0_3088) bitsLt_bf16_f32

theorem gatePart_apply (p : FVec Ideal S16x2048x5136 .f32) (b : Fin 16) (s : Fin 2048) (l : Fin 2048) :
    gatePart p (ix3 b s l) = p (ix3 b s ⟨3088 + l.val, by omega⟩) := by
  pointwise [gatePart]

def lowNarrow (p : FVec Ideal S16x2048x5136 .f32) : FVec Ideal S16x2048x16 .f32 :=
  extractStridedSlice S16x2048x16 ![0, 0, 3072] p slices_S16x2048x5136_S16x2048x16_0_0_3072

theorem lowNarrow_apply (p : FVec Ideal S16x2048x5136 .f32) (b : Fin 16) (s : Fin 2048) (l : Fin 16) :
    lowNarrow p (ix3 b s l) = p (ix3 b s ⟨3072 + l.val, by omega⟩) := by
  pointwise [lowNarrow]

def lowPart (p : FVec Ideal S16x2048x5136 .f32) : FVec Ideal S16x2048x128 .f32 :=
  pad S16x2048x128 ![0, 0, 0] ![0, 0, 112] ![0, 0, 0] (lowNarrow p) (sitofp .f32 (constantI S_ 32 0#32)) pads_S16x2048x16_S16x2048x128_000_000_01120 h_S_

theorem lowPart_apply (p : FVec Ideal S16x2048x5136 .f32) (b : Fin 16) (s : Fin 2048) (l : Fin 128) (h : l.val < 16) :
    lowPart p (ix3 b s l) = p (ix3 b s ⟨3072 + l.val, by omega⟩) := by
  have e := pad_apply_of_inside (![0, 0, 0] : Fin 3 → Nat) ![0, 0, 112] ![0, 0, 0] (lowNarrow p) (sitofp .f32 (constantI S_ 32 0#32) : FVec Ideal S_ .f32)
    pads_S16x2048x16_S16x2048x128_000_000_01120 h_S_ (ix3 b s l) (ix3 b s ⟨l.val, h⟩) fun a => by fin_cases a <;> simp [ix3]
  exact e.trans (lowNarrow_apply p b s ⟨l.val, h⟩)

theorem lowPart_zero (p : FVec Ideal S16x2048x5136 .f32) (b : Fin 16) (s : Fin 2048) (l : Fin 128) (h : ¬l.val < 16) :
    lowPart p (ix3 b s l) = (0 : EReal) := by
  have e := pad_apply_of_not_inside (![0, 0, 0] : Fin 3 → Nat) ![0, 0, 112] ![0, 0, 0] (lowNarrow p) (sitofp .f32 (constantI S_ 32 0#32) : FVec Ideal S_ .f32)
    pads_S16x2048x16_S16x2048x128_000_000_01120 h_S_ (ix3 b s l) (2 : Fin 3) fun ha => by
      have h2 := ha.2.2
      simp [ix3] at h2
      omega
  exact e.trans Cert.Kernel3Ideal.InValue.sitofp_zero

section
variable (x : FVec Ideal S16x2048x1024 .f32) (md : FVec Ideal S6x16x1024 .f32) (g : FVec Ideal S1x1024 .f32) (w : FVec Ideal S1x1024x5136 .f32)

theorem aPart_spec : aPart (product (hidden x md g) w) = resA x md g w := by
  funext i
  obtain ⟨b, s, l, rfl⟩ : ∃ (b : Fin 16) (s : Fin 2048) (l : Fin 1536), i = ix3 b s l := ⟨i 0, i 1, i 2, by funext a; fin_cases a <;> rfl⟩
  exact (aPart_apply _ b s l).trans (product_hidden x md g w b s _)

theorem gPart_spec : gPart (product (hidden x md g) w) = resG x md g w := by
  funext i
  obtain ⟨b, s, l, rfl⟩ : ∃ (b : Fin 16) (s : Fin 2048) (l : Fin 1536), i = ix3 b s l := ⟨i 0, i 1, i 2, by funext a; fin_cases a <;> rfl⟩
  exact (gPart_apply _ b s l).trans (product_hidden x md g w b s _)

theorem gatePart_spec : gatePart (product (hidden x md g) w) = resGate x md g w := by
  funext i
  obtain ⟨b, s, l, rfl⟩ : ∃ (b : Fin 16) (s : Fin 2048) (l : Fin 2048), i = ix3 b s l := ⟨i 0, i 1, i 2, by funext a; fin_cases a <;> rfl⟩
  exact (gatePart_apply _ b s l).trans (product_hidden x md g w b s _)

theorem low_pos (b : Fin 16) (s : Fin 2048) (l : Fin 128) (h : l.val < 16) :
    resLow x md g w (ix3 b s l) = (proj x md g w b s ⟨3072 + l.val, by omega⟩ : EReal) := by
  show (if h : l.val < 16 then proj x md g w b s ⟨3072 + l.val, _⟩ else 0) = _
  exact dif_pos h

theorem low_neg (b : Fin 16) (s : Fin 2048) (l : Fin 128) (h : ¬l.val < 16) : resLow x md g w (ix3 b s l) = (0 : EReal) := by
  show (if h : l.val < 16 then proj x md g w b s ⟨3072 + l.val, _⟩ else 0) = _
  exact dif_neg h

theorem lowPart_spec : lowPart (product (hidden x md g) w) = resLow x md g w := by
  funext i
  obtain ⟨b, s, l, rfl⟩ : ∃ (b : Fin 16) (s : Fin 2048) (l : Fin 128), i = ix3 b s l := ⟨i 0, i 1, i 2, by funext a; fin_cases a <;> rfl⟩
  by_cases h : l.val < 16
  · exact (lowPart_apply _ b s l h).trans ((product_hidden x md g w b s _).trans (low_pos x md g w b s l h).symm)
  · exact (lowPart_zero _ b s l h).trans (low_neg x md g w b s l h).symm

end

/-- The reference's run, read: its four results at the four functions of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = resA (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v33) = resG (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v34) = resGate (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v31) = resLow (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (aPart_spec _ _ _ _), (h c).2.1.trans (gPart_spec _ _ _ _),
    (h c).2.2.1.trans (gatePart_spec _ _ _ _), (h c).2.2.2.1.trans (lowPart_spec _ _ _ _), (h c).2.2.2.2⟩) (Value.run (F := Ideal) m ρ)

end Cert.Reference3Ideal.InRef

end
-- ==== Proof.InClaims.lean ====
/-
  The claims of the input projections, from the generated frames, Proof/InValue.lean and Proof/InRef.lean.
-/
module

public import proofs.«01_k».proof.Defs
public import proofs.«01_k».proof.Proof.Gen.Kernel3.Frame
public import proofs.«01_k».proof.Proof.InValue
public import proofs.«01_k».proof.Proof.InRef
public import Idealize.ShloMosaic.Lib.Quiescent

@[expose] public section

noncomputable section

open Idealize.ShloMosaic Idealize.ShloMosaic.TcCoe Idealize.SL.Sem

namespace Cert.Proof.InClaims

theorem frame_kernel : Cert.quiescent_Kernel3 := fun m ρ _ => Cert.Kernel3.Gen.frame m ρ
theorem frame_ideal : Cert.quiescent_Kernel3Ideal := fun m ρ _ => Cert.Kernel3Ideal.Gen.frame m ρ

/-- The reference's run, read at the arguments; it declares no semaphore. -/
theorem frame_reference : Cert.quiescent_Reference3Ideal := fun m ρ _ =>
  (θ_run Cert.Reference3Ideal.defs _ _).mono (fun r h => ⟨fun c => (h c).2.2.2.2,
      Idealize.ShloMosaic.sem_eq_zero_of_no_sems (by decide) r.2⟩)
    (Cert.Reference3Ideal.Value.run (F := Ideal) m ρ)

theorem preserves : Cert.preserves_Kernel3_Kernel3Ideal := trivial

/-- Both programs' four arrays end at `InValue`'s functions of arguments that agree. -/
theorem algebraic : Cert.algebraic_Kernel3Ideal_Reference3Ideal := by
  intro m ρ m' ρ' _ hagree
  refine ⟨fun c => _, fun c => _, fun c => _, fun c => _, Cert.Kernel3Ideal.InValue.run m ρ, ?_⟩
  refine (θ_run Cert.Reference3Ideal.defs _ _).mono (fun _ h c => ?_) (Cert.Reference3Ideal.InRef.run m' ρ')
  obtain ⟨h0, h1, h2, h3⟩ := hagree c
  have hc := h c
  rw [h0, h1, h2, h3] at hc
  rw [h0, h1, h2, h3]
  exact hc

end Cert.Proof.InClaims

end
-- ==== Proof.MergeValue.lean ====
/-
  The merge. A row of the two branches' outputs is multiplied with the branches' weights, each product is weighed by the
  sigmoid of its gate, and their sum, multiplied with the output weights and scaled by the batch's modulation, is added to
  the input. The function `res` says this index by index; here the kernel's first array is shown to be it.
-/
module

public import proofs.«01_k».proof.Proof.Gen.Kernel4Ideal.Value
public import Idealize.ShloMosaic.Lib.Pointwise
public import Idealize.ShloMosaic.Lib.Pipeline.Value
public import Idealize.ShloMosaic.Lib.Pipeline.ValueKit
public import Idealize.ShloMosaic.Lib.KernelVsHost

@[expose] public section

noncomputable section

open Idealize.ShloMosaic Idealize.ShloMosaic.TcCoe Idealize.SL.Sem

namespace Cert.MergeValue

open Cert.Kernel4Ideal

/-- The two branches of a row, weighed by their gates' sigmoids, at column `k`. -/
def merged (oa ob : Fin 512 → EReal) (ga gb : Fin 1024 → EReal) (wa wb : Fin 512 → Fin 1024 → EReal) (k : Fin 1024) : EReal :=
  Ideal.logistic (ga k) * ∑ j : Fin 512, oa j * wa j k + Ideal.logistic (gb k) * ∑ j : Fin 512, ob j * wb j k

/-- The input's entry plus the modulated entry of the merged row's product with the output weights. -/
def resid (x al : EReal) (mg : Fin 1024 → EReal) (wo : Fin 1024 → EReal) : EReal := x + al * ∑ k : Fin 1024, mg k * wo k

/-- Row `s` of batch `b`. -/
def row (oa ob : Vec Ideal S16x2048x512 .bf16) (gt : Vec Ideal S16x2048x2048 .bf16) (wa wb : Vec Ideal S1x512x1024 .f32) (b : Fin 16) (s : Fin 2048) :
    Fin 1024 → EReal :=
  merged (fun j => oa (ix3 b s j)) (fun j => ob (ix3 b s j)) (fun k => gt (ix3 b s ⟨0 + k.val, by omega⟩)) (fun k => gt (ix3 b s ⟨1024 + k.val, by omega⟩))
    (fun j k => wa (ix3 0 j k)) (fun j k => wb (ix3 0 j k))

/-- The residual at row `s` of batch `b`, lane `l`. -/
def out (oa ob : Vec Ideal S16x2048x512 .bf16) (gt : Vec Ideal S16x2048x2048 .bf16) (x : Vec Ideal S16x2048x1024 .f32) (md : Vec Ideal S6x16x1024 .f32)
    (wa wb : Vec Ideal S1x512x1024 .f32) (wo : Vec Ideal S1x1024x1024 .f32) (b : Fin 16) (s : Fin 2048) (l : Fin 1024) : EReal :=
  resid (x (ix3 b s l)) (md (ix3 2 b l)) (row oa ob gt wa wb b s) (fun k => wo (ix3 0 k l))

/-- The batch of a row of all batches' rows. -/
def bat (n : Fin 32768) : Fin 16 := ⟨n.val / 2048, by omega⟩

/-- Its position in the batch. -/
def pos (n : Fin 32768) : Fin 2048 := ⟨n.val % 2048, Nat.mod_lt _ (by norm_num)⟩

/-- All of it, the batches' rows one after the other. -/
def res (oa ob : Vec Ideal S16x2048x512 .bf16) (gt : Vec Ideal S16x2048x2048 .bf16) (x : Vec Ideal S16x2048x1024 .f32) (md : Vec Ideal S6x16x1024 .f32)
    (wa wb : Vec Ideal S1x512x1024 .f32) (wo : Vec Ideal S1x1024x1024 .f32) : Vec Ideal S32768x1024 .f32 := fun i =>
  out oa ob gt x md wa wb wo (bat (i 0)) (pos (i 0)) (i 1)

end Cert.MergeValue

namespace Cert.Kernel4Ideal.MergeValue

open Cert.Kernel4Ideal Cert.Kernel4Ideal.Gen Cert.MergeValue

theorem pay5_apply (ga gb : Vec Ideal S512x1024 .bf16) (oa ob : Vec Ideal S512x512 .bf16) (wa wb : Vec Ideal S512x1024 .bf16)
    (wo : Vec Ideal S1024x1024 .bf16) (r : Fin 512) (l : Fin 1024) :
    k0_pay5 ga gb oa wa ob wb wo (ix2 r l)
      = ∑ k : Fin 1024, merged (fun j => oa (ix2 r j)) (fun j => ob (ix2 r j)) (fun k => ga (ix2 r k)) (fun k => gb (ix2 r k))
          (fun j k => wa (ix2 j k)) (fun j k => wb (ix2 j k)) k * wo (ix2 k l) := by
  pointwise [k0_pay5]
  rfl

theorem pay8_apply (p : FVec Ideal S512x1024 .f32) (x : Vec Ideal S512x1024 .f32) (al : Vec Ideal S1x1x1x1024 .f32) (r : Fin 512) (l : Fin 1024) :
    k0_pay8 p (k0_pay6 x) (k0_pay7 al) (ix2 r l) = x (ix2 r l) + al (ix4 0 0 0 l) * p (ix2 r l) := by
  pointwise [k0_pay8, k0_pay6, k0_pay7]

variable (m : (ℓ : Loc nD τ sig) → Buf (Elt Ideal) ℓ)

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![t.val, 0] := by decide +kernel
theorem idx_3 : ∀ t : Fin grid0.N, win0_3.index t = ![t.val, 0] := by decide +kernel
theorem idx_4 : ∀ t : Fin grid0.N, win0_4.index t = ![2, t.val / 4, 0, 0] := by decide +kernel
theorem idx_8 : ∀ t : Fin grid0.N, win0_8.index t = ![0, 0] := by decide +kernel
theorem idx_9 : ∀ t : Fin grid0.N, win0_9.index t = ![0, 0] := by decide +kernel
theorem idx_10 : ∀ t : Fin grid0.N, win0_10.index t = ![0, 0] := by decide +kernel
theorem idx_13 : ∀ t : Fin grid0.N, win0_13.index t = ![t.val, 0] := by decide +kernel

/-! ### The operands, as the host operations prepare them -/

def flatO (v : FVec Ideal S16x2048x512 .bf16) : FVec Ideal S32768x512 .bf16 := shapeCast S32768x512 v shapeCasts_S16x2048x512_S32768x512

theorem flatO_apply (v : FVec Ideal S16x2048x512 .bf16) (n : Fin 32768) (j : Fin 512) : flatO v (ix2 n j) = v (ix3 (bat n) (pos n) j) := by
  pointwise [flatO]
  rfl

def flatGate (v : FVec Ideal S16x2048x2048 .bf16) : FVec Ideal S32768x2048 .bf16 := shapeCast S32768x2048 v shapeCasts_S16x2048x2048_S32768x2048

theorem flatGate_apply (v : FVec Ideal S16x2048x2048 .bf16) (n : Fin 32768) (j : Fin 2048) : flatGate v (ix2 n j) = v (ix3 (bat n) (pos n) j) := by
  pointwise [flatGate]
  rfl

def flatX (v : FVec Ideal S16x2048x1024 .f32) : FVec Ideal S32768x1024 .f32 := shapeCast S32768x1024 v shapeCasts_S16x2048x1024_S32768x1024

theorem flatX_apply (v : FVec Ideal S16x2048x1024 .f32) (n : Fin 32768) (j : Fin 1024) : flatX v (ix2 n j) = v (ix3 (bat n) (pos n) j) := by
  pointwise [flatX]
  rfl

def modT (md : FVec Ideal S6x16x1024 .f32) : FVec Ideal S6x16x1x1024 .f32 := shapeCast S6x16x1x1024 md shapeCasts_S6x16x1024_S6x16x1x1024

theorem modT_apply (md : FVec Ideal S6x16x1024 .f32) (j : Fin 6) (b : Fin 16) (q : Fin 1024) : modT md (ix4 j b 0 q) = md (ix3 j b q) := by
  pointwise [modT]

def branchW (w : FVec Ideal S1x512x1024 .f32) : FVec Ideal S512x1024 .bf16 :=
  truncf .bf16 (shapeCast _ w shapeCasts_S1x512x1024_S512x1024) bitsLt_bf16_f32

theorem branchW_apply (w : FVec Ideal S1x512x1024 .f32) (j : Fin 512) (k : Fin 1024) : branchW w (ix2 j k) = w (ix3 0 j k) := by
  pointwise [branchW]

def outW (w : FVec Ideal S1x1024x1024 .f32) : FVec Ideal S1024x1024 .bf16 :=
  truncf .bf16 (shapeCast _ w shapeCasts_S1x1024x1024_S1024x1024) bitsLt_bf16_f32

theorem outW_apply (w : FVec Ideal S1x1024x1024 .f32) (j k : Fin 1024) : outW w (ix2 j k) = w (ix3 0 j k) := by
  pointwise [outW]

theorem V_oa (c : Dev nD) : V m c main_v1 = flatO (m ((c : Thread nD τ).loc main_arg0)) := rfl
theorem V_ob (c : Dev nD) : V m c main_v2 = flatO (m ((c : Thread nD τ).loc main_arg1)) := rfl
theorem V_gate (c : Dev nD) : V m c main_v3 = flatGate (m ((c : Thread nD τ).loc main_arg2)) := rfl
theorem V_x (c : Dev nD) : V m c main_v4 = flatX (m ((c : Thread nD τ).loc main_arg3)) := rfl
theorem V_mod (c : Dev nD) : V m c main_v0 = modT (m ((c : Thread nD τ).loc main_arg4)) := rfl
theorem V_wa (c : Dev nD) : V m c main_v6 = branchW (m ((c : Thread nD τ).loc main_arg6)) := rfl
theorem V_wb (c : Dev nD) : V m c main_v8 = branchW (m ((c : Thread nD τ).loc main_arg7)) := rfl
theorem V_wo (c : Dev nD) : V m c main_v10 = outW (m ((c : Thread nD τ).loc main_arg8)) := rfl

/-! ### The blocks at a grid point -/

/-- Row `r` of grid point `t`'s rows. -/
def at_ (t : Fin cfg0.N) (r : Fin 512) : Fin 32768 := ⟨t.val * 512 + r.val, by have h : t.val < 64 := t.isLt; omega⟩

theorem bat_at (t : Fin cfg0.N) (r : Fin 512) : (⟨t.val / 4, by have h : t.val < 64 := t.isLt; omega⟩ : Fin 16) = bat (at_ t r) := by
  refine Fin.ext ?_
  show t.val / 4 = (t.val * 512 + r.val) / 2048
  have h := r.isLt
  omega

theorem oa_blk (c : Dev nD) (t : Fin cfg0.N) (r j : Fin 512) : (iblk m c 0 t : Vec Ideal S512x512 .bf16) (ix2 r j)
    = (V m c main_v1 : FVec Ideal S32768x512 .bf16) (ix2 (at_ t r) j) := by
  blk_ext [iblk, idx_0 t, at_]

theorem ob_blk (c : Dev nD) (t : Fin cfg0.N) (r j : Fin 512) : (iblk m c 1 t : Vec Ideal S512x512 .bf16) (ix2 r j)
    = (V m c main_v2 : FVec Ideal S32768x512 .bf16) (ix2 (at_ t r) j) := by
  blk_ext [iblk, idx_1 t, at_]

theorem gate_blk (c : Dev nD) (t : Fin cfg0.N) (r : Fin 512) (j : Fin 2048) : (iblk m c 2 t : Vec Ideal S512x2048 .bf16) (ix2 r j)
    = (V m c main_v3 : FVec Ideal S32768x2048 .bf16) (ix2 (at_ t r) j) := by
  blk_ext [iblk, idx_2 t, at_]

theorem x_blk (c : Dev nD) (t : Fin cfg0.N) (r : Fin 512) (j : Fin 1024) : (iblk m c 3 t : Vec Ideal S512x1024 .f32) (ix2 r j)
    = (V m c main_v4 : FVec Ideal S32768x1024 .f32) (ix2 (at_ t r) j) := by
  blk_ext [iblk, idx_3 t, at_]

theorem al_blk (c : Dev nD) (t : Fin cfg0.N) (q : Fin 1024) : (iblk m c 4 t : Vec Ideal S1x1x1x1024 .f32) (ix4 0 0 0 q)
    = (V m c main_v0 : FVec Ideal S6x16x1x1024 .f32) (ix4 2 ⟨t.val / 4, by have h : t.val < 64 := t.isLt; omega⟩ 0 q) := by
  blk_ext [iblk, idx_4 t]

theorem wa_blk (c : Dev nD) (t : Fin cfg0.N) (j : Fin 512) (k : Fin 1024) :
    (iblk m c 8 t : Vec Ideal S512x1024 .bf16) (ix2 j k) = (V m c main_v6 : FVec Ideal S512x1024 .bf16) (ix2 j k) := by
  blk_ext [iblk, idx_8 t]

theorem wb_blk (c : Dev nD) (t : Fin cfg0.N) (j : Fin 512) (k : Fin 1024) :
    (iblk m c 9 t : Vec Ideal S512x1024 .bf16) (ix2 j k) = (V m c main_v8 : FVec Ideal S512x1024 .bf16) (ix2 j k) := by
  blk_ext [iblk, idx_9 t]

theorem wo_blk (c : Dev nD) (t : Fin cfg0.N) (j k : Fin 1024) :
    (iblk m c 10 t : Vec Ideal S1024x1024 .bf16) (ix2 j k) = (V m c main_v10 : FVec Ideal S1024x1024 .bf16) (ix2 j k) := by
  blk_ext [iblk, idx_10 t]

/-- The first half of the gates' lanes. -/
def gateA (v : Vec Ideal S512x2048 .bf16) : Vec Ideal S512x1024 .bf16 :=
  View.ld v (Rect.unit ![0, 0] ![512, 1024] inb_S512x2048_S512x1024_0_0)

/-- The second half. -/
def gateB (v : Vec Ideal S512x2048 .bf16) : Vec Ideal S512x1024 .bf16 :=
  View.ld v (Rect.unit ![0, 1024] ![512, 1024] inb_S512x2048_S512x1024_0_1024)

theorem gateA_apply (v : Vec Ideal S512x2048 .bf16) (r : Fin 512) (k : Fin 1024) : gateA v (ix2 r k) = v (ix2 r ⟨0 + k.val, by omega⟩) := by
  pointwise [gateA]

theorem gateB_apply (v : Vec Ideal S512x2048 .bf16) (r : Fin 512) (k : Fin 1024) : gateB v (ix2 r k) = v (ix2 r ⟨1024 + k.val, by omega⟩) := by
  pointwise [gateB]

/-- What the body stores at row `r`, lane `l` of the first result's block. -/
theorem out_at (c : Dev nD) (t : Fin cfg0.N) (r : Fin 512) (l : Fin 1024) :
    k0_pay8 (k0_pay5 (gateA (iblk m c 2 t)) (gateB (iblk m c 2 t)) (iblk m c 0 t) (iblk m c 8 t) (iblk m c 1 t) (iblk m c 9 t) (iblk m c 10 t))
        (k0_pay6 (iblk m c 3 t)) (k0_pay7 (iblk m c 4 t)) (ix2 r l)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (bat (at_ t r)) (pos (at_ t r)) l := by
  rw [pay8_apply, pay5_apply]
  unfold out resid row
  refine congrArg₂ (· + ·) ?_ (congrArg₂ (· * ·) ?_ (Finset.sum_congr rfl fun k _ => congrArg₂ (· * ·) ?_ ?_))
  · exact (x_blk m c t r l).trans ((congrFun (V_x m c) _).trans (flatX_apply _ _ l))
  · exact (al_blk m c t l).trans (((congrFun (V_mod m c) _).trans (modT_apply _ 2 _ l)).trans (congrArg _ (congrArg (ix3 2 · l) (bat_at t r))))
  · refine congrFun (congr (congr (congr (congr (congrArg₂ merged (funext fun j => ?_) (funext fun j => ?_)) (funext fun k => ?_)) (funext fun k => ?_))
      (funext fun j => funext fun k => ?_)) (funext fun j => funext fun k => ?_)) k
    · exact (oa_blk m c t r j).trans ((congrFun (V_oa m c) _).trans (flatO_apply _ _ j))
    · exact (ob_blk m c t r j).trans ((congrFun (V_ob m c) _).trans (flatO_apply _ _ j))
    · exact (gateA_apply _ r k).trans ((gate_blk m c t r _).trans ((congrFun (V_gate m c) _).trans (flatGate_apply _ _ _)))
    · exact (gateB_apply _ r k).trans ((gate_blk m c t r _).trans ((congrFun (V_gate m c) _).trans (flatGate_apply _ _ _)))
    · exact (wa_blk m c t j k).trans ((congrFun (V_wa m c) _).trans (branchW_apply _ j k))
    · exact (wb_blk m c t j k).trans ((congrFun (V_wb m c) _).trans (branchW_apply _ j k))
  · exact (wo_blk m c t k l).trans ((congrFun (V_wo m c) _).trans (outW_apply _ k l))

/-- The same whether the point is the first or a later one, at an index of the result's block. -/
theorem block_at (c : Dev nD) (t : Fin cfg0.N) (y : S512x1024.Idx) (i : S32768x1024.Idx) (hn : (i 0 : ℕ) = t.val * 512 + (y 0 : ℕ)) (hl : (i 1 : ℕ) = (y 1 : ℕ)) :
    k0_pay8 (k0_pay5 (gateA (iblk m c 2 t)) (gateB (iblk m c 2 t)) (iblk m c 0 t) (iblk m c 8 t) (iblk m c 1 t) (iblk m c 9 t) (iblk m c 10 t))
        (k0_pay6 (iblk m c 3 t)) (k0_pay7 (iblk m c 4 t)) y
      = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) i := by
  obtain ⟨r, l, rfl⟩ : ∃ (r : Fin 512) (l : Fin 1024), y = ix2 r l := ⟨y 0, y 1, by funext a; fin_cases a <;> rfl⟩
  refine (out_at m c t r l).trans ?_
  unfold res
  have e0 : i 0 = at_ t r := Fin.ext hn
  have e1 : i 1 = l := Fin.ext hl
  rw [e0, e1]

theorem final (c : Dev nD) : (dats m 0 c).arrAt 13 cfg0.N
    = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  refine (dats m 0 c).arrAt_eq_of_covers 13 _ (by decide +kernel) fun t hf y => ?_
  blk_simp
  rw [after0_13]
  have hn : (((View.whole main_v15_0).slice (win0_13.rect t)).emb y 0 : ℕ) = t.val * 512 + (y 0 : ℕ) := by
    blk_simp [idx_13 t]
  have hl : (((View.whole main_v15_0).slice (win0_13.rect t)).emb y 1 : ℕ) = (y 1 : ℕ) := by
    blk_simp [idx_13 t]
  by_cases h0 : t.val % 64 = 0
  · rw [outsAt0_A m c t h0]
    frame_out
    exact block_at m c t y _ hn hl
  · rw [outsAt0_B m c t h0]
    frame_out
    exact block_at m c t y _ hn hl

/-- The run, read: the first array at `res` of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v15_0) = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final m c), (h c).2.2.2.2.2.2⟩) (Value.run_blocks m ρ)

end Cert.Kernel4Ideal.MergeValue

end
-- ==== Proof.MergeRef.lean ====
/-
  The reference of the merge: its composed term read at an index is `Cert.MergeValue`'s function of the arguments.
-/
module

public import proofs.«01_k».proof.Proof.Gen.Reference4Ideal.Run
public import proofs.«01_k».proof.Proof.MergeValue

@[expose] public section

noncomputable section

open Idealize.ShloMosaic Idealize.ShloMosaic.TcCoe Idealize.SL.Sem

namespace Cert.Reference4Ideal.MergeRef

open Cert.Reference4Ideal Cert.Reference4Ideal.Gen Cert.MergeValue

/-- The sigmoid of the gates' first half of lanes. -/
def gateA (g : FVec Ideal S16x2048x2048 .bf16) : FVec Ideal S16x2048x1024 .f32 :=
  Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (extractStridedSlice S16x2048x1024 ![0, 0, 0] (extf .f32 g bitsLt_bf16_f32) slices_S16x2048x2048_S16x2048x1024_0_0_0))))

theorem gateA_apply (g : FVec Ideal S16x2048x2048 .bf16) (b : Fin 16) (s : Fin 2048) (k : Fin 1024) :
    gateA g (ix3 b s k) = Ideal.logistic (g (ix3 b s ⟨0 + k.val, by omega⟩)) := by
  pointwise [gateA]
  rfl

/-- The sigmoid of the second half. -/
def gateB (g : FVec Ideal S16x2048x2048 .bf16) : FVec Ideal S16x2048x1024 .f32 :=
  Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (extractStridedSlice S16x2048x1024 ![0, 0, 1024] (extf .f32 g bitsLt_bf16_f32) slices_S16x2048x2048_S16x2048x1024_0_0_1024))))

theorem gateB_apply (g : FVec Ideal S16x2048x2048 .bf16) (b : Fin 16) (s : Fin 2048) (k : Fin 1024) :
    gateB g (ix3 b s k) = Ideal.logistic (g (ix3 b s ⟨1024 + k.val, by omega⟩)) := by
  pointwise [gateB]
  rfl

/-- A branch's output times its weights. -/
def branch (o : FVec Ideal S16x2048x512 .bf16) (w : FVec Ideal S1x512x1024 .f32) : FVec Ideal S16x2048x1024 .f32 :=
  Host.dotGeneral dot_S16x2048x512_S512x1024_S16x2048x1024_2_0_01_1_n_n none (extf .f32 o bitsLt_bf16_f32) (shapeCast _ w shapeCasts_S1x512x1024_S512x1024)

theorem branch_apply (o : FVec Ideal S16x2048x512 .bf16) (w : FVec Ideal S1x512x1024 .f32) (b : Fin 16) (s : Fin 2048) (k : Fin 1024) :
    branch o w (ix3 b s k) = ∑ j : Fin 512, o (ix3 b s j) * w (ix3 0 j k) := by
  pointwise [branch]

/-- The two branches, weighed by their gates. -/
def mix (oa ob : FVec Ideal S16x2048x512 .bf16) (g : FVec Ideal S16x2048x2048 .bf16) (wa wb : FVec Ideal S1x512x1024 .f32) : FVec Ideal S16x2048x1024 .f32 :=
  addf (mulf (gateA g) (branch oa wa)) (mulf (gateB g) (branch ob wb))

theorem mix_apply (oa ob : FVec Ideal S16x2048x512 .bf16) (g : FVec Ideal S16x2048x2048 .bf16) (wa wb : FVec Ideal S1x512x1024 .f32)
    (b : Fin 16) (s : Fin 2048) (k : Fin 1024) : mix oa ob g wa wb (ix3 b s k) = row oa ob g wa wb b s k := by
  have e : mix oa ob g wa wb (ix3 b s k) = gateA g (ix3 b s k) * branch oa wa (ix3 b s k) + gateB g (ix3 b s k) * branch ob wb (ix3 b s k) := by
    pointwise [mix]
  rw [e, gateA_apply, gateB_apply, branch_apply, branch_apply]
  rfl

/-- The input plus the modulated product with the output weights. -/
def residual (x : FVec Ideal S16x2048x1024 .f32) (md : FVec Ideal S6x16x1024 .f32) (mg : FVec Ideal S16x2048x1024 .f32) (wo : FVec Ideal S1x1024x1024 .f32) :
    FVec Ideal S32768x1024 .f32 :=
  shapeCast _ (addf x (mulf (broadcastInDim S16x2048x1024 ![0, 1, 2] bcast_S16x1x1024_S16x2048x1024_0_1_2 (broadcastInDim S16x1x1024 ![0, 2] bcast_S16x1024_S16x1x1024_0_2 (shapeCast _ (extractStridedSlice S1x16x1024 ![2, 0, 0] md slices_S6x16x1024_S1x16x1024_2_0_0) shapeCasts_S1x16x1024_S16x1024))) (Host.dotGeneral dot_S16x2048x1024_S1024x1024_S16x2048x1024_2_0_01_1_n_n none mg (shapeCast _ wo shapeCasts_S1x1024x1024_S1024x1024)))) shapeCasts_S16x2048x1024_S32768x1024

theorem residual_apply (x : FVec Ideal S16x2048x1024 .f32) (md : FVec Ideal S6x16x1024 .f32) (mg : FVec Ideal S16x2048x1024 .f32) (wo : FVec Ideal S1x1024x1024 .f32)
    (n : Fin 32768) (l : Fin 1024) : residual x md mg wo (ix2 n l)
      = resid (x (ix3 (bat n) (pos n) l)) (md (ix3 2 (bat n) l)) (fun k => mg (ix3 (bat n) (pos n) k)) (fun k => wo (ix3 0 k l)) := by
  pointwise [residual]
  rfl

theorem residual_spec (oa ob : FVec Ideal S16x2048x512 .bf16) (g : FVec Ideal S16x2048x2048 .bf16) (x : FVec Ideal S16x2048x1024 .f32) (md : FVec Ideal S6x16x1024 .f32)
    (wa wb : FVec Ideal S1x512x1024 .f32) (wo : FVec Ideal S1x1024x1024 .f32) :
    residual x md (mix oa ob g wa wb) wo = res oa ob g x md wa wb wo := by
  funext i
  obtain ⟨n, l, rfl⟩ : ∃ (n : Fin 32768) (l : Fin 1024), i = ix2 n l := ⟨i 0, i 1, by funext a; fin_cases a <;> rfl⟩
  refine (residual_apply x md _ wo n l).trans ?_
  show _ = resid _ _ _ _
  exact congrFun (congrArg (resid _ _) (funext fun k => mix_apply oa ob g wa wb (bat n) (pos n) k)) _

/-- The reference's run, read: its result at `res` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (residual_spec _ _ _ _ _ _ _ _), (h c).2⟩) (Value.run (F := Ideal) m ρ)

end Cert.Reference4Ideal.MergeRef

end
-- ==== Proof.MergeClaims.lean ====
/-
  The claims of the merge, from the generated frames, Proof/MergeValue.lean and Proof/MergeRef.lean.
-/
module

public import proofs.«01_k».proof.Defs
public import proofs.«01_k».proof.Proof.Gen.Kernel4.Frame
public import proofs.«01_k».proof.Proof.MergeValue
public import proofs.«01_k».proof.Proof.MergeRef
public import Idealize.ShloMosaic.Lib.Bf16PairInverse
public import Idealize.ShloMosaic.Lib.Quiescent

@[expose] public section

noncomputable section

open Idealize.ShloMosaic Idealize.ShloMosaic.TcCoe Idealize.SL.Sem

namespace Cert.Proof.MergeClaims

theorem frame_kernel : Cert.quiescent_Kernel4 := fun m ρ _ => Cert.Kernel4.Gen.frame m ρ
theorem frame_ideal : Cert.quiescent_Kernel4Ideal := fun m ρ _ => Cert.Kernel4Ideal.Gen.frame m ρ

/-- The reference's run, read at the arguments; it declares no semaphore. -/
theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The two re-typed buffers, the pack, and the store of the packed words. -/
theorem preserves : Cert.preserves_Kernel4_Kernel4Ideal :=
  open Cert.Kernel4Ideal IdealRules.bf16_pair in
  ⟨bufferStatement S32768x2x512 S32768x1x512, bufferStatement S512x2x512 S512x1x512, packStatement S512x512, statement S512x2x512 S512x1x512⟩

/-- Both programs' arrays end at `MergeValue`'s function of arguments that agree. -/
theorem algebraic : Cert.algebraic_Kernel4Ideal_Reference4Ideal := by
  intro m ρ m' ρ' _ hagree
  refine ⟨fun c => _, Cert.Kernel4Ideal.MergeValue.run m ρ, ?_⟩
  refine (θ_run Cert.Reference4Ideal.defs _ _).mono (fun _ h c => ⟨(h c).1.trans ?_, (h c).2⟩) (Cert.Reference4Ideal.MergeRef.run m' ρ')
  obtain ⟨h0, h1, h2, h3, h4, _, h6, h7, h8, _⟩ := hagree c
  rw [h0, h1, h2, h3, h4, h6, h7, h8]

end Cert.Proof.MergeClaims

end
-- ==== Proof.ModValue.lean ====
/-
  The modulation. The conditioning vector of a batch passes the unit `c · σ(c)`, is multiplied with the weights, and the bias
  is added; the columns fall into six parts. The function `res` says this index by index; here the kernel's array is shown to be it.
-/
module

public import proofs.«01_k».proof.Proof.Gen.Kernel5Ideal.Value
public import Idealize.ShloMosaic.Lib.Pointwise
public import Idealize.ShloMosaic.Lib.Pipeline.Value
public import Idealize.ShloMosaic.Lib.Pipeline.ValueKit
public import Idealize.ShloMosaic.Lib.KernelVsHost

@[expose] public section

noncomputable section

open Idealize.ShloMosaic Idealize.ShloMosaic.TcCoe Idealize.SL.Sem

namespace Cert.ModValue

open Cert.Kernel5Ideal

/-- A column of the modulation from a batch's vector, the column's weights and its bias. -/
def entry (x w : Fin 1024 → EReal) (b : EReal) : EReal := (∑ k : Fin 1024, x k * Ideal.logistic (x k) * w k) + b

/-- Part `j` of the columns, all batches. -/
def res (x : Vec Ideal S16x1024 .f32) (w : Vec Ideal S1x1024x6144 .f32) (b : Vec Ideal S1x6144 .f32) : Vec Ideal S6x16x1024 .f32 := fun i =>
  entry (fun k => x (ix2 (i 1) k))
    (fun k => w (ix3 0 k ⟨(i 0).val * 1024 + (i 2).val, by have h : (i 0).val < 6 := (i 0).isLt; have h2 : (i 2).val < 1024 := (i 2).isLt; omega⟩))
    (b (ix2 0 ⟨(i 0).val * 1024 + (i 2).val, by have h : (i 0).val < 6 := (i 0).isLt; have h2 : (i 2).val < 1024 := (i 2).isLt; omega⟩))

end Cert.ModValue

namespace Cert.Kernel5Ideal.ModValue

open Cert.Kernel5Ideal Cert.Kernel5Ideal.Gen Cert.ModValue

theorem pay1_apply (x : Vec Ideal S16x1024 .f32) (w : Vec Ideal S1024x1024 .f32) (b : Vec Ideal S1x1024 .f32) (r : Fin 16) (l : Fin 1024) :
    k0_pay1 x w b (ix3 0 r l) = entry (fun k => x (ix2 r k)) (fun k => w (ix2 k l)) (b (ix2 0 l)) := by
  pointwise [k0_pay1]
  rfl

variable (m : (ℓ : Loc nD τ sig) → Buf (Elt Ideal) ℓ)

theorem idx_0 : ∀ t : Fin grid0.N, win0_0.index t = ![0, 0] := by decide +kernel
theorem idx_1 : ∀ t : Fin grid0.N, win0_1.index t = ![0, t.val] := by decide +kernel
theorem idx_2 : ∀ t : Fin grid0.N, win0_2.index t = ![0, t.val] := by decide +kernel
theorem idx_3 : ∀ t : Fin grid0.N, win0_3.index t = ![t.val, 0, 0] := by decide +kernel

def weights (w : FVec Ideal S1x1024x6144 .f32) : FVec Ideal S1024x6144 .f32 := shapeCast S1024x6144 w shapeCasts_S1x1024x6144_S1024x6144

theorem weights_apply (w : FVec Ideal S1x1024x6144 .f32) (k : Fin 1024) (n : Fin 6144) : weights w (ix2 k n) = w (ix3 0 k n) := by
  pointwise [weights]

def bias (b : FVec Ideal S1x6144 .f32) : FVec Ideal S1x6144 .f32 :=
  shapeCast S1x6144 (shapeCast S6144 b shapeCasts_S1x6144_S6144) shapeCasts_S6144_S1x6144

theorem bias_apply (b : FVec Ideal S1x6144 .f32) (n : Fin 6144) : bias b (ix2 0 n) = b (ix2 0 n) := by
  pointwise [bias]

theorem V_w (c : Dev nD) : V m c main_v0 = weights (m ((c : Thread nD τ).loc main_arg1)) := rfl
theorem V_b (c : Dev nD) : V m c main_v2 = bias (m ((c : Thread nD τ).loc main_arg2)) := rfl

theorem x_blk (c : Dev nD) (t : Fin cfg0.N) (r : Fin 16) (k : Fin 1024) :
    (iblk m c 0 t : Vec Ideal S16x1024 .f32) (ix2 r k) = (m ((c : Thread nD τ).loc main_arg0)) (ix2 r k) := by
  blk_ext [iblk, V, idx_0 t]

theorem w_blk (c : Dev nD) (t : Fin cfg0.N) (k l : Fin 1024) : (iblk m c 1 t : Vec Ideal S1024x1024 .f32) (ix2 k l)
    = (V m c main_v0 : FVec Ideal S1024x6144 .f32) (ix2 k ⟨t.val * 1024 + l.val, by have h : t.val < 6 := t.isLt; omega⟩) := by
  blk_ext [iblk, idx_1 t]

theorem b_blk (c : Dev nD) (t : Fin cfg0.N) (l : Fin 1024) : (iblk m c 2 t : Vec Ideal S1x1024 .f32) (ix2 0 l)
    = (V m c main_v2 : FVec Ideal S1x6144 .f32) (ix2 0 ⟨t.val * 1024 + l.val, by have h : t.val < 6 := t.isLt; omega⟩) := by
  blk_ext [iblk, idx_2 t]

/-- What the body leaves at batch `r`, lane `l`, at grid point `t`. -/
theorem entry_at (c : Dev nD) (t : Fin cfg0.N) (r : Fin 16) (l : Fin 1024) (i : S6x16x1024.Idx) (h0 : (i 0 : ℕ) = t.val) (h1 : (i 1 : ℕ) = r.val) (h2 : (i 2 : ℕ) = l.val) :
    k0_pay1 (iblk m c 0 t) (iblk m c 1 t) (iblk m c 2 t) (ix3 0 r l) = res (m ((c : Thread nD τ).loc main_arg0)) (m ((c : Thread nD τ).loc main_arg1)) (m ((c : Thread nD τ).loc main_arg2)) i := by
  rw [pay1_apply]
  unfold res
  have e1 : i 1 = r := Fin.ext h1
  have en : (⟨t.val * 1024 + l.val, by have h : t.val < 6 := t.isLt; omega⟩ : Fin 6144)
      = ⟨(i 0).val * 1024 + (i 2).val, by have h : (i 0).val < 6 := (i 0).isLt; have h2 : (i 2).val < 1024 := (i 2).isLt; omega⟩ :=
    Fin.ext (congrArg₂ (fun a b => a * 1024 + b) h0.symm h2.symm)
  refine congr (congrArg₂ entry (funext fun k => ?_) (funext fun k => ?_)) ?_
  · rw [e1]
    exact x_blk m c t r k
  · exact (w_blk m c t k l).trans (((congrFun (V_w m c) _).trans (weights_apply _ k _)).trans (congrArg _ (congrArg (ix3 0 k) en)))
  · exact (b_blk m c t l).trans (((congrFun (V_b m c) _).trans (bias_apply _ _)).trans (congrArg _ (congrArg (ix2 0) en)))

theorem final (c : Dev nD) : (dats m 0 c).arrAt 3 cfg0.N = res (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have h0 : (((View.whole main_v3).slice (win0_3.rect t)).emb y 0 : ℕ) = t.val := by
    blk_simp [idx_3 t]
  have h1 : (((View.whole main_v3).slice (win0_3.rect t)).emb y 1 : ℕ) = (y 1 : ℕ) := by
    blk_simp [idx_3 t]
  have h2 : (((View.whole main_v3).slice (win0_3.rect t)).emb y 2 : ℕ) = (y 2 : ℕ) := by
    blk_simp [idx_3 t]
  generalize ((View.whole main_v3).slice (win0_3.rect t)).emb y = i at h0 h1 h2
  obtain ⟨r, l, rfl⟩ : ∃ (r : Fin 16) (l : Fin 1024), y = ix3 0 r l :=
    ⟨y 1, y 2, by funext a; fin_cases a <;> first | rfl | exact Subsingleton.elim (α := Fin 1) _ _⟩
  exact entry_at m c t r l i h0 h1 h2

/-- The run, read: the array at `res` of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3) = res (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel5Ideal.ModValue

end
-- ==== Proof.ModRef.lean ====
/-
  The reference of the modulation: its composed term read at an index is `Cert.ModValue.res` of the arguments.
-/
module

public import proofs.«01_k».proof.Proof.Gen.Reference5Ideal.Run
public import proofs.«01_k».proof.Proof.ModValue

@[expose] public section

noncomputable section

open Idealize.ShloMosaic Idealize.ShloMosaic.TcCoe Idealize.SL.Sem

namespace Cert.Reference5Ideal.ModRef

open Cert.Reference5Ideal Cert.Reference5Ideal.Gen Cert.ModValue

/-- All columns, before they are split into parts. -/
def columns (x : FVec Ideal S16x1024 .f32) (w : FVec Ideal S1x1024x6144 .f32) (b : FVec Ideal S1x6144 .f32) : FVec Ideal S16x6144 .f32 :=
  addf (Host.dotGeneral dot_S16x1024_S1024x6144_S16x6144_1_0_0_1_n_n none (mulf x (Host.divf (broadcastInDim S16x1024 ![] bcast_S_S16x1024 (constant S_ .f32 0x3F800000#32)) (addf (broadcastInDim S16x1024 ![] bcast_S_S16x1024 (constant S_ .f32 0x3F800000#32)) (Host.exp (Host.negf x))))) (shapeCast _ w shapeCasts_S1x1024x6144_S1024x6144)) (broadcastInDim S16x6144 ![0, 1] bcast_S1x6144_S16x6144_0_1 (broadcastInDim S1x6144 ![1] bcast_S6144_S1x6144_1 (shapeCast _ b shapeCasts_S1x6144_S6144)))

theorem columns_apply (x : FVec Ideal S16x1024 .f32) (w : FVec Ideal S1x1024x6144 .f32) (b : FVec Ideal S1x6144 .f32) (r : Fin 16) (n : Fin 6144) :
    columns x w b (ix2 r n) = entry (fun k => x (ix2 r k)) (fun k => w (ix3 0 k n)) (b (ix2 0 n)) := by
  pointwise [columns]
  rfl

def parts (p : FVec Ideal S16x6144 .f32) : FVec Ideal S6x16x1024 .f32 :=
  transpose S6x16x1024 [1, 0, 2] (shapeCast _ p shapeCasts_S16x6144_S16x6x1024) transposes_S16x6x1024_S6x16x1024_1_0_2

theorem parts_apply (p : FVec Ideal S16x6144 .f32) (j : Fin 6) (r : Fin 16) (l : Fin 1024) :
    parts p (ix3 j r l) = p (ix2 r ⟨j.val * 1024 + l.val, by omega⟩) := by
  pointwise [parts]

theorem result_eq (x : FVec Ideal S16x1024 .f32) (w : FVec Ideal S1x1024x6144 .f32) (b : FVec Ideal S1x6144 .f32) :
    parts (columns x w b) = res x w b := by
  funext i
  obtain ⟨j, r, l, rfl⟩ : ∃ (j : Fin 6) (r : Fin 16) (l : Fin 1024), i = ix3 j r l :=
    ⟨i 0, i 1, i 2, by funext a; fin_cases a <;> rfl⟩
  exact (parts_apply _ j r l).trans (columns_apply x w b r _)

/-- The reference's run, read: its array at `res` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v8) = res (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result_eq _ _ _), (h c).2⟩) (Value.run (F := Ideal) m ρ)

end Cert.Reference5Ideal.ModRef

end
-- ==== Proof.ModClaims.lean ====
/-
  The claims of the modulation, from the generated frames, Proof/ModValue.lean and Proof/ModRef.lean.
-/
module

public import proofs.«01_k».proof.Defs
public import proofs.«01_k».proof.Proof.Gen.Kernel5.Frame
public import proofs.«01_k».proof.Proof.ModValue
public import proofs.«01_k».proof.Proof.ModRef
public import Idealize.ShloMosaic.Lib.Quiescent

@[expose] public section

noncomputable section

open Idealize.ShloMosaic Idealize.ShloMosaic.TcCoe Idealize.SL.Sem

namespace Cert.Proof.ModClaims

theorem frame_kernel : Cert.quiescent_Kernel5 := fun m ρ _ => Cert.Kernel5.Gen.frame m ρ
theorem frame_ideal : Cert.quiescent_Kernel5Ideal := fun m ρ _ => Cert.Kernel5Ideal.Gen.frame m ρ

/-- The reference's run, read at the arguments; it declares no semaphore. -/
theorem frame_reference : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem preserves : Cert.preserves_Kernel5_Kernel5Ideal := trivial

/-- Both programs' arrays end at `ModValue`'s function of arguments that agree. -/
theorem algebraic : Cert.algebraic_Kernel5Ideal_Reference5Ideal := by
  intro m ρ m' ρ' _ hagree
  refine ⟨fun c => _, Cert.Kernel5Ideal.ModValue.run m ρ, ?_⟩
  refine (θ_run Cert.Reference5Ideal.defs _ _).mono (fun _ h c => ?_) (Cert.Reference5Ideal.ModRef.run m' ρ')
  obtain ⟨h0, h1, h2⟩ := hagree c
  have hc := h c
  rw [h0, h1, h2] at hc
  rw [h0, h1, h2]
  exact hc

end Cert.Proof.ModClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Regions
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Regions
public import proofs.«01_k».proof.Proof.Gen.Kernel2Ideal.Points
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_admissible
public import proofs.«01_k».proof.Proof.Gen.Kernel5Ideal.Value
public import proofs.«01_k».proof.Proof.Gen.Reference5Ideal.Run
public import proofs.«01_k».proof.Proof.Gen.KernelIdeal.Value
public import proofs.«01_k».proof.Proof.Gen.ReferenceIdeal.Run
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.FinalClaims
public import proofs.«01_k».proof.Proof.FfnClaims
public import proofs.«01_k».proof.Proof.FfnAlg
public import proofs.«01_k».proof.Proof.InClaims
public import proofs.«01_k».proof.Proof.MergeClaims
public import proofs.«01_k».proof.Proof.ModClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_admissible.Gen.facts,
  FinalClaims.frame_kernel, FinalClaims.frame_ideal, FinalClaims.frame_reference,
  FfnClaims.frame_kernel, FfnClaims.frame_ideal, FfnClaims.frame_reference,
  InClaims.frame_kernel, InClaims.frame_ideal, InClaims.frame_reference,
  MergeClaims.frame_kernel, MergeClaims.frame_ideal, MergeClaims.frame_reference,
  ModClaims.frame_kernel, ModClaims.frame_ideal, ModClaims.frame_reference,
  FinalClaims.preserves, FinalClaims.algebraic, FfnClaims.preserves, FfnClaims.algebraic, InClaims.preserves, InClaims.algebraic, MergeClaims.preserves, MergeClaims.algebraic,
  ModClaims.preserves, ModClaims.algebraic⟩

end Cert.Proof

end
